-- ==== Defs.lean ====
def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite [hPre_finite : Cert.Pre_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))) = (fun _ => 1#1)

def Pre_MlpLoss (m : (ℓ : Loc Cert.MlpLoss.nD Cert.MlpLoss.τ Cert.MlpLoss.sig) → Buf (Elt Bits) ℓ) : Prop :=
  True

def Pre_MlpLossIdeal (m : (ℓ : Loc Cert.MlpLossIdeal.nD Cert.MlpLossIdeal.τ Cert.MlpLossIdeal.sig) → Buf (Elt Ideal) ℓ) : Prop :=
  True

def Pre_MlpLossRefIdeal (m : (ℓ : Loc Cert.MlpLossRefIdeal.nD Cert.MlpLossRefIdeal.τ Cert.MlpLossRefIdeal.sig) → Buf (Elt Ideal) ℓ) : Prop :=
  True

def Pre_InBwdX (m : (ℓ : Loc Cert.InBwdX.nD Cert.InBwdX.τ Cert.InBwdX.sig) → Buf (Elt Bits) ℓ) : Prop :=
  True

def Pre_InBwdXIdeal (m : (ℓ : Loc Cert.InBwdXIdeal.nD Cert.InBwdXIdeal.τ Cert.InBwdXIdeal.sig) → Buf (Elt Ideal) ℓ) : Prop :=
  True

def Pre_InBwdXIdeal_finite_in [hPre_finite_in : Cert.Pre_finite_in.Facts] (m : (ℓ : Loc Cert.InBwdXIdeal.nD Cert.InBwdXIdeal.τ Cert.InBwdXIdeal.sig) → Buf (Elt Ideal) ℓ) : Prop :=
  ∀ c : Dev Cert.InBwdXIdeal.nD,
    (Cert.Pre_finite_in.fn (F := Ideal) (m ((c.tc : Thread Cert.InBwdXIdeal.nD Cert.InBwdXIdeal.τ).loc Cert.InBwdXIdeal.main_arg0)) (m ((c.tc : Thread Cert.InBwdXIdeal.nD Cert.InBwdXIdeal.τ).loc Cert.InBwdXIdeal.main_arg1)) (m ((c.tc : Thread Cert.InBwdXIdeal.nD Cert.InBwdXIdeal.τ).loc Cert.InBwdXIdeal.main_arg2)) (m ((c.tc : Thread Cert.InBwdXIdeal.nD Cert.InBwdXIdeal.τ).loc Cert.InBwdXIdeal.main_arg3)) (m ((c.tc : Thread Cert.InBwdXIdeal.nD Cert.InBwdXIdeal.τ).loc Cert.InBwdXIdeal.main_arg4)) (m ((c.tc : Thread Cert.InBwdXIdeal.nD Cert.InBwdXIdeal.τ).loc Cert.InBwdXIdeal.main_arg5)) (m ((c.tc : Thread Cert.InBwdXIdeal.nD Cert.InBwdXIdeal.τ).loc Cert.InBwdXIdeal.main_arg6))) = (fun _ => 1#1)

def Pre_InBwdXRefIdeal (m : (ℓ : Loc Cert.InBwdXRefIdeal.nD Cert.InBwdXRefIdeal.τ Cert.InBwdXRefIdeal.sig) → Buf (Elt Ideal) ℓ) : Prop :=
  True

def Pre_InBwdXRefIdeal_finite_in [hPre_finite_in : Cert.Pre_finite_in.Facts] (m : (ℓ : Loc Cert.InBwdXRefIdeal.nD Cert.InBwdXRefIdeal.τ Cert.InBwdXRefIdeal.sig) → Buf (Elt Ideal) ℓ) : Prop :=
  ∀ c : Dev Cert.InBwdXRefIdeal.nD,
    (Cert.Pre_finite_in.fn (F := Ideal) (m ((c.tc : Thread Cert.InBwdXRefIdeal.nD Cert.InBwdXRefIdeal.τ).loc Cert.InBwdXRefIdeal.main_arg0)) (m ((c.tc : Thread Cert.InBwdXRefIdeal.nD Cert.InBwdXRefIdeal.τ).loc Cert.InBwdXRefIdeal.main_arg1)) (m ((c.tc : Thread Cert.InBwdXRefIdeal.nD Cert.InBwdXRefIdeal.τ).loc Cert.InBwdXRefIdeal.main_arg2)) (m ((c.tc : Thread Cert.InBwdXRefIdeal.nD Cert.InBwdXRefIdeal.τ).loc Cert.InBwdXRefIdeal.main_arg3)) (m ((c.tc : Thread Cert.InBwdXRefIdeal.nD Cert.InBwdXRefIdeal.τ).loc Cert.InBwdXRefIdeal.main_arg4)) (m ((c.tc : Thread Cert.InBwdXRefIdeal.nD Cert.InBwdXRefIdeal.τ).loc Cert.InBwdXRefIdeal.main_arg5)) (m ((c.tc : Thread Cert.InBwdXRefIdeal.nD Cert.InBwdXRefIdeal.τ).loc Cert.InBwdXRefIdeal.main_arg6))) = (fun _ => 1#1)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_finite [hAttnBwdRefIdeal : Cert.AttnBwdRefIdeal.Facts] [hPre_finite : Cert.Pre_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_MlpLoss [hMlpLoss : Cert.MlpLoss.Facts] : Prop :=
  ∀ (m : (ℓ : Loc Cert.MlpLoss.nD Cert.MlpLoss.τ Cert.MlpLoss.sig) → Buf (Elt Bits) ℓ) (g : Dev Cert.MlpLoss.nD → PrngReg), Pre_MlpLoss m →
    θ_run (Cert.MlpLoss.defs (F := Bits)) (onTc (τ := Cert.MlpLoss.τ) (Cert.MlpLoss.main (F := Bits))) ⟨m, fun _ => 0, g⟩ (fun r => (∀ c : Dev Cert.MlpLoss.nD,
      r.2.mem ((c.tc : Thread Cert.MlpLoss.nD Cert.MlpLoss.τ).loc Cert.MlpLoss.main_arg0) = m ((c.tc : Thread Cert.MlpLoss.nD Cert.MlpLoss.τ).loc Cert.MlpLoss.main_arg0)
      ∧ r.2.mem ((c.tc : Thread Cert.MlpLoss.nD Cert.MlpLoss.τ).loc Cert.MlpLoss.main_arg1) = m ((c.tc : Thread Cert.MlpLoss.nD Cert.MlpLoss.τ).loc Cert.MlpLoss.main_arg1)
      ∧ r.2.mem ((c.tc : Thread Cert.MlpLoss.nD Cert.MlpLoss.τ).loc Cert.MlpLoss.main_arg2) = m ((c.tc : Thread Cert.MlpLoss.nD Cert.MlpLoss.τ).loc Cert.MlpLoss.main_arg2)
      ∧ r.2.mem ((c.tc : Thread Cert.MlpLoss.nD Cert.MlpLoss.τ).loc Cert.MlpLoss.main_arg3) = m ((c.tc : Thread Cert.MlpLoss.nD Cert.MlpLoss.τ).loc Cert.MlpLoss.main_arg3)
      ∧ r.2.mem ((c.tc : Thread Cert.MlpLoss.nD Cert.MlpLoss.τ).loc Cert.MlpLoss.main_arg4) = m ((c.tc : Thread Cert.MlpLoss.nD Cert.MlpLoss.τ).loc Cert.MlpLoss.main_arg4)
      ∧ r.2.mem ((c.tc : Thread Cert.MlpLoss.nD Cert.MlpLoss.τ).loc Cert.MlpLoss.main_arg5) = m ((c.tc : Thread Cert.MlpLoss.nD Cert.MlpLoss.τ).loc Cert.MlpLoss.main_arg5)
      ∧ r.2.mem ((c.tc : Thread Cert.MlpLoss.nD Cert.MlpLoss.τ).loc Cert.MlpLoss.main_arg6) = m ((c.tc : Thread Cert.MlpLoss.nD Cert.MlpLoss.τ).loc Cert.MlpLoss.main_arg6)
      ∧ r.2.mem ((c.tc : Thread Cert.MlpLoss.nD Cert.MlpLoss.τ).loc Cert.MlpLoss.main_arg7) = m ((c.tc : Thread Cert.MlpLoss.nD Cert.MlpLoss.τ).loc Cert.MlpLoss.main_arg7))
      ∧ r.2.sem = fun _ => 0)

def quiescent_MlpLossIdeal [hMlpLossIdeal : Cert.MlpLossIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
      ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6)
      ∧ r.2.mem ((c.tc : Thread Cert.MlpLossIdeal.nD Cert.MlpLossIdeal.τ).loc Cert.MlpLossIdeal.main_arg7) = m ((c.tc : Thread Cert.MlpLossIdeal.nD Cert.MlpLossIdeal.τ).loc Cert.MlpLossIdeal.main_arg7))
      ∧ r.2.sem = fun _ => 0)

def quiescent_MlpLossRefIdeal [hMlpLossRefIdeal : Cert.MlpLossRefIdeal.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5)
      ∧ r.2.mem ((c.tc : Thread Cert.MlpLossRefIdeal.nD Cert.MlpLossRefIdeal.τ).loc Cert.MlpLossRefIdeal.main_arg6) = m ((c.tc : Thread Cert.MlpLossRefIdeal.nD Cert.MlpLossRefIdeal.τ).loc Cert.MlpLossRefIdeal.main_arg6)
      ∧ r.2.mem ((c.tc : Thread Cert.MlpLossRefIdeal.nD Cert.MlpLossRefIdeal.τ).loc Cert.MlpLossRefIdeal.main_arg7) = m ((c.tc : Thread Cert.MlpLossRefIdeal.nD Cert.MlpLossRefIdeal.τ).loc Cert.MlpLossRefIdeal.main_arg7))
      ∧ r.2.sem = fun _ => 0)

def quiescent_InBwdX [hInBwdX : Cert.InBwdX.Facts] : Prop :=
  ∀ (m : (ℓ : Loc Cert.InBwdX.nD Cert.InBwdX.τ Cert.InBwdX.sig) → Buf (Elt Bits) ℓ) (g : Dev Cert.InBwdX.nD → PrngReg), Pre_InBwdX m →
    θ_run (Cert.InBwdX.defs (F := Bits)) (onTc (τ := Cert.InBwdX.τ) (Cert.InBwdX.main (F := Bits))) ⟨m, fun _ => 0, g⟩ (fun r => (∀ c : Dev Cert.InBwdX.nD,
      r.2.mem ((c.tc : Thread Cert.InBwdX.nD Cert.InBwdX.τ).loc Cert.InBwdX.main_arg0) = m ((c.tc : Thread Cert.InBwdX.nD Cert.InBwdX.τ).loc Cert.InBwdX.main_arg0)
      ∧ r.2.mem ((c.tc : Thread Cert.InBwdX.nD Cert.InBwdX.τ).loc Cert.InBwdX.main_arg1) = m ((c.tc : Thread Cert.InBwdX.nD Cert.InBwdX.τ).loc Cert.InBwdX.main_arg1)
      ∧ r.2.mem ((c.tc : Thread Cert.InBwdX.nD Cert.InBwdX.τ).loc Cert.InBwdX.main_arg2) = m ((c.tc : Thread Cert.InBwdX.nD Cert.InBwdX.τ).loc Cert.InBwdX.main_arg2)
      ∧ r.2.mem ((c.tc : Thread Cert.InBwdX.nD Cert.InBwdX.τ).loc Cert.InBwdX.main_arg3) = m ((c.tc : Thread Cert.InBwdX.nD Cert.InBwdX.τ).loc Cert.InBwdX.main_arg3)
      ∧ r.2.mem ((c.tc : Thread Cert.InBwdX.nD Cert.InBwdX.τ).loc Cert.InBwdX.main_arg4) = m ((c.tc : Thread Cert.InBwdX.nD Cert.InBwdX.τ).loc Cert.InBwdX.main_arg4)
      ∧ r.2.mem ((c.tc : Thread Cert.InBwdX.nD Cert.InBwdX.τ).loc Cert.InBwdX.main_arg5) = m ((c.tc : Thread Cert.InBwdX.nD Cert.InBwdX.τ).loc Cert.InBwdX.main_arg5)
      ∧ r.2.mem ((c.tc : Thread Cert.InBwdX.nD Cert.InBwdX.τ).loc Cert.InBwdX.main_arg6) = m ((c.tc : Thread Cert.InBwdX.nD Cert.InBwdX.τ).loc Cert.InBwdX.main_arg6))
      ∧ r.2.sem = fun _ => 0)

def quiescent_InBwdXIdeal [hInBwdXIdeal : Cert.InBwdXIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg), Pre_InBwdXIdeal m →
    θ_run (Cert.InBwdXIdeal.defs (F := Ideal)) (onTc (τ := Cert.InBwdXIdeal.τ) (Cert.InBwdXIdeal.main (F := Ideal))) ⟨m, fun _ => 0, g⟩ (fun r => (∀ c : Dev Cert.InBwdXIdeal.nD,
      r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
      ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1)
      ∧ r.2.mem ((c.tc : Thread Cert.InBwdXIdeal.nD Cert.InBwdXIdeal.τ).loc Cert.InBwdXIdeal.main_arg2) = m ((c.tc : Thread Cert.InBwdXIdeal.nD Cert.InBwdXIdeal.τ).loc Cert.InBwdXIdeal.main_arg2)
      ∧ r.2.mem ((c.tc : Thread Cert.InBwdXIdeal.nD Cert.InBwdXIdeal.τ).loc Cert.InBwdXIdeal.main_arg3) = m ((c.tc : Thread Cert.InBwdXIdeal.nD Cert.InBwdXIdeal.τ).loc Cert.InBwdXIdeal.main_arg3)
      ∧ r.2.mem ((c.tc : Thread Cert.InBwdXIdeal.nD Cert.InBwdXIdeal.τ).loc Cert.InBwdXIdeal.main_arg4) = m ((c.tc : Thread Cert.InBwdXIdeal.nD Cert.InBwdXIdeal.τ).loc Cert.InBwdXIdeal.main_arg4)
      ∧ r.2.mem ((c.tc : Thread Cert.InBwdXIdeal.nD Cert.InBwdXIdeal.τ).loc Cert.InBwdXIdeal.main_arg5) = m ((c.tc : Thread Cert.InBwdXIdeal.nD Cert.InBwdXIdeal.τ).loc Cert.InBwdXIdeal.main_arg5)
      ∧ r.2.mem ((c.tc : Thread Cert.InBwdXIdeal.nD Cert.InBwdXIdeal.τ).loc Cert.InBwdXIdeal.main_arg6) = m ((c.tc : Thread Cert.InBwdXIdeal.nD Cert.InBwdXIdeal.τ).loc Cert.InBwdXIdeal.main_arg6))
      ∧ r.2.sem = fun _ => 0)

def quiescent_InBwdXIdeal_pre_finite_in [hInBwdXIdeal : Cert.InBwdXIdeal.Facts] [hPre_finite_in : Cert.Pre_finite_in.Facts] : Prop :=
  ∀ (m : (ℓ : Loc Cert.InBwdXIdeal.nD Cert.InBwdXIdeal.τ Cert.InBwdXIdeal.sig) → Buf (Elt Ideal) ℓ) (g : Dev Cert.InBwdXIdeal.nD → PrngReg), Pre_InBwdXIdeal_finite_in m →
    θ_run (Cert.InBwdXIdeal.defs (F := Ideal)) (onTc (τ := Cert.InBwdXIdeal.τ) (Cert.InBwdXIdeal.main (F := Ideal))) ⟨m, fun _ => 0, g⟩ (fun r => (∀ c : Dev Cert.InBwdXIdeal.nD,
      r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
      ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1)
      ∧ r.2.mem ((c.tc : Thread Cert.InBwdXIdeal.nD Cert.InBwdXIdeal.τ).loc Cert.InBwdXIdeal.main_arg2) = m ((c.tc : Thread Cert.InBwdXIdeal.nD Cert.InBwdXIdeal.τ).loc Cert.InBwdXIdeal.main_arg2)
      ∧ r.2.mem ((c.tc : Thread Cert.InBwdXIdeal.nD Cert.InBwdXIdeal.τ).loc Cert.InBwdXIdeal.main_arg3) = m ((c.tc : Thread Cert.InBwdXIdeal.nD Cert.InBwdXIdeal.τ).loc Cert.InBwdXIdeal.main_arg3)
      ∧ r.2.mem ((c.tc : Thread Cert.InBwdXIdeal.nD Cert.InBwdXIdeal.τ).loc Cert.InBwdXIdeal.main_arg4) = m ((c.tc : Thread Cert.InBwdXIdeal.nD Cert.InBwdXIdeal.τ).loc Cert.InBwdXIdeal.main_arg4)
      ∧ r.2.mem ((c.tc : Thread Cert.InBwdXIdeal.nD Cert.InBwdXIdeal.τ).loc Cert.InBwdXIdeal.main_arg5) = m ((c.tc : Thread Cert.InBwdXIdeal.nD Cert.InBwdXIdeal.τ).loc Cert.InBwdXIdeal.main_arg5)
      ∧ r.2.mem ((c.tc : Thread Cert.InBwdXIdeal.nD Cert.InBwdXIdeal.τ).loc Cert.InBwdXIdeal.main_arg6) = m ((c.tc : Thread Cert.InBwdXIdeal.nD Cert.InBwdXIdeal.τ).loc Cert.InBwdXIdeal.main_arg6))
      ∧ r.2.sem = fun _ => 0)

def quiescent_InBwdXRefIdeal [hInBwdXRefIdeal : Cert.InBwdXRefIdeal.Facts] : Prop :=
  ∀ (m : (ℓ : Loc Cert.InBwdXRefIdeal.nD Cert.InBwdXRefIdeal.τ Cert.InBwdXRefIdeal.sig) → Buf (Elt Ideal) ℓ) (g : Dev Cert.InBwdXRefIdeal.nD → PrngReg), Pre_InBwdXRefIdeal m →
    θ_run (Cert.InBwdXRefIdeal.defs (F := Ideal)) (onTc (τ := Cert.InBwdXRefIdeal.τ) (Cert.InBwdXRefIdeal.main (F := Ideal))) ⟨m, fun _ => 0, g⟩ (fun r => (∀ c : Dev Cert.InBwdXRefIdeal.nD,
      r.2.mem ((c.tc : Thread Cert.InBwdXRefIdeal.nD Cert.InBwdXRefIdeal.τ).loc Cert.InBwdXRefIdeal.main_arg0) = m ((c.tc : Thread Cert.InBwdXRefIdeal.nD Cert.InBwdXRefIdeal.τ).loc Cert.InBwdXRefIdeal.main_arg0)
      ∧ r.2.mem ((c.tc : Thread Cert.InBwdXRefIdeal.nD Cert.InBwdXRefIdeal.τ).loc Cert.InBwdXRefIdeal.main_arg1) = m ((c.tc : Thread Cert.InBwdXRefIdeal.nD Cert.InBwdXRefIdeal.τ).loc Cert.InBwdXRefIdeal.main_arg1)
      ∧ r.2.mem ((c.tc : Thread Cert.InBwdXRefIdeal.nD Cert.InBwdXRefIdeal.τ).loc Cert.InBwdXRefIdeal.main_arg2) = m ((c.tc : Thread Cert.InBwdXRefIdeal.nD Cert.InBwdXRefIdeal.τ).loc Cert.InBwdXRefIdeal.main_arg2)
      ∧ r.2.mem ((c.tc : Thread Cert.InBwdXRefIdeal.nD Cert.InBwdXRefIdeal.τ).loc Cert.InBwdXRefIdeal.main_arg3) = m ((c.tc : Thread Cert.InBwdXRefIdeal.nD Cert.InBwdXRefIdeal.τ).loc Cert.InBwdXRefIdeal.main_arg3)
      ∧ r.2.mem ((c.tc : Thread Cert.InBwdXRefIdeal.nD Cert.InBwdXRefIdeal.τ).loc Cert.InBwdXRefIdeal.main_arg4) = m ((c.tc : Thread Cert.InBwdXRefIdeal.nD Cert.InBwdXRefIdeal.τ).loc Cert.InBwdXRefIdeal.main_arg4)
      ∧ r.2.mem ((c.tc : Thread Cert.InBwdXRefIdeal.nD Cert.InBwdXRefIdeal.τ).loc Cert.InBwdXRefIdeal.main_arg5) = m ((c.tc : Thread Cert.InBwdXRefIdeal.nD Cert.InBwdXRefIdeal.τ).loc Cert.InBwdXRefIdeal.main_arg5)
      ∧ r.2.mem ((c.tc : Thread Cert.InBwdXRefIdeal.nD Cert.InBwdXRefIdeal.τ).loc Cert.InBwdXRefIdeal.main_arg6) = m ((c.tc : Thread Cert.InBwdXRefIdeal.nD Cert.InBwdXRefIdeal.τ).loc Cert.InBwdXRefIdeal.main_arg6))
      ∧ r.2.sem = fun _ => 0)

def quiescent_InBwdXRefIdeal_pre_finite_in [hInBwdXRefIdeal : Cert.InBwdXRefIdeal.Facts] [hPre_finite_in : Cert.Pre_finite_in.Facts] : Prop :=
  ∀ (m : (ℓ : Loc Cert.InBwdXRefIdeal.nD Cert.InBwdXRefIdeal.τ Cert.InBwdXRefIdeal.sig) → Buf (Elt Ideal) ℓ) (g : Dev Cert.InBwdXRefIdeal.nD → PrngReg), Pre_InBwdXRefIdeal_finite_in m →
    θ_run (Cert.InBwdXRefIdeal.defs (F := Ideal)) (onTc (τ := Cert.InBwdXRefIdeal.τ) (Cert.InBwdXRefIdeal.main (F := Ideal))) ⟨m, fun _ => 0, g⟩ (fun r => (∀ c : Dev Cert.InBwdXRefIdeal.nD,
      r.2.mem ((c.tc : Thread Cert.InBwdXRefIdeal.nD Cert.InBwdXRefIdeal.τ).loc Cert.InBwdXRefIdeal.main_arg0) = m ((c.tc : Thread Cert.InBwdXRefIdeal.nD Cert.InBwdXRefIdeal.τ).loc Cert.InBwdXRefIdeal.main_arg0)
      ∧ r.2.mem ((c.tc : Thread Cert.InBwdXRefIdeal.nD Cert.InBwdXRefIdeal.τ).loc Cert.InBwdXRefIdeal.main_arg1) = m ((c.tc : Thread Cert.InBwdXRefIdeal.nD Cert.InBwdXRefIdeal.τ).loc Cert.InBwdXRefIdeal.main_arg1)
      ∧ r.2.mem ((c.tc : Thread Cert.InBwdXRefIdeal.nD Cert.InBwdXRefIdeal.τ).loc Cert.InBwdXRefIdeal.main_arg2) = m ((c.tc : Thread Cert.InBwdXRefIdeal.nD Cert.InBwdXRefIdeal.τ).loc Cert.InBwdXRefIdeal.main_arg2)
      ∧ r.2.mem ((c.tc : Thread Cert.InBwdXRefIdeal.nD Cert.InBwdXRefIdeal.τ).loc Cert.InBwdXRefIdeal.main_arg3) = m ((c.tc : Thread Cert.InBwdXRefIdeal.nD Cert.InBwdXRefIdeal.τ).loc Cert.InBwdXRefIdeal.main_arg3)
      ∧ r.2.mem ((c.tc : Thread Cert.InBwdXRefIdeal.nD Cert.InBwdXRefIdeal.τ).loc Cert.InBwdXRefIdeal.main_arg4) = m ((c.tc : Thread Cert.InBwdXRefIdeal.nD Cert.InBwdXRefIdeal.τ).loc Cert.InBwdXRefIdeal.main_arg4)
      ∧ r.2.mem ((c.tc : Thread Cert.InBwdXRefIdeal.nD Cert.InBwdXRefIdeal.τ).loc Cert.InBwdXRefIdeal.main_arg5) = m ((c.tc : Thread Cert.InBwdXRefIdeal.nD Cert.InBwdXRefIdeal.τ).loc Cert.InBwdXRefIdeal.main_arg5)
      ∧ r.2.mem ((c.tc : Thread Cert.InBwdXRefIdeal.nD Cert.InBwdXRefIdeal.τ).loc Cert.InBwdXRefIdeal.main_arg6) = m ((c.tc : Thread Cert.InBwdXRefIdeal.nD Cert.InBwdXRefIdeal.τ).loc Cert.InBwdXRefIdeal.main_arg6))
      ∧ r.2.sem = fun _ => 0)

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v9_0)) (v1 : (c : Dev Cert.MlpBwdIdeal.nD) → Buf (Elt Ideal) ((c.tc : Thread Cert.MlpBwdIdeal.nD Cert.MlpBwdIdeal.τ).loc Cert.MlpBwdIdeal.main_v9_1)) (v2 : (c : Dev Cert.MlpBwdIdeal.nD) → Buf (Elt Ideal) ((c.tc : Thread Cert.MlpBwdIdeal.nD Cert.MlpBwdIdeal.τ).loc Cert.MlpBwdIdeal.main_v10)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v9_0) = v0 c
          ∧ r.2.mem ((c.tc : Thread Cert.MlpBwdIdeal.nD Cert.MlpBwdIdeal.τ).loc Cert.MlpBwdIdeal.main_v9_1) = v1 c
          ∧ r.2.mem ((c.tc : Thread Cert.MlpBwdIdeal.nD Cert.MlpBwdIdeal.τ).loc Cert.MlpBwdIdeal.main_v10) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v26) = v0 c
          ∧ r.2.mem ((c.tc : Thread Cert.MlpBwdRefIdeal.nD Cert.MlpBwdRefIdeal.τ).loc Cert.MlpBwdRefIdeal.main_v17) = v1 c
          ∧ r.2.mem ((c.tc : Thread Cert.MlpBwdRefIdeal.nD Cert.MlpBwdRefIdeal.τ).loc Cert.MlpBwdRefIdeal.main_v24) = v2 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_AttnBwd_AttnBwdIdeal : Prop :=
  IdealRules.named_const.Statement Cert.AttnBwdIdeal.κ "prune" .f32 0x42D20000#32 ⊤
  ∧ IdealRules.named_const.Statement Cert.AttnBwdIdeal.κ "log2e" .f32 0x3FB8AA3B#32 (((Real.log 2)⁻¹ : ℝ) : EReal)

def algebraic_AttnBwdIdeal_AttnBwdRefIdeal_pre_finite [hAttnBwdIdeal : Cert.AttnBwdIdeal.Facts] [hAttnBwdRefIdeal : Cert.AttnBwdRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v112)) (v1 : (c : Dev Cert.AttnBwdIdeal.nD) → Buf (Elt Ideal) ((c.tc : Thread Cert.AttnBwdIdeal.nD Cert.AttnBwdIdeal.τ).loc Cert.AttnBwdIdeal.main_v108)) (v2 : (c : Dev Cert.AttnBwdIdeal.nD) → Buf (Elt Ideal) ((c.tc : Thread Cert.AttnBwdIdeal.nD Cert.AttnBwdIdeal.τ).loc Cert.AttnBwdIdeal.main_v109)) (v3 : (c : Dev Cert.AttnBwdIdeal.nD) → Buf (Elt Ideal) ((c.tc : Thread Cert.AttnBwdIdeal.nD Cert.AttnBwdIdeal.τ).loc Cert.AttnBwdIdeal.main_v118)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v112) = v0 c
          ∧ r.2.mem ((c.tc : Thread Cert.AttnBwdIdeal.nD Cert.AttnBwdIdeal.τ).loc Cert.AttnBwdIdeal.main_v108) = v1 c
          ∧ r.2.mem ((c.tc : Thread Cert.AttnBwdIdeal.nD Cert.AttnBwdIdeal.τ).loc Cert.AttnBwdIdeal.main_v109) = v2 c
          ∧ r.2.mem ((c.tc : Thread Cert.AttnBwdIdeal.nD Cert.AttnBwdIdeal.τ).loc Cert.AttnBwdIdeal.main_v118) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v84) = v0 c
          ∧ r.2.mem ((c.tc : Thread Cert.AttnBwdRefIdeal.nD Cert.AttnBwdRefIdeal.τ).loc Cert.AttnBwdRefIdeal.main_v86) = v1 c
          ∧ r.2.mem ((c.tc : Thread Cert.AttnBwdRefIdeal.nD Cert.AttnBwdRefIdeal.τ).loc Cert.AttnBwdRefIdeal.main_v88) = v2 c
          ∧ r.2.mem ((c.tc : Thread Cert.AttnBwdRefIdeal.nD Cert.AttnBwdRefIdeal.τ).loc Cert.AttnBwdRefIdeal.main_v90) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_MlpLoss_MlpLossIdeal : Prop :=
  True

def algebraic_MlpLossIdeal_MlpLossRefIdeal [hMlpLossIdeal : Cert.MlpLossIdeal.Facts] [hMlpLossRefIdeal : Cert.MlpLossRefIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg)
    (m' : (ℓ : Loc Cert.MlpLossRefIdeal.nD Cert.MlpLossRefIdeal.τ Cert.MlpLossRefIdeal.sig) → Buf (Elt Ideal) ℓ) (g' : Dev Cert.MlpLossRefIdeal.nD → PrngReg), Pre_MlpLossIdeal m →
    (∀ c : Dev Cert.MlpLossIdeal.nD,
      m' ((c.tc : Thread Cert.MlpLossRefIdeal.nD Cert.MlpLossRefIdeal.τ).loc Cert.MlpLossRefIdeal.main_arg0) = m ((c.tc : Thread Cert.MlpLossIdeal.nD Cert.MlpLossIdeal.τ).loc Cert.MlpLossIdeal.main_arg0)
      ∧ m' ((c.tc : Thread Cert.MlpLossRefIdeal.nD Cert.MlpLossRefIdeal.τ).loc Cert.MlpLossRefIdeal.main_arg1) = m ((c.tc : Thread Cert.MlpLossIdeal.nD Cert.MlpLossIdeal.τ).loc Cert.MlpLossIdeal.main_arg1)
      ∧ m' ((c.tc : Thread Cert.MlpLossRefIdeal.nD Cert.MlpLossRefIdeal.τ).loc Cert.MlpLossRefIdeal.main_arg2) = m ((c.tc : Thread Cert.MlpLossIdeal.nD Cert.MlpLossIdeal.τ).loc Cert.MlpLossIdeal.main_arg2)
      ∧ m' ((c.tc : Thread Cert.MlpLossRefIdeal.nD Cert.MlpLossRefIdeal.τ).loc Cert.MlpLossRefIdeal.main_arg3) = m ((c.tc : Thread Cert.MlpLossIdeal.nD Cert.MlpLossIdeal.τ).loc Cert.MlpLossIdeal.main_arg3)
      ∧ m' ((c.tc : Thread Cert.MlpLossRefIdeal.nD Cert.MlpLossRefIdeal.τ).loc Cert.MlpLossRefIdeal.main_arg4) = m ((c.tc : Thread Cert.MlpLossIdeal.nD Cert.MlpLossIdeal.τ).loc Cert.MlpLossIdeal.main_arg4)
      ∧ m' ((c.tc : Thread Cert.MlpLossRefIdeal.nD Cert.MlpLossRefIdeal.τ).loc Cert.MlpLossRefIdeal.main_arg5) = m ((c.tc : Thread Cert.MlpLossIdeal.nD Cert.MlpLossIdeal.τ).loc Cert.MlpLossIdeal.main_arg5)
      ∧ m' ((c.tc : Thread Cert.MlpLossRefIdeal.nD Cert.MlpLossRefIdeal.τ).loc Cert.MlpLossRefIdeal.main_arg6) = m ((c.tc : Thread Cert.MlpLossIdeal.nD Cert.MlpLossIdeal.τ).loc Cert.MlpLossIdeal.main_arg6)
      ∧ m' ((c.tc : Thread Cert.MlpLossRefIdeal.nD Cert.MlpLossRefIdeal.τ).loc Cert.MlpLossRefIdeal.main_arg7) = m ((c.tc : Thread Cert.MlpLossIdeal.nD Cert.MlpLossIdeal.τ).loc Cert.MlpLossIdeal.main_arg7)) →
    ∃ (v0 : (c : Dev Cert.MlpLossIdeal.nD) → Buf (Elt Ideal) ((c.tc : Thread Cert.MlpLossIdeal.nD Cert.MlpLossIdeal.τ).loc Cert.MlpLossIdeal.main_v4_0)) (v1 : (c : Dev Cert.MlpLossIdeal.nD) → Buf (Elt Ideal) ((c.tc : Thread Cert.MlpLossIdeal.nD Cert.MlpLossIdeal.τ).loc Cert.MlpLossIdeal.main_v4_1)) (v2 : (c : Dev Cert.MlpLossIdeal.nD) → Buf (Elt Ideal) ((c.tc : Thread Cert.MlpLossIdeal.nD Cert.MlpLossIdeal.τ).loc Cert.MlpLossIdeal.main_v4_2)) (v3 : (c : Dev Cert.MlpLossIdeal.nD) → Buf (Elt Ideal) ((c.tc : Thread Cert.MlpLossIdeal.nD Cert.MlpLossIdeal.τ).loc Cert.MlpLossIdeal.main_v4_3)) (v4 : (c : Dev Cert.MlpLossIdeal.nD) → Buf (Elt Ideal) ((c.tc : Thread Cert.MlpLossIdeal.nD Cert.MlpLossIdeal.τ).loc Cert.MlpLossIdeal.main_v4_4)),
      θ_run (Cert.MlpLossIdeal.defs (F := Ideal)) (onTc (τ := Cert.MlpLossIdeal.τ) (Cert.MlpLossIdeal.main (F := Ideal))) ⟨m, fun _ => 0, g⟩ (fun r => ∀ c : Dev Cert.MlpLossIdeal.nD,
          r.2.mem ((c.tc : Thread Cert.MlpLossIdeal.nD Cert.MlpLossIdeal.τ).loc Cert.MlpLossIdeal.main_v4_0) = v0 c
          ∧ r.2.mem ((c.tc : Thread Cert.MlpLossIdeal.nD Cert.MlpLossIdeal.τ).loc Cert.MlpLossIdeal.main_v4_1) = v1 c
          ∧ r.2.mem ((c.tc : Thread Cert.MlpLossIdeal.nD Cert.MlpLossIdeal.τ).loc Cert.MlpLossIdeal.main_v4_2) = v2 c
          ∧ r.2.mem ((c.tc : Thread Cert.MlpLossIdeal.nD Cert.MlpLossIdeal.τ).loc Cert.MlpLossIdeal.main_v4_3) = v3 c
          ∧ r.2.mem ((c.tc : Thread Cert.MlpLossIdeal.nD Cert.MlpLossIdeal.τ).loc Cert.MlpLossIdeal.main_v4_4) = v4 c
          ∧ r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
          ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
          ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
          ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
          ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
          ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5)
          ∧ r.2.mem ((c.tc : Thread Cert.MlpLossIdeal.nD Cert.MlpLossIdeal.τ).loc Cert.MlpLossIdeal.main_arg6) = m ((c.tc : Thread Cert.MlpLossIdeal.nD Cert.MlpLossIdeal.τ).loc Cert.MlpLossIdeal.main_arg6)
          ∧ r.2.mem ((c.tc : Thread Cert.MlpLossIdeal.nD Cert.MlpLossIdeal.τ).loc Cert.MlpLossIdeal.main_arg7) = m ((c.tc : Thread Cert.MlpLossIdeal.nD Cert.MlpLossIdeal.τ).loc Cert.MlpLossIdeal.main_arg7))
      ∧ θ_run (Cert.MlpLossRefIdeal.defs (F := Ideal)) (onTc (τ := Cert.MlpLossRefIdeal.τ) (Cert.MlpLossRefIdeal.main (F := Ideal))) ⟨m', fun _ => 0, g'⟩ (fun r => ∀ c : Dev Cert.MlpLossRefIdeal.nD,
          r.2.mem ((c.tc : Thread Cert.MlpLossRefIdeal.nD Cert.MlpLossRefIdeal.τ).loc Cert.MlpLossRefIdeal.main_v39) = v0 c
          ∧ r.2.mem ((c.tc : Thread Cert.MlpLossRefIdeal.nD Cert.MlpLossRefIdeal.τ).loc Cert.MlpLossRefIdeal.main_v43) = v1 c
          ∧ r.2.mem ((c.tc : Thread Cert.MlpLossRefIdeal.nD Cert.MlpLossRefIdeal.τ).loc Cert.MlpLossRefIdeal.main_v42) = v2 c
          ∧ r.2.mem ((c.tc : Thread Cert.MlpLossRefIdeal.nD Cert.MlpLossRefIdeal.τ).loc Cert.MlpLossRefIdeal.main_v44) = v3 c
          ∧ r.2.mem ((c.tc : Thread Cert.MlpLossRefIdeal.nD Cert.MlpLossRefIdeal.τ).loc Cert.MlpLossRefIdeal.main_v46) = v4 c
          ∧ r.2.mem ((c.tc : Thread Cert.MlpLossRefIdeal.nD Cert.MlpLossRefIdeal.τ).loc Cert.MlpLossRefIdeal.main_arg0) = m' ((c.tc : Thread Cert.MlpLossRefIdeal.nD Cert.MlpLossRefIdeal.τ).loc Cert.MlpLossRefIdeal.main_arg0)
          ∧ r.2.mem ((c.tc : Thread Cert.MlpLossRefIdeal.nD Cert.MlpLossRefIdeal.τ).loc Cert.MlpLossRefIdeal.main_arg1) = m' ((c.tc : Thread Cert.MlpLossRefIdeal.nD Cert.MlpLossRefIdeal.τ).loc Cert.MlpLossRefIdeal.main_arg1)
          ∧ r.2.mem ((c.tc : Thread Cert.MlpLossRefIdeal.nD Cert.MlpLossRefIdeal.τ).loc Cert.MlpLossRefIdeal.main_arg2) = m' ((c.tc : Thread Cert.MlpLossRefIdeal.nD Cert.MlpLossRefIdeal.τ).loc Cert.MlpLossRefIdeal.main_arg2)
          ∧ r.2.mem ((c.tc : Thread Cert.MlpLossRefIdeal.nD Cert.MlpLossRefIdeal.τ).loc Cert.MlpLossRefIdeal.main_arg3) = m' ((c.tc : Thread Cert.MlpLossRefIdeal.nD Cert.MlpLossRefIdeal.τ).loc Cert.MlpLossRefIdeal.main_arg3)
          ∧ r.2.mem ((c.tc : Thread Cert.MlpLossRefIdeal.nD Cert.MlpLossRefIdeal.τ).loc Cert.MlpLossRefIdeal.main_arg4) = m' ((c.tc : Thread Cert.MlpLossRefIdeal.nD Cert.MlpLossRefIdeal.τ).loc Cert.MlpLossRefIdeal.main_arg4)
          ∧ r.2.mem ((c.tc : Thread Cert.MlpLossRefIdeal.nD Cert.MlpLossRefIdeal.τ).loc Cert.MlpLossRefIdeal.main_arg5) = m' ((c.tc : Thread Cert.MlpLossRefIdeal.nD Cert.MlpLossRefIdeal.τ).loc Cert.MlpLossRefIdeal.main_arg5)
          ∧ r.2.mem ((c.tc : Thread Cert.MlpLossRefIdeal.nD Cert.MlpLossRefIdeal.τ).loc Cert.MlpLossRefIdeal.main_arg6) = m' ((c.tc : Thread Cert.MlpLossRefIdeal.nD Cert.MlpLossRefIdeal.τ).loc Cert.MlpLossRefIdeal.main_arg6)
          ∧ r.2.mem ((c.tc : Thread Cert.MlpLossRefIdeal.nD Cert.MlpLossRefIdeal.τ).loc Cert.MlpLossRefIdeal.main_arg7) = m' ((c.tc : Thread Cert.MlpLossRefIdeal.nD Cert.MlpLossRefIdeal.τ).loc Cert.MlpLossRefIdeal.main_arg7))

def preserves_InBwdX_InBwdXIdeal : Prop :=
  True

def algebraic_InBwdXIdeal_InBwdXRefIdeal_pre_finite_in [hInBwdXIdeal : Cert.InBwdXIdeal.Facts] [hInBwdXRefIdeal : Cert.InBwdXRefIdeal.Facts] [hPre_finite_in : Cert.Pre_finite_in.Facts] : Prop :=
  ∀ (m : (ℓ : Loc Cert.InBwdXIdeal.nD Cert.InBwdXIdeal.τ Cert.InBwdXIdeal.sig) → Buf (Elt Ideal) ℓ) (g : Dev Cert.InBwdXIdeal.nD → PrngReg)
    (m' : (ℓ : Loc Cert.InBwdXRefIdeal.nD Cert.InBwdXRefIdeal.τ Cert.InBwdXRefIdeal.sig) → Buf (Elt Ideal) ℓ) (g' : Dev Cert.InBwdXRefIdeal.nD → PrngReg), Pre_InBwdXIdeal_finite_in m →
    (∀ c : Dev Cert.InBwdXIdeal.nD,
      m' ((c.tc : Thread Cert.InBwdXRefIdeal.nD Cert.InBwdXRefIdeal.τ).loc Cert.InBwdXRefIdeal.main_arg0) = m ((c.tc : Thread Cert.InBwdXIdeal.nD Cert.InBwdXIdeal.τ).loc Cert.InBwdXIdeal.main_arg0)
      ∧ m' ((c.tc : Thread Cert.InBwdXRefIdeal.nD Cert.InBwdXRefIdeal.τ).loc Cert.InBwdXRefIdeal.main_arg1) = m ((c.tc : Thread Cert.InBwdXIdeal.nD Cert.InBwdXIdeal.τ).loc Cert.InBwdXIdeal.main_arg1)
      ∧ m' ((c.tc : Thread Cert.InBwdXRefIdeal.nD Cert.InBwdXRefIdeal.τ).loc Cert.InBwdXRefIdeal.main_arg2) = m ((c.tc : Thread Cert.InBwdXIdeal.nD Cert.InBwdXIdeal.τ).loc Cert.InBwdXIdeal.main_arg2)
      ∧ m' ((c.tc : Thread Cert.InBwdXRefIdeal.nD Cert.InBwdXRefIdeal.τ).loc Cert.InBwdXRefIdeal.main_arg3) = m ((c.tc : Thread Cert.InBwdXIdeal.nD Cert.InBwdXIdeal.τ).loc Cert.InBwdXIdeal.main_arg3)
      ∧ m' ((c.tc : Thread Cert.InBwdXRefIdeal.nD Cert.InBwdXRefIdeal.τ).loc Cert.InBwdXRefIdeal.main_arg4) = m ((c.tc : Thread Cert.InBwdXIdeal.nD Cert.InBwdXIdeal.τ).loc Cert.InBwdXIdeal.main_arg4)
      ∧ m' ((c.tc : Thread Cert.InBwdXRefIdeal.nD Cert.InBwdXRefIdeal.τ).loc Cert.InBwdXRefIdeal.main_arg5) = m ((c.tc : Thread Cert.InBwdXIdeal.nD Cert.InBwdXIdeal.τ).loc Cert.InBwdXIdeal.main_arg5)
      ∧ m' ((c.tc : Thread Cert.InBwdXRefIdeal.nD Cert.InBwdXRefIdeal.τ).loc Cert.InBwdXRefIdeal.main_arg6) = m ((c.tc : Thread Cert.InBwdXIdeal.nD Cert.InBwdXIdeal.τ).loc Cert.InBwdXIdeal.main_arg6)) →
    ∃ (v0 : (c : Dev Cert.InBwdXIdeal.nD) → Buf (Elt Ideal) ((c.tc : Thread Cert.InBwdXIdeal.nD Cert.InBwdXIdeal.τ).loc Cert.InBwdXIdeal.main_v13_0)) (v1 : (c : Dev Cert.InBwdXIdeal.nD) → Buf (Elt Ideal) ((c.tc : Thread Cert.InBwdXIdeal.nD Cert.InBwdXIdeal.τ).loc Cert.InBwdXIdeal.main_v13_1)),
      θ_run (Cert.InBwdXIdeal.defs (F := Ideal)) (onTc (τ := Cert.InBwdXIdeal.τ) (Cert.InBwdXIdeal.main (F := Ideal))) ⟨m, fun _ => 0, g⟩ (fun r => ∀ c : Dev Cert.InBwdXIdeal.nD,
          r.2.mem ((c.tc : Thread Cert.InBwdXIdeal.nD Cert.InBwdXIdeal.τ).loc Cert.InBwdXIdeal.main_v13_0) = v0 c
          ∧ r.2.mem ((c.tc : Thread Cert.InBwdXIdeal.nD Cert.InBwdXIdeal.τ).loc Cert.InBwdXIdeal.main_v13_1) = v1 c
          ∧ r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
          ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1)
          ∧ r.2.mem ((c.tc : Thread Cert.InBwdXIdeal.nD Cert.InBwdXIdeal.τ).loc Cert.InBwdXIdeal.main_arg2) = m ((c.tc : Thread Cert.InBwdXIdeal.nD Cert.InBwdXIdeal.τ).loc Cert.InBwdXIdeal.main_arg2)
          ∧ r.2.mem ((c.tc : Thread Cert.InBwdXIdeal.nD Cert.InBwdXIdeal.τ).loc Cert.InBwdXIdeal.main_arg3) = m ((c.tc : Thread Cert.InBwdXIdeal.nD Cert.InBwdXIdeal.τ).loc Cert.InBwdXIdeal.main_arg3)
          ∧ r.2.mem ((c.tc : Thread Cert.InBwdXIdeal.nD Cert.InBwdXIdeal.τ).loc Cert.InBwdXIdeal.main_arg4) = m ((c.tc : Thread Cert.InBwdXIdeal.nD Cert.InBwdXIdeal.τ).loc Cert.InBwdXIdeal.main_arg4)
          ∧ r.2.mem ((c.tc : Thread Cert.InBwdXIdeal.nD Cert.InBwdXIdeal.τ).loc Cert.InBwdXIdeal.main_arg5) = m ((c.tc : Thread Cert.InBwdXIdeal.nD Cert.InBwdXIdeal.τ).loc Cert.InBwdXIdeal.main_arg5)
          ∧ r.2.mem ((c.tc : Thread Cert.InBwdXIdeal.nD Cert.InBwdXIdeal.τ).loc Cert.InBwdXIdeal.main_arg6) = m ((c.tc : Thread Cert.InBwdXIdeal.nD Cert.InBwdXIdeal.τ).loc Cert.InBwdXIdeal.main_arg6))
      ∧ θ_run (Cert.InBwdXRefIdeal.defs (F := Ideal)) (onTc (τ := Cert.InBwdXRefIdeal.τ) (Cert.InBwdXRefIdeal.main (F := Ideal))) ⟨m', fun _ => 0, g'⟩ (fun r => ∀ c : Dev Cert.InBwdXRefIdeal.nD,
          r.2.mem ((c.tc : Thread Cert.InBwdXRefIdeal.nD Cert.InBwdXRefIdeal.τ).loc Cert.InBwdXRefIdeal.main_v51) = v0 c
          ∧ r.2.mem ((c.tc : Thread Cert.InBwdXRefIdeal.nD Cert.InBwdXRefIdeal.τ).loc Cert.InBwdXRefIdeal.main_v53) = v1 c
          ∧ r.2.mem ((c.tc : Thread Cert.InBwdXRefIdeal.nD Cert.InBwdXRefIdeal.τ).loc Cert.InBwdXRefIdeal.main_arg0) = m' ((c.tc : Thread Cert.InBwdXRefIdeal.nD Cert.InBwdXRefIdeal.τ).loc Cert.InBwdXRefIdeal.main_arg0)
          ∧ r.2.mem ((c.tc : Thread Cert.InBwdXRefIdeal.nD Cert.InBwdXRefIdeal.τ).loc Cert.InBwdXRefIdeal.main_arg1) = m' ((c.tc : Thread Cert.InBwdXRefIdeal.nD Cert.InBwdXRefIdeal.τ).loc Cert.InBwdXRefIdeal.main_arg1)
          ∧ r.2.mem ((c.tc : Thread Cert.InBwdXRefIdeal.nD Cert.InBwdXRefIdeal.τ).loc Cert.InBwdXRefIdeal.main_arg2) = m' ((c.tc : Thread Cert.InBwdXRefIdeal.nD Cert.InBwdXRefIdeal.τ).loc Cert.InBwdXRefIdeal.main_arg2)
          ∧ r.2.mem ((c.tc : Thread Cert.InBwdXRefIdeal.nD Cert.InBwdXRefIdeal.τ).loc Cert.InBwdXRefIdeal.main_arg3) = m' ((c.tc : Thread Cert.InBwdXRefIdeal.nD Cert.InBwdXRefIdeal.τ).loc Cert.InBwdXRefIdeal.main_arg3)
          ∧ r.2.mem ((c.tc : Thread Cert.InBwdXRefIdeal.nD Cert.InBwdXRefIdeal.τ).loc Cert.InBwdXRefIdeal.main_arg4) = m' ((c.tc : Thread Cert.InBwdXRefIdeal.nD Cert.InBwdXRefIdeal.τ).loc Cert.InBwdXRefIdeal.main_arg4)
          ∧ r.2.mem ((c.tc : Thread Cert.InBwdXRefIdeal.nD Cert.InBwdXRefIdeal.τ).loc Cert.InBwdXRefIdeal.main_arg5) = m' ((c.tc : Thread Cert.InBwdXRefIdeal.nD Cert.InBwdXRefIdeal.τ).loc Cert.InBwdXRefIdeal.main_arg5)
          ∧ r.2.mem ((c.tc : Thread Cert.InBwdXRefIdeal.nD Cert.InBwdXRefIdeal.τ).loc Cert.InBwdXRefIdeal.main_arg6) = m' ((c.tc : Thread Cert.InBwdXRefIdeal.nD Cert.InBwdXRefIdeal.τ).loc Cert.InBwdXRefIdeal.main_arg6))

def Claim : Prop :=
  ∃ (hMlpBwd : Cert.MlpBwd.Facts) (hMlpBwdIdeal : Cert.MlpBwdIdeal.Facts) (hMlpBwdRefIdeal : Cert.MlpBwdRefIdeal.Facts) (hAttnBwd : Cert.AttnBwd.Facts) (hAttnBwdIdeal : Cert.AttnBwdIdeal.Facts) (hAttnBwdRefIdeal : Cert.AttnBwdRefIdeal.Facts) (hMlpLoss : Cert.MlpLoss.Facts) (hMlpLossIdeal : Cert.MlpLossIdeal.Facts) (hMlpLossRefIdeal : Cert.MlpLossRefIdeal.Facts) (hInBwdX : Cert.InBwdX.Facts) (hInBwdXIdeal : Cert.InBwdXIdeal.Facts) (hInBwdXRefIdeal : Cert.InBwdXRefIdeal.Facts) (hPre_finite : Cert.Pre_finite.Facts) (hPre_finite_in : Cert.Pre_finite_in.Facts),
    quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnBwdRefIdeal (hAttnBwdRefIdeal := hAttnBwdRefIdeal)
    ∧ quiescent_AttnBwdRefIdeal_pre_finite (hAttnBwdRefIdeal := hAttnBwdRefIdeal) (hPre_finite := hPre_finite)
    ∧ quiescent_MlpLoss (hMlpLoss := hMlpLoss)
    ∧ quiescent_MlpLossIdeal (hMlpLossIdeal := hMlpLossIdeal)
    ∧ quiescent_MlpLossRefIdeal (hMlpLossRefIdeal := hMlpLossRefIdeal)
    ∧ quiescent_InBwdX (hInBwdX := hInBwdX)
    ∧ quiescent_InBwdXIdeal (hInBwdXIdeal := hInBwdXIdeal)
    ∧ quiescent_InBwdXIdeal_pre_finite_in (hInBwdXIdeal := hInBwdXIdeal) (hPre_finite_in := hPre_finite_in)
    ∧ quiescent_InBwdXRefIdeal (hInBwdXRefIdeal := hInBwdXRefIdeal)
    ∧ quiescent_InBwdXRefIdeal_pre_finite_in (hInBwdXRefIdeal := hInBwdXRefIdeal) (hPre_finite_in := hPre_finite_in)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_AttnBwd_AttnBwdIdeal
    ∧ algebraic_AttnBwdIdeal_AttnBwdRefIdeal_pre_finite (hAttnBwdIdeal := hAttnBwdIdeal) (hAttnBwdRefIdeal := hAttnBwdRefIdeal) (hPre_finite := hPre_finite)
    ∧ preserves_MlpLoss_MlpLossIdeal
    ∧ algebraic_MlpLossIdeal_MlpLossRefIdeal (hMlpLossIdeal := hMlpLossIdeal) (hMlpLossRefIdeal := hMlpLossRefIdeal)
    ∧ preserves_InBwdX_InBwdXIdeal
    ∧ algebraic_InBwdXIdeal_InBwdXRefIdeal_pre_finite_in (hInBwdXIdeal := hInBwdXIdeal) (hInBwdXRefIdeal := hInBwdXRefIdeal) (hPre_finite_in := hPre_finite_in)
-- ==== Pre_finite.lean ====
abbrev S16384x8x64 : Shape := ⟨3, ![16384, 8, 64]⟩
abbrev S16384x8 : Shape := ⟨2, ![16384, 8]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_arg4 : FVec F S16384x8x64 .f32) (main_v3 : IVec S_ 1) (main_v7 : IVec S_ 1) (main_v11 : IVec S_ 1) (main_v15 : IVec S_ 1) : IVec S_ 1 :=
  let main_v16 : FVec F S16384x8x64 .f32 := Host.absf main_arg4
  let main_cst_6 : FVec F S_ .f32 := constant S_ .f32 0x7F800000#32
  let main_v17 : FVec F S16384x8x64 .f32 := broadcastInDim S16384x8x64 ![] bcast_S_S16384x8x64 main_cst_6
  let main_v18 : IVec S16384x8x64 1 := cmpf .olt main_v16 main_v17
  let main_c_7 : IVec S_ 1 := constantI S_ 1 1#1
  let main_v19 : IVec S_ 1 := (fun x v => Host.reduce IntOp.andi x v reducesTo_S16384x8x64_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x8x64 .f32) (main_arg1 : FVec F S16384x8x64 .f32) (main_arg2 : FVec F S16384x8x64 .f32) (main_arg3 : FVec F S16384x8 .f32) (main_arg4 : FVec F S16384x8x64 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : FVec F S16384x8x64 .f32 := Host.absf main_arg2
  let main_cst_2 : FVec F S_ .f32 := constant S_ .f32 0x7F800000#32
  let main_v9 : FVec F S16384x8x64 .f32 := broadcastInDim S16384x8x64 ![] bcast_S_S16384x8x64 main_cst_2
  let main_v10 : IVec S16384x8x64 1 := cmpf .olt main_v8 main_v9
  let main_c_3 : IVec S_ 1 := constantI S_ 1 1#1
  let main_v11 : IVec S_ 1 := (fun x v => Host.reduce IntOp.andi x v reducesTo_S16384x8x64_S_d0_1_2 h_S_) main_v10 main_c_3
  let main_v12 : FVec F S16384x8 .f32 := Host.absf main_arg3
  let main_cst_4 : FVec F S_ .f32 := constant S_ .f32 0x7F800000#32
  let main_v13 : FVec F S16384x8 .f32 := broadcastInDim S16384x8 ![] bcast_S_S16384x8 main_cst_4
  let main_v14 : IVec S16384x8 1 := cmpf .olt main_v12 main_v13
  let main_c_5 : IVec S_ 1 := constantI S_ 1 1#1
  let main_v15 : IVec S_ 1 := (fun x v => Host.reduce IntOp.andi x v reducesTo_S16384x8_S_d0_1 h_S_) main_v14 main_c_5
  fn_part1 (F := F) main_arg4 main_v3 main_v7 main_v11 main_v15
-- ==== Pre_finite_in.lean ====
abbrev S16384x1024 : Shape := ⟨2, ![16384, 1024]⟩
abbrev S1x1024 : Shape := ⟨2, ![1, 1024]⟩
abbrev S1024x2568 : Shape := ⟨2, ![1024, 2568]⟩
abbrev S16384x2568 : Shape := ⟨2, ![16384, 2568]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2568 : S_.BroadcastsInDim S1024x2568 (![] : Fin 0 → Fin S1024x2568.rank)
  reducesTo_S1024x2568_S_d0_1 : S1024x2568.ReducesTo [0, 1] S_
  bcast_S_S16384x2568 : S_.BroadcastsInDim S16384x2568 (![] : Fin 0 → Fin S16384x2568.rank)
  reducesTo_S16384x2568_S_d0_1 : S16384x2568.ReducesTo [0, 1] S_

variable [Facts]

def fn_part1 {F : FTy → Type} [FloatOps F] (main_arg6 : FVec F S16384x2568 .f32) (main_v3 : IVec S_ 1) (main_v7 : IVec S_ 1) (main_v11 : IVec S_ 1) (main_v15 : IVec S_ 1) : IVec S_ 1 :=
  let main_v16 : FVec F S16384x2568 .f32 := Host.absf main_arg6
  let main_cst_6 : FVec F S_ .f32 := constant S_ .f32 0x7F800000#32
  let main_v17 : FVec F S16384x2568 .f32 := broadcastInDim S16384x2568 ![] bcast_S_S16384x2568 main_cst_6
  let main_v18 : IVec S16384x2568 1 := cmpf .olt main_v16 main_v17
  let main_c_7 : IVec S_ 1 := constantI S_ 1 1#1
  let main_v19 : IVec S_ 1 := (fun x v => Host.reduce IntOp.andi x v reducesTo_S16384x2568_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S16384x1024 .f32) (main_arg1 : FVec F S1x1024 .f32) (main_arg2 : FVec F S1x1024 .f32) (main_arg3 : FVec F S1x1024 .f32) (main_arg4 : FVec F S1024x2568 .f32) (main_arg5 : FVec F S16384x1024 .f32) (main_arg6 : FVec F S16384x2568 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2568 .f32 := Host.absf main_arg4
  let main_cst_4 : FVec F S_ .f32 := constant S_ .f32 0x7F800000#32
  let main_v13 : FVec F S1024x2568 .f32 := broadcastInDim S1024x2568 ![] bcast_S_S1024x2568 main_cst_4
  let main_v14 : IVec S1024x2568 1 := cmpf .olt main_v12 main_v13
  let main_c_5 : IVec S_ 1 := constantI S_ 1 1#1
  let main_v15 : IVec S_ 1 := (fun x v => Host.reduce IntOp.andi x v reducesTo_S1024x2568_S_d0_1 h_S_) main_v14 main_c_5
  fn_part1 (F := F) main_arg6 main_v3 main_v7 main_v11 main_v15
-- ==== MlpBwd.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S16384x4096 : Shape := ⟨2, ![16384, 4096]⟩
abbrev S_ : Shape := ⟨0, ![]⟩
abbrev S1024x16384 : Shape := ⟨2, ![1024, 16384]⟩
abbrev S4x16384x1024 : Shape := ⟨3, ![4, 16384, 1024]⟩
abbrev S1024x512 : Shape := ⟨2, ![1024, 512]⟩
abbrev S512x1024 : Shape := ⟨2, ![512, 1024]⟩
abbrev S2x1024x512 : Shape := ⟨3, ![2, 1024, 512]⟩
abbrev S1024x1024 : Shape := ⟨2, ![1024, 1024]⟩
abbrev S1x512x1024 : Shape := ⟨3, ![1, 512, 1024]⟩
abbrev S512x512 : Shape := ⟨2, ![512, 512]⟩
abbrev S1x1024x512 : Shape := ⟨3, ![1, 1024, 512]⟩

abbrev nBuf : Space → Nat
  | .hbm => 21
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x4096, .bf16⟩
  | .hbm, ⟨6, _⟩ => ⟨S4096x1024, .bf16⟩
  | .hbm, ⟨7, _⟩ => ⟨S1024x8x512, .bf16⟩
  | .hbm, ⟨8, _⟩ => ⟨S8x1024x512, .bf16⟩
  | .hbm, ⟨9, _⟩ => ⟨S16384x1024, .bf16⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S1024x16384, .bf16⟩
  | .hbm, ⟨16, _⟩ => ⟨S8x1024x512, .f32⟩
  | .hbm, ⟨17, _⟩ => ⟨S4096x1024, .f32⟩
  | .hbm, ⟨18, _⟩ => ⟨S4x16384x1024, .f32⟩
  | .hbm, ⟨19, _⟩ => ⟨S_, .f32⟩
  | .hbm, ⟨20, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S2x1024x512, .bf16⟩
  | .local _ .vmem, ⟨8, _⟩ => ⟨S2x1024x512, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x512, .f32⟩
  | .local _ .vmem, ⟨12, _⟩ => ⟨S2x1024x512, .f32⟩
  | .local _ .vmem, ⟨13, _⟩ => ⟨S1024x1024, .f32⟩
  | .local _ .vmem, ⟨14, _⟩ => ⟨S1024x1024, .f32⟩
  | .local _ .vmem, ⟨15, _⟩ => ⟨S1x512x1024, .f32⟩
  | .local _ .vmem, ⟨16, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_cst : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpBwdRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩
abbrev S1024 : Shape := ⟨1, ![1024]⟩
abbrev S1024x8x512 : Shape := ⟨3, ![1024, 8, 512]⟩
abbrev S8x1024x512 : Shape := ⟨3, ![8, 1024, 512]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .i1⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x4096, .f32⟩
  | .hbm, ⟨28, _⟩ => ⟨S4096x1024, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S4096x1024, .f32⟩
  | .hbm, ⟨35, _⟩ => ⟨S1024x4096, .f32⟩
  | .hbm, ⟨36, _⟩ => ⟨S16384x1024, .f32⟩
  | .hbm, ⟨37, _⟩ => ⟨S1024x8x512, .f32⟩
  | .hbm, ⟨38, _⟩ => ⟨S8x1024x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== AttnBwd.lean ====
abbrev S16384x8x64 : Shape := ⟨3, ![16384, 8, 64]⟩
abbrev S16384x8 : Shape := ⟨2, ![16384, 8]⟩
abbrev S16384x16384 : Shape := ⟨2, ![16384, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S8x64x16384 : Shape := ⟨3, ![8, 64, 16384]⟩
abbrev S8x32x1x512 : Shape := ⟨4, ![8, 32, 1, 512]⟩
abbrev S32x512x8 : Shape := ⟨3, ![32, 512, 8]⟩
abbrev S8 : Shape := ⟨1, ![8]⟩
abbrev S16384x8x1 : Shape := ⟨3, ![16384, 8, 1]⟩
abbrev S16384x8x8 : Shape := ⟨3, ![16384, 8, 8]⟩
abbrev S16384x8x56 : Shape := ⟨3, ![16384, 8, 56]⟩
abbrev S16384x8x128 : Shape := ⟨3, ![16384, 8, 128]⟩
abbrev S32x512x1024 : Shape := ⟨3, ![32, 512, 1024]⟩
abbrev S32x1024x512 : Shape := ⟨3, ![32, 1024, 512]⟩
abbrev S8x16384x128 : Shape := ⟨3, ![8, 16384, 128]⟩
abbrev S16384x8x15 : Shape := ⟨3, ![16384, 8, 15]⟩
abbrev S16384x8x80 : Shape := ⟨3, ![16384, 8, 80]⟩
abbrev S32x512x640 : Shape := ⟨3, ![32, 512, 640]⟩
abbrev S32x640x512 : Shape := ⟨3, ![32, 640, 512]⟩
abbrev S32x8 : Shape := ⟨2, ![32, 8]⟩
abbrev S8x32 : Shape := ⟨2, ![8, 32]⟩
abbrev S32x512x512 : Shape := ⟨3, ![32, 512, 512]⟩
abbrev S8x32x8x512 : Shape := ⟨4, ![8, 32, 8, 512]⟩
abbrev S32x128x512 : Shape := ⟨3, ![32, 128, 512]⟩
abbrev S1x512x128 : Shape := ⟨3, ![1, 512, 128]⟩
abbrev S1x80x512 : Shape := ⟨3, ![1, 80, 512]⟩
abbrev S1x32x1x512 : Shape := ⟨4, ![1, 32, 1, 512]⟩
abbrev S32x80x512 : Shape := ⟨3, ![32, 80, 512]⟩
abbrev S1x64x512 : Shape := ⟨3, ![1, 64, 512]⟩
abbrev S1x1x8x512 : Shape := ⟨4, ![1, 1, 8, 512]⟩
abbrev S512x512 : Shape := ⟨2, ![512, 512]⟩
abbrev S80x512 : Shape := ⟨2, ![80, 512]⟩
abbrev S64x512 : Shape := ⟨2, ![64, 512]⟩
abbrev S1x1 : Shape := ⟨2, ![1, 1]⟩
abbrev S1 : Shape := ⟨1, ![1]⟩
abbrev S1x256x128 : Shape := ⟨3, ![1, 256, 128]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S1x128x256 : Shape := ⟨3, ![1, 128, 256]⟩
abbrev S128x256 : Shape := ⟨2, ![128, 256]⟩
abbrev S256x256 : Shape := ⟨2, ![256, 256]⟩
abbrev S512x128 : Shape := ⟨2, ![512, 128]⟩
abbrev S1x1x1x512 : Shape := ⟨4, ![1, 1, 1, 512]⟩
abbrev S1x512 : Shape := ⟨2, ![1, 512]⟩
abbrev S1x256 : Shape := ⟨2, ![1, 256]⟩
abbrev S64x256 : Shape := ⟨2, ![64, 256]⟩
abbrev S80x256 : Shape := ⟨2, ![80, 256]⟩
abbrev S1x80x256 : Shape := ⟨3, ![1, 80, 256]⟩
abbrev S8x512 : Shape := ⟨2, ![8, 512]⟩
abbrev S32x8x80x512 : Shape := ⟨4, ![32, 8, 80, 512]⟩
abbrev S32x8x64x512 : Shape := ⟨4, ![32, 8, 64, 512]⟩
abbrev S32x8x1x512 : Shape := ⟨4, ![32, 8, 1, 512]⟩
abbrev S32x8x512 : Shape := ⟨3, ![32, 8, 512]⟩
abbrev S8x32x512 : Shape := ⟨3, ![8, 32, 512]⟩

abbrev nBuf : Space → Nat
  | .hbm => 152
  | .vmem => 32
  | .smem => 3
  | _ => 0

abbrev hbmTy0_0 (i : Nat) : BufTy := match i % 128 with
  | 0 => ⟨S16384x8x64, .f32⟩
  | 1 => ⟨S16384x8x64, .f32⟩
  | 2 => ⟨S16384x8x64, .f32⟩
  | 3 => ⟨S16384x8, .f32⟩
  | 4 => ⟨S16384x8x64, .f32⟩
  | 5 => ⟨S16384x16384, .i32⟩
  | 6 => ⟨S16384x16384, .i32⟩
  | 7 => ⟨S8x16384x16384, .f32⟩
  | 8 => ⟨S_, .f32⟩
  | 9 => ⟨S8x16384x16384, .f32⟩
  | 10 => ⟨S8x16384x16384, .f32⟩
  | 11 => ⟨S8x16384, .f32⟩
  | 12 => ⟨S8x16384x1, .f32⟩
  | 13 => ⟨S8x16384x16384, .f32⟩
  | 14 => ⟨S8x16384x16384, .f32⟩
  | 15 => ⟨S8x16384, .f32⟩
  | 16 => ⟨S8x1x16384, .f32⟩
  | 17 => ⟨S8x16384x16384, .f32⟩
  | 18 => ⟨S8x16384x16384, .f32⟩
  | 19 => ⟨S16384x16384, .i1⟩
  | 20 => ⟨S_, .f32⟩
  | 21 => ⟨S_, .f32⟩
  | 22 => ⟨S8x16384x16384, .i1⟩
  | 23 => ⟨S8x16384x16384, .f32⟩
  | 24 => ⟨S8x16384x16384, .f32⟩
  | 25 => ⟨S_, .f32⟩
  | 26 => ⟨S8x16384, .f32⟩
  | 27 => ⟨S8x16384x1, .f32⟩
  | 28 => ⟨S8x16384x16384, .f32⟩
  | 29 => ⟨S8x16384x16384, .f32⟩
  | 30 => ⟨S8x16384x16384, .f32⟩
  | 31 => ⟨S_, .f32⟩
  | 32 => ⟨S8x16384, .f32⟩
  | 33 => ⟨S8x16384x1, .f32⟩
  | 34 => ⟨S8x16384x16384, .f32⟩
  | 35 => ⟨S8x16384x16384, .f32⟩
  | 36 => ⟨S8x64x16384, .f32⟩
  | 37 => ⟨S16384x8x64, .f32⟩
  | 38 => ⟨S8x16384x1, .f32⟩
  | 39 => ⟨S8x16384x1, .f32⟩
  | 40 => ⟨S8x32x1x512, .f32⟩
  | 41 => ⟨S16384x8x64, .f32⟩
  | 42 => ⟨S_, .f32⟩
  | 43 => ⟨S16384x8, .f32⟩
  | 44 => ⟨S8x16384, .f32⟩
  | 45 => ⟨S8x32x1x512, .f32⟩
  | 46 => ⟨S32x512x8, .f32⟩
  | 47 => ⟨S_, .f32⟩
  | 48 => ⟨S16384x8x64, .f32⟩
  | 49 => ⟨S16384x8x64, .f32⟩
  | 50 => ⟨S16384x8x64, .f32⟩
  | 51 => ⟨S_, .f32⟩
  | 52 => ⟨S16384x8, .f32⟩
  | 53 => ⟨S_, .f32⟩
  | 54 => ⟨S8, .f32⟩
  | 55 => ⟨S16384x8x64, .f32⟩
  | 56 => ⟨S_, .f32⟩
  | 57 => ⟨S16384x8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S16384x8, .bf16⟩
  | 66 => ⟨S16384x8, .f32⟩
  | 67 => ⟨S16384x8, .f32⟩
  | 68 => ⟨S16384x8, .bf16⟩
  | 69 => ⟨S16384x8, .f32⟩
  | 70 => ⟨S16384x8, .f32⟩
  | 71 => ⟨S16384x8, .bf16⟩
  | 72 => ⟨S16384x8, .f32⟩
  | 73 => ⟨S16384x8, .bf16⟩
  | 74 => ⟨S16384x8, .f32⟩
  | 75 => ⟨S16384x8, .f32⟩
  | 76 => ⟨S16384x8, .bf16⟩
  | 77 => ⟨S16384x8, .f32⟩
  | 78 => ⟨S16384x8, .f32⟩
  | 79 => ⟨S16384x8, .bf16⟩
  | 80 => ⟨S_, .bf16⟩
  | 81 => ⟨S16384x8, .bf16⟩
  | 82 => ⟨S_, .bf16⟩
  | 83 => ⟨S16384x8, .bf16⟩
  | 84 => ⟨S16384x8x1, .bf16⟩
  | 85 => ⟨S16384x8x1, .bf16⟩
  | 86 => ⟨S16384x8x1, .bf16⟩
  | 87 => ⟨S16384x8x1, .bf16⟩
  | 88 => ⟨S16384x8x1, .bf16⟩
  | 89 => ⟨S16384x8x1, .bf16⟩
  | 90 => ⟨S16384x8x1, .bf16⟩
  | 91 => ⟨S16384x8x1, .bf16⟩
  | 92 => ⟨S16384x8x8, .bf16⟩
  | 93 => ⟨S16384x8x1, .bf16⟩
  | 94 => ⟨S16384x8x1, .bf16⟩
  | 95 => ⟨S16384x8x1, .bf16⟩
  | 96 => ⟨S16384x8x1, .bf16⟩
  | 97 => ⟨S16384x8x1, .bf16⟩
  | 98 => ⟨S16384x8x1, .bf16⟩
  | 99 => ⟨S16384x8x1, .bf16⟩
  | 100 => ⟨S16384x8x1, .bf16⟩
  | 101 => ⟨S16384x8x8, .bf16⟩
  | 102 => ⟨S_, .bf16⟩
  | 103 => ⟨S16384x8x56, .bf16⟩
  | 104 => ⟨S16384x8x64, .bf16⟩
  | 105 => ⟨S16384x8x128, .bf16⟩
  | 106 => ⟨S32x512x1024, .bf16⟩
  | 107 => ⟨S32x1024x512, .bf16⟩
  | 108 => ⟨S16384x8x64, .bf16⟩
  | 109 => ⟨S16384x8x128, .bf16⟩
  | 110 => ⟨S8x16384x128, .bf16⟩
  | 111 => ⟨S16384x8x64, .bf16⟩
  | 112 => ⟨S_, .i32⟩
  | 113 => ⟨S_, .bf16⟩
  | 114 => ⟨S16384x8x128, .bf16⟩
  | 115 => ⟨S8x16384x128, .bf16⟩
  | 116 => ⟨S16384x8x64, .bf16⟩
  | 117 => ⟨S16384x8x1, .bf16⟩
  | 118 => ⟨S_, .bf16⟩
  | 119 => ⟨S16384x8x15, .bf16⟩
  | 120 => ⟨S16384x8x80, .bf16⟩
  | 121 => ⟨S32x512x640, .bf16⟩
  | 122 => ⟨S32x640x512, .bf16⟩
  | 123 => ⟨S16384x8x64, .bf16⟩
  | 124 => ⟨S_, .i32⟩
  | 125 => ⟨S_, .bf16⟩
  | 126 => ⟨S16384x8x128, .bf16⟩
  | 127 => ⟨S32x512x1024, .bf16⟩
  | _ => ⟨S16384x8x64, .f32⟩

abbrev hbmTy0_1 (i : Nat) : BufTy := match i % 128 with
  | 0 => ⟨S32x1024x512, .bf16⟩
  | 1 => ⟨S_, .f32⟩
  | 2 => ⟨S32x8, .f32⟩
  | 3 => ⟨S8x32, .f32⟩
  | 4 => ⟨S_, .f32⟩
  | 5 => ⟨S32x8, .f32⟩
  | 6 => ⟨S8x32, .f32⟩
  | 7 => ⟨S32x640x512, .f32⟩
  | 8 => ⟨S32x512x512, .f32⟩
  | 9 => ⟨S32x512x512, .f32⟩
  | 10 => ⟨S8x32x8x512, .f32⟩
  | 11 => ⟨S32x8x80x512, .f32⟩
  | 12 => ⟨S32x8x64x512, .f32⟩
  | 13 => ⟨S32x8x64x512, .f32⟩
  | 14 => ⟨S32x8x64x512, .f32⟩
  | 15 => ⟨S_, .f32⟩
  | 16 => ⟨S32x8x64x512, .f32⟩
  | 17 => ⟨S32x8x64x512, .f32⟩
  | 18 => ⟨S32x8x1x512, .f32⟩
  | 19 => ⟨S32x8x512, .f32⟩
  | 20 => ⟨S8x32x1x512, .f32⟩
  | 21 => ⟨S8x32x512, .f32⟩
  | 22 => ⟨S32x8x512, .f32⟩
  | 23 => ⟨S32x8x512, .f32⟩
  | _ => ⟨S16384x8x64, .f32⟩

abbrev hbmTy (i : Nat) : BufTy := match i / 128 with
  | 0 => hbmTy0_0 i
  | 1 => hbmTy0_1 i
  | _ => ⟨S16384x8x64, .f32⟩

abbrev bufTy : (tb : Table) → Fin (tcTables nBuf tb) → BufTy
  | .hbm, ⟨i, _⟩ => hbmTy i
  | .local _ .vmem, ⟨0, _⟩ => ⟨S32x128x512, .bf16⟩
  | .local _ .vmem, ⟨1, _⟩ => ⟨S32x128x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x80x512, .bf16⟩
  | .local _ .vmem, ⟨5, _⟩ => ⟨S1x80x512, .bf16⟩
  | .local _ .vmem, ⟨6, _⟩ => ⟨S1x512x128, .bf16⟩
  | .local _ .vmem, ⟨7, _⟩ => ⟨S1x512x128, .bf16⟩
  | .local _ .vmem, ⟨8, _⟩ => ⟨S32x128x512, .bf16⟩
  | .local _ .vmem, ⟨9, _⟩ => ⟨S32x128x512, .bf16⟩
  | .local _ .vmem, ⟨10, _⟩ => ⟨S1x32x1x512, .f32⟩
  | .local _ .vmem, ⟨11, _⟩ => ⟨S1x32x1x512, .f32⟩
  | .local _ .vmem, ⟨12, _⟩ => ⟨S1x32x1x512, .f32⟩
  | .local _ .vmem, ⟨13, _⟩ => ⟨S1x32x1x512, .f32⟩
  | .local _ .vmem, ⟨14, _⟩ => ⟨S32x80x512, .f32⟩
  | .local _ .vmem, ⟨15, _⟩ => ⟨S32x80x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S1x1x8x512, .f32⟩
  | .local _ .vmem, ⟨21, _⟩ => ⟨S1x1x8x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S80x512, .f32⟩
  | .local _ .vmem, ⟨31, _⟩ => ⟨S64x512, .f32⟩
  | .local _ .smem, ⟨0, _⟩ => ⟨S8x32, .f32⟩
  | .local _ .smem, ⟨1, _⟩ => ⟨S8x32, .f32⟩
  | .local _ .smem, ⟨2, _⟩ => ⟨S8, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c : Ref sig .tc := ⟨.hbm, 112, rfl⟩
abbrev main_call1_v0 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_13 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_14 : Ref sig .tc := ⟨.hbm, 124, rfl⟩
abbrev main_call2_v0 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_15 : Ref sig .tc := ⟨.hbm, 129, rfl⟩
abbrev main_v102 : Ref sig .tc := ⟨.hbm, 130, rfl⟩
abbrev main_v103 : Ref sig .tc := ⟨.hbm, 131, rfl⟩
abbrev main_cst_16 : Ref sig .tc := ⟨.hbm, 132, rfl⟩
abbrev main_v104 : Ref sig .tc := ⟨.hbm, 133, rfl⟩
abbrev main_v105 : Ref sig .tc := ⟨.hbm, 134, rfl⟩
abbrev main_v106_0 : Ref sig .tc := ⟨.hbm, 135, rfl⟩
abbrev main_v106_1 : Ref sig .tc := ⟨.hbm, 136, rfl⟩
abbrev main_v106_2 : Ref sig .tc := ⟨.hbm, 137, rfl⟩
abbrev main_v106_3 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_17 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 32], ![false, false]⟩

def k0_off1 (i : grid0.Coords) : Fin 2 → Nat :=
  let arg0 : BitVec 32 := BitVec.ofNat 32 (i 0).val
  let v1 : Index := Scalar.indexCast arg0
  let c31_i32 : BitVec 32 := 31#32
  let arg1 : BitVec 32 := BitVec.ofNat 32 (i 1).val
  let v0 : BitVec 32 := Scalar.subi c31_i32 arg1
  let v2 : Index := Scalar.indexCast v0
  ![v1.toNat, v2.toNat]
def k0_off2 (i : grid0.Coords) : Fin 1 → Nat :=
  let arg0 : BitVec 32 := BitVec.ofNat 32 (i 0).val
  let v4 : Index := Scalar.indexCast arg0
  ![v4.toNat]
def k0_off3 (i : grid0.Coords) (arg26 : BitVec 32) : Fin 2 → Nat :=
  let arg0 : BitVec 32 := BitVec.ofNat 32 (i 0).val
  let v213 : Index := Scalar.indexCast arg0
  let c1_i32_137 : BitVec 32 := 1#32
  let v211 : BitVec 32 := Scalar.addi arg26 c1_i32_137
  let c31_i32_138 : BitVec 32 := 31#32
  let v212 : BitVec 32 := Scalar.minsi v211 c31_i32_138
  let v214 : Index := Scalar.indexCast v212
  ![v213.toNat, v214.toNat]

def k0_chk1 (i : grid0.Coords) (arg26 : BitVec 32) : Prop :=
  (∀ a, (k0_off3 i arg26) a + S1x1.size a ≤ S8x32.size a)
theorem k0_off3_inb : ∀ (i : grid0.Coords) (arg26 : BitVec 32) (k0_hw1 : k0_chk1 i arg26), ∀ a, (k0_off3 i arg26) a + S1x1.size a ≤ S8x32.size a := fun i arg26 k0_hw1 => k0_hw1

def k0_off4 (i : grid0.Coords) : Fin 3 → Nat :=
  let c31_i32 : BitVec 32 := 31#32
  let arg1 : BitVec 32 := BitVec.ofNat 32 (i 1).val
  let v0 : BitVec 32 := Scalar.subi c31_i32 arg1
  let v24 : Index := Scalar.indexCast v0
  let c0_10 : Index := 0#32
  let c0_11 : Index := 0#32
  ![v24.toNat, 0, 0]
def k0_off5 (i : grid0.Coords) : Fin 3 → Nat :=
  let c31_i32 : BitVec 32 := 31#32
  let arg1 : BitVec 32 := BitVec.ofNat 32 (i 1).val
  let v0 : BitVec 32 := Scalar.subi c31_i32 arg1
  let v42 : Index := Scalar.indexCast v0
  let c0_25 : Index := 0#32
  let c256_26 : Index := 256#32
  ![v42.toNat, 0, 256]
def k0_off6 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c1_i32_38 : BitVec 32 := 1#32
  let v58 : BitVec 32 := Scalar.addi v0 c1_i32_38
  let v59 : BitVec 32 := Scalar.minsi v58 v8
  let v62 : Index := Scalar.indexCast v59
  let c0_42 : Index := 0#32
  let c0_43 : Index := 0#32
  ![v62.toNat, 0, 0]

def k0_off7 (i : grid0.Coords) : Fin 4 → Nat :=
  let c0_55 : Index := 0#32
  let c31_i32 : BitVec 32 := 31#32
  let arg1 : BitVec 32 := BitVec.ofNat 32 (i 1).val
  let v0 : BitVec 32 := Scalar.subi c31_i32 arg1
  let v78 : Index := Scalar.indexCast v0
  let c0_56 : Index := 0#32
  let c0_57 : Index := 0#32
  ![0, v78.toNat, 0, 0]
@[reducible] def k0_t1_loop (i : grid0.Coords) (v8 : BitVec 32) : Scf.Loop 32 :=
  let c0_i32_95 : BitVec 32 := 0#32
  let c31_i32 : BitVec 32 := 31#32
  let arg1 : BitVec 32 := BitVec.ofNat 32 (i 1).val
  let v0 : BitVec 32 := Scalar.subi c31_i32 arg1
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_97 : BitVec 32 := 1#32
  ⟨c0_i32_95, v162, c1_i32_97⟩
def k0_off8 (i : grid0.Coords) (v8 : BitVec 32) (k0_t1 : Fin (k0_t1_loop i v8).trips) (c1_i32_138 : BitVec 32) : Fin 4 → Nat :=
  let c0_139 : Index := 0#32
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let v212 : BitVec 32 := Scalar.addi v210 c1_i32_138
  let v215 : BitVec 32 := Scalar.addi v0 v212
  let v216 : BitVec 32 := Scalar.minsi v215 v8
  let v218 : Index := Scalar.indexCast v216
  let c0_140 : Index := 0#32
  let c0_141 : Index := 0#32
  ![0, v218.toNat, 0, 0]
def k0_off9 (i : grid0.Coords) (v8 : BitVec 32) (k0_t1 : Fin (k0_t1_loop i v8).trips) (c2_i32_137 : BitVec 32) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let v211 : BitVec 32 := Scalar.addi v210 c2_i32_137
  let v213 : BitVec 32 := Scalar.addi v0 v211
  let v214 : BitVec 32 := Scalar.minsi v213 v8
  let v227 : Index := Scalar.indexCast v214
  let c0_149 : Index := 0#32
  let c0_150 : Index := 0#32
  ![v227.toNat, 0, 0]
def k0_off10 (i : grid0.Coords) (v8 : BitVec 32) (k0_t1 : Fin (k0_t1_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let v217 : BitVec 32 := Scalar.addi v0 v210
  let v263 : Index := Scalar.indexCast v217
  let c0_175 : Index := 0#32
  let c0_176 : Index := 0#32
  ![v263.toNat, 0, 0]
def k0_off11 (i : grid0.Coords) (v8 : BitVec 32) (k0_t1 : Fin (k0_t1_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let v217 : BitVec 32 := Scalar.addi v0 v210
  let v349 : Index := Scalar.indexCast v217
  let c0_240 : Index := 0#32
  let c0_241 : Index := 0#32
  ![v349.toNat, 0, 0]
def k0_off12 (i : grid0.Coords) (v8 : BitVec 32) (k0_t1 : Fin (k0_t1_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let c1_i32_245 : BitVec 32 := 1#32
  let v359 : BitVec 32 := Scalar.addi v210 c1_i32_245
  let v364 : BitVec 32 := Scalar.addi v0 v359
  let v410 : Index := Scalar.indexCast v364
  let c0_282 : Index := 0#32
  let c0_283 : Index := 0#32
  ![v410.toNat, 0, 0]
def k0_off13 (i : grid0.Coords) (v8 : BitVec 32) (k0_t1 : Fin (k0_t1_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let c1_i32_97 : BitVec 32 := 1#32
  let arg26 : BitVec 32 := Scf.iv c0_i32_95 c1_i32_97 k0_t1
  let v210 : BitVec 32 := Scalar.muli c2_i32_136 arg26
  let c1_i32_245 : BitVec 32 := 1#32
  let v359 : BitVec 32 := Scalar.addi v210 c1_i32_245
  let v364 : BitVec 32 := Scalar.addi v0 v359
  let v496 : Index := Scalar.indexCast v364
  let c0_347 : Index := 0#32
  let c0_348 : Index := 0#32
  ![v496.toNat, 0, 0]
@[reducible] def k0_t2_loop (i : grid0.Coords) (v8 : BitVec 32) : Scf.Loop 32 :=
  let c0_i32_95 : BitVec 32 := 0#32
  let c31_i32 : BitVec 32 := 31#32
  let arg1 : BitVec 32 := BitVec.ofNat 32 (i 1).val
  let v0 : BitVec 32 := Scalar.subi c31_i32 arg1
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let v159 : BitVec 32 := Scalar.addi c0_i32_95 v158
  let c1_i32_98 : BitVec 32 := 1#32
  ⟨v162, v159, c1_i32_98⟩
def k0_off14 (i : grid0.Coords) (v8 : BitVec 32) (k0_t2 : Fin (k0_t2_loop i v8).trips) (c1_i32_138 : BitVec 32) : Fin 4 → Nat :=
  let c0_139 : Index := 0#32
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let v212 : BitVec 32 := Scalar.addi v210 c1_i32_138
  let v215 : BitVec 32 := Scalar.addi v0 v212
  let v216 : BitVec 32 := Scalar.minsi v215 v8
  let v218 : Index := Scalar.indexCast v216
  let c0_140 : Index := 0#32
  let c0_141 : Index := 0#32
  ![0, v218.toNat, 0, 0]
def k0_off15 (i : grid0.Coords) (v8 : BitVec 32) (k0_t2 : Fin (k0_t2_loop i v8).trips) (c2_i32_137 : BitVec 32) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let v211 : BitVec 32 := Scalar.addi v210 c2_i32_137
  let v213 : BitVec 32 := Scalar.addi v0 v211
  let v214 : BitVec 32 := Scalar.minsi v213 v8
  let v227 : Index := Scalar.indexCast v214
  let c0_149 : Index := 0#32
  let c0_150 : Index := 0#32
  ![v227.toNat, 0, 0]
def k0_off16 (i : grid0.Coords) (v8 : BitVec 32) (k0_t2 : Fin (k0_t2_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let v217 : BitVec 32 := Scalar.addi v0 v210
  let v263 : Index := Scalar.indexCast v217
  let c0_175 : Index := 0#32
  let c0_176 : Index := 0#32
  ![v263.toNat, 0, 0]
def k0_off17 (i : grid0.Coords) (v8 : BitVec 32) (k0_t2 : Fin (k0_t2_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let v217 : BitVec 32 := Scalar.addi v0 v210
  let v349 : Index := Scalar.indexCast v217
  let c0_240 : Index := 0#32
  let c0_241 : Index := 0#32
  ![v349.toNat, 0, 0]
def k0_off18 (i : grid0.Coords) (v8 : BitVec 32) (k0_t2 : Fin (k0_t2_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let c1_i32_245 : BitVec 32 := 1#32
  let v359 : BitVec 32 := Scalar.addi v210 c1_i32_245
  let v364 : BitVec 32 := Scalar.addi v0 v359
  let v410 : Index := Scalar.indexCast v364
  let c0_282 : Index := 0#32
  let c0_283 : Index := 0#32
  ![v410.toNat, 0, 0]
def k0_off19 (i : grid0.Coords) (v8 : BitVec 32) (k0_t2 : Fin (k0_t2_loop i v8).trips) : Fin 3 → Nat :=
  let c31_i32 : BitVec 32 := 31#32
  let arg1 : BitVec 32 := BitVec.ofNat 32 (i 1).val
  let v0 : BitVec 32 := Scalar.subi c31_i32 arg1
  let c2_i32_136 : BitVec 32 := 2#32
  let c0_i32_95 : BitVec 32 := 0#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_93 : BitVec 32 := 1#32
  let v157 : BitVec 32 := Scalar.subi v156 c1_i32_93
  let v158 : BitVec 32 := Scalar.subi v157 c0_i32_95
  let c1_i32_96 : BitVec 32 := 1#32
  let v160 : BitVec 32 := Scalar.divsi v158 c1_i32_96
  let v161 : BitVec 32 := Scalar.muli v160 c1_i32_96
  let v162 : BitVec 32 := Scalar.addi c0_i32_95 v161
  let c1_i32_98 : BitVec 32 := 1#32
  let arg26 : BitVec 32 := Scf.iv v162 c1_i32_98 k0_t2
  let v210 : BitVec 32 := Scalar.muli c2_i32_136 arg26
  let c1_i32_245 : BitVec 32 := 1#32
  let v359 : BitVec 32 := Scalar.addi v210 c1_i32_245
  let v364 : BitVec 32 := Scalar.addi v0 v359
  let v496 : Index := Scalar.indexCast v364
  let c0_347 : Index := 0#32
  let c0_348 : Index := 0#32
  ![v496.toNat, 0, 0]
def k0_off20 (i : grid0.Coords) (v8 : BitVec 32) : Fin 4 → Nat :=
  let c0_139 : Index := 0#32
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let c1_i32_136 : BitVec 32 := 1#32
  let v210 : BitVec 32 := Scalar.addi v164 c1_i32_136
  let v211 : BitVec 32 := Scalar.addi v0 v210
  let v212 : BitVec 32 := Scalar.minsi v211 v8
  let v214 : Index := Scalar.indexCast v212
  let c0_140 : Index := 0#32
  let c0_141 : Index := 0#32
  ![0, v214.toNat, 0, 0]
def k0_cond2 (i : grid0.Coords) (v8 : BitVec 32) : BitVec 1 :=
  let c31_i32 : BitVec 32 := 31#32
  let arg1 : BitVec 32 := BitVec.ofNat 32 (i 1).val
  let v0 : BitVec 32 := Scalar.subi c31_i32 arg1
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_101 : BitVec 32 := 1#32
  let v165 : BitVec 1 := Scalar.cmpi .sge v156 c1_i32_101
  let c2_i32_102 : BitVec 32 := 2#32
  let c0_i32_103 : BitVec 32 := 0#32
  let v166 : BitVec 1 := Scalar.cmpi .eq c2_i32_102 c0_i32_103
  let c1_i32_104 : BitVec 32 := 1#32
  let v167 : BitVec 32 := Scalar.select v166 c1_i32_104 c2_i32_102
  let v168 : BitVec 32 := Scalar.remsi v21 v167
  let c0_i32_106 : BitVec 32 := 0#32
  let v170 : BitVec 1 := Scalar.cmpi .slt v168 c0_i32_106
  let c0_i32_107 : BitVec 32 := 0#32
  let v171 : BitVec 1 := Scalar.cmpi .slt v167 c0_i32_107
  let v172 : BitVec 1 := Scalar.xori v170 v171
  let c0_i32_105 : BitVec 32 := 0#32
  let v169 : BitVec 1 := Scalar.cmpi .ne v168 c0_i32_105
  let v173 : BitVec 1 := Scalar.andi v172 v169
  let v174 : BitVec 32 := Scalar.addi v168 v167
  let v175 : BitVec 32 := Scalar.select v173 v174 v168
  let c0_i32_108 : BitVec 32 := 0#32
  let v176 : BitVec 1 := Scalar.cmpi .eq v175 c0_i32_108
  let v177 : BitVec 1 := Scalar.andi v165 v176
  let v178 : BitVec 32 := Scalar.extui v177
  let c0_i32_109 : BitVec 32 := 0#32
  let v179 : BitVec 1 := Scalar.cmpi .ne v178 c0_i32_109
  v179

def k0_off21 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v237 : BitVec 32 := Scalar.addi v0 v164
  let v240 : Index := Scalar.indexCast v237
  let c0_156 : Index := 0#32
  let c0_157 : Index := 0#32
  ![v240.toNat, 0, 0]
def k0_off22 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v237 : BitVec 32 := Scalar.addi v0 v164
  let v260 : Index := Scalar.indexCast v237
  let c0_170 : Index := 0#32
  let c0_171 : Index := 0#32
  ![v260.toNat, 0, 0]
def k0_off23 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let c1_i32_178 : BitVec 32 := 1#32
  let v271 : BitVec 32 := Scalar.addi v164 c1_i32_178
  let v272 : BitVec 32 := Scalar.addi v0 v271
  let v275 : Index := Scalar.indexCast v272
  let c0_183 : Index := 0#32
  let c0_184 : Index := 0#32
  ![v275.toNat, 0, 0]
def k0_off24 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let c1_i32_178 : BitVec 32 := 1#32
  let v271 : BitVec 32 := Scalar.addi v164 c1_i32_178
  let v272 : BitVec 32 := Scalar.addi v0 v271
  let v295 : Index := Scalar.indexCast v272
  let c0_197 : Index := 0#32
  let c0_198 : Index := 0#32
  ![v295.toNat, 0, 0]
def k0_off25 (i : grid0.Coords) (v8 : BitVec 32) (c1_i32_137 : BitVec 32) : Fin 4 → Nat :=
  let c0_138 : Index := 0#32
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v211 : BitVec 32 := Scalar.addi v164 c1_i32_137
  let v214 : BitVec 32 := Scalar.addi v0 v211
  let v215 : BitVec 32 := Scalar.minsi v214 v8
  let v217 : Index := Scalar.indexCast v215
  let c0_139 : Index := 0#32
  let c0_140 : Index := 0#32
  ![0, v217.toNat, 0, 0]
def k0_cond3 (i : grid0.Coords) (v8 : BitVec 32) : BitVec 1 :=
  let c31_i32 : BitVec 32 := 31#32
  let arg1 : BitVec 32 := BitVec.ofNat 32 (i 1).val
  let v0 : BitVec 32 := Scalar.subi c31_i32 arg1
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_110 : BitVec 32 := 1#32
  let v180 : BitVec 1 := Scalar.cmpi .sge v156 c1_i32_110
  let c2_i32_111 : BitVec 32 := 2#32
  let c0_i32_112 : BitVec 32 := 0#32
  let v181 : BitVec 1 := Scalar.cmpi .eq c2_i32_111 c0_i32_112
  let c1_i32_113 : BitVec 32 := 1#32
  let v182 : BitVec 32 := Scalar.select v181 c1_i32_113 c2_i32_111
  let v183 : BitVec 32 := Scalar.remsi v21 v182
  let c0_i32_115 : BitVec 32 := 0#32
  let v185 : BitVec 1 := Scalar.cmpi .slt v183 c0_i32_115
  let c0_i32_116 : BitVec 32 := 0#32
  let v186 : BitVec 1 := Scalar.cmpi .slt v182 c0_i32_116
  let v187 : BitVec 1 := Scalar.xori v185 v186
  let c0_i32_114 : BitVec 32 := 0#32
  let v184 : BitVec 1 := Scalar.cmpi .ne v183 c0_i32_114
  let v188 : BitVec 1 := Scalar.andi v187 v184
  let v189 : BitVec 32 := Scalar.addi v183 v182
  let v190 : BitVec 32 := Scalar.select v188 v189 v183
  let c1_i32_117 : BitVec 32 := 1#32
  let v191 : BitVec 1 := Scalar.cmpi .eq v190 c1_i32_117
  let v192 : BitVec 1 := Scalar.andi v180 v191
  let v193 : BitVec 32 := Scalar.extui v192
  let c0_i32_118 : BitVec 32 := 0#32
  let v194 : BitVec 1 := Scalar.cmpi .ne v193 c0_i32_118
  v194

def k0_off26 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let c2_i32_136 : BitVec 32 := 2#32
  let v210 : BitVec 32 := Scalar.addi v164 c2_i32_136
  let v212 : BitVec 32 := Scalar.addi v0 v210
  let v213 : BitVec 32 := Scalar.minsi v212 v8
  let v226 : Index := Scalar.indexCast v213
  let c0_148 : Index := 0#32
  let c0_149 : Index := 0#32
  ![v226.toNat, 0, 0]
def k0_off27 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v216 : BitVec 32 := Scalar.addi v0 v164
  let v262 : Index := Scalar.indexCast v216
  let c0_174 : Index := 0#32
  let c0_175 : Index := 0#32
  ![v262.toNat, 0, 0]
def k0_off28 (i : grid0.Coords) (v8 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v216 : BitVec 32 := Scalar.addi v0 v164
  let v348 : Index := Scalar.indexCast v216
  let c0_239 : Index := 0#32
  let c0_240 : Index := 0#32
  ![v348.toNat, 0, 0]
def k0_off29 (i : grid0.Coords) (v8 : BitVec 32) (c1_i32_259 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v383 : BitVec 32 := Scalar.addi v164 c1_i32_259
  let v384 : BitVec 32 := Scalar.addi v0 v383
  let v387 : Index := Scalar.indexCast v384
  let c0_264 : Index := 0#32
  let c0_265 : Index := 0#32
  ![v387.toNat, 0, 0]
def k0_off30 (i : grid0.Coords) (v8 : BitVec 32) (c1_i32_259 : BitVec 32) : Fin 3 → Nat :=
  let c31_i32 : BitVec 32 := 31#32
  let arg1 : BitVec 32 := BitVec.ofNat 32 (i 1).val
  let v0 : BitVec 32 := Scalar.subi c31_i32 arg1
  let c2_i32_100 : BitVec 32 := 2#32
  let v20 : BitVec 32 := Scalar.subi v8 v0
  let c1_i32 : BitVec 32 := 1#32
  let v21 : BitVec 32 := Scalar.addi v20 c1_i32
  let c0_i32_87 : BitVec 32 := 0#32
  let v141 : BitVec 1 := Scalar.cmpi .sgt v21 c0_i32_87
  let v142 : BitVec 32 := Scalar.extui v141
  let c0_i32_88 : BitVec 32 := 0#32
  let v143 : BitVec 1 := Scalar.cmpi .slt v21 c0_i32_88
  let v144 : BitVec 32 := Scalar.extui v143
  let v145 : BitVec 32 := Scalar.subi v142 v144
  let c2_i32 : BitVec 32 := 2#32
  let c0_i32_89 : BitVec 32 := 0#32
  let v146 : BitVec 1 := Scalar.cmpi .sgt c2_i32 c0_i32_89
  let v147 : BitVec 32 := Scalar.extui v146
  let c0_i32_90 : BitVec 32 := 0#32
  let v148 : BitVec 1 := Scalar.cmpi .slt c2_i32 c0_i32_90
  let v149 : BitVec 32 := Scalar.extui v148
  let v150 : BitVec 32 := Scalar.subi v147 v149
  let v151 : BitVec 1 := Scalar.cmpi .ne v145 v150
  let v152 : BitVec 32 := Scalar.remsi v21 c2_i32
  let c0_i32_91 : BitVec 32 := 0#32
  let v153 : BitVec 1 := Scalar.cmpi .ne v152 c0_i32_91
  let v154 : BitVec 1 := Scalar.andi v151 v153
  let v140 : BitVec 32 := Scalar.divsi v21 c2_i32
  let c1_i32_92 : BitVec 32 := 1#32
  let v155 : BitVec 32 := Scalar.subi v140 c1_i32_92
  let v156 : BitVec 32 := Scalar.select v154 v155 v140
  let c1_i32_99 : BitVec 32 := 1#32
  let v163 : BitVec 32 := Scalar.subi v156 c1_i32_99
  let v164 : BitVec 32 := Scalar.muli c2_i32_100 v163
  let v383 : BitVec 32 := Scalar.addi v164 c1_i32_259
  let v384 : BitVec 32 := Scalar.addi v0 v383
  let v407 : Index := Scalar.indexCast v384
  let c0_278 : Index := 0#32
  let c0_279 : Index := 0#32
  ![v407.toNat, 0, 0]

def k0_chk2 (i : grid0.Coords) (v8 : BitVec 32) : Prop :=
  (∀ a, (k0_off6 i v8) a + S1x128x512.size a ≤ S32x128x512.size a) ∧
  ((k0_t1_loop i v8).OK) ∧
  (∀ k0_t1 : Fin (k0_t1_loop i v8).trips, ∀ (r : Fin 2), ∀ a, (k0_off8 i v8 k0_t1 (BitVec.ofNat 32 (1 + r.val))) a + S1x1x1x512.size a ≤ S1x32x1x512.size a) ∧
  (∀ k0_t1 : Fin (k0_t1_loop i v8).trips, ∀ (r : Fin 2), ∀ a, (k0_off9 i v8 k0_t1 (BitVec.ofNat 32 (2 + r.val))) a + S1x128x512.size a ≤ S32x128x512.size a) ∧
  (∀ k0_t1 : Fin (k0_t1_loop i v8).trips, ∀ a, (k0_off10 i v8 k0_t1) a + S1x128x512.size a ≤ S32x128x512.size a) ∧
  (∀ k0_t1 : Fin (k0_t1_loop i v8).trips, ∀ a, (k0_off11 i v8 k0_t1) a + S1x80x512.size a ≤ S32x80x512.size a) ∧
  (∀ k0_t1 : Fin (k0_t1_loop i v8).trips, ∀ a, (k0_off12 i v8 k0_t1) a + S1x128x512.size a ≤ S32x128x512.size a) ∧
  (∀ k0_t1 : Fin (k0_t1_loop i v8).trips, ∀ a, (k0_off13 i v8 k0_t1) a + S1x80x512.size a ≤ S32x80x512.size a) ∧
  ((k0_t2_loop i v8).OK) ∧
  (∀ k0_t2 : Fin (k0_t2_loop i v8).trips, ∀ (r : Fin 2), ∀ a, (k0_off14 i v8 k0_t2 (BitVec.ofNat 32 (1 + r.val))) a + S1x1x1x512.size a ≤ S1x32x1x512.size a) ∧
  (∀ k0_t2 : Fin (k0_t2_loop i v8).trips, ∀ (r : Fin 2), ∀ a, (k0_off15 i v8 k0_t2 (BitVec.ofNat 32 (2 + r.val))) a + S1x128x512.size a ≤ S32x128x512.size a) ∧
  (∀ k0_t2 : Fin (k0_t2_loop i v8).trips, ∀ a, (k0_off16 i v8 k0_t2) a + S1x128x512.size a ≤ S32x128x512.size a) ∧
  (∀ k0_t2 : Fin (k0_t2_loop i v8).trips, ∀ a, (k0_off17 i v8 k0_t2) a + S1x80x512.size a ≤ S32x80x512.size a) ∧
  (∀ k0_t2 : Fin (k0_t2_loop i v8).trips, ∀ a, (k0_off18 i v8 k0_t2) a + S1x128x512.size a ≤ S32x128x512.size a) ∧
  (∀ k0_t2 : Fin (k0_t2_loop i v8).trips, ∀ a, (k0_off19 i v8 k0_t2) a + S1x80x512.size a ≤ S32x80x512.size a) ∧
  (∀ (k0_h2 : k0_cond2 i v8 = 1#1), ∀ a, (k0_off20 i v8) a + S1x1x1x512.size a ≤ S1x32x1x512.size a) ∧
  (∀ (k0_h2 : k0_cond2 i v8 = 1#1), ∀ a, (k0_off21 i v8) a + S1x128x512.size a ≤ S32x128x512.size a) ∧
  (∀ (k0_h2 : k0_cond2 i v8 = 1#1), ∀ a, (k0_off22 i v8) a + S1x80x512.size a ≤ S32x80x512.size a) ∧
  (∀ (k0_h2 : k0_cond2 i v8 = 1#1), ∀ a, (k0_off23 i v8) a + S1x128x512.size a ≤ S32x128x512.size a) ∧
  (∀ (k0_h2 : k0_cond2 i v8 = 1#1), ∀ a, (k0_off24 i v8) a + S1x80x512.size a ≤ S32x80x512.size a) ∧
  (∀ (k0_h3 : k0_cond3 i v8 = 1#1), ∀ (r : Fin 2), ∀ a, (k0_off25 i v8 (BitVec.ofNat 32 (1 + r.val))) a + S1x1x1x512.size a ≤ S1x32x1x512.size a) ∧
  (∀ (k0_h3 : k0_cond3 i v8 = 1#1), ∀ a, (k0_off26 i v8) a + S1x128x512.size a ≤ S32x128x512.size a) ∧
  (∀ (k0_h3 : k0_cond3 i v8 = 1#1), ∀ a, (k0_off27 i v8) a + S1x128x512.size a ≤ S32x128x512.size a) ∧
  (∀ (k0_h3 : k0_cond3 i v8 = 1#1), ∀ a, (k0_off28 i v8) a + S1x80x512.size a ≤ S32x80x512.size a) ∧
  (∀ (k0_h3 : k0_cond3 i v8 = 1#1), ∀ (r : Fin 2), ∀ a, (k0_off29 i v8 (BitVec.ofNat 32 (1 + r.val))) a + S1x128x512.size a ≤ S32x128x512.size a) ∧
  (∀ (k0_h3 : k0_cond3 i v8 = 1#1), ∀ (r : Fin 2), ∀ a, (k0_off30 i v8 (BitVec.ofNat 32 (1 + r.val))) a + S1x80x512.size a ≤ S32x80x512.size a)
theorem k0_off6_inb : ∀ (i : grid0.Coords) (v8 : BitVec 32) (k0_hw2 : k0_chk2 i v8), ∀ a, (k0_off6 i v8) a + S1x128x512.size a ≤ S32x128x512.size a := fun i v8 k0_hw2 => k0_hw2.1
theorem k0_t1_ok : ∀ (i : grid0.Coords) (v8 : BitVec 32) (k0_hw2 : k0_chk2 i v8), (k0_t1_loop i v8).OK := fun i v8 k0_hw2 => k0_hw2.2.1
theorem k0_off8_inb : ∀ (i : grid0.Coords) (v8 : BitVec 32) (k0_hw2 : k0_chk2 i v8) (k0_t1 : Fin (k0_t1_loop i v8).trips), ∀ (r : Fin 2), ∀ a, (k0_off8 i v8 k0_t1 (BitVec.ofNat 32 (1 + r.val))) a + S1x1x1x512.size a ≤ S1x32x1x512.size a := fun i v8 k0_hw2 k0_t1 r => k0_hw2.2.2.1 k0_t1 r
theorem k0_off9_inb : ∀ (i : grid0.Coords) (v8 : BitVec 32) (k0_hw2 : k0_chk2 i v8) (k0_t1 : Fin (k0_t1_loop i v8).trips), ∀ (r : Fin 2), ∀ a, (k0_off9 i v8 k0_t1 (BitVec.ofNat 32 (2 + r.val))) a + S1x128x512.size a ≤ S32x128x512.size a := fun i v8 k0_hw2 k0_t1 r => k0_hw2.2.2.2.1 k0_t1 r
theorem k0_off10_inb : ∀ (i : grid0.Coords) (v8 : BitVec 32) (k0_hw2 : k0_chk2 i v8) (k0_t1 : Fin (k0_t1_loop i v8).trips), ∀ a, (k0_off10 i v8 k0_t1) a + S1x128x512.size a ≤ S32x128x512.size a := fun i v8 k0_hw2 k0_t1 => k0_hw2.2.2.2.2.1 k0_t1
theorem k0_off11_inb : ∀ (i : grid0.Coords) (v8 : BitVec 32) (k0_hw2 : k0_chk2 i v8) (k0_t1 : Fin (k0_t1_loop i v8).trips), ∀ a, (k0_off11 i v8 k0_t1) a + S1x80x512.size a ≤ S32x80x512.size a := fun i v8 k0_hw2 k0_t1 => k0_hw2.2.2.2.2.2.1 k0_t1
theorem k0_off12_inb : ∀ (i : grid0.Coords) (v8 : BitVec 32) (k0_hw2 : k0_chk2 i v8) (k0_t1 : Fin (k0_t1_loop i v8).trips), ∀ a, (k0_off12 i v8 k0_t1) a + S1x128x512.size a ≤ S32x128x512.size a := fun i v8 k0_hw2 k0_t1 => k0_hw2.2.2.2.2.2.2.1 k0_t1
theorem k0_off13_inb : ∀ (i : grid0.Coords) (v8 : BitVec 32) (k0_hw2 : k0_chk2 i v8) (k0_t1 : Fin (k0_t1_loop i v8).trips), ∀ a, (k0_off13 i v8 k0_t1) a + S1x80x512.size a ≤ S32x80x512.size a := fun i v8 k0_hw2 k0_t1 => k0_hw2.2.2.2.2.2.2.2.1 k0_t1
theorem k0_t2_ok : ∀ (i : grid0.Coords) (v8 : BitVec 32) (k0_hw2 : k0_chk2 i v8), (k0_t2_loop i v8).OK := fun i v8 k0_hw2 => k0_hw2.2.2.2.2.2.2.2.2.1
theorem k0_off14_inb : ∀ (i : grid0.Coords) (v8 : BitVec 32) (k0_hw2 : k0_chk2 i v8) (k0_t2 : Fin (k0_t2_loop i v8).trips), ∀ (r : Fin 2), ∀ a, (k0_off14 i v8 k0_t2 (BitVec.ofNat 32 (1 + r.val))) a + S1x1x1x512.size a ≤ S1x32x1x512.size a := fun i v8 k0_hw2 k0_t2 r => k0_hw2.2.2.2.2.2.2.2.2.2.1 k0_t2 r
theorem k0_off15_inb : ∀ (i : grid0.Coords) (v8 : BitVec 32) (k0_hw2 : k0_chk2 i v8) (k0_t2 : Fin (k0_t2_loop i v8).trips), ∀ (r : Fin 2), ∀ a, (k0_off15 i v8 k0_t2 (BitVec.ofNat 32 (2 + r.val))) a + S1x128x512.size a ≤ S32x128x512.size a := fun i v8 k0_hw2 k0_t2 r => k0_hw2.2.2.2.2.2.2.2.2.2.2.1 k0_t2 r
theorem k0_off16_inb : ∀ (i : grid0.Coords) (v8 : BitVec 32) (k0_hw2 : k0_chk2 i v8) (k0_t2 : Fin (k0_t2_loop i v8).trips), ∀ a, (k0_off16 i v8 k0_t2) a + S1x128x512.size a ≤ S32x128x512.size a := fun i v8 k0_hw2 k0_t2 => k0_hw2.2.2.2.2.2.2.2.2.2.2.2.1 k0_t2
theorem k0_off17_inb : ∀ (i : grid0.Coords) (v8 : BitVec 32) (k0_hw2 : k0_chk2 i v8) (k0_t2 : Fin (k0_t2_loop i v8).trips), ∀ a, (k0_off17 i v8 k0_t2) a + S1x80x512.size a ≤ S32x80x512.size a := fun i v8 k0_hw2 k0_t2 => k0_hw2.2.2.2.2.2.2.2.2.2.2.2.2.1 k0_t2
theorem k0_off18_inb : ∀ (i : grid0.Coords) (v8 : BitVec 32) (k0_hw2 : k0_chk2 i v8) (k0_t2 : Fin (k0_t2_loop i v8).trips), ∀ a, (k0_off18 i v8 k0_t2) a + S1x128x512.size a ≤ S32x128x512.size a := fun i v8 k0_hw2 k0_t2 => k0_hw2.2.2.2.2.2.2.2.2.2.2.2.2.2.1 k0_t2
theorem k0_off19_inb : ∀ (i : grid0.Coords) (v8 : BitVec 32) (k0_hw2 : k0_chk2 i v8) (k0_t2 : Fin (k0_t2_loop i v8).trips), ∀ a, (k0_off19 i v8 k0_t2) a + S1x80x512.size a ≤ S32x80x512.size a := fun i v8 k0_hw2 k0_t2 => k0_hw2.2.2.2.2.2.2.2.2.2.2.2.2.2.2.1 k0_t2
theorem k0_off20_inb : ∀ (i : grid0.Coords) (v8 : BitVec 32) (k0_hw2 : k0_chk2 i v8), ∀ (k0_h2 : k0_cond2 i v8 = 1#1), ∀ a, (k0_off20 i v8) a + S1x1x1x512.size a ≤ S1x32x1x512.size a := fun i v8 k0_hw2 k0_h2 => k0_hw2.2.2.2.2.2.2.2.2.2.2.2.2.2.2.2.1 k0_h2
theorem k0_off21_inb : ∀ (i : grid0.Coords) (v8 : BitVec 32) (k0_hw2 : k0_chk2 i v8), ∀ (k0_h2 : k0_cond2 i v8 = 1#1), ∀ a, (k0_off21 i v8) a + S1x128x512.size a ≤ S32x128x512.size a := fun i v8 k0_hw2 k0_h2 => k0_hw2.2.2.2.2.2.2.2.2.2.2.2.2.2.2.2.2.1 k0_h2
theorem k0_off22_inb : ∀ (i : grid0.Coords) (v8 : BitVec 32) (k0_hw2 : k0_chk2 i v8), ∀ (k0_h2 : k0_cond2 i v8 = 1#1), ∀ a, (k0_off22 i v8) a + S1x80x512.size a ≤ S32x80x512.size a := fun i v8 k0_hw2 k0_h2 => k0_hw2.2.2.2.2.2.2.2.2.2.2.2.2.2.2.2.2.2.1 k0_h2
theorem k0_off23_inb : ∀ (i : grid0.Coords) (v8 : BitVec 32) (k0_hw2 : k0_chk2 i v8), ∀ (k0_h2 : k0_cond2 i v8 = 1#1), ∀ a, (k0_off23 i v8) a + S1x128x512.size a ≤ S32x128x512.size a := fun i v8 k0_hw2 k0_h2 => k0_hw2.2.2.2.2.2.2.2.2.2.2.2.2.2.2.2.2.2.2.1 k0_h2
theorem k0_off24_inb : ∀ (i : grid0.Coords) (v8 : BitVec 32) (k0_hw2 : k0_chk2 i v8), ∀ (k0_h2 : k0_cond2 i v8 = 1#1), ∀ a, (k0_off24 i v8) a + S1x80x512.size a ≤ S32x80x512.size a := fun i v8 k0_hw2 k0_h2 => k0_hw2.2.2.2.2.2.2.2.2.2.2.2.2.2.2.2.2.2.2.2.1 k0_h2
theorem k0_off25_inb : ∀ (i : grid0.Coords) (v8 : BitVec 32) (k0_hw2 : k0_chk2 i v8), ∀ (k0_h3 : k0_cond3 i v8 = 1#1), ∀ (r : Fin 2), ∀ a, (k0_off25 i v8 (BitVec.ofNat 32 (1 + r.val))) a + S1x1x1x512.size a ≤ S1x32x1x512.size a := fun i v8 k0_hw2 k0_h3 r => k0_hw2.2.2.2.2.2.2.2.2.2.2.2.2.2.2.2.2.2.2.2.2.1 k0_h3 r
theorem k0_off26_inb : ∀ (i : grid0.Coords) (v8 : BitVec 32) (k0_hw2 : k0_chk2 i v8), ∀ (k0_h3 : k0_cond3 i v8 = 1#1), ∀ a, (k0_off26 i v8) a + S1x128x512.size a ≤ S32x128x512.size a := fun i v8 k0_hw2 k0_h3 => k0_hw2.2.2.2.2.2.2.2.2.2.2.2.2.2.2.2.2.2.2.2.2.2.1 k0_h3
theorem k0_off27_inb : ∀ (i : grid0.Coords) (v8 : BitVec 32) (k0_hw2 : k0_chk2 i v8), ∀ (k0_h3 : k0_cond3 i v8 = 1#1), ∀ a, (k0_off27 i v8) a + S1x128x512.size a ≤ S32x128x512.size a := fun i v8 k0_hw2 k0_h3 => k0_hw2.2.2.2.2.2.2.2.2.2.2.2.2.2.2.2.2.2.2.2.2.2.2.1 k0_h3
theorem k0_off28_inb : ∀ (i : grid0.Coords) (v8 : BitVec 32) (k0_hw2 : k0_chk2 i v8), ∀ (k0_h3 : k0_cond3 i v8 = 1#1), ∀ a, (k0_off28 i v8) a + S1x80x512.size a ≤ S32x80x512.size a := fun i v8 k0_hw2 k0_h3 => k0_hw2.2.2.2.2.2.2.2.2.2.2.2.2.2.2.2.2.2.2.2.2.2.2.2.1 k0_h3
theorem k0_off29_inb : ∀ (i : grid0.Coords) (v8 : BitVec 32) (k0_hw2 : k0_chk2 i v8), ∀ (k0_h3 : k0_cond3 i v8 = 1#1), ∀ (r : Fin 2), ∀ a, (k0_off29 i v8 (BitVec.ofNat 32 (1 + r.val))) a + S1x128x512.size a ≤ S32x128x512.size a := fun i v8 k0_hw2 k0_h3 r => k0_hw2.2.2.2.2.2.2.2.2.2.2.2.2.2.2.2.2.2.2.2.2.2.2.2.2.1 k0_h3 r
theorem k0_off30_inb : ∀ (i : grid0.Coords) (v8 : BitVec 32) (k0_hw2 : k0_chk2 i v8), ∀ (k0_h3 : k0_cond3 i v8 = 1#1), ∀ (r : Fin 2), ∀ a, (k0_off30 i v8 (BitVec.ofNat 32 (1 + r.val))) a + S1x80x512.size a ≤ S32x80x512.size a := fun i v8 k0_hw2 k0_h3 r => k0_hw2.2.2.2.2.2.2.2.2.2.2.2.2.2.2.2.2.2.2.2.2.2.2.2.2.2 k0_h3 r

def k0_off31 (i : grid0.Coords) : Fin 3 → Nat :=
  let c31_i32 : BitVec 32 := 31#32
  let arg1 : BitVec 32 := BitVec.ofNat 32 (i 1).val
  let v0 : BitVec 32 := Scalar.subi c31_i32 arg1
  let c0_i32_136 : BitVec 32 := 0#32
  let v210 : BitVec 32 := Scalar.addi v0 c0_i32_136
  let v213 : Index := Scalar.indexCast v210
  let c0_141 : Index := 0#32
  let c0_142 : Index := 0#32
  ![v213.toNat, 0, 0]
def k0_off32 (i : grid0.Coords) : Fin 3 → Nat :=
  let c31_i32 : BitVec 32 := 31#32
  let arg1 : BitVec 32 := BitVec.ofNat 32 (i 1).val
  let v0 : BitVec 32 := Scalar.subi c31_i32 arg1
  let c0_i32_136 : BitVec 32 := 0#32
  let v210 : BitVec 32 := Scalar.addi v0 c0_i32_136
  let v233 : Index := Scalar.indexCast v210
  let c0_155 : Index := 0#32
  let c0_156 : Index := 0#32
  ![v233.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, arg0.toNat, c0_i32.toNat]

def cc0_transform_13 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x80x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnBwdIdeal.lean ====
variable {F : FTy → Type} [FloatOps F] [Named F]
def κ : String → Option EReal := fun
  | "log2e" => some (((Real.log 2)⁻¹ : ℝ) : EReal)
  | "prune" => some ⊤
  | _ => none
-- ==== AttnBwdRefIdeal.lean ====
abbrev S16384x8x64 : Shape := ⟨3, ![16384, 8, 64]⟩
abbrev S16384x8 : Shape := ⟨2, ![16384, 8]⟩
abbrev S16384 : Shape := ⟨1, ![16384]⟩
abbrev S16384x1 : Shape := ⟨2, ![16384, 1]⟩
abbrev S1x16384 : Shape := ⟨2, ![1, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384x16384 : Shape := ⟨2, ![16384, 16384]⟩
abbrev S1x16384x16384 : Shape := ⟨3, ![1, 16384, 16384]⟩
abbrev S8x64x16384 : Shape := ⟨3, ![8, 64, 16384]⟩
abbrev S8x16384x64 : Shape := ⟨3, ![8, 16384, 64]⟩
abbrev S32x512x8x64 : Shape := ⟨4, ![32, 512, 8, 64]⟩
abbrev S32x8x64x512 : Shape := ⟨4, ![32, 8, 64, 512]⟩
abbrev S32x512x8 : Shape := ⟨3, ![32, 512, 8]⟩
abbrev S32x8x512 : Shape := ⟨3, ![32, 8, 512]⟩

abbrev nBuf : Space → Nat
  | .hbm => 122
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S16384x8, .f32⟩
  | .hbm, ⟨4, _⟩ => ⟨S16384x8x64, .f32⟩
  | .hbm, ⟨5, _⟩ => ⟨S16384, .i32⟩
  | .hbm, ⟨6, _⟩ => ⟨S16384x1, .i32⟩
  | .hbm, ⟨7, _⟩ => ⟨S16384, .i32⟩
  | .hbm, ⟨8, _⟩ => ⟨S1x16384, .i32⟩
  | .hbm, ⟨9, _⟩ => ⟨S8x16384x16384, .f32⟩
  | .hbm, ⟨10, _⟩ => ⟨S_, .f32⟩
  | .hbm, ⟨11, _⟩ => ⟨S8x16384x16384, .f32⟩
  | .hbm, ⟨12, _⟩ => ⟨S8x16384x16384, .f32⟩
  | .hbm, ⟨13, _⟩ => ⟨S8x16384, .f32⟩
  | .hbm, ⟨14, _⟩ => ⟨S8x16384x1, .f32⟩
  | .hbm, ⟨15, _⟩ => ⟨S8x16384x16384, .f32⟩
  | .hbm, ⟨16, _⟩ => ⟨S8x16384x16384, .f32⟩
  | .hbm, ⟨17, _⟩ => ⟨S8x16384, .f32⟩
  | .hbm, ⟨18, _⟩ => ⟨S8x1x16384, .f32⟩
  | .hbm, ⟨19, _⟩ => ⟨S8x16384x16384, .f32⟩
  | .hbm, ⟨20, _⟩ => ⟨S8x16384x16384, .f32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S1x16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .i1⟩
  | .hbm, ⟨46, _⟩ => ⟨S_, .f32⟩
  | .hbm, ⟨47, _⟩ => ⟨S8x16384, .f32⟩
  | .hbm, ⟨48, _⟩ => ⟨S8x16384, .i1⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S8x16384x1, .f32⟩
  | .hbm, ⟨67, _⟩ => ⟨S_, .f32⟩
  | .hbm, ⟨68, _⟩ => ⟨S8x16384x1, .f32⟩
  | .hbm, ⟨69, _⟩ => ⟨S8x16384x1, .f32⟩
  | .hbm, ⟨70, _⟩ => ⟨S8x64x16384, .f32⟩
  | .hbm, ⟨71, _⟩ => ⟨S16384x8x64, .f32⟩
  | .hbm, ⟨72, _⟩ => ⟨S8x64x16384, .f32⟩
  | .hbm, ⟨73, _⟩ => ⟨S8x16384x16384, .f32⟩
  | .hbm, ⟨74, _⟩ => ⟨S8x64x16384, .f32⟩
  | .hbm, ⟨75, _⟩ => ⟨S16384x8x64, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384, .f32⟩
  | .hbm, ⟨81, _⟩ => ⟨S8x16384x1, .f32⟩
  | .hbm, ⟨82, _⟩ => ⟨S8x16384x1, .f32⟩
  | .hbm, ⟨83, _⟩ => ⟨S8x16384x16384, .f32⟩
  | .hbm, ⟨84, _⟩ => ⟨S8x16384x16384, .f32⟩
  | .hbm, ⟨85, _⟩ => ⟨S_, .f32⟩
  | .hbm, ⟨86, _⟩ => ⟨S8x16384, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384x16384, .f32⟩
  | .hbm, ⟨92, _⟩ => ⟨S8x16384x16384, .f32⟩
  | .hbm, ⟨93, _⟩ => ⟨S8x16384x16384, .f32⟩
  | .hbm, ⟨94, _⟩ => ⟨S_, .f32⟩
  | .hbm, ⟨95, _⟩ => ⟨S8x16384, .f32⟩
  | .hbm, ⟨96, _⟩ => ⟨S8x1x16384, .f32⟩
  | .hbm, ⟨97, _⟩ => ⟨S_, .f32⟩
  | .hbm, ⟨98, _⟩ => ⟨S8x16384, .f32⟩
  | .hbm, ⟨99, _⟩ => ⟨S16384x8, .f32⟩
  | .hbm, ⟨100, _⟩ => ⟨S_, .f32⟩
  | .hbm, ⟨101, _⟩ => ⟨S8x16384, .f32⟩
  | .hbm, ⟨102, _⟩ => ⟨S8x16384x1, .f32⟩
  | .hbm, ⟨103, _⟩ => ⟨S_, .f32⟩
  | .hbm, ⟨104, _⟩ => ⟨S8x16384, .f32⟩
  | .hbm, ⟨105, _⟩ => ⟨S16384x8, .f32⟩
  | .hbm, ⟨106, _⟩ => ⟨S16384x8, .f32⟩
  | .hbm, ⟨107, _⟩ => ⟨S_, .f32⟩
  | .hbm, ⟨108, _⟩ => ⟨S8x16384x16384, .f32⟩
  | .hbm, ⟨109, _⟩ => ⟨S8x16384x16384, .f32⟩
  | .hbm, ⟨110, _⟩ => ⟨S8x16384x64, .f32⟩
  | .hbm, ⟨111, _⟩ => ⟨S16384x8x64, .f32⟩
  | .hbm, ⟨112, _⟩ => ⟨S8x16384x64, .f32⟩
  | .hbm, ⟨113, _⟩ => ⟨S16384x8x64, .f32⟩
  | .hbm, ⟨114, _⟩ => ⟨S32x512x8x64, .f32⟩
  | .hbm, ⟨115, _⟩ => ⟨S32x8x64x512, .f32⟩
  | .hbm, ⟨116, _⟩ => ⟨S32x512x8x64, .f32⟩
  | .hbm, ⟨117, _⟩ => ⟨S32x8x64x512, .f32⟩
  | .hbm, ⟨118, _⟩ => ⟨S32x512x8x64, .f32⟩
  | .hbm, ⟨119, _⟩ => ⟨S32x8x64x512, .f32⟩
  | .hbm, ⟨120, _⟩ => ⟨S32x512x8, .f32⟩
  | .hbm, ⟨121, _⟩ => ⟨S32x8x512, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_cst : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== MlpLoss.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S1x1 : Shape := ⟨2, ![1, 1]⟩
abbrev S16384x4096 : Shape := ⟨2, ![16384, 4096]⟩
abbrev S1024x16384 : Shape := ⟨2, ![1024, 16384]⟩
abbrev S512x1024 : Shape := ⟨2, ![512, 1024]⟩
abbrev S512x4096 : Shape := ⟨2, ![512, 4096]⟩
abbrev S1024x512 : Shape := ⟨2, ![1024, 512]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S1x1024x512 : Shape := ⟨3, ![1, 1024, 512]⟩
abbrev S512x512 : Shape := ⟨2, ![512, 512]⟩
abbrev S1024 : Shape := ⟨1, ![1024]⟩

abbrev nBuf : Space → Nat
  | .hbm => 17
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S4096x1024, .bf16⟩
  | .hbm, ⟨12, _⟩ => ⟨S16384x1024, .f32⟩
  | .hbm, ⟨13, _⟩ => ⟨S1x1, .f32⟩
  | .hbm, ⟨14, _⟩ => ⟨S1x1024, .f32⟩
  | .hbm, ⟨15, _⟩ => ⟨S16384x4096, .bf16⟩
  | .hbm, ⟨16, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | .local _ .vmem, ⟨11, _⟩ => ⟨S1x1024, .f32⟩
  | .local _ .vmem, ⟨12, _⟩ => ⟨S512x4096, .bf16⟩
  | .local _ .vmem, ⟨13, _⟩ => ⟨S512x4096, .bf16⟩
  | .local _ .vmem, ⟨14, _⟩ => ⟨S1024x512, .bf16⟩
  | .local _ .vmem, ⟨15, _⟩ => ⟨S1024x512, .bf16⟩
  | .local _ .vmem, ⟨16, _⟩ => ⟨S8x1024x512, .bf16⟩
  | .local _ .vmem, ⟨17, _⟩ => ⟨S4096x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpLossRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩
abbrev S1x1 : Shape := ⟨2, ![1, 1]⟩
abbrev S1024x16384 : Shape := ⟨2, ![1024, 16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x4096, .f32⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S1x1, .f32⟩
  | .hbm, ⟨67, _⟩ => ⟨S16384x4096, .bf16⟩
  | .hbm, ⟨68, _⟩ => ⟨S1024x16384, .f32⟩
  | .hbm, ⟨69, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== InBwdX.lean ====
abbrev S16384x1024 : Shape := ⟨2, ![16384, 1024]⟩
abbrev S1x1024 : Shape := ⟨2, ![1, 1024]⟩
abbrev S1024x2568 : Shape := ⟨2, ![1024, 2568]⟩
abbrev S16384x2568 : Shape := ⟨2, ![16384, 2568]⟩
abbrev S2568x1024 : Shape := ⟨2, ![2568, 1024]⟩
abbrev S1544x1024 : Shape := ⟨2, ![1544, 1024]⟩
abbrev S_ : Shape := ⟨0, ![]⟩
abbrev S1552x1024 : Shape := ⟨2, ![1552, 1024]⟩
abbrev S16384x1544 : Shape := ⟨2, ![16384, 1544]⟩
abbrev S16384x1552 : Shape := ⟨2, ![16384, 1552]⟩
abbrev S32x512x1552 : Shape := ⟨3, ![32, 512, 1552]⟩
abbrev S32x1552x512 : Shape := ⟨3, ![32, 1552, 512]⟩
abbrev S1024x1552 : Shape := ⟨2, ![1024, 1552]⟩
abbrev S1024x1024 : Shape := ⟨2, ![1024, 1024]⟩
abbrev S8x1024 : Shape := ⟨2, ![8, 1024]⟩
abbrev S512x1024 : Shape := ⟨2, ![512, 1024]⟩
abbrev S1x1552x512 : Shape := ⟨3, ![1, 1552, 512]⟩
abbrev S512 : Shape := ⟨1, ![512]⟩
abbrev S512x1 : Shape := ⟨2, ![512, 1]⟩
abbrev S1552x512 : Shape := ⟨2, ![1552, 512]⟩
abbrev S1024x512 : Shape := ⟨2, ![1024, 512]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2568, .f32⟩
  | .hbm, ⟨5, _⟩ => ⟨S16384x1024, .f32⟩
  | .hbm, ⟨6, _⟩ => ⟨S16384x2568, .f32⟩
  | .hbm, ⟨7, _⟩ => ⟨S2568x1024, .f32⟩
  | .hbm, ⟨8, _⟩ => ⟨S2568x1024, .bf16⟩
  | .hbm, ⟨9, _⟩ => ⟨S1544x1024, .bf16⟩
  | .hbm, ⟨10, _⟩ => ⟨S_, .i32⟩
  | .hbm, ⟨11, _⟩ => ⟨S_, .bf16⟩
  | .hbm, ⟨12, _⟩ => ⟨S1552x1024, .bf16⟩
  | .hbm, ⟨13, _⟩ => ⟨S16384x2568, .bf16⟩
  | .hbm, ⟨14, _⟩ => ⟨S16384x1544, .bf16⟩
  | .hbm, ⟨15, _⟩ => ⟨S_, .i32⟩
  | .hbm, ⟨16, _⟩ => ⟨S_, .bf16⟩
  | .hbm, ⟨17, _⟩ => ⟨S16384x1552, .bf16⟩
  | .hbm, ⟨18, _⟩ => ⟨S32x512x1552, .bf16⟩
  | .hbm, ⟨19, _⟩ => ⟨S32x1552x512, .bf16⟩
  | .hbm, ⟨20, _⟩ => ⟨S16384x1024, .bf16⟩
  | .hbm, ⟨21, _⟩ => ⟨S1024x1552, .bf16⟩
  | .hbm, ⟨22, _⟩ => ⟨S1024x1024, .bf16⟩
  | .hbm, ⟨23, _⟩ => ⟨S1024x1024, .bf16⟩
  | .hbm, ⟨24, _⟩ => ⟨S16384x1024, .f32⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1552x512, .bf16⟩
  | .local _ .vmem, ⟨7, _⟩ => ⟨S1x1552x512, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S1024x1552, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1552x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBwdXRefIdeal.lean ====
abbrev S16384x1024 : Shape := ⟨2, ![16384, 1024]⟩
abbrev S1x1024 : Shape := ⟨2, ![1, 1024]⟩
abbrev S1024x2568 : Shape := ⟨2, ![1024, 2568]⟩
abbrev S16384x2568 : Shape := ⟨2, ![16384, 2568]⟩
abbrev S_ : Shape := ⟨0, ![]⟩
abbrev S16384 : Shape := ⟨1, ![16384]⟩
abbrev S16384x1 : Shape := ⟨2, ![16384, 1]⟩
abbrev S2568x1024 : Shape := ⟨2, ![2568, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2568, .f32⟩
  | .hbm, ⟨5, _⟩ => ⟨S16384x1024, .f32⟩
  | .hbm, ⟨6, _⟩ => ⟨S16384x2568, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2568, .f32⟩
  | .hbm, ⟨34, _⟩ => ⟨S2568x1024, .f32⟩
  | .hbm, ⟨35, _⟩ => ⟨S1024x2568, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.MlpBlock.lean ====
/- What one grid point of the squared-ReLU MLP's gradient leaves in its three output blocks, at extended reals. -/
module

public import proofs.«01_k».proof.Defs
public import proofs.«01_k».proof.Proof.Gen.MlpBwdIdeal.Frame
public import Idealize.ShloMosaic.Lib.Pipeline.ValueKit
public import Idealize.ShloMosaic.Lib.Pipeline.ReadBack

@[expose] public section

set_option maxRecDepth 16384

noncomputable section

namespace Cert.MlpBwdIdeal.Own

open Idealize.ShloMosaic TcCoe Idealize.SL.Sem Tactic
open Cert.MlpBwdIdeal Cert.MlpBwdIdeal.Gen

/-- The cotangent scaled by the gate's row. -/
def dyb (x1 : Vec Ideal S512x1024 .f32) (x3 : Vec Ideal S1x1024 .f32) (r : Fin 512) (d : Fin 1024) : EReal :=
  x1 (ix2 r d) * x3 (ix2 0 d)

/-- The gradient at the first product's output, inside one row block and one chunk of columns. -/
def dab (x1 : Vec Ideal S512x1024 .f32) (x2 : Vec Ideal S512x1024 .bf16) (x3 : Vec Ideal S1x1024 .f32)
    (x5 : Vec Ideal S1024x1024 .bf16) (r : Fin 512) (f : Fin 1024) : EReal :=
  (∑ d : Fin 1024, dyb x1 x3 r d * x5 (ix2 f d)) * (Ideal.ofBits .f32 0x40000000#32 * x2 (ix2 r f))

theorem pay10_at (x1 : Vec Ideal S512x1024 .f32) (x3 : Vec Ideal S1x1024 .f32) (r : Fin 512) (d : Fin 1024) :
    k0_pay10 x1 x3 (ix2 r d) = dyb x1 x3 r d := by
  pointwise [k0_pay10, dyb]

theorem pay11_at (x1 : Vec Ideal S512x1024 .f32) (x2 : Vec Ideal S512x1024 .bf16) (x3 : Vec Ideal S1x1024 .f32)
    (x5 : Vec Ideal S1024x1024 .bf16) (r : Fin 512) (f : Fin 1024) :
    k0_pay11 x2 x1 x3 x5 (ix2 r f) = dab x1 x2 x3 x5 r f := by
  pointwise [k0_pay11, k0_pay9, k0_pay10, dab, dyb]

/-- One row block's share of the first weights' gradient. -/
def inc6 (x0 : Vec Ideal S1024x512 .bf16) (x1 : Vec Ideal S512x1024 .f32) (x2 : Vec Ideal S512x1024 .bf16)
    (x3 : Vec Ideal S1x1024 .f32) (x5 : Vec Ideal S1024x1024 .bf16) (q : Fin 2) (d : Fin 1024) (f : Fin 512) : EReal :=
  ∑ r : Fin 512, x0 (ix2 d r) * dab x1 x2 x3 x5 r ⟨q.val * 512 + f.val, by omega⟩

/-- One row block's share of the second weights' gradient. -/
def inc7 (x1 : Vec Ideal S512x1024 .f32) (x2 : Vec Ideal S512x1024 .bf16)
    (x3 : Vec Ideal S1x1024 .f32) (f : Fin 1024) (d : Fin 1024) : EReal :=
  ∑ r : Fin 512, (x2 (ix2 r f) * x2 (ix2 r f)) * dyb x1 x3 r d

/-- One chunk's share of the rows' gradient. -/
def blk8 (x1 : Vec Ideal S512x1024 .f32) (x2 : Vec Ideal S512x1024 .bf16)
    (x3 : Vec Ideal S1x1024 .f32) (x4 : Vec Ideal S2x1024x512 .bf16) (x5 : Vec Ideal S1024x1024 .bf16)
    (r : Fin 512) (d : Fin 1024) : EReal :=
  (∑ f : Fin 512, dab x1 x2 x3 x5 r ⟨f.val, by omega⟩ * x4 (ix3 0 d f))
    + ∑ f : Fin 512, dab x1 x2 x3 x5 r ⟨512 + f.val, by omega⟩ * x4 (ix3 1 d f)

/-- A stored upper slab, read inside it. -/
theorem canon_slab1 (w : (⟨3, ![1, 1024, 512]⟩ : Shape).Idx → EReal) (inb)
    (L : List (View.Piece (Elt Ideal) S2x1024x512 .f32)) (d : Fin 1024) (f : Fin 512) :
    View.canon ((⟨Rect.unit (s := S2x1024x512) ![1, 0, 0] ![1, 1024, 512] inb, w⟩ : View.Piece (Elt Ideal) S2x1024x512 .f32) :: L) (ix3 1 d f)
      = w (ix3 0 d f) := by
  have e := View.canon_cons_emb (Val := Elt Ideal) (Rect.unit (s := S2x1024x512) ![1, 0, 0] ![1, 1024, 512] inb) w L (ix3 0 d f)
  refine Eq.trans (congrArg _ (funext fun a => Fin.ext ?_)) e
  fin_cases a
  · rfl
  · show d.val = 0 + 1 * d.val; omega
  · show f.val = 0 + 1 * f.val; omega

/-- A stored lower slab, read inside it, under a store of the upper one. -/
theorem canon_slab0 (w' w : (⟨3, ![1, 1024, 512]⟩ : Shape).Idx → EReal) (inb inb')
    (L : List (View.Piece (Elt Ideal) S2x1024x512 .f32)) (d : Fin 1024) (f : Fin 512) :
    View.canon ((⟨Rect.unit (s := S2x1024x512) ![1, 0, 0] ![1, 1024, 512] inb', w'⟩ : View.Piece (Elt Ideal) S2x1024x512 .f32)
        :: ⟨Rect.unit (s := S2x1024x512) ![0, 0, 0] ![1, 1024, 512] inb, w⟩ :: L) (ix3 0 d f)
      = w (ix3 0 d f) := by
  rw [View.canon_cons_of_not_mem]
  · have e := View.canon_cons_emb (Val := Elt Ideal) (Rect.unit (s := S2x1024x512) ![0, 0, 0] ![1, 1024, 512] inb) w L (ix3 0 d f)
    refine Eq.trans (congrArg _ (funext fun a => Fin.ext ?_)) e
    fin_cases a
    · rfl
    · show d.val = 0 + 1 * d.val; omega
    · show f.val = 0 + 1 * f.val; omega
  · rw [Rect.mem_set_unit]
    intro h
    have := (h 0).1
    exact absurd this (by show ¬ (1 ≤ 0); omega)

theorem hz2 : (![0, 0] : Fin 2 → Nat) = fun _ => 0 := by funext a; fin_cases a <;> rfl
theorem hz3 : (![0, 0, 0] : Fin 3 → Nat) = fun _ => 0 := by funext a; fin_cases a <;> rfl

variable (c : Dev nD) (i : grid0.Coords) (a2 : Memref sig .tc .vmem S1024x512 .bf16) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole) (a6 : Memref sig .tc .vmem S2x1024x512 .bf16) (h6 : a6.IsWhole) (a7 : Memref sig .tc .vmem S1024x1024 .bf16) (h7 : a7.IsWhole) (a8 : Memref sig .tc .vmem S2x1024x512 .f32) (h8 : a8.IsWhole) (a9 : Memref sig .tc .vmem S1024x1024 .f32) (h9 : a9.IsWhole) (a10 : Memref sig .tc .vmem S1x512x1024 .f32) (h10 : a10.IsWhole)
    (x0 : Vec Ideal S1024x512 .bf16) (x1 : Vec Ideal S512x1024 .f32) (x2 : Vec Ideal S512x1024 .bf16) (x3 : Vec Ideal S1x1024 .f32) (x4 : Vec Ideal S2x1024x512 .bf16) (x5 : Vec Ideal S1024x1024 .bf16) (y6 : Vec Ideal S2x1024x512 .f32) (y7 : Vec Ideal S1024x1024 .f32)

theorem out_B_7 (hc : ¬cond0_0 i) (f d : Fin 1024) :
    out0_B_7 c i a2 h2 a3 h3 a4 h4 a5 h5 a6 h6 a7 h7 a8 h8 a9 h9 a10 h10 hc x0 x1 x2 x3 x4 x5 y6 y7 (ix2 f d)
      = y7 (ix2 f d) + inc7 x1 x2 x3 f d := by
  unfold out0_B_7
  rw [View.read_writes_eq_canon _ _ _ (cover0_B_7 c i a2 h2 a3 h3 a4 h4 a5 h5 a6 h6 a7 h7 a8 h8 a9 h9 a10 h10 hc x0 x1 x2 x3 x4 x5 y6 y7)]
  unfold kernelRun0_B
  dsimp only
  sl_unfold_words
  rw [View.canon_unit_zero hz2]
  simp only [View.readAt_eq_ld, h2.read_unread, h3.read_unread, h4.read_unread, h5.read_unread, h6.read_unread, h7.read_unread, h9.read_unread]
  repeat rw [View.ld_unit_zero hz2]
  pointwise [k0_pay5, k0_pay9, k0_pay10, inc7, dyb]

theorem out_B_8 (hc : ¬cond0_0 i) (r : Fin 512) (d : Fin 1024) :
    out0_B_8 c i a2 h2 a3 h3 a4 h4 a5 h5 a6 h6 a7 h7 a8 h8 a9 h9 a10 h10 hc x0 x1 x2 x3 x4 x5 y6 y7 (ix3 0 r d)
      = blk8 x1 x2 x3 x4 x5 r d := by
  unfold out0_B_8
  rw [View.read_writes_eq_canon _ _ _ (cover0_B_8 c i a2 h2 a3 h3 a4 h4 a5 h5 a6 h6 a7 h7 a8 h8 a9 h9 a10 h10 hc x0 x1 x2 x3 x4 x5 y6 y7)]
  unfold kernelRun0_B
  dsimp only
  sl_unfold_words
  rw [View.canon_unit_zero hz3]
  simp only [View.readAt_eq_ld, h2.read_unread, h3.read_unread, h4.read_unread, h5.read_unread, h6.read_unread, h7.read_unread, h9.read_unread]
  repeat rw [View.ld_unit_zero hz2]
  pointwise [k0_pay4, k0_pay2, k0_pay13, k0_pay12, pay11_at, blk8]

theorem out_B_6 (hc : ¬cond0_0 i) (q : Fin 2) (d : Fin 1024) (f : Fin 512) :
    out0_B_6 c i a2 h2 a3 h3 a4 h4 a5 h5 a6 h6 a7 h7 a8 h8 a9 h9 a10 h10 hc x0 x1 x2 x3 x4 x5 y6 y7 (ix3 q d f)
      = y6 (ix3 q d f) + inc6 x0 x1 x2 x3 x5 q d f := by
  unfold out0_B_6
  rw [View.read_writes_eq_canon _ _ _ (cover0_B_6 c i a2 h2 a3 h3 a4 h4 a5 h5 a6 h6 a7 h7 a8 h8 a9 h9 a10 h10 hc x0 x1 x2 x3 x4 x5 y6 y7)]
  unfold kernelRun0_B
  dsimp only
  sl_unfold_words
  simp only [View.readAt_eq_ld, h2.read_unread, h3.read_unread, h4.read_unread, h5.read_unread, h6.read_unread, h7.read_unread, h8.read_unread]
  repeat rw [View.ld_unit_zero hz2]
  fin_cases q
  · refine (canon_slab0 _ _ _ _ _ d f).trans ?_
    pointwise [k0_pay1, k0_pay14, k0_pay8, k0_pay12, pay11_at, inc6]
  · refine (canon_slab1 _ _ _ d f).trans ?_
    pointwise [k0_pay3, k0_pay2, k0_pay8, pay11_at, inc6]

theorem out_A_7 (hc : cond0_0 i) (f d : Fin 1024) :
    out0_A_7 c i a2 h2 a3 h3 a4 h4 a5 h5 a6 h6 a7 h7 a8 h8 a9 h9 a10 h10 hc x0 x1 x2 x3 x4 x5 (ix2 f d)
      = inc7 x1 x2 x3 f d := by
  unfold out0_A_7
  rw [View.read_writes_eq_canon _ _ _ (cover0_A_7 c i a2 h2 a3 h3 a4 h4 a5 h5 a6 h6 a7 h7 a8 h8 a9 h9 a10 h10 hc x0 x1 x2 x3 x4 x5)]
  unfold kernelRun0_A
  dsimp only
  sl_unfold_words
  rw [View.canon_cons_unit_zero hz2, View.readCov_unit_zero _ hz2]
  simp only [View.readAt_eq_ld, h2.read_unread, h3.read_unread, h4.read_unread, h5.read_unread, h6.read_unread, h7.read_unread]
  repeat rw [View.ld_unit_zero hz2]
  pointwise [k0_pay5, k0_pay7, k0_pay9, k0_pay10, inc7, dyb]

theorem out_A_8 (hc : cond0_0 i) (r : Fin 512) (d : Fin 1024) :
    out0_A_8 c i a2 h2 a3 h3 a4 h4 a5 h5 a6 h6 a7 h7 a8 h8 a9 h9 a10 h10 hc x0 x1 x2 x3 x4 x5 (ix3 0 r d)
      = blk8 x1 x2 x3 x4 x5 r d := by
  unfold out0_A_8
  rw [View.read_writes_eq_canon _ _ _ (cover0_A_8 c i a2 h2 a3 h3 a4 h4 a5 h5 a6 h6 a7 h7 a8 h8 a9 h9 a10 h10 hc x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread]
  repeat rw [View.ld_unit_zero hz2]
  pointwise [k0_pay4, k0_pay2, k0_pay13, k0_pay12, pay11_at, blk8]

theorem out_A_6 (hc : cond0_0 i) (q : Fin 2) (d : Fin 1024) (f : Fin 512) :
    out0_A_6 c i a2 h2 a3 h3 a4 h4 a5 h5 a6 h6 a7 h7 a8 h8 a9 h9 a10 h10 hc x0 x1 x2 x3 x4 x5 (ix3 q d f)
      = inc6 x0 x1 x2 x3 x5 q d f := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  simp only [View.readAt_eq_ld, h2.read_unread, h3.read_unread, h4.read_unread, h5.read_unread, h6.read_unread, h7.read_unread]
  repeat rw [View.ld_unit_zero hz2]
  fin_cases q
  · refine (canon_slab0 _ _ _ _ _ d f).trans ?_
    rw [View.readCov_fill _ _ _ _ _ (by decide)]
    pointwise [k0_pay1, k0_pay14, k0_pay8, k0_pay12, pay11_at, k0_pay6, inc6]
  · refine (canon_slab1 _ _ _ d f).trans ?_
    rw [View.readCov_skip _ _ _ _ _ (by decide), View.readCov_fill _ _ _ _ _ (by decide)]
    pointwise [k0_pay3, k0_pay2, k0_pay8, pay11_at, k0_pay6, inc6]

end Cert.MlpBwdIdeal.Own

end
-- ==== Proof.Accum.lean ====
/- Sums accumulated over the points of a grid, restarted at every multiple of a period. -/
module

public import Idealize.ShloMosaic.Lib.Pointwise

@[expose] public section

noncomputable section

namespace Cert.Own

/-- An accumulator that restarts at every multiple of `P` holds, after point `n`, the sum of what the points since the
    last restart added. -/
theorem acc_eq {M : Type*} [AddCommMonoid M] {N : ℕ} (P : ℕ) (hP : 0 < P) (out : (n : ℕ) → n < N → M) (inc : ℕ → M)
    (hA : ∀ n h, n % P = 0 → out n h = inc n)
    (hB : ∀ n (h : n < N), ¬n % P = 0 → out n h = out (n - 1) (by omega) + inc n) :
    ∀ n h, out n h = ∑ j ∈ Finset.range (n % P + 1), inc (n / P * P + j) := by
  intro n
  induction n with
  | zero => intro h; rw [hA 0 h (Nat.zero_mod _)]; simp
  | succ n ih =>
    intro h
    by_cases h0 : (n + 1) % P = 0
    · rw [hA _ h h0, h0, Finset.sum_range_one, Nat.add_zero, Nat.div_mul_cancel (Nat.dvd_of_mod_eq_zero h0)]
    · have hd := Nat.div_add_mod (n + 1) P
      have hd' := Nat.div_add_mod n P
      have hq : (n + 1) / P = n / P := by
        rw [Nat.succ_div, if_neg (fun hh => h0 (Nat.mod_eq_zero_of_dvd hh)), Nat.add_zero]
      have hm : (n + 1) % P = n % P + 1 := by rw [hq] at hd; omega
      rw [hB _ h h0]
      have e := ih (by omega)
      have e' : out (n + 1 - 1) (by omega) = out n (by omega) := rfl
      rw [e', e, hm, hq, Finset.sum_range_succ _ (n % P + 1)]
      have e2 : n / P * P + (n % P + 1) = n + 1 := by rw [Nat.mul_comm (n / P) P]; omega
      rw [e2]

/-- At the last point of a period: the sum over the whole period. -/
theorem acc_last {M : Type*} [AddCommMonoid M] {N : ℕ} (P : ℕ) (hP : 0 < P) (out : (n : ℕ) → n < N → M) (inc : ℕ → M)
    (hA : ∀ n h, n % P = 0 → out n h = inc n)
    (hB : ∀ n (h : n < N), ¬n % P = 0 → out n h = out (n - 1) (by omega) + inc n)
    (n : ℕ) (h : n < N) (hn : n % P = P - 1) : out n h = ∑ j : Fin P, inc (n / P * P + j.val) := by
  rw [acc_eq P hP out inc hA hB n h, hn, Nat.sub_add_cancel hP, Finset.sum_range]

end Cert.Own

end
-- ==== Proof.MlpArrays.lean ====
/- The arrays that the squared-ReLU MLP's gradient leaves, as sums over the argument arrays, at extended reals. -/
module

public import proofs.«01_k».proof.Proof.MlpBlock
public import proofs.«01_k».proof.Proof.Accum

@[expose] public section

set_option maxRecDepth 16384

noncomputable section

namespace Cert.MlpBwdIdeal.Own

open Idealize.ShloMosaic TcCoe Idealize.SL.Sem Tactic
open Idealize.ShloMosaic.Pipeline (Dat)
open Cert.MlpBwdIdeal Cert.MlpBwdIdeal.Gen

variable (m : (ℓ : Loc nD τ sig) → Buf (Elt Ideal) ℓ) (ρ : Dev nD → PrngReg) (c : Dev nD)

def aH : Vec Ideal S16384x1024 .f32 := m ((c : Thread nD τ).loc main_arg0)
def aG : Vec Ideal S1x1024 .f32 := m ((c : Thread nD τ).loc main_arg1)
def aW1 : Vec Ideal S1024x4096 .f32 := m ((c : Thread nD τ).loc main_arg2)
def aW2 : Vec Ideal S4096x1024 .f32 := m ((c : Thread nD τ).loc main_arg3)
def aDy : Vec Ideal S16384x1024 .f32 := m ((c : Thread nD τ).loc main_arg4)

/-- The rectified first product. -/
def relu1 (s : Fin 16384) (f : Fin 4096) : EReal :=
  max (∑ k : Fin 1024, aH m c (ix2 s k) * aW1 m c (ix2 k f)) 0

/-- The six arrays the windows stage, as the region finds them. -/
def wH : Vec Ideal S1024x16384 .bf16 := V m c main_v8
def wDy : Vec Ideal S16384x1024 .f32 := V m c main_arg4
def wRa : Vec Ideal S16384x4096 .bf16 := V m c main_v7
def wG : Vec Ideal S1x1024 .f32 := V m c main_arg1
def wW1 : Vec Ideal S8x1024x512 .bf16 := V m c main_v3
def wW2 : Vec Ideal S4096x1024 .bf16 := V m c main_v1

theorem wH_at (d : Fin 1024) (s : Fin 16384) : wH m c (ix2 d s) = aH m c (ix2 s d) := by
  have e : wH m c = (transpose S1024x16384 [1, 0] (truncf (F := Ideal) .bf16 (aH m c) bitsLt_bf16_f32) transposes_S16384x1024_S1024x16384_1_0) := by
    show StableHlo.after _ _ (Proc.devRef .tc main_v8) = _
    simp only [hostOps0, hostOps0_1, hostOps0_2, List.flatten_cons, List.flatten_nil, List.append_nil, List.cons_append, List.nil_append]
    after_results
    rfl
  rw [e]
  pointwise

theorem wW2_at (f : Fin 4096) (d : Fin 1024) : wW2 m c (ix2 f d) = aW2 m c (ix2 f d) := by
  have e : wW2 m c = (truncf (F := Ideal) .bf16 (aW2 m c) bitsLt_bf16_f32) := by
    show StableHlo.after _ _ (Proc.devRef .tc main_v1) = _
    simp only [hostOps0, hostOps0_1, hostOps0_2, List.flatten_cons, List.flatten_nil, List.append_nil, List.cons_append, List.nil_append]
    after_results
    rfl
  rw [e]
  pointwise

theorem wW1_at (q : Fin 8) (d : Fin 1024) (f : Fin 512) : wW1 m c (ix3 q d f) = aW1 m c (ix2 d ⟨q.val * 512 + f.val, by omega⟩) := by
  have e : wW1 m c = transpose S8x1024x512 [1, 0, 2] (shapeCast S1024x8x512 (truncf (F := Ideal) .bf16 (aW1 m c) bitsLt_bf16_f32) shapeCasts_S1024x4096_S1024x8x512) transposes_S1024x8x512_S8x1024x512_1_0_2 := by
    show StableHlo.after _ _ (Proc.devRef .tc main_v3) = _
    simp only [hostOps0, hostOps0_1, hostOps0_2, List.flatten_cons, List.flatten_nil, List.append_nil, List.cons_append, List.nil_append]
    after_results
    rfl
  rw [e]
  pointwise

theorem wRa_at (s : Fin 16384) (f : Fin 4096) : wRa m c (ix2 s f) = relu1 m c s f := by
  have e : wRa m c = truncf (F := Ideal) .bf16 (maximumf (Host.dotGeneral dot_S16384x1024_S1024x4096_S16384x4096_1_0_0_1_n_n none (truncf (F := Ideal) .bf16 (aH m c) bitsLt_bf16_f32) (truncf (F := Ideal) .bf16 (aW1 m c) bitsLt_bf16_f32)) (broadcastInDim S16384x4096 ![] bcast_S_S16384x4096 (constant S_ .f32 0x00000000#32))) bitsLt_bf16_f32 := by
    show StableHlo.after _ _ (Proc.devRef .tc main_v7) = _
    simp only [hostOps0, hostOps0_1, hostOps0_2, List.flatten_cons, List.flatten_nil, List.append_nil, List.cons_append, List.nil_append]
    after_results
    rfl
  rw [e]
  pointwise [relu1]

/-! ## The windows' blocks -/

theorem N_eq : cfg0.N = 128 := N_0

/-- A point's chunk of columns and its block of rows. -/
abbrev ch (t : Fin cfg0.N) : Nat := t.val / 32
abbrev rb (t : Fin cfg0.N) : Nat := t.val % 32

theorem t_lt (t : Fin cfg0.N) : t.val < 128 := N_eq ▸ t.isLt

theorem ix0 : ∀ t : Fin cfg0.N, win0_0.index t 0 = 0 ∧ win0_0.index t 1 = t.val % 32 :=
  (by decide +kernel : ∀ t : Fin grid0.N, win0_0.index t 0 = 0 ∧ win0_0.index t 1 = t.val % 32)
theorem ix1 : ∀ t : Fin cfg0.N, win0_1.index t 0 = t.val % 32 ∧ win0_1.index t 1 = 0 :=
  (by decide +kernel : ∀ t : Fin grid0.N, win0_1.index t 0 = t.val % 32 ∧ win0_1.index t 1 = 0)
theorem ix2' : ∀ t : Fin cfg0.N, win0_2.index t 0 = t.val % 32 ∧ win0_2.index t 1 = t.val / 32 :=
  (by decide +kernel : ∀ t : Fin grid0.N, win0_2.index t 0 = t.val % 32 ∧ win0_2.index t 1 = t.val / 32)
theorem ix3' : ∀ t : Fin cfg0.N, win0_3.index t 0 = 0 ∧ win0_3.index t 1 = 0 :=
  (by decide +kernel : ∀ t : Fin grid0.N, win0_3.index t 0 = 0 ∧ win0_3.index t 1 = 0)
theorem ix4' : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)
theorem ix5' : ∀ t : Fin cfg0.N, win0_5.index t 0 = t.val / 32 ∧ win0_5.index t 1 = 0 :=
  (by decide +kernel : ∀ t : Fin grid0.N, win0_5.index t 0 = t.val / 32 ∧ win0_5.index t 1 = 0)
theorem ix6' : ∀ t : Fin cfg0.N, win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0)
theorem ix7' : ∀ t : Fin cfg0.N, win0_7.index t 0 = t.val / 32 ∧ win0_7.index t 1 = 0 :=
  (by decide +kernel : ∀ t : Fin grid0.N, win0_7.index t 0 = t.val / 32 ∧ win0_7.index t 1 = 0)
theorem ix8' : ∀ t : Fin cfg0.N, win0_8.index t 0 = t.val / 32 ∧ win0_8.index t 1 = t.val % 32 ∧ win0_8.index t 2 = 0 :=
  (by decide +kernel : ∀ t : Fin grid0.N, win0_8.index t 0 = t.val / 32 ∧ win0_8.index t 1 = t.val % 32 ∧ win0_8.index t 2 = 0)

def b0 (t : Fin cfg0.N) : Vec Ideal S1024x512 .bf16 := iblk m c 0 t
def b1 (t : Fin cfg0.N) : Vec Ideal S512x1024 .f32 := iblk m c 1 t
def b2 (t : Fin cfg0.N) : Vec Ideal S512x1024 .bf16 := iblk m c 2 t
def b3 (t : Fin cfg0.N) : Vec Ideal S1x1024 .f32 := iblk m c 3 t
def b4 (t : Fin cfg0.N) : Vec Ideal S2x1024x512 .bf16 := iblk m c 4 t
def b5 (t : Fin cfg0.N) : Vec Ideal S1024x1024 .bf16 := iblk m c 5 t

theorem b0_at (t : Fin cfg0.N) (d : Fin 1024) (r : Fin 512) :
    b0 m c t (ix2 d r) = wH m c (ix2 d ⟨t.val % 32 * 512 + r.val, by have := t_lt t; omega⟩) := by
  unfold b0 iblk
  rw [View.read_apply]
  refine congrArg (wH m c) (funext fun a => Fin.ext ?_)
  match a with
  | ⟨0, _⟩ => show win0_0.index t 0 * 1024 + 1 * d.val = d.val; rw [(ix0 t).1]; omega
  | ⟨1, _⟩ => show win0_0.index t 1 * 512 + 1 * r.val = t.val % 32 * 512 + r.val; rw [(ix0 t).2]; omega

theorem b1_at (t : Fin cfg0.N) (r : Fin 512) (d : Fin 1024) :
    b1 m c t (ix2 r d) = wDy m c (ix2 ⟨t.val % 32 * 512 + r.val, by have := t_lt t; omega⟩ d) := by
  unfold b1 iblk
  rw [View.read_apply]
  refine congrArg (wDy m c) (funext fun a => Fin.ext ?_)
  match a with
  | ⟨0, _⟩ => show win0_1.index t 0 * 512 + 1 * r.val = t.val % 32 * 512 + r.val; rw [(ix1 t).1]; omega
  | ⟨1, _⟩ => show win0_1.index t 1 * 1024 + 1 * d.val = d.val; rw [(ix1 t).2]; omega

theorem b2_at (t : Fin cfg0.N) (r : Fin 512) (f : Fin 1024) :
    b2 m c t (ix2 r f) = wRa m c (ix2 ⟨t.val % 32 * 512 + r.val, by have := t_lt t; omega⟩ ⟨t.val / 32 * 1024 + f.val, by have := t_lt t; omega⟩) := by
  unfold b2 iblk
  rw [View.read_apply]
  refine congrArg (wRa m c) (funext fun a => Fin.ext ?_)
  match a with
  | ⟨0, _⟩ => show win0_2.index t 0 * 512 + 1 * r.val = t.val % 32 * 512 + r.val; rw [(ix2' t).1]; omega
  | ⟨1, _⟩ => show win0_2.index t 1 * 1024 + 1 * f.val = t.val / 32 * 1024 + f.val; rw [(ix2' t).2]; omega

theorem b3_at (t : Fin cfg0.N) (d : Fin 1024) : b3 m c t (ix2 0 d) = wG m c (ix2 0 d) := by
  unfold b3 iblk
  rw [View.read_apply]
  refine congrArg (wG m c) (funext fun a => Fin.ext ?_)
  match a with
  | ⟨0, _⟩ => show win0_3.index t 0 * 1 + 1 * 0 = 0; rw [(ix3' t).1]
  | ⟨1, _⟩ => show win0_3.index t 1 * 1024 + 1 * d.val = d.val; rw [(ix3' t).2]; omega

theorem b4_at (t : Fin cfg0.N) (q : Fin 2) (d : Fin 1024) (f : Fin 512) :
    b4 m c t (ix3 q d f) = wW1 m c (ix3 ⟨t.val / 32 * 2 + q.val, by have := t_lt t; omega⟩ d f) := by
  unfold b4 iblk
  rw [View.read_apply]
  refine congrArg (wW1 m c) (funext fun a => Fin.ext ?_)
  match a with
  | ⟨0, _⟩ => show win0_4.index t 0 * 2 + 1 * q.val = t.val / 32 * 2 + q.val; rw [(ix4' t).1]; omega
  | ⟨1, _⟩ => show win0_4.index t 1 * 1024 + 1 * d.val = d.val; rw [(ix4' t).2.1]; omega
  | ⟨2, _⟩ => show win0_4.index t 2 * 512 + 1 * f.val = f.val; rw [(ix4' t).2.2]; omega

theorem b5_at (t : Fin cfg0.N) (f d : Fin 1024) :
    b5 m c t (ix2 f d) = wW2 m c (ix2 ⟨t.val / 32 * 1024 + f.val, by have := t_lt t; omega⟩ d) := by
  unfold b5 iblk
  rw [View.read_apply]
  refine congrArg (wW2 m c) (funext fun a => Fin.ext ?_)
  match a with
  | ⟨0, _⟩ => show win0_5.index t 0 * 1024 + 1 * f.val = t.val / 32 * 1024 + f.val; rw [(ix5' t).1]; omega
  | ⟨1, _⟩ => show win0_5.index t 1 * 1024 + 1 * d.val = d.val; rw [(ix5' t).2]; omega

/-! ## What a point adds, over the whole arrays -/

/-- The gradient at the first product's output. -/
def dA (s : Fin 16384) (f : Fin 4096) : EReal :=
  (∑ d : Fin 1024, aDy m c (ix2 s d) * aG m c (ix2 0 d) * aW2 m c (ix2 f d))
    * (Ideal.ofBits .f32 0x40000000#32 * relu1 m c s f)

theorem wDy_eq : wDy m c = aDy m c := V_main_arg4 m c
theorem wG_eq : wG m c = aG m c := V_main_arg1 m c

theorem dab_at (t : Fin cfg0.N) (r : Fin 512) (f : Fin 1024) :
    dab (b1 m c t) (b2 m c t) (b3 m c t) (b5 m c t) r f
      = dA m c ⟨t.val % 32 * 512 + r.val, by have := t_lt t; omega⟩ ⟨t.val / 32 * 1024 + f.val, by have := t_lt t; omega⟩ := by
  unfold dab dA dyb
  simp only [b1_at, b2_at, b3_at, b5_at, wDy_eq, wG_eq, wW2_at, wRa_at]

theorem inc6_at (t : Fin cfg0.N) (q : Fin 2) (d : Fin 1024) (f : Fin 512) :
    inc6 (b0 m c t) (b1 m c t) (b2 m c t) (b3 m c t) (b5 m c t) q d f
      = ∑ r : Fin 512, aH m c (ix2 ⟨t.val % 32 * 512 + r.val, by have := t_lt t; omega⟩ d)
          * dA m c ⟨t.val % 32 * 512 + r.val, by have := t_lt t; omega⟩ ⟨t.val / 32 * 1024 + (q.val * 512 + f.val), by have := t_lt t; omega⟩ := by
  unfold inc6
  simp only [b0_at, dab_at, wH_at]

theorem inc7_at (t : Fin cfg0.N) (f d : Fin 1024) :
    inc7 (b1 m c t) (b2 m c t) (b3 m c t) f d
      = ∑ r : Fin 512, (relu1 m c ⟨t.val % 32 * 512 + r.val, by have := t_lt t; omega⟩ ⟨t.val / 32 * 1024 + f.val, by have := t_lt t; omega⟩
            * relu1 m c ⟨t.val % 32 * 512 + r.val, by have := t_lt t; omega⟩ ⟨t.val / 32 * 1024 + f.val, by have := t_lt t; omega⟩)
          * (aDy m c (ix2 ⟨t.val % 32 * 512 + r.val, by have := t_lt t; omega⟩ d) * aG m c (ix2 0 d)) := by
  unfold inc7 dyb
  simp only [b1_at, b2_at, b3_at, wDy_eq, wG_eq, wRa_at]

theorem blk8_at (t : Fin cfg0.N) (r : Fin 512) (d : Fin 1024) :
    blk8 (b1 m c t) (b2 m c t) (b3 m c t) (b4 m c t) (b5 m c t) r d
      = (∑ f : Fin 512, dA m c ⟨t.val % 32 * 512 + r.val, by have := t_lt t; omega⟩ ⟨t.val / 32 * 1024 + f.val, by have := t_lt t; omega⟩
            * aW1 m c (ix2 d ⟨t.val / 32 * 1024 + f.val, by have := t_lt t; omega⟩))
        + ∑ f : Fin 512, dA m c ⟨t.val % 32 * 512 + r.val, by have := t_lt t; omega⟩ ⟨t.val / 32 * 1024 + (512 + f.val), by have := t_lt t; omega⟩
            * aW1 m c (ix2 d ⟨t.val / 32 * 1024 + (512 + f.val), by have := t_lt t; omega⟩) := by
  unfold blk8
  simp only [b4_at, dab_at, wW1_at]
  congr 1
  · refine Finset.sum_congr rfl fun f _ => ?_
    congr 3; apply Fin.ext; show (t.val / 32 * 2 + 0) * 512 + f.val = _; dsimp only; omega
  · refine Finset.sum_congr rfl fun f _ => ?_
    congr 3; apply Fin.ext; show (t.val / 32 * 2 + 1) * 512 + f.val = _; dsimp only; omega

/-! ## The output blocks after a chunk's last row block -/

theorem first6 (t : Fin cfg0.N) (h0 : t.val % 32 = 0) (q : Fin 2) (d : Fin 1024) (f : Fin 512) :
    (outsAt0 m c t.val t.isLt).1 (ix3 q d f) = inc6 (b0 m c t) (b1 m c t) (b2 m c t) (b3 m c t) (b5 m c t) q d f := by
  rw [outsAt0_A m c t h0]; dsimp only; rw [out_A_6]; rfl

theorem next6 (t : Fin cfg0.N) (h0 : ¬t.val % 32 = 0) (q : Fin 2) (d : Fin 1024) (f : Fin 512) :
    (outsAt0 m c t.val t.isLt).1 (ix3 q d f)
      = (outsAt0 m c (t.val - 1) (Nat.lt_of_le_of_lt (Nat.sub_le _ _) t.isLt)).1 (ix3 q d f) + inc6 (b0 m c t) (b1 m c t) (b2 m c t) (b3 m c t) (b5 m c t) q d f := by
  rw [outsAt0_B m c t h0]; dsimp only; rw [out_B_6]; rfl

theorem last6 (t : Fin cfg0.N) (ht : t.val % 32 = 31) (q : Fin 2) (d : Fin 1024) (f : Fin 512) :
    (outsAt0 m c t.val t.isLt).1 (ix3 q d f)
      = ∑ s : Fin 16384, aH m c (ix2 s d) * dA m c s ⟨t.val / 32 * 1024 + (q.val * 512 + f.val), by have := t_lt t; omega⟩ := by
  have key := Cert.Own.acc_last (N := cfg0.N) 32 (by decide) (fun n h => (outsAt0 m c n h).1 (ix3 q d f))
    (fun n => if h : n < cfg0.N then inc6 (b0 m c ⟨n, h⟩) (b1 m c ⟨n, h⟩) (b2 m c ⟨n, h⟩) (b3 m c ⟨n, h⟩) (b5 m c ⟨n, h⟩) q d f else 0)
    (fun n h h0 => by rw [dif_pos h]; exact first6 m c ⟨n, h⟩ h0 ..)
    (fun n h h0 => by rw [dif_pos h]; exact next6 m c ⟨n, h⟩ h0 ..) t.val t.isLt ht
  refine key.trans ?_
  rw [Fin.sum_univ_tiles 32 512 rfl]
  refine Finset.sum_congr rfl fun j _ => ?_
  have hj : t.val / 32 * 32 + j.val < cfg0.N := lt_of_lt_of_eq (by have := t_lt t; omega : _ < 128) N_eq.symm
  rw [dif_pos hj, inc6_at]
  have e1 : (t.val / 32 * 32 + j.val) % 32 = j.val := by omega
  have e2 : (t.val / 32 * 32 + j.val) / 32 = t.val / 32 := by omega
  simp only [e1, e2]

theorem first7 (t : Fin cfg0.N) (h0 : t.val % 32 = 0) (f d : Fin 1024) :
    (outsAt0 m c t.val t.isLt).2.1 (ix2 f d) = inc7 (b1 m c t) (b2 m c t) (b3 m c t) f d := by
  rw [outsAt0_A m c t h0]; dsimp only; rw [out_A_7]; rfl

theorem next7 (t : Fin cfg0.N) (h0 : ¬t.val % 32 = 0) (f d : Fin 1024) :
    (outsAt0 m c t.val t.isLt).2.1 (ix2 f d)
      = (outsAt0 m c (t.val - 1) (Nat.lt_of_le_of_lt (Nat.sub_le _ _) t.isLt)).2.1 (ix2 f d) + inc7 (b1 m c t) (b2 m c t) (b3 m c t) f d := by
  rw [outsAt0_B m c t h0]; dsimp only; rw [out_B_7]; rfl

theorem last7 (t : Fin cfg0.N) (ht : t.val % 32 = 31) (f d : Fin 1024) :
    (outsAt0 m c t.val t.isLt).2.1 (ix2 f d)
      = ∑ s : Fin 16384, (relu1 m c s ⟨t.val / 32 * 1024 + f.val, by have := t_lt t; omega⟩
            * relu1 m c s ⟨t.val / 32 * 1024 + f.val, by have := t_lt t; omega⟩) * (aDy m c (ix2 s d) * aG m c (ix2 0 d)) := by
  have key := Cert.Own.acc_last (N := cfg0.N) 32 (by decide) (fun n h => (outsAt0 m c n h).2.1 (ix2 f d))
    (fun n => if h : n < cfg0.N then inc7 (b1 m c ⟨n, h⟩) (b2 m c ⟨n, h⟩) (b3 m c ⟨n, h⟩) f d else 0)
    (fun n h h0 => by rw [dif_pos h]; exact first7 m c ⟨n, h⟩ h0 ..)
    (fun n h h0 => by rw [dif_pos h]; exact next7 m c ⟨n, h⟩ h0 ..) t.val t.isLt ht
  refine key.trans ?_
  rw [Fin.sum_univ_tiles 32 512 rfl]
  refine Finset.sum_congr rfl fun j _ => ?_
  have hj : t.val / 32 * 32 + j.val < cfg0.N := lt_of_lt_of_eq (by have := t_lt t; omega : _ < 128) N_eq.symm
  rw [dif_pos hj, inc7_at]
  have e1 : (t.val / 32 * 32 + j.val) % 32 = j.val := by omega
  have e2 : (t.val / 32 * 32 + j.val) / 32 = t.val / 32 := by omega
  simp only [e1, e2]

theorem at8 (t : Fin cfg0.N) (r : Fin 512) (d : Fin 1024) :
    (outsAt0 m c t.val t.isLt).2.2 (ix3 0 r d) = blk8 (b1 m c t) (b2 m c t) (b3 m c t) (b4 m c t) (b5 m c t) r d := by
  by_cases h0 : t.val % 32 = 0
  · rw [outsAt0_A m c t h0]; dsimp only; rw [out_A_8]; rfl
  · rw [outsAt0_B m c t h0]; dsimp only; rw [out_B_8]; rfl

end Cert.MlpBwdIdeal.Own

end
-- ==== Proof.MlpRun.lean ====
/- The run of the squared-ReLU MLP's gradient: its three result arrays as sums over the argument arrays. -/
module

public import proofs.«01_k».proof.Proof.MlpArrays

@[expose] public section

set_option maxRecDepth 16384

noncomputable section

namespace Cert.MlpBwdIdeal.Own

open Idealize.ShloMosaic TcCoe Idealize.SL.Sem Tactic
open Idealize.ShloMosaic.Pipeline (Dat)
open Cert.MlpBwdIdeal Cert.MlpBwdIdeal.Gen

variable (m : (ℓ : Loc nD τ sig) → Buf (Elt Ideal) ℓ) (ρ : Dev nD → PrngReg) (c : Dev nD)

/-- The gradient of the first weight, sliced over its columns. -/
def res6 : Vec Ideal S8x1024x512 .f32 := fun i =>
  ∑ s : Fin 16384, aH m c (ix2 s (i 1)) * dA m c s ⟨(i 0).val * 512 + (i 2).val, by
    have h0 : (i 0).val < 8 := (i 0).isLt
    have h2 : (i 2).val < 512 := (i 2).isLt
    omega⟩

/-- The gradient of the second weight. -/
def res7 : Vec Ideal S4096x1024 .f32 := fun i =>
  ∑ s : Fin 16384, (relu1 m c s (i 0) * relu1 m c s (i 0)) * (aDy m c (ix2 s (i 1)) * aG m c (ix2 0 (i 1)))

/-- A chunk's part of the gradient of the input. -/
def res8 : Vec Ideal S4x16384x1024 .f32 := fun i =>
  ∑ f : Fin 1024, dA m c (i 1) ⟨(i 0).val * 1024 + f.val, by have h0 : (i 0).val < 4 := (i 0).isLt; omega⟩
    * aW1 m c (ix2 (i 2) ⟨(i 0).val * 1024 + f.val, by have h0 : (i 0).val < 4 := (i 0).isLt; omega⟩)

/-- The gradient of the input. -/
def res10 : Vec Ideal S16384x1024 .f32 := fun i =>
  ∑ f : Fin 4096, dA m c (i 0) f * aW1 m c (ix2 (i 1) f)

theorem arr6 : (dats m 0 c).arrAt 6 cfg0.N = res6 m c := by
  refine (dats m 0 c).arrAt_eq_of_covers 6 _ (by decide +kernel) fun t hf y => ?_
  have ht : t.val % 32 = 31 := (flush0_6 t).mp hf
  blk_simp
  rw [after0_6]
  obtain ⟨q, d, f, rfl⟩ : ∃ (q : Fin 2) (d : Fin 1024) (f : Fin 512), y = ix3 q d f := ⟨y 0, y 1, y 2, by idx_ext⟩
  refine (last6 m c t ht q d f).trans ?_
  have e : ((win0_6.blk t).view.emb (ix3 q d f)) = ix3 ⟨t.val / 32 * 2 + q.val, by have := t_lt t; omega⟩ d f := by
    blk_ext [(ix6' t).1, (ix6' t).2.1, (ix6' t).2.2]
  rw [e]
  refine Finset.sum_congr rfl fun s _ => ?_
  refine congrArg (fun k => aH m c (ix2 s d) * dA m c s k) (Fin.ext ?_)
  show t.val / 32 * 1024 + (q.val * 512 + f.val) = (t.val / 32 * 2 + q.val) * 512 + f.val
  omega

theorem arr7 : (dats m 0 c).arrAt 7 cfg0.N = res7 m c := by
  refine (dats m 0 c).arrAt_eq_of_covers 7 _ (by decide +kernel) fun t hf y => ?_
  have ht : t.val % 32 = 31 := (flush0_7 t).mp hf
  blk_simp
  rw [after0_7]
  obtain ⟨f, d, rfl⟩ : ∃ (f : Fin 1024) (d : Fin 1024), y = ix2 f d := ⟨y 0, y 1, by idx_ext⟩
  refine (last7 m c t ht f d).trans ?_
  have e : ((win0_7.blk t).view.emb (ix2 f d)) = ix2 ⟨t.val / 32 * 1024 + f.val, by have := t_lt t; omega⟩ d := by
    blk_ext [(ix7' t).1, (ix7' t).2]
  rw [e]
  rfl

theorem arr8 : (dats m 0 c).arrAt 8 cfg0.N = res8 m c := by
  refine (dats m 0 c).arrAt_eq_of_covers 8 _ (by decide +kernel) fun t hf y => ?_
  blk_simp
  rw [after0_8]
  obtain ⟨z, r, d, rfl⟩ : ∃ (z : Fin 1) (r : Fin 512) (d : Fin 1024), y = ix3 z r d := ⟨y 0, y 1, y 2, by idx_ext⟩
  obtain rfl : z = 0 := Subsingleton.elim _ _
  refine (at8 m c t r d).trans ((blk8_at m c t r d).trans ?_)
  have e : ((win0_8.blk t).view.emb (ix3 0 r d))
      = ix3 ⟨t.val / 32, by have := t_lt t; omega⟩ ⟨t.val % 32 * 512 + r.val, by have := t_lt t; omega⟩ d := by
    blk_ext [(ix8' t).1, (ix8' t).2.1, (ix8' t).2.2]
  rw [e]
  unfold res8
  rw [Fin.sum_univ_two_halves 512 512 rfl]
  exact congrArg₂ (· + ·) (Finset.sum_congr rfl fun f _ => rfl) (Finset.sum_congr rfl fun f _ => rfl)

/-- The host's sum over the chunks, after the kernel. -/
theorem tail10 : Pipeline.afterTail₀ cfgs (dats m) 0 (V0 m) [hostOps1] c main_v10 = res10 m c := by
  have e : Pipeline.afterTail₀ cfgs (dats m) 0 (V0 m) [hostOps1] c main_v10
      = (Host.reduceAdd (F := Ideal) (res8 m c) (constant S_ .f32 0x00000000#32) reducesTo_S4x16384x1024_S16384x1024_d0 h_S_ : Vec Ideal S16384x1024 .f32) := by
    show StableHlo.after _ _ (Proc.devRef .tc main_v10) = _
    simp only [hostOps1, List.flatten_cons, List.flatten_nil, List.append_nil]
    after_results
    rw [← arr8 m c]
    rw [show Pipeline.withArrays (cfgs 0).spec c (V0 m c) (fun w => (dats m 0 c).arrAt w (cfgs 0).N) (Proc.devRef .tc main_v9_2)
      = (dats m 0 c).arrAt 8 cfg0.N from Pipeline.withArrays_arr spec0 (by decide) c (V0 m c) _ 8]
  rw [e]
  funext i
  obtain ⟨s, d, rfl⟩ : ∃ (s : Fin 16384) (d : Fin 1024), i = ix2 s d := ⟨i 0, i 1, by idx_ext⟩
  have e2 : res10 m c (ix2 s d) = ∑ f : Fin 4096, dA m c s f * aW1 m c (ix2 d f) := rfl
  rw [e2, Fin.sum_univ_tiles 4 1024 rfl]
  pointwise [res8]

/-- The run: the three results at their sums, the arguments kept. -/
theorem run : θ_run defs (onTc (τ := τ) (main (F := Ideal))) ⟨m, fun _ => 0, ρ⟩ fun r => ∀ c : Dev nD,
      r.2.mem ((c.tc : Thread nD τ).loc main_v9_0) = res6 m c
      ∧ r.2.mem ((c.tc : Thread nD τ).loc main_v9_1) = res7 m c
      ∧ r.2.mem ((c.tc : Thread nD τ).loc main_v10) = res10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 6).trans (arr6 m c), ((h.1 c).1 7).trans (arr7 m c),
      ((h.1 c).2 main_v10 (Pipeline.mem_restRefs_of main_v10 (by decide) (by decide))).trans (tail10 m c), h.2 c⟩)
    (θ_run_and (run_main m ρ) (unchanged m ρ))

end Cert.MlpBwdIdeal.Own

end
-- ==== Proof.MlpRef.lean ====
/- The reference's gradient of the squared-ReLU MLP, read at an index, is what the kernel leaves. -/
module

public import proofs.«01_k».proof.Proof.MlpRun
public import proofs.«01_k».proof.Proof.Gen.MlpBwdRefIdeal.Read

@[expose] public section

set_option maxRecDepth 16384

noncomputable section

namespace Cert.MlpBwdRefIdeal.Own

open Idealize.ShloMosaic TcCoe Idealize.SL.Sem Tactic
open Cert.MlpBwdRefIdeal Cert.MlpBwdRefIdeal.Gen Cert.MlpBwdRefIdeal.Read

variable (x0 : Vec Ideal S16384x1024 .f32) (x1 : Vec Ideal S1x1024 .f32) (x2 : Vec Ideal S1024x4096 .f32)
  (x3 : Vec Ideal S4096x1024 .f32) (x4 : Vec Ideal S16384x1024 .f32)

theorem v1_at (s : Fin 16384) (f : Fin 4096) :
    val_main_v1 (F := Ideal) x0 x2 (ix2 s f) = max (∑ k : Fin 1024, x0 (ix2 s k) * x2 (ix2 k f)) 0 := by
  pointwise [val_main_v1, val_main_v0, val_main_call0_v0, val_main_call0_cst]

theorem v18_at (s : Fin 16384) (f : Fin 4096) :
    val_main_v18 (F := Ideal) x1 x3 x4 (ix2 s f) = ∑ d : Fin 1024, x4 (ix2 s d) * x1 (ix2 0 d) * x3 (ix2 f d) := by
  pointwise [val_main_v18, val_main_v12, val_main_v11]
  exact Finset.sum_congr rfl fun d _ => by rw [mul_comm (x1 _)]

theorem v21_at (s : Fin 16384) (f : Fin 4096) :
    val_main_v21 (F := Ideal) x0 x1 x2 x3 x4 (ix2 s f)
      = (∑ d : Fin 1024, x4 (ix2 s d) * x1 (ix2 0 d) * x3 (ix2 f d))
        * (Ideal.ofBits .f32 0x40000000#32 * max (∑ k : Fin 1024, x0 (ix2 s k) * x2 (ix2 k f)) 0) := by
  pointwise [val_main_v21, val_main_v19, val_main_v20, val_main_v3, val_main_v0, val_main_v2, val_main_cst, val_main_v7, val_main_v6, val_main_cst_1, val_main_cst_3, v1_at, v18_at]

  split_ifs with h
  · rfl
  · rw [max_eq_right (not_lt.mp h), mul_zero, mul_zero]

/-- The gradient of the first weight. -/
theorem v26_at (q : Fin 8) (d : Fin 1024) (f : Fin 512) :
    val_main_v26 (F := Ideal) x0 x1 x2 x3 x4 (ix3 q d f)
      = ∑ s : Fin 16384, val_main_v21 (F := Ideal) x0 x1 x2 x3 x4 (ix2 s ⟨q.val * 512 + f.val, by omega⟩) * x0 (ix2 s d) := by
  pointwise [val_main_v26, val_main_v25, val_main_v23, val_main_v22]

/-- The gradient of the second weight. -/
theorem v17_at (f : Fin 4096) (d : Fin 1024) :
    val_main_v17 (F := Ideal) x0 x1 x2 x4 (ix2 f d)
      = ∑ s : Fin 16384, (x1 (ix2 0 d) * x4 (ix2 s d)) * (val_main_v1 (F := Ideal) x0 x2 (ix2 s f) * val_main_v1 (F := Ideal) x0 x2 (ix2 s f)) := by
  pointwise [val_main_v17, val_main_v16, val_main_v5, val_main_v12, val_main_v11]

/-- The gradient of the input. -/
theorem v24_at (s : Fin 16384) (d : Fin 1024) :
    val_main_v24 (F := Ideal) x0 x1 x2 x3 x4 (ix2 s d)
      = ∑ f : Fin 4096, val_main_v21 (F := Ideal) x0 x1 x2 x3 x4 (ix2 s f) * x2 (ix2 d f) := by
  pointwise [val_main_v24]

end Cert.MlpBwdRefIdeal.Own

namespace Cert.MlpBwdIdeal.Own

open Idealize.ShloMosaic TcCoe Idealize.SL.Sem Tactic
open Cert.MlpBwdIdeal Cert.MlpBwdIdeal.Gen Cert.MlpBwdRefIdeal.Read

variable (m : (ℓ : Loc nD τ sig) → Buf (Elt Ideal) ℓ) (c : Dev nD)

theorem v21_dA (s : Fin 16384) (f : Fin 4096) :
    val_main_v21 (F := Ideal) (aH m c) (aG m c) (aW1 m c) (aW2 m c) (aDy m c) (ix2 s f) = dA m c s f :=
  Cert.MlpBwdRefIdeal.Own.v21_at ..

theorem ref26 : val_main_v26 (F := Ideal) (aH m c) (aG m c) (aW1 m c) (aW2 m c) (aDy m c) = res6 m c := by
  funext i
  obtain ⟨q, d, f, rfl⟩ : ∃ (q : Fin 8) (d : Fin 1024) (f : Fin 512), i = ix3 q d f := ⟨i 0, i 1, i 2, by idx_ext⟩
  rw [Cert.MlpBwdRefIdeal.Own.v26_at]
  refine Finset.sum_congr rfl fun s _ => ?_
  rw [v21_dA, mul_comm]
  rfl

theorem ref17 : val_main_v17 (F := Ideal) (aH m c) (aG m c) (aW1 m c) (aDy m c) = res7 m c := by
  funext i
  obtain ⟨f, d, rfl⟩ : ∃ (f : Fin 4096) (d : Fin 1024), i = ix2 f d := ⟨i 0, i 1, by idx_ext⟩
  rw [Cert.MlpBwdRefIdeal.Own.v17_at]
  refine Finset.sum_congr rfl fun s _ => ?_
  rw [Cert.MlpBwdRefIdeal.Own.v1_at, mul_comm (aG m c _), mul_comm]
  rfl

theorem ref24 : val_main_v24 (F := Ideal) (aH m c) (aG m c) (aW1 m c) (aW2 m c) (aDy m c) = res10 m c := by
  funext i
  obtain ⟨s, d, rfl⟩ : ∃ (s : Fin 16384) (d : Fin 1024), i = ix2 s d := ⟨i 0, i 1, by idx_ext⟩
  rw [Cert.MlpBwdRefIdeal.Own.v24_at]
  refine Finset.sum_congr rfl fun f _ => ?_
  rw [v21_dA]
  rfl

end Cert.MlpBwdIdeal.Own

namespace Cert.MlpBwdIdeal.Own

open Idealize.ShloMosaic TcCoe Idealize.SL.Sem Tactic

/-- The two programs leave the same results. -/
theorem algebraic : Cert.algebraic_MlpBwdIdeal_MlpBwdRefIdeal := by
  intro m g m' g' _ hagree
  refine ⟨fun c => res6 m c, fun c => res7 m c, fun c => res10 m c, run m g, ?_⟩
  refine (θ_run _ _ _).mono (fun r h c => ?_) (Cert.MlpBwdRefIdeal.Value.run m' g')
  obtain ⟨h26, h17, h24, hargs⟩ := h c
  obtain ⟨e0, e1, e2, e3, e4⟩ := hagree c
  refine ⟨h26.trans ?_, h17.trans ?_, h24.trans ?_, hargs⟩
  · rw [e0, e1, e2, e3, e4]; exact (Cert.MlpBwdRefIdeal.Read.val_main_v26_eq ..).trans (ref26 m c)
  · rw [e0, e1, e2, e4]; exact (Cert.MlpBwdRefIdeal.Read.val_main_v17_eq ..).trans (ref17 m c)
  · rw [e0, e1, e2, e3, e4]; exact (Cert.MlpBwdRefIdeal.Read.val_main_v24_eq ..).trans (ref24 m c)

end Cert.MlpBwdIdeal.Own

end
-- ==== Proof.AttnTrip.lean ====
module

public import proofs.«01_k».proof.Proof.Gen.AttnBwdIdeal.Loops
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The while of the kernel is a label that calls itself, so the variants count its calls. -/
abbrev 𝒱₀ : Variants := Variants.nat

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- One trip of the kernel's loop. -/
def trip (c : Dev nD) (i : grid0.Coords) (v0 v6 : BitVec 32) (hw2 : k0_chk2 i v6) (v19 : BitVec 32) (v132 : FVec F S256x256 .bf16) (v133 : Vec F S256x256 .bf16)
    (k : Fin (k0_t1_loop i v6).trips)
    (x5 : Vec F S32x128x512 .bf16) (x6 : Vec F S1x512x128 .bf16) (x7 : Vec F S1x80x512 .bf16) (x8 : Vec F S1x512x128 .bf16) (x9 : Vec F S32x128x512 .bf16)
    (x10 : Vec F S1x32x1x512 .f32) (x11 : Vec F S1x32x1x512 .f32)
    (x12 : Vec F S32x80x512 .f32) (x16 : Vec F S512x512 .f32) (x17 : Vec F S512x512 .f32) (x18 : Vec F S512x512 .f32) (x19 : Vec F S512x512 .f32) (x20 :
    Vec F S512x512 .bf16) (x21 : Vec F S512x512 .bf16) (x22 : Vec F S512x512 .bf16) (x23 : Vec F S512x512 .bf16) (x24 : Vec F S80x512 .f32) (x25 : Vec
    F S64x512 .f32) :
    Σ' (L12 : List (View.Piece (Elt F) S32x80x512 .f32)), Σ' (L16 : List (View.Piece (Elt F) S512x512 .f32)), Σ' (L17 : List (View.Piece (Elt F) S512x512
    .f32)), Σ' (L18 : List (View.Piece (Elt F) S512x512 .f32)), Σ' (L19 : List (View.Piece (Elt F) S512x512 .f32)), Σ' (L20 : List (View.Piece (Elt F)
    S512x512 .bf16)), Σ' (L21 : List (View.Piece (Elt F) S512x512 .bf16)), Σ' (L22 : List (View.Piece (Elt F) S512x512 .bf16)), Σ' (L23 : List
    (View.Piece (Elt F) S512x512 .bf16)), Σ' (L24 : List (View.Piece (Elt F) S80x512 .f32)), { L25 : List (View.Piece (Elt F) S64x512 .f32) //
      ∀ (E : Set ℕ) (K : Unit → sProp 𝕄),
        iprop(owns (c : Thread nD τ) m5 fullShare x5 ∗ owns (c : Thread nD τ) m6 fullShare x6 ∗ owns (c : Thread nD τ) m7 fullShare x7 ∗ owns (c : Thread nD
    τ) m8 fullShare x8 ∗ owns (c : Thread nD τ) m9 fullShare x9 ∗ owns (c : Thread nD τ) m10 fullShare x10 ∗ owns (c : Thread nD τ) m11
    fullShare x11
            ∗ owns (c : Thread nD τ) m12 fullShare x12 ∗ owns (c : Thread nD τ) m16 fullShare x16 ∗ owns (c : Thread nD τ) m17 fullShare x17 ∗ owns (c :
    Thread nD τ) m18 fullShare x18 ∗ owns (c : Thread nD τ) m19 fullShare x19 ∗ owns (c : Thread nD τ) m20 fullShare x20 ∗ owns (c : Thread nD
    τ) m21 fullShare x21 ∗ owns (c : Thread nD τ) m22 fullShare x22 ∗ owns (c : Thread nD τ) m23 fullShare x23 ∗ owns (c : Thread nD τ) m24
    fullShare x24 ∗ owns (c : Thread nD τ) m25 fullShare x25
            ∗ (iprop(owns (c : Thread nD τ) m5 fullShare x5 ∗ owns (c : Thread nD τ) m6 fullShare x6 ∗ owns (c : Thread nD τ) m7 fullShare x7 ∗ owns (c : Thread nD
    τ) m8 fullShare x8 ∗ owns (c : Thread nD τ) m9 fullShare x9 ∗ owns (c : Thread nD τ) m10 fullShare x10 ∗ owns (c : Thread nD τ) m11
    fullShare x11
              ∗ (m12.view.loc (c : Thread nD τ) ↦[m12.view.set]{fullShare} m12.view.writes (Elt F) (z12.unread x12) L12) ∗ (m16.view.loc (c : Thread nD τ)
    ↦[m16.view.set]{fullShare} m16.view.writes (Elt F) (z16.unread x16) L16) ∗ (m17.view.loc (c : Thread nD τ) ↦[m17.view.set]{fullShare}
    m17.view.writes (Elt F) (z17.unread x17) L17) ∗ (m18.view.loc (c : Thread nD τ) ↦[m18.view.set]{fullShare} m18.view.writes (Elt F)
    (z18.unread x18) L18) ∗ (m19.view.loc (c : Thread nD τ) ↦[m19.view.set]{fullShare} m19.view.writes (Elt F) (z19.unread x19) L19) ∗
    (m20.view.loc (c : Thread nD τ) ↦[m20.view.set]{fullShare} m20.view.writes (Elt F) (z20.unread x20) L20) ∗ (m21.view.loc (c : Thread nD
    τ) ↦[m21.view.set]{fullShare} m21.view.writes (Elt F) (z21.unread x21) L21) ∗ (m22.view.loc (c : Thread nD τ)
    ↦[m22.view.set]{fullShare} m22.view.writes (Elt F) (z22.unread x22) L22) ∗ (m23.view.loc (c : Thread nD τ) ↦[m23.view.set]{fullShare}
    m23.view.writes (Elt F) (z23.unread x23) L23) ∗ (m24.view.loc (c : Thread nD τ) ↦[m24.view.set]{fullShare} m24.view.writes (Elt F)
    (z24.unread x24) L24) ∗ (m25.view.loc (c : Thread nD τ) ↦[m25.view.set]{fullShare} m25.view.writes (Elt F) (z25.unread x25) L25)) -∗ K ()))
          ⊢ wp frame (wpE (defs₀ (F := F)) 𝒱₀ (c : Thread nD τ) none) E
            (k0_t1_body (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6 hw2 v19 v132 v133 k ()) K } := by
  refine ⟨?_, ?_, ?_, ?_, ?_, ?_, ?_, ?_, ?_, ?_, ?_, fun E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := z5.eq_unread hf5; obtain rfl := z6.eq_unread hf6; obtain rfl := z7.eq_unread hf7; obtain rfl := z8.eq_unread hf8; obtain rfl := z9.eq_unread hf9; obtain rfl := z10.eq_unread hf10; obtain rfl := z11.eq_unread hf11; obtain rfl := z12.eq_unread hf12; obtain rfl := z16.eq_unread hf16; obtain rfl := z17.eq_unread hf17; obtain rfl := z18.eq_unread hf18; obtain rfl := z19.eq_unread hf19; obtain rfl := z20.eq_unread hf20; obtain rfl := z21.eq_unread hf21; obtain rfl := z22.eq_unread hf22; obtain rfl := z23.eq_unread hf23; obtain rfl := z24.eq_unread hf24; obtain rfl := z25.eq_unread hf25
    sl_exec
    sl_step
    iapply Hk
    isplitl [H5]
    · iexists _; isplitr; · ipureintro; exact z5.read_unread _
      iexact H5
    isplitl [H6]
    · iexists _; isplitr; · ipureintro; exact z6.read_unread _
      iexact H6
    isplitl [H7]
    · iexists _; isplitr; · ipureintro; exact z7.read_unread _
      iexact H7
    isplitl [H8]
    · iexists _; isplitr; · ipureintro; exact z8.read_unread _
      iexact H8
    isplitl [H9]
    · iexists _; isplitr; · ipureintro; exact z9.read_unread _
      iexact H9
    isplitl [H10]
    · iexists _; isplitr; · ipureintro; exact z10.read_unread _
      iexact H10
    isplitl [H11]
    · iexists _; isplitr; · ipureintro; exact z11.read_unread _
      iexact H11
    isplitl [H12]; · iexact H12
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.AttnBwdIdeal.Own

end
-- ==== Proof.AttnChecks.lean ====
module

public import proofs.«01_k».proof.Proof.Gen.AttnBwdIdeal.Loops
public import Idealize.ShloMosaic.Lib.WordCmp

set_option maxRecDepth 16384

@[expose] public section

open Idealize.ShloMosaic

namespace Cert.AttnBwdIdeal.Own

open Cert.AttnBwdIdeal Cert.AttnBwdIdeal.Gen

/-- The grid point of head 0 at step `s`: every check of the body looks at the step alone. -/
def at0 (s : Fin 32) : grid0.Coords := fun a => match a with
  | ⟨0, _⟩ => (0 : Fin 8)
  | ⟨1, _⟩ => s

/-- The checks of the look-ahead loop hold at every counter, since its offsets are clamped to the last block. -/
theorem chk1_of (i : grid0.Coords) (j : Nat) (hj : j ≤ 31) : k0_chk1 i (BitVec.ofNat 32 j) := by
  have key : ∀ h : Fin 8, ∀ n : Fin 32, ∀ s : Fin 32, k0_chk1 (fun a => match a with | ⟨0, _⟩ => h | ⟨1, _⟩ => s) (BitVec.ofNat 32 n.val) := by
    decide +kernel
  have hi : i = (fun a => match a with | ⟨0, _⟩ => i 0 | ⟨1, _⟩ => i 1) := by
    funext a; match a with | ⟨0, _⟩ => rfl | ⟨1, _⟩ => rfl
  rw [hi]; exact key (i 0) ⟨j, by omega⟩ (i 1)

/-- The checks of the body hold whenever the last block index lies between the step's own block and the last one. -/
theorem chk2_of (i : grid0.Coords) (n : Nat) (h : 31 - (i 1).val ≤ n) (hn : n ≤ 31) : k0_chk2 i (BitVec.ofNat 32 n) := by
  have key : ∀ s n : Fin 32, 31 - s.val ≤ n.val → k0_chk2 (at0 s) (BitVec.ofNat 32 n.val) := by
    decide +kernel
  exact key (i 1) ⟨n, by omega⟩ h

end Cert.AttnBwdIdeal.Own
-- ==== Proof.AttnWhile.lean ====
module

public import proofs.«01_k».proof.Proof.AttnTrip
public import proofs.«01_k».proof.Proof.AttnChecks

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (m2 : Memref sig .tc .smem S8x32 .f32) (z2 : m2.IsWhole)
  (v3 : Elt F .f32) (v5 : F .f32) (x2 : Vec F S8x32 .f32)

/-- The table entry the look-ahead tests at block `j`. -/
def entry (j : ℕ) (hj : j ≤ 31) : Elt F .f32 :=
  m2.view.readAt (Elt F) (Rect.unit (s := S8x32) (k0_off3 i (BitVec.ofNat 32 j)) S1x1.size (k0_off3_inb i _ (chk1_of i j hj))).toLoadRect
    (z2.unread x2) (Shape.Idx.first (show 0 < S1x1.numel by decide))

/-- The block at which the look-ahead ends when it is entered at block `j` with `k` blocks left. -/
def look : ℕ → ℕ → ℕ
  | 0, j => j
  | k + 1, j => if hj : j ≤ 31 then
      if Scalar.cmpf .oge (k0_pay3 v3 (entry i m2 z2 x2 j hj)) v5 = 1#1 then look k (j + 1) else j
    else j

theorem look_ge : ∀ k j, j ≤ look i m2 z2 v3 v5 x2 k j
  | 0, j => le_refl _
  | k + 1, j => by
    unfold look
    split_ifs with h1 h2
    · exact (Nat.le_succ j).trans (look_ge k (j + 1))
    · exact le_refl _
    · exact le_refl _

theorem look_le : ∀ k j, look i m2 z2 v3 v5 x2 k j ≤ j + k
  | 0, j => le_refl _
  | k + 1, j => by
    unfold look
    split_ifs with h1 h2
    · exact (look_le k (j + 1)).trans (by omega)
    · omega
    · omega

/-- When no entry fails the test the look-ahead goes through every block. -/
theorem look_all (hall : ∀ w : Elt F .f32, Scalar.cmpf .oge (k0_pay3 v3 w) v5 = 1#1) :
    ∀ k j, j + k ≤ 31 → look i m2 z2 v3 v5 x2 k j = j + k
  | 0, j, _ => rfl
  | k + 1, j, h => by
    unfold look
    rw [dif_pos (by omega), if_pos (hall _), look_all hall k (j + 1) (by omega)]
    omega

/-- The look-ahead's specification: it reads its table and returns the block `look` says. -/
def lookAhead (k j : ℕ) : sWPT 𝕄 (BitVec 32) := do
  sWPT.consume (owns (c : Thread nD τ) m2 fullShare x2)
  sWPT.produce (owns (c : Thread nD τ) m2 fullShare x2)
  pure (BitVec.ofNat 32 (look i m2 z2 v3 v5 x2 k j))

theorem lookAhead_apply (k j : ℕ) (K : BitVec 32 → sProp 𝕄) :
    lookAhead c i m2 z2 v3 v5 x2 k j K
      = iprop(owns (c : Thread nD τ) m2 fullShare x2
          ∗ (owns (c : Thread nD τ) m2 fullShare x2 -∗ K (BitVec.ofNat 32 (look i m2 z2 v3 v5 x2 k j)))) := rfl

/-- The look-ahead entered with `k` blocks left meets its specification: the last block ends it, and otherwise the
    test either ends it here or calls it again at the next block. -/
theorem lookAhead_le (E : Set ℕ) : ∀ k j, j + k = 31 → ∀ K, lookAhead c i m2 z2 v3 v5 x2 k j K
      ⊢ wp frame (wpE (defs₀ (F := F)) 𝒱₀ (c : Thread nD τ) (some k)) E
          (defs₀ (F := F) .tc 1 ⟨i, m2, z2, v3, v5, BitVec.ofNat 32 j⟩) K := by
  intro k
  induction k with
  | zero =>
    intro j hj K
    obtain rfl : j = 31 := by omega
    rw [lookAhead_apply]
    show _ ⊢ wp frame (wpE (defs₀ (F := F)) 𝒱₀ (c : Thread nD τ) (some 0)) E (cc0_while1 i m2 z2 v3 v5 (BitVec.ofNat 32 31)) K
    simp only [cc0_while1_eq_skeleton]; unfold cc0_while1_skel
    simp only [smemLoad, smemLoadElt, Prog.lift, Prog.bind_op, Prog.bind_ret, Prog.pure_eq_ret]
    unfold owns
    iintro ⟨⟨%f, %hf, H⟩, Hk⟩
    iapply (wp_assume 𝒱₀ (c : Thread nD τ) (some 0) E (chk1_of i 31 (by omega)))
    iapply (wp_load 𝒱₀ (c : Thread nD τ) (some 0) E (m := m2) (S := m2.view.set) (View.setOn_subset_set _ _)) $$ H; iintro H
    rw [if_neg (by
      have e : Scalar.cmpi CmpIPredicate.slt (31#32) (31#32) = 0#1 := by decide
      rw [e]; unfold Scalar.andi IntOp.andi; simp)]
    rw [wp_ret]; imodintro
    rw [show look i m2 z2 v3 v5 x2 0 31 = 31 from rfl]
    iapply Hk
    iexists _; isplitr
    · ipureintro; exact hf
    · iexact H
  | succ k ih =>
    intro j hj K
    rw [lookAhead_apply]
    show _ ⊢ wp frame (wpE (defs₀ (F := F)) 𝒱₀ (c : Thread nD τ) (some (k + 1))) E (cc0_while1 i m2 z2 v3 v5 (BitVec.ofNat 32 j)) K
    simp only [cc0_while1_eq_skeleton]; unfold cc0_while1_skel
    simp only [smemLoad, smemLoadElt, Prog.lift, Prog.bind_op, Prog.bind_ret, Prog.pure_eq_ret]
    unfold owns
    iintro ⟨⟨%f, %hf, H⟩, Hk⟩
    obtain rfl := z2.eq_unread hf
    iapply (wp_assume 𝒱₀ (c : Thread nD τ) (some (k + 1)) E (chk1_of i j (by omega)))
    iapply (wp_load 𝒱₀ (c : Thread nD τ) (some (k + 1)) E (m := m2) (S := m2.view.set) (View.setOn_subset_set _ _)) $$ H; iintro H
    have e : Scalar.cmpi CmpIPredicate.slt (BitVec.ofNat 32 j) (31#32) = 1#1 := by
      have : ∀ n : Fin 31, Scalar.cmpi CmpIPredicate.slt (BitVec.ofNat 32 n.val) (31#32) = 1#1 := by decide
      exact this ⟨j, by omega⟩
    have ha : ∀ b : BitVec 1, Scalar.andi (1#1) b = b := by decide
    rw [e, ha]
    split_ifs with h
    · have e2 : Scalar.addi (BitVec.ofNat 32 j) 1#32 = BitVec.ofNat 32 (j + 1) := by
        unfold Scalar.addi IntOp.addi; exact (BitVec.ofNat_add j 1).symm
      have e3 : look i m2 z2 v3 v5 x2 (k + 1) j = look i m2 z2 v3 v5 x2 k (j + 1) := by
        conv_lhs => unfold look
        rw [dif_pos (by omega : j ≤ 31)]; exact if_pos h
      rw [e2, e3]
      iapply (wp_call_spec 𝒱₀ (c : Thread nD τ) (some (k + 1)) E (lookAhead c i m2 z2 v3 v5 x2 k (j + 1)) k
        (fun u hu => by cases hu; exact Nat.lt_succ_self k) (ih (j + 1) (by omega)))
      rw [lookAhead_apply]; unfold owns
      isplitl [H]
      · iexists _; isplitr
        · ipureintro; exact hf
        · iexact H
      iintro ⟨%f', %hf', H⟩
      rw [wp_ret]; imodintro
      iapply Hk
      iexists _; isplitr
      · ipureintro; exact hf'
      · iexact H
    · have e3 : look i m2 z2 v3 v5 x2 (k + 1) j = j := by
        conv_lhs => unfold look
        rw [dif_pos (by omega : j ≤ 31)]; exact if_neg h
      rw [e3, wp_ret]; imodintro
      iapply Hk
      iexists _; isplitr
      · ipureintro; exact hf
      · iexact H

end Cert.AttnBwdIdeal.Own
-- ==== Proof.AttnStart.lean ====
module

public import proofs.«01_k».proof.Proof.AttnWhile

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block index a step starts from, as a word. -/
theorem v0_eq (i : grid0.Coords) : Scalar.subi 31#32 (BitVec.ofNat 32 (i 1).val) = BitVec.ofNat 32 (31 - (i 1).val) := by
  have : ∀ s : Fin 32, Scalar.subi 31#32 (BitVec.ofNat 32 s.val) = BitVec.ofNat 32 (31 - s.val) := by decide +kernel
  exact this (i 1)

theorem step_add (i : grid0.Coords) : 31 - (i 1).val + (i 1).val = 31 :=
  Nat.sub_add_cancel (Nat.le_of_lt_succ (show (i 1).val < 32 from (i 1).isLt))

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- The first step of a head up to the first product: the query gradient and the sums are cleared. -/
def start (c : Dev nD) (i : grid0.Coords) (h1 : Scalar.cmpi .ne (Scalar.extui (Scalar.cmpi .eq (BitVec.ofNat 32 (i 1).val) 0#32)) 0#32 = 1#1)
    (x2 : Vec F S8x32 .f32) (x3 : Vec F S8x32 .f32) (x4 : Vec F S8 .f32) (x5 : Vec F S32x128x512 .bf16) (x6 : Vec F S1x512x128 .bf16)
    (x12 : Vec F S32x80x512 .f32) (x16 : Vec F S512x512 .f32) (x24 : Vec F S80x512 .f32) (x25 : Vec F S64x512 .f32) :
    Σ' (r : (Σ' (v0 : BitVec 32) (v6 : BitVec 32) (k0_hw2 : k0_chk2 i v6), BitVec 32)), Σ' (L12 : List (View.Piece (Elt F) S32x80x512 .f32)), Σ' (L16 : List (View.Piece (Elt F) S512x512 .f32)), Σ' (L24 : List (View.Piece (Elt F) S80x512
    .f32)), { L25 : List (View.Piece (Elt F) S64x512 .f32) //
      ∀ (E : Set ℕ) (K : (Σ' (v0 : BitVec 32) (v6 : BitVec 32) (k0_hw2 : k0_chk2 i v6), BitVec 32) → sProp 𝕄),
        iprop(owns (c : Thread nD τ) m2 fullShare x2 ∗ owns (c : Thread nD τ) m3 fullShare x3 ∗ owns (c : Thread nD τ) m4 fullShare x4 ∗ owns (c : Thread nD
    τ) m5 fullShare x5 ∗ owns (c : Thread nD τ) m6 fullShare x6
            ∗ owns (c : Thread nD τ) m12 fullShare x12 ∗ owns (c : Thread nD τ) m16 fullShare x16 ∗ owns (c : Thread nD τ) m24 fullShare x24 ∗ owns (c :
    Thread nD τ) m25 fullShare x25
            ∗ (iprop(owns (c : Thread nD τ) m2 fullShare x2 ∗ owns (c : Thread nD τ) m3 fullShare x3 ∗ owns (c : Thread nD τ) m4 fullShare x4 ∗ owns (c : Thread nD
    τ) m5 fullShare x5 ∗ owns (c : Thread nD τ) m6 fullShare x6
              ∗ (m12.view.loc (c : Thread nD τ) ↦[m12.view.set]{fullShare} m12.view.writes (Elt F) (z12.unread x12) L12) ∗ (m16.view.loc (c : Thread nD τ)
    ↦[m16.view.set]{fullShare} m16.view.writes (Elt F) (z16.unread x16) L16) ∗ (m24.view.loc (c : Thread nD τ) ↦[m24.view.set]{fullShare}
    m24.view.writes (Elt F) (z24.unread x24) L24) ∗ (m25.view.loc (c : Thread nD τ) ↦[m25.view.set]{fullShare} m25.view.writes (Elt F)
    (z25.unread x25) L25)) -∗ K r))
          ⊢ wp frame (wpE (defs₀ (F := F)) 𝒱₀ (c : Thread nD τ) none) E
            (k0_part29 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25) K } := by
  refine ⟨?_, ?_, ?_, ?_, ?_, fun E K => ?run⟩
  case run =>
    simp only [k0_part29_eq_skeleton]
    unfold k0_part29_skel
    simp only [smemLoad, smemLoadElt, Prog.lift, Prog.bind_op, Prog.bind_ret, Prog.pure_eq_ret]
    unfold owns
    iintro ⟨⟨%f2, %hf2, H2⟩, ⟨%f3, %hf3, H3⟩, ⟨%f4, %hf4, H4⟩, ⟨%f5, %hf5, H5⟩, ⟨%f6, %hf6, H6⟩, ⟨%f12, %hf12, H12⟩, ⟨%f16, %hf16, H16⟩, ⟨%f24, %hf24, H24⟩, ⟨%f25, %hf25, H25⟩, Hk⟩
    obtain rfl := z2.eq_unread hf2; obtain rfl := z3.eq_unread hf3; obtain rfl := z4.eq_unread hf4; obtain rfl := z5.eq_unread hf5; obtain rfl := z6.eq_unread hf6; obtain rfl := z12.eq_unread hf12; obtain rfl := z16.eq_unread hf16; obtain rfl := z24.eq_unread hf24; obtain rfl := z25.eq_unread hf25
    iapply (wp_load 𝒱₀ (c : Thread nD τ) none E (m := m3) (S := m3.view.set) (View.setOn_subset_set _ _)) $$ H3; iintro H3
    iapply (wp_load 𝒱₀ (c : Thread nD τ) none E (m := m4) (S := m4.view.set) (View.setOn_subset_set _ _)) $$ H4; iintro H4
    rw [v0_eq i]
    iapply (wp_call_spec 𝒱₀ (c : Thread nD τ) none E (lookAhead c i m2 z2 _ _ x2 (i 1).val (31 - (i 1).val)) (i 1).val
      (fun u hu => nomatch hu) (lookAhead_le c i m2 z2 _ _ x2 E (i 1).val (31 - (i 1).val) (step_add i)))
    rw [lookAhead_apply]; unfold owns
    isplitl [H2]
    · iexists _; isplitr
      · ipureintro; exact z2.read_unread _
      · iexact H2
    iintro ⟨%f2, %hf2, H2⟩
    obtain rfl := z2.eq_unread hf2
    iapply (wp_assume 𝒱₀ (c : Thread nD τ) none E (chk2_of i _ (look_ge i m2 z2 _ _ x2 (i 1).val (31 - (i 1).val))
      (le_trans (look_le i m2 z2 _ _ x2 (i 1).val (31 - (i 1).val)) (le_of_eq (step_add i)))))
    simp only [dif_pos h1]
    sl_exec
    sl_step
    iapply Hk
    isplitl [H2]
    · iexists _; isplitr; · ipureintro; exact z2.read_unread _
      iexact H2
    isplitl [H3]
    · iexists _; isplitr; · ipureintro; exact z3.read_unread _
      iexact H3
    isplitl [H4]
    · iexists _; isplitr; · ipureintro; exact z4.read_unread _
      iexact H4
    isplitl [H5]
    · iexists _; isplitr; · ipureintro; exact z5.read_unread _
      iexact H5
    isplitl [H6]
    · iexists _; isplitr; · ipureintro; exact z6.read_unread _
      iexact H6
    isplitl [H12]; · iexact H12
    isplitl [H16]; · iexact H16
    isplitl [H24]; · iexact H24
    iexact H25

set_option maxHeartbeats 4000000 in
/-- A later step of a head up to the first product: only the sums are cleared. -/
def next (c : Dev nD) (i : grid0.Coords) (h1 : ¬Scalar.cmpi .ne (Scalar.extui (Scalar.cmpi .eq (BitVec.ofNat 32 (i 1).val) 0#32)) 0#32 = 1#1)
    (x2 : Vec F S8x32 .f32) (x3 : Vec F S8x32 .f32) (x4 : Vec F S8 .f32) (x5 : Vec F S32x128x512 .bf16) (x6 : Vec F S1x512x128 .bf16)
    (x16 : Vec F S512x512 .f32) (x24 : Vec F S80x512 .f32) (x25 : Vec F S64x512 .f32) :
    Σ' (r : (Σ' (v0 : BitVec 32) (v6 : BitVec 32) (k0_hw2 : k0_chk2 i v6), BitVec 32)), Σ' (L16 : List (View.Piece (Elt F) S512x512 .f32)), Σ' (L24 : List (View.Piece (Elt F) S80x512 .f32)), { L25 : List (View.Piece (Elt F) S64x512 .f32) //
      ∀ (E : Set ℕ) (K : (Σ' (v0 : BitVec 32) (v6 : BitVec 32) (k0_hw2 : k0_chk2 i v6), BitVec 32) → sProp 𝕄),
        iprop(owns (c : Thread nD τ) m2 fullShare x2 ∗ owns (c : Thread nD τ) m3 fullShare x3 ∗ owns (c : Thread nD τ) m4 fullShare x4 ∗ owns (c : Thread nD
    τ) m5 fullShare x5 ∗ owns (c : Thread nD τ) m6 fullShare x6
            ∗ owns (c : Thread nD τ) m16 fullShare x16 ∗ owns (c : Thread nD τ) m24 fullShare x24 ∗ owns (c : Thread nD τ) m25 fullShare x25
            ∗ (iprop(owns (c : Thread nD τ) m2 fullShare x2 ∗ owns (c : Thread nD τ) m3 fullShare x3 ∗ owns (c : Thread nD τ) m4 fullShare x4 ∗ owns (c : Thread nD
    τ) m5 fullShare x5 ∗ owns (c : Thread nD τ) m6 fullShare x6
              ∗ (m16.view.loc (c : Thread nD τ) ↦[m16.view.set]{fullShare} m16.view.writes (Elt F) (z16.unread x16) L16) ∗ (m24.view.loc (c : Thread nD τ)
    ↦[m24.view.set]{fullShare} m24.view.writes (Elt F) (z24.unread x24) L24) ∗ (m25.view.loc (c : Thread nD τ) ↦[m25.view.set]{fullShare}
    m25.view.writes (Elt F) (z25.unread x25) L25)) -∗ K r))
          ⊢ wp frame (wpE (defs₀ (F := F)) 𝒱₀ (c : Thread nD τ) none) E
            (k0_part29 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25) K } := by
  refine ⟨?_, ?_, ?_, ?_, fun E K => ?run⟩
  case run =>
    simp only [k0_part29_eq_skeleton]
    unfold k0_part29_skel
    simp only [smemLoad, smemLoadElt, Prog.lift, Prog.bind_op, Prog.bind_ret, Prog.pure_eq_ret]
    unfold owns
    iintro ⟨⟨%f2, %hf2, H2⟩, ⟨%f3, %hf3, H3⟩, ⟨%f4, %hf4, H4⟩, ⟨%f5, %hf5, H5⟩, ⟨%f6, %hf6, H6⟩, ⟨%f16, %hf16, H16⟩, ⟨%f24, %hf24, H24⟩, ⟨%f25, %hf25, H25⟩, Hk⟩
    obtain rfl := z2.eq_unread hf2; obtain rfl := z3.eq_unread hf3; obtain rfl := z4.eq_unread hf4; obtain rfl := z5.eq_unread hf5; obtain rfl := z6.eq_unread hf6; obtain rfl := z16.eq_unread hf16; obtain rfl := z24.eq_unread hf24; obtain rfl := z25.eq_unread hf25
    iapply (wp_load 𝒱₀ (c : Thread nD τ) none E (m := m3) (S := m3.view.set) (View.setOn_subset_set _ _)) $$ H3; iintro H3
    iapply (wp_load 𝒱₀ (c : Thread nD τ) none E (m := m4) (S := m4.view.set) (View.setOn_subset_set _ _)) $$ H4; iintro H4
    rw [v0_eq i]
    iapply (wp_call_spec 𝒱₀ (c : Thread nD τ) none E (lookAhead c i m2 z2 _ _ x2 (i 1).val (31 - (i 1).val)) (i 1).val
      (fun u hu => nomatch hu) (lookAhead_le c i m2 z2 _ _ x2 E (i 1).val (31 - (i 1).val) (step_add i)))
    rw [lookAhead_apply]; unfold owns
    isplitl [H2]
    · iexists _; isplitr
      · ipureintro; exact z2.read_unread _
      · iexact H2
    iintro ⟨%f2, %hf2, H2⟩
    obtain rfl := z2.eq_unread hf2
    iapply (wp_assume 𝒱₀ (c : Thread nD τ) none E (chk2_of i _ (look_ge i m2 z2 _ _ x2 (i 1).val (31 - (i 1).val))
      (le_trans (look_le i m2 z2 _ _ x2 (i 1).val (31 - (i 1).val)) (le_of_eq (step_add i)))))
    simp only [dif_neg h1]
    sl_exec
    sl_step
    iapply Hk
    isplitl [H2]
    · iexists _; isplitr; · ipureintro; exact z2.read_unread _
      iexact H2
    isplitl [H3]
    · iexists _; isplitr; · ipureintro; exact z3.read_unread _
      iexact H3
    isplitl [H4]
    · iexists _; isplitr; · ipureintro; exact z4.read_unread _
      iexact H4
    isplitl [H5]
    · iexists _; isplitr; · ipureintro; exact z5.read_unread _
      iexact H5
    isplitl [H6]
    · iexists _; isplitr; · ipureintro; exact z6.read_unread _
      iexact H6
    isplitl [H16]; · iexact H16
    isplitl [H24]; · iexact H24
    iexact H25

end Cert.AttnBwdIdeal.Own

end
-- ==== Proof.AttnOwn.lean ====
module

public import proofs.«01_k».proof.Proof.AttnTrip

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- The products of the step's own block and the reads of the next one. -/
def diag (c : Dev nD) (i : grid0.Coords) (v0 v6 : BitVec 32)
    (x5 : Vec F S32x128x512 .bf16) (x6 : Vec F S1x512x128 .bf16) (x8 : Vec F S1x512x128 .bf16) (x9 : Vec F S32x128x512 .bf16)
    (x16 : Vec F S512x512 .f32) (x17 : Vec F S512x512 .f32) :
    Σ' (r : (Σ' (v57 : BitVec 32), FVec F S512x128 .bf16)), Σ' (L16 : List (View.Piece (Elt F) S512x512 .f32)), { L17 : List (View.Piece (Elt F) S512x512 .f32) //
      ∀ (E : Set ℕ) (K : (Σ' (v57 : BitVec 32), FVec F S512x128 .bf16) → sProp 𝕄),
        iprop(owns (c : Thread nD τ) m5 fullShare x5 ∗ owns (c : Thread nD τ) m6 fullShare x6 ∗ owns (c : Thread nD τ) m8 fullShare x8 ∗ owns (c : Thread nD
    τ) m9 fullShare x9
            ∗ owns (c : Thread nD τ) m16 fullShare x16 ∗ owns (c : Thread nD τ) m17 fullShare x17
            ∗ (iprop(owns (c : Thread nD τ) m5 fullShare x5 ∗ owns (c : Thread nD τ) m6 fullShare x6 ∗ owns (c : Thread nD τ) m8 fullShare x8 ∗ owns (c : Thread nD
    τ) m9 fullShare x9
              ∗ (m16.view.loc (c : Thread nD τ) ↦[m16.view.set]{fullShare} m16.view.writes (Elt F) (z16.unread x16) L16) ∗ (m17.view.loc (c : Thread nD τ)
    ↦[m17.view.set]{fullShare} m17.view.writes (Elt F) (z17.unread x17) L17)) -∗ K r))
          ⊢ wp frame (wpE (defs₀ (F := F)) 𝒱₀ (c : Thread nD τ) none) E
            (k0_part30 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6) K } := by
  refine ⟨?_, ?_, ?_, fun E K => ?run⟩
  case run =>
    simp only [k0_part30_eq_skeleton]
    unfold k0_part30_skel
    unfold owns
    iintro ⟨⟨%f5, %hf5, H5⟩, ⟨%f6, %hf6, H6⟩, ⟨%f8, %hf8, H8⟩, ⟨%f9, %hf9, H9⟩, ⟨%f16, %hf16, H16⟩, ⟨%f17, %hf17, H17⟩, Hk⟩
    obtain rfl := z5.eq_unread hf5; obtain rfl := z6.eq_unread hf6; obtain rfl := z8.eq_unread hf8; obtain rfl := z9.eq_unread hf9; obtain rfl := z16.eq_unread hf16; obtain rfl := z17.eq_unread hf17
    sl_exec
    sl_step
    iapply Hk
    isplitl [H5]
    · iexists _; isplitr; · ipureintro; exact z5.read_unread _
      iexact H5
    isplitl [H6]
    · iexists _; isplitr; · ipureintro; exact z6.read_unread _
      iexact H6
    isplitl [H8]
    · iexists _; isplitr; · ipureintro; exact z8.read_unread _
      iexact H8
    isplitl [H9]
    · iexists _; isplitr; · ipureintro; exact z9.read_unread _
      iexact H9
    isplitl [H16]; · iexact H16
    iexact H17

set_option maxHeartbeats 4000000 in
/-- The products of the next block, and the probabilities of the upper half of the step's own block. -/
def ahead (c : Dev nD) (i : grid0.Coords) (v0 v6 : BitVec 32) (hw2 : k0_chk2 i v6) (v57 : BitVec 32) (v59 : FVec F S512x128 .bf16)
    (x5 : Vec F S32x128x512 .bf16) (x8 : Vec F S1x512x128 .bf16) (x9 : Vec F S32x128x512 .bf16) (x10 : Vec F S1x32x1x512 .f32) (x11 : Vec F S1x32x1x512
    .f32) (x16 : Vec F S512x512 .f32)
    (x18 : Vec F S512x512 .f32) (x19 : Vec F S512x512 .f32) :
    Σ' (r : (Σ' (v78 : FVec F S1x512 .f32) (v81 : FVec F S1x512 .f32) (v90 : FVec F S256x512 .f32), FVec F S256x512 .bf16)), Σ' (L18 : List (View.Piece (Elt F) S512x512 .f32)), { L19 : List (View.Piece (Elt F) S512x512 .f32) //
      ∀ (E : Set ℕ) (K : (Σ' (v78 : FVec F S1x512 .f32) (v81 : FVec F S1x512 .f32) (v90 : FVec F S256x512 .f32), FVec F S256x512 .bf16) → sProp 𝕄),
        iprop(owns (c : Thread nD τ) m5 fullShare x5 ∗ owns (c : Thread nD τ) m8 fullShare x8 ∗ owns (c : Thread nD τ) m9 fullShare x9 ∗ owns (c : Thread nD
    τ) m10 fullShare x10 ∗ owns (c : Thread nD τ) m11 fullShare x11 ∗ owns (c : Thread nD τ) m16 fullShare x16
            ∗ owns (c : Thread nD τ) m18 fullShare x18 ∗ owns (c : Thread nD τ) m19 fullShare x19
            ∗ (iprop(owns (c : Thread nD τ) m5 fullShare x5 ∗ owns (c : Thread nD τ) m8 fullShare x8 ∗ owns (c : Thread nD τ) m9 fullShare x9 ∗ owns (c : Thread nD
    τ) m10 fullShare x10 ∗ owns (c : Thread nD τ) m11 fullShare x11 ∗ owns (c : Thread nD τ) m16 fullShare x16
              ∗ (m18.view.loc (c : Thread nD τ) ↦[m18.view.set]{fullShare} m18.view.writes (Elt F) (z18.unread x18) L18) ∗ (m19.view.loc (c : Thread nD τ)
    ↦[m19.view.set]{fullShare} m19.view.writes (Elt F) (z19.unread x19) L19)) -∗ K r))
          ⊢ wp frame (wpE (defs₀ (F := F)) 𝒱₀ (c : Thread nD τ) none) E
            (k0_part31 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6 hw2 v57 v59) K } := by
  refine ⟨?_, ?_, ?_, fun E K => ?run⟩
  case run =>
    simp only [k0_part31_eq_skeleton]
    unfold k0_part31_skel
    unfold owns
    iintro ⟨⟨%f5, %hf5, H5⟩, ⟨%f8, %hf8, H8⟩, ⟨%f9, %hf9, H9⟩, ⟨%f10, %hf10, H10⟩, ⟨%f11, %hf11, H11⟩, ⟨%f16, %hf16, H16⟩, ⟨%f18, %hf18, H18⟩, ⟨%f19, %hf19, H19⟩, Hk⟩
    obtain rfl := z5.eq_unread hf5; obtain rfl := z8.eq_unread hf8; obtain rfl := z9.eq_unread hf9; obtain rfl := z10.eq_unread hf10; obtain rfl := z11.eq_unread hf11; obtain rfl := z16.eq_unread hf16; obtain rfl := z18.eq_unread hf18; obtain rfl := z19.eq_unread hf19
    sl_exec
    sl_step
    iapply Hk
    isplitl [H5]
    · iexists _; isplitr; · ipureintro; exact z5.read_unread _
      iexact H5
    isplitl [H8]
    · iexists _; isplitr; · ipureintro; exact z8.read_unread _
      iexact H8
    isplitl [H9]
    · iexists _; isplitr; · ipureintro; exact z9.read_unread _
      iexact H9
    isplitl [H10]
    · iexists _; isplitr; · ipureintro; exact z10.read_unread _
      iexact H10
    isplitl [H11]
    · iexists _; isplitr; · ipureintro; exact z11.read_unread _
      iexact H11
    isplitl [H16]
    · iexists _; isplitr; · ipureintro; exact z16.read_unread _
      iexact H16
    isplitl [H18]; · iexact H18
    iexact H19

set_option maxHeartbeats 4000000 in
/-- The probabilities and gradients of the step's own block. -/
def own (c : Dev nD) (i : grid0.Coords) (v78 v81 : FVec F S1x512 .f32) (v90 : FVec F S256x512 .f32) (v91 : FVec F S256x512 .bf16)
    (x16 : Vec F S512x512 .f32) (x17 : Vec F S512x512 .f32)
    (x20 : Vec F S512x512 .bf16) (x21 : Vec F S512x512 .bf16) :
    Σ' (r : (Σ' (v132 : FVec F S256x256 .bf16), Vec F S256x256 .bf16)), Σ' (L20 : List (View.Piece (Elt F) S512x512 .bf16)), { L21 : List (View.Piece (Elt F) S512x512 .bf16) //
      ∀ (E : Set ℕ) (K : (Σ' (v132 : FVec F S256x256 .bf16), Vec F S256x256 .bf16) → sProp 𝕄),
        iprop(owns (c : Thread nD τ) m16 fullShare x16 ∗ owns (c : Thread nD τ) m17 fullShare x17
            ∗ owns (c : Thread nD τ) m20 fullShare x20 ∗ owns (c : Thread nD τ) m21 fullShare x21
            ∗ (iprop(owns (c : Thread nD τ) m16 fullShare x16 ∗ owns (c : Thread nD τ) m17 fullShare x17
              ∗ (m20.view.loc (c : Thread nD τ) ↦[m20.view.set]{fullShare} m20.view.writes (Elt F) (z20.unread x20) L20) ∗ (m21.view.loc (c : Thread nD τ)
    ↦[m21.view.set]{fullShare} m21.view.writes (Elt F) (z21.unread x21) L21)) -∗ K r))
          ⊢ wp frame (wpE (defs₀ (F := F)) 𝒱₀ (c : Thread nD τ) none) E
            (k0_part32 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v78 v81 v90 v91) K } := by
  refine ⟨?_, ?_, ?_, fun E K => ?run⟩
  case run =>
    simp only [k0_part32_eq_skeleton]
    unfold k0_part32_skel
    unfold owns
    iintro ⟨⟨%f16, %hf16, H16⟩, ⟨%f17, %hf17, H17⟩, ⟨%f20, %hf20, H20⟩, ⟨%f21, %hf21, H21⟩, Hk⟩
    obtain rfl := z16.eq_unread hf16; obtain rfl := z17.eq_unread hf17; obtain rfl := z20.eq_unread hf20; obtain rfl := z21.eq_unread hf21
    sl_exec
    sl_step
    iapply Hk
    isplitl [H16]
    · iexists _; isplitr; · ipureintro; exact z16.read_unread _
      iexact H16
    isplitl [H17]
    · iexists _; isplitr; · ipureintro; exact z17.read_unread _
      iexact H17
    isplitl [H20]; · iexact H20
    iexact H21

end Cert.AttnBwdIdeal.Own

end
-- ==== Proof.AttnEndOne.lean ====
module

public import proofs.«01_k».proof.Proof.AttnTrip

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The last two stores of a step. -/
def finish (m14 : Memref sig .tc .vmem S1x64x512 .f32) (m15 : Memref sig .tc .vmem S1x1x8x512 .f32) (m24 : Memref sig .tc .vmem S80x512 .f32) (m25 : Memref sig .tc .vmem S64x512 .f32) :
    Prog (TpuEff nD τ sig (Elt F) (Λ₀ F) .tc) PUnit := do
  let v202 : Vec F S8x512 .f32 ← Prog.lift (.load m24 (Rect.unit (s := S80x512) ![64, 0] S8x512.size inb_S80x512_S8x512_64_0).toLoadRect (View.loadsAt_vmem h_S8x512))
  let v203 : Vec F S1x1x8x512 .f32 ← Prog.lift (.load m15 (Rect.unit (s := S1x1x8x512) ![0, 0, 0, 0] S1x1x8x512.size inb_S1x1x8x512_S1x1x8x512_0_0_0_0).toLoadRect (View.loadsAt_vmem h_S1x1x8x512))
  Prog.lift (.store m15 (Rect.unit (s := S1x1x8x512) ![0, 0, 0, 0] S1x1x8x512.size inb_S1x1x8x512_S1x1x8x512_0_0_0_0) (k0_pay1 v202) Finset.univ (View.stores_vmem_bits_univ h_S1x1x8x512 rfl) (.inl rfl))
  let v206 : Vec F S64x512 .f32 ← Prog.lift (.load m25 (Rect.unit (s := S64x512) ![0, 0] S64x512.size inb_S64x512_S64x512_0_0).toLoadRect (View.loadsAt_vmem h_S64x512))
  let v207 : Vec F S1x64x512 .f32 ← Prog.lift (.load m14 (Rect.unit (s := S1x64x512) ![0, 0, 0] S1x64x512.size inb_S1x64x512_S1x64x512_0_0_0).toLoadRect (View.loadsAt_vmem h_S1x64x512))
  Prog.lift (.store m14 (Rect.unit (s := S1x64x512) ![0, 0, 0] S1x64x512.size inb_S1x64x512_S1x64x512_0_0_0) (k0_pay2 v206) Finset.univ (View.stores_vmem_bits_univ h_S1x64x512 rfl) (.inl rfl))
  pure ⟨⟩

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- The end of a step that has its own block alone. -/
def endOne (c : Dev nD) (i : grid0.Coords) (v0 v6 : BitVec 32) (hw2 : k0_chk2 i v6) (v19 v156 v164 : BitVec 32) (v165 : BitVec 1) (v167 : BitVec 32) (h2 : ¬k0_cond2 i v6 = 1#1) (h3 : ¬k0_cond3 i v6 = 1#1) (h1 : Scalar.cmpi .ne (Scalar.extui (Scalar.cmpi .eq v19 1#32)) 0#32 = 1#1)
    (x5 : Vec F S32x128x512 .bf16) (x7 : Vec F S1x80x512 .bf16) (x9 : Vec F S32x128x512 .bf16) (x20 : Vec F S512x512 .bf16) (x21 : Vec F S512x512 .bf16)
    (x12 : Vec F S32x80x512 .f32) (x13 : Vec F S1x64x512 .f32) (x14 : Vec F S1x64x512 .f32) (x15 : Vec F S1x1x8x512 .f32) (x24 : Vec F S80x512 .f32) (x25
    : Vec F S64x512 .f32) :
    Σ' (L12 : List (View.Piece (Elt F) S32x80x512 .f32)), Σ' (L13 : List (View.Piece (Elt F) S1x64x512 .f32)), Σ' (L14 : List (View.Piece (Elt F)
    S1x64x512 .f32)), Σ' (L15 : List (View.Piece (Elt F) S1x1x8x512 .f32)), Σ' (L24 : List (View.Piece (Elt F) S80x512 .f32)), { L25 : List (View.Piece (Elt F) S64x512 .f32) //
      ∀ (E : Set ℕ) (K : PUnit → sProp 𝕄),
        iprop(owns (c : Thread nD τ) m5 fullShare x5 ∗ owns (c : Thread nD τ) m7 fullShare x7 ∗ owns (c : Thread nD τ) m9 fullShare x9 ∗ owns (c : Thread nD
    τ) m20 fullShare x20 ∗ owns (c : Thread nD τ) m21 fullShare x21
            ∗ owns (c : Thread nD τ) m12 fullShare x12 ∗ owns (c : Thread nD τ) m13 fullShare x13 ∗ owns (c : Thread nD τ) m14 fullShare x14 ∗ owns (c :
    Thread nD τ) m15 fullShare x15 ∗ owns (c : Thread nD τ) m24 fullShare x24 ∗ owns (c : Thread nD τ) m25 fullShare x25
            ∗ (iprop(owns (c : Thread nD τ) m5 fullShare x5 ∗ owns (c : Thread nD τ) m7 fullShare x7 ∗ owns (c : Thread nD τ) m9 fullShare x9 ∗ owns (c : Thread nD
    τ) m20 fullShare x20 ∗ owns (c : Thread nD τ) m21 fullShare x21
              ∗ (m12.view.loc (c : Thread nD τ) ↦[m12.view.set]{fullShare} m12.view.writes (Elt F) (z12.unread x12) L12) ∗ (m13.view.loc (c : Thread nD τ)
    ↦[m13.view.set]{fullShare} m13.view.writes (Elt F) (z13.unread x13) L13) ∗ (m14.view.loc (c : Thread nD τ) ↦[m14.view.set]{fullShare}
    m14.view.writes (Elt F) (z14.unread x14) L14) ∗ (m15.view.loc (c : Thread nD τ) ↦[m15.view.set]{fullShare} m15.view.writes (Elt F)
    (z15.unread x15) L15) ∗ (m24.view.loc (c : Thread nD τ) ↦[m24.view.set]{fullShare} m24.view.writes (Elt F) (z24.unread x24) L24) ∗
    (m25.view.loc (c : Thread nD τ) ↦[m25.view.set]{fullShare} m25.view.writes (Elt F) (z25.unread x25) L25)) -∗ K ⟨⟩))
          ⊢ wp frame (wpE (defs₀ (F := F)) 𝒱₀ (c : Thread nD τ) none) E
            ((k0_part34 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6 hw2 v19 v156 v164 v165 v167) >>= fun _ => finish m14 m15 m24 m25) K } := by
  refine ⟨?_, ?_, ?_, ?_, ?_, ?_, fun E K => ?run⟩
  case run =>
    simp only [k0_part34_eq_skeleton, k0_part28_eq_skeleton]
    unfold k0_part34_skel
    unfold finish
    simp only [dif_neg h2, dif_neg h3, if_pos h1]
    unfold owns
    iintro ⟨⟨%f5, %hf5, H5⟩, ⟨%f7, %hf7, H7⟩, ⟨%f9, %hf9, H9⟩, ⟨%f20, %hf20, H20⟩, ⟨%f21, %hf21, H21⟩, ⟨%f12, %hf12, H12⟩, ⟨%f13, %hf13, H13⟩, ⟨%f14, %hf14, H14⟩, ⟨%f15, %hf15, H15⟩, ⟨%f24, %hf24, H24⟩, ⟨%f25, %hf25, H25⟩, Hk⟩
    obtain rfl := z5.eq_unread hf5; obtain rfl := z7.eq_unread hf7; obtain rfl := z9.eq_unread hf9; obtain rfl := z20.eq_unread hf20; obtain rfl := z21.eq_unread hf21; obtain rfl := z12.eq_unread hf12; obtain rfl := z13.eq_unread hf13; obtain rfl := z14.eq_unread hf14; obtain rfl := z15.eq_unread hf15; obtain rfl := z24.eq_unread hf24; obtain rfl := z25.eq_unread hf25
    sl_exec
    sl_step
    iapply Hk
    isplitl [H5]
    · iexists _; isplitr; · ipureintro; exact z5.read_unread _
      iexact H5
    isplitl [H7]
    · iexists _; isplitr; · ipureintro; exact z7.read_unread _
      iexact H7
    isplitl [H9]
    · iexists _; isplitr; · ipureintro; exact z9.read_unread _
      iexact H9
    isplitl [H20]
    · iexists _; isplitr; · ipureintro; exact z20.read_unread _
      iexact H20
    isplitl [H21]
    · iexists _; isplitr; · ipureintro; exact z21.read_unread _
      iexact H21
    isplitl [H12]; · iexact H12
    isplitl [H13]; · iexact H13
    isplitl [H14]; · iexact H14
    isplitl [H15]; · iexact H15
    isplitl [H24]; · iexact H24
    iexact H25

end Cert.AttnBwdIdeal.Own

end
-- ==== Proof.AttnEndEven.lean ====
module

public import proofs.«01_k».proof.Proof.AttnEndOne

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- The end of a step with an even number of blocks: the last two blocks. -/
def endEven (c : Dev nD) (i : grid0.Coords) (v0 v6 : BitVec 32) (hw2 : k0_chk2 i v6) (v19 v156 v164 : BitVec 32) (v165 : BitVec 1) (v167 : BitVec 32) (h2 : k0_cond2 i v6 = 1#1) (h3 : ¬k0_cond3 i v6 = 1#1) (h1 : ¬Scalar.cmpi .ne (Scalar.extui (Scalar.cmpi .eq v19 1#32)) 0#32 = 1#1)
    (x5 : Vec F S32x128x512 .bf16) (x7 : Vec F S1x80x512 .bf16) (x9 : Vec F S32x128x512 .bf16) (x10 : Vec F S1x32x1x512 .f32) (x11 : Vec F S1x32x1x512
    .f32) (x18 : Vec F S512x512 .f32) (x19 : Vec F S512x512 .f32) (x20 : Vec F S512x512 .bf16) (x21 : Vec F S512x512 .bf16)
    (x12 : Vec F S32x80x512 .f32) (x13 : Vec F S1x64x512 .f32) (x14 : Vec F S1x64x512 .f32) (x15 : Vec F S1x1x8x512 .f32) (x22 : Vec F S512x512 .bf16)
    (x23 : Vec F S512x512 .bf16) (x24 : Vec F S80x512 .f32) (x25 : Vec F S64x512 .f32) :
    Σ' (L12 : List (View.Piece (Elt F) S32x80x512 .f32)), Σ' (L13 : List (View.Piece (Elt F) S1x64x512 .f32)), Σ' (L14 : List (View.Piece (Elt F)
    S1x64x512 .f32)), Σ' (L15 : List (View.Piece (Elt F) S1x1x8x512 .f32)), Σ' (L22 : List (View.Piece (Elt F) S512x512 .bf16)), Σ' (L23 : List
    (View.Piece (Elt F) S512x512 .bf16)), Σ' (L24 : List (View.Piece (Elt F) S80x512 .f32)), { L25 : List (View.Piece (Elt F) S64x512 .f32) //
      ∀ (E : Set ℕ) (K : PUnit → sProp 𝕄),
        iprop(owns (c : Thread nD τ) m5 fullShare x5 ∗ owns (c : Thread nD τ) m7 fullShare x7 ∗ owns (c : Thread nD τ) m9 fullShare x9 ∗ owns (c : Thread nD
    τ) m10 fullShare x10 ∗ owns (c : Thread nD τ) m11 fullShare x11 ∗ owns (c : Thread nD τ) m18 fullShare x18 ∗ owns (c : Thread nD τ) m19
    fullShare x19 ∗ owns (c : Thread nD τ) m20 fullShare x20 ∗ owns (c : Thread nD τ) m21 fullShare x21
            ∗ owns (c : Thread nD τ) m12 fullShare x12 ∗ owns (c : Thread nD τ) m13 fullShare x13 ∗ owns (c : Thread nD τ) m14 fullShare x14 ∗ owns (c :
    Thread nD τ) m15 fullShare x15 ∗ owns (c : Thread nD τ) m22 fullShare x22 ∗ owns (c : Thread nD τ) m23 fullShare x23 ∗ owns (c : Thread nD
    τ) m24 fullShare x24 ∗ owns (c : Thread nD τ) m25 fullShare x25
            ∗ (iprop(owns (c : Thread nD τ) m5 fullShare x5 ∗ owns (c : Thread nD τ) m7 fullShare x7 ∗ owns (c : Thread nD τ) m9 fullShare x9 ∗ owns (c : Thread nD
    τ) m10 fullShare x10 ∗ owns (c : Thread nD τ) m11 fullShare x11 ∗ owns (c : Thread nD τ) m18 fullShare x18 ∗ owns (c : Thread nD τ) m19
    fullShare x19 ∗ owns (c : Thread nD τ) m20 fullShare x20 ∗ owns (c : Thread nD τ) m21 fullShare x21
              ∗ (m12.view.loc (c : Thread nD τ) ↦[m12.view.set]{fullShare} m12.view.writes (Elt F) (z12.unread x12) L12) ∗ (m13.view.loc (c : Thread nD τ)
    ↦[m13.view.set]{fullShare} m13.view.writes (Elt F) (z13.unread x13) L13) ∗ (m14.view.loc (c : Thread nD τ) ↦[m14.view.set]{fullShare}
    m14.view.writes (Elt F) (z14.unread x14) L14) ∗ (m15.view.loc (c : Thread nD τ) ↦[m15.view.set]{fullShare} m15.view.writes (Elt F)
    (z15.unread x15) L15) ∗ (m22.view.loc (c : Thread nD τ) ↦[m22.view.set]{fullShare} m22.view.writes (Elt F) (z22.unread x22) L22) ∗
    (m23.view.loc (c : Thread nD τ) ↦[m23.view.set]{fullShare} m23.view.writes (Elt F) (z23.unread x23) L23) ∗ (m24.view.loc (c : Thread nD
    τ) ↦[m24.view.set]{fullShare} m24.view.writes (Elt F) (z24.unread x24) L24) ∗ (m25.view.loc (c : Thread nD τ)
    ↦[m25.view.set]{fullShare} m25.view.writes (Elt F) (z25.unread x25) L25)) -∗ K ⟨⟩))
          ⊢ wp frame (wpE (defs₀ (F := F)) 𝒱₀ (c : Thread nD τ) none) E
            ((k0_part34 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6 hw2 v19 v156 v164 v165 v167) >>= fun _ => finish m14 m15 m24 m25) K } := by
  refine ⟨?_, ?_, ?_, ?_, ?_, ?_, ?_, ?_, fun E K => ?run⟩
  case run =>
    simp only [k0_part34_eq_skeleton, k0_part19_eq_skeleton, k0_part20_eq_skeleton]
    unfold k0_part34_skel
    unfold finish
    simp only [dif_pos h2, dif_neg h3, if_neg h1]
    unfold owns
    iintro ⟨⟨%f5, %hf5, H5⟩, ⟨%f7, %hf7, H7⟩, ⟨%f9, %hf9, H9⟩, ⟨%f10, %hf10, H10⟩, ⟨%f11, %hf11, H11⟩, ⟨%f18, %hf18, H18⟩, ⟨%f19, %hf19, H19⟩, ⟨%f20, %hf20, H20⟩, ⟨%f21, %hf21, H21⟩, ⟨%f12, %hf12, H12⟩, ⟨%f13, %hf13, H13⟩, ⟨%f14, %hf14, H14⟩, ⟨%f15, %hf15, H15⟩, ⟨%f22, %hf22, H22⟩, ⟨%f23, %hf23, H23⟩, ⟨%f24, %hf24, H24⟩, ⟨%f25, %hf25, H25⟩, Hk⟩
    obtain rfl := z5.eq_unread hf5; obtain rfl := z7.eq_unread hf7; obtain rfl := z9.eq_unread hf9; obtain rfl := z10.eq_unread hf10; obtain rfl := z11.eq_unread hf11; obtain rfl := z18.eq_unread hf18; obtain rfl := z19.eq_unread hf19; obtain rfl := z20.eq_unread hf20; obtain rfl := z21.eq_unread hf21; obtain rfl := z12.eq_unread hf12; obtain rfl := z13.eq_unread hf13; obtain rfl := z14.eq_unread hf14; obtain rfl := z15.eq_unread hf15; obtain rfl := z22.eq_unread hf22; obtain rfl := z23.eq_unread hf23; obtain rfl := z24.eq_unread hf24; obtain rfl := z25.eq_unread hf25
    sl_exec
    sl_step
    iapply Hk
    isplitl [H5]
    · iexists _; isplitr; · ipureintro; exact z5.read_unread _
      iexact H5
    isplitl [H7]
    · iexists _; isplitr; · ipureintro; exact z7.read_unread _
      iexact H7
    isplitl [H9]
    · iexists _; isplitr; · ipureintro; exact z9.read_unread _
      iexact H9
    isplitl [H10]
    · iexists _; isplitr; · ipureintro; exact z10.read_unread _
      iexact H10
    isplitl [H11]
    · iexists _; isplitr; · ipureintro; exact z11.read_unread _
      iexact H11
    isplitl [H18]
    · iexists _; isplitr; · ipureintro; exact z18.read_unread _
      iexact H18
    isplitl [H19]
    · iexists _; isplitr; · ipureintro; exact z19.read_unread _
      iexact H19
    isplitl [H20]
    · iexists _; isplitr; · ipureintro; exact z20.read_unread _
      iexact H20
    isplitl [H21]
    · iexists _; isplitr; · ipureintro; exact z21.read_unread _
      iexact H21
    isplitl [H12]; · iexact H12
    isplitl [H13]; · iexact H13
    isplitl [H14]; · iexact H14
    isplitl [H15]; · iexact H15
    isplitl [H22]; · iexact H22
    isplitl [H23]; · iexact H23
    isplitl [H24]; · iexact H24
    iexact H25

end Cert.AttnBwdIdeal.Own

end
-- ==== Proof.AttnEndOdd.lean ====
module

public import proofs.«01_k».proof.Proof.AttnEndOne

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m2 : Memref sig .tc .smem S8x32 .f32) (z2 : m2.IsWhole) (m3 : Memref sig .tc .smem S8x32 .f32) (z3 : m3.IsWhole) (m4 :
    Memref sig .tc .smem S8 .f32) (z4 : m4.IsWhole) (m5 : Memref sig .tc .vmem S32x128x512 .bf16) (z5 : m5.IsWhole) (m6 : Memref sig .tc
    .vmem S1x512x128 .bf16) (z6 : m6.IsWhole) (m7 : Memref sig .tc .vmem S1x80x512 .bf16) (z7 : m7.IsWhole) (m8 : Memref sig .tc .vmem
    S1x512x128 .bf16) (z8 : m8.IsWhole) (m9 : Memref sig .tc .vmem S32x128x512 .bf16) (z9 : m9.IsWhole) (m10 : Memref sig .tc .vmem
    S1x32x1x512 .f32) (z10 : m10.IsWhole) (m11 : Memref sig .tc .vmem S1x32x1x512 .f32) (z11 : m11.IsWhole) (m12 : Memref sig .tc .vmem
    S32x80x512 .f32) (z12 : m12.IsWhole) (m13 : Memref sig .tc .vmem S1x64x512 .f32) (z13 : m13.IsWhole) (m14 : Memref sig .tc .vmem
    S1x64x512 .f32) (z14 : m14.IsWhole) (m15 : Memref sig .tc .vmem S1x1x8x512 .f32) (z15 : m15.IsWhole) (m16 : Memref sig .tc .vmem
    S512x512 .f32) (z16 : m16.IsWhole) (m17 : Memref sig .tc .vmem S512x512 .f32) (z17 : m17.IsWhole) (m18 : Memref sig .tc .vmem
    S512x512 .f32) (z18 : m18.IsWhole) (m19 : Memref sig .tc .vmem S512x512 .f32) (z19 : m19.IsWhole) (m20 : Memref sig .tc .vmem
    S512x512 .bf16) (z20 : m20.IsWhole) (m21 : Memref sig .tc .vmem S512x512 .bf16) (z21 : m21.IsWhole) (m22 : Memref sig .tc .vmem
    S512x512 .bf16) (z22 : m22.IsWhole) (m23 : Memref sig .tc .vmem S512x512 .bf16) (z23 : m23.IsWhole) (m24 : Memref sig .tc .vmem
    S80x512 .f32) (z24 : m24.IsWhole) (m25 : Memref sig .tc .vmem S64x512 .f32) (z25 : m25.IsWhole)

set_option maxHeartbeats 4000000 in
/-- The end of a step with an odd number of blocks: the last three blocks. -/
def endOdd (c : Dev nD) (i : grid0.Coords) (v0 v6 : BitVec 32) (hw2 : k0_chk2 i v6) (v19 v156 v164 : BitVec 32) (v165 : BitVec 1) (v167 : BitVec 32) (h2 : ¬k0_cond2 i v6 = 1#1) (h3 : k0_cond3 i v6 = 1#1) (h1 : ¬Scalar.cmpi .ne (Scalar.extui (Scalar.cmpi .eq v19 1#32)) 0#32 = 1#1)
    (x5 : Vec F S32x128x512 .bf16) (x6 : Vec F S1x512x128 .bf16) (x7 : Vec F S1x80x512 .bf16) (x8 : Vec F S1x512x128 .bf16) (x9 : Vec F S32x128x512 .bf16)
    (x10 : Vec F S1x32x1x512 .f32) (x11 : Vec F S1x32x1x512 .f32) (x18 : Vec F S512x512 .f32) (x19 : Vec F S512x512 .f32)
    (x12 : Vec F S32x80x512 .f32) (x13 : Vec F S1x64x512 .f32) (x14 : Vec F S1x64x512 .f32) (x15 : Vec F S1x1x8x512 .f32) (x16 : Vec F S512x512 .f32) (x17
    : Vec F S512x512 .f32) (x20 : Vec F S512x512 .bf16) (x21 : Vec F S512x512 .bf16) (x22 : Vec F S512x512 .bf16) (x23 : Vec F S512x512 .bf16) (x24 :
    Vec F S80x512 .f32) (x25 : Vec F S64x512 .f32) :
    Σ' (L12 : List (View.Piece (Elt F) S32x80x512 .f32)), Σ' (L13 : List (View.Piece (Elt F) S1x64x512 .f32)), Σ' (L14 : List (View.Piece (Elt F)
    S1x64x512 .f32)), Σ' (L15 : List (View.Piece (Elt F) S1x1x8x512 .f32)), Σ' (L16 : List (View.Piece (Elt F) S512x512 .f32)), Σ' (L17 : List
    (View.Piece (Elt F) S512x512 .f32)), Σ' (L20 : List (View.Piece (Elt F) S512x512 .bf16)), Σ' (L21 : List (View.Piece (Elt F) S512x512 .bf16)), Σ'
    (L22 : List (View.Piece (Elt F) S512x512 .bf16)), Σ' (L23 : List (View.Piece (Elt F) S512x512 .bf16)), Σ' (L24 : List (View.Piece (Elt F) S80x512
    .f32)), { L25 : List (View.Piece (Elt F) S64x512 .f32) //
      ∀ (E : Set ℕ) (K : PUnit → sProp 𝕄),
        iprop(owns (c : Thread nD τ) m5 fullShare x5 ∗ owns (c : Thread nD τ) m6 fullShare x6 ∗ owns (c : Thread nD τ) m7 fullShare x7 ∗ owns (c : Thread nD
    τ) m8 fullShare x8 ∗ owns (c : Thread nD τ) m9 fullShare x9 ∗ owns (c : Thread nD τ) m10 fullShare x10 ∗ owns (c : Thread nD τ) m11
    fullShare x11 ∗ owns (c : Thread nD τ) m18 fullShare x18 ∗ owns (c : Thread nD τ) m19 fullShare x19
            ∗ owns (c : Thread nD τ) m12 fullShare x12 ∗ owns (c : Thread nD τ) m13 fullShare x13 ∗ owns (c : Thread nD τ) m14 fullShare x14 ∗ owns (c :
    Thread nD τ) m15 fullShare x15 ∗ owns (c : Thread nD τ) m16 fullShare x16 ∗ owns (c : Thread nD τ) m17 fullShare x17 ∗ owns (c : Thread nD
    τ) m20 fullShare x20 ∗ owns (c : Thread nD τ) m21 fullShare x21 ∗ owns (c : Thread nD τ) m22 fullShare x22 ∗ owns (c : Thread nD τ) m23
    fullShare x23 ∗ owns (c : Thread nD τ) m24 fullShare x24 ∗ owns (c : Thread nD τ) m25 fullShare x25
            ∗ (iprop(owns (c : Thread nD τ) m5 fullShare x5 ∗ owns (c : Thread nD τ) m6 fullShare x6 ∗ owns (c : Thread nD τ) m7 fullShare x7 ∗ owns (c : Thread nD
    τ) m8 fullShare x8 ∗ owns (c : Thread nD τ) m9 fullShare x9 ∗ owns (c : Thread nD τ) m10 fullShare x10 ∗ owns (c : Thread nD τ) m11
    fullShare x11 ∗ owns (c : Thread nD τ) m18 fullShare x18 ∗ owns (c : Thread nD τ) m19 fullShare x19
              ∗ (m12.view.loc (c : Thread nD τ) ↦[m12.view.set]{fullShare} m12.view.writes (Elt F) (z12.unread x12) L12) ∗ (m13.view.loc (c : Thread nD τ)
    ↦[m13.view.set]{fullShare} m13.view.writes (Elt F) (z13.unread x13) L13) ∗ (m14.view.loc (c : Thread nD τ) ↦[m14.view.set]{fullShare}
    m14.view.writes (Elt F) (z14.unread x14) L14) ∗ (m15.view.loc (c : Thread nD τ) ↦[m15.view.set]{fullShare} m15.view.writes (Elt F)
    (z15.unread x15) L15) ∗ (m16.view.loc (c : Thread nD τ) ↦[m16.view.set]{fullShare} m16.view.writes (Elt F) (z16.unread x16) L16) ∗
    (m17.view.loc (c : Thread nD τ) ↦[m17.view.set]{fullShare} m17.view.writes (Elt F) (z17.unread x17) L17) ∗ (m20.view.loc (c : Thread nD
    τ) ↦[m20.view.set]{fullShare} m20.view.writes (Elt F) (z20.unread x20) L20) ∗ (m21.view.loc (c : Thread nD τ)
    ↦[m21.view.set]{fullShare} m21.view.writes (Elt F) (z21.unread x21) L21) ∗ (m22.view.loc (c : Thread nD τ) ↦[m22.view.set]{fullShare}
    m22.view.writes (Elt F) (z22.unread x22) L22) ∗ (m23.view.loc (c : Thread nD τ) ↦[m23.view.set]{fullShare} m23.view.writes (Elt F)
    (z23.unread x23) L23) ∗ (m24.view.loc (c : Thread nD τ) ↦[m24.view.set]{fullShare} m24.view.writes (Elt F) (z24.unread x24) L24) ∗
    (m25.view.loc (c : Thread nD τ) ↦[m25.view.set]{fullShare} m25.view.writes (Elt F) (z25.unread x25) L25)) -∗ K ⟨⟩))
          ⊢ wp frame (wpE (defs₀ (F := F)) 𝒱₀ (c : Thread nD τ) none) E
            ((k0_part34 (F := F) i m2 z2 m3 z3 m4 z4 m5 z5 m6 z6 m7 z7 m8 z8 m9 z9 m10 z10 m11 z11 m12 z12 m13 z13 m14
    z14 m15 z15 m16 z16 m17 z17 m18 z18 m19 z19 m20 z20 m21 z21 m22 z22 m23 z23 m24 z24 m25
    z25 v0 v6 hw2 v19 v156 v164 v165 v167) >>= fun _ => finish m14 m15 m24 m25) K } := by
  refine ⟨?_, ?_, ?_, ?_, ?_, ?_, ?_, ?_, ?_, ?_, ?_, ?_, fun E K => ?run⟩
  case run =>
    simp only [k0_part34_eq_skeleton, k0_part21_eq_skeleton, k0_part22_eq_skeleton, k0_part23_eq_skeleton, k0_part24_eq_skeleton, k0_part25_eq_skeleton, k0_part26_eq_skeleton, k0_part27_eq_skeleton]
    unfold k0_part34_skel
    unfold finish
    simp only [dif_neg h2, dif_pos h3, if_neg h1]
    unfold owns
    iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f18, %hf18, H18⟩, ⟨%f19, %hf19, H19⟩, ⟨%f12, %hf12, H12⟩, ⟨%f13, %hf13, H13⟩, ⟨%f14, %hf14, H14⟩, ⟨%f15, %hf15, H15⟩, ⟨%f16, %hf16, H16⟩, ⟨%f17, %hf17, H17⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := z5.eq_unread hf5; obtain rfl := z6.eq_unread hf6; obtain rfl := z7.eq_unread hf7; obtain rfl := z8.eq_unread hf8; obtain rfl := z9.eq_unread hf9; obtain rfl := z10.eq_unread hf10; obtain rfl := z11.eq_unread hf11; obtain rfl := z18.eq_unread hf18; obtain rfl := z19.eq_unread hf19; obtain rfl := z12.eq_unread hf12; obtain rfl := z13.eq_unread hf13; obtain rfl := z14.eq_unread hf14; obtain rfl := z15.eq_unread hf15; obtain rfl := z16.eq_unread hf16; obtain rfl := z17.eq_unread hf17; obtain rfl := z20.eq_unread hf20; obtain rfl := z21.eq_unread hf21; obtain rfl := z22.eq_unread hf22; obtain rfl := z23.eq_unread hf23; obtain rfl := z24.eq_unread hf24; obtain rfl := z25.eq_unread hf25
    sl_exec
    sl_step
    iapply Hk
    isplitl [H5]
    · iexists _; isplitr; · ipureintro; exact z5.read_unread _
      iexact H5
    isplitl [H6]
    · iexists _; isplitr; · ipureintro; exact z6.read_unread _
      iexact H6
    isplitl [H7]
    · iexists _; isplitr; · ipureintro; exact z7.read_unread _
      iexact H7
    isplitl [H8]
    · iexists _; isplitr; · ipureintro; exact z8.read_unread _
      iexact H8
    isplitl [H9]
    · iexists _; isplitr; · ipureintro; exact z9.read_unread _
      iexact H9
    isplitl [H10]
    · iexists _; isplitr; · ipureintro; exact z10.read_unread _
      iexact H10
    isplitl [H11]
    · iexists _; isplitr; · ipureintro; exact z11.read_unread _
      iexact H11
    isplitl [H18]
    · iexists _; isplitr; · ipureintro; exact z18.read_unread _
      iexact H18
    isplitl [H19]
    · iexists _; isplitr; · ipureintro; exact z19.read_unread _
      iexact H19
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H21]; · iexact H21
    isplitl [H22]; · iexact H22
    isplitl [H23]; · iexact H23
    isplitl [H24]; · iexact H24
    iexact H25

end Cert.AttnBwdIdeal.Own

end
-- ==== Proof.AttnStage.lean ====
module

public import proofs.«01_k».proof.Proof.AttnStart
public import proofs.«01_k».proof.Proof.AttnOwn
public import proofs.«01_k».proof.Proof.AttnEndEven
public import proofs.«01_k».proof.Proof.AttnEndOdd

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers a step is called with. -/
structure Mems where
  m2 : Memref sig .tc .smem S8x32 .f32
  z2 : m2.IsWhole
  m3 : Memref sig .tc .smem S8x32 .f32
  z3 : m3.IsWhole
  m4 : Memref sig .tc .smem S8 .f32
  z4 : m4.IsWhole
  m5 : Memref sig .tc .vmem S32x128x512 .bf16
  z5 : m5.IsWhole
  m6 : Memref sig .tc .vmem S1x512x128 .bf16
  z6 : m6.IsWhole
  m7 : Memref sig .tc .vmem S1x80x512 .bf16
  z7 : m7.IsWhole
  m8 : Memref sig .tc .vmem S1x512x128 .bf16
  z8 : m8.IsWhole
  m9 : Memref sig .tc .vmem S32x128x512 .bf16
  z9 : m9.IsWhole
  m10 : Memref sig .tc .vmem S1x32x1x512 .f32
  z10 : m10.IsWhole
  m11 : Memref sig .tc .vmem S1x32x1x512 .f32
  z11 : m11.IsWhole
  m12 : Memref sig .tc .vmem S32x80x512 .f32
  z12 : m12.IsWhole
  m13 : Memref sig .tc .vmem S1x64x512 .f32
  z13 : m13.IsWhole
  m14 : Memref sig .tc .vmem S1x64x512 .f32
  z14 : m14.IsWhole
  m15 : Memref sig .tc .vmem S1x1x8x512 .f32
  z15 : m15.IsWhole
  m16 : Memref sig .tc .vmem S512x512 .f32
  z16 : m16.IsWhole
  m17 : Memref sig .tc .vmem S512x512 .f32
  z17 : m17.IsWhole
  m18 : Memref sig .tc .vmem S512x512 .f32
  z18 : m18.IsWhole
  m19 : Memref sig .tc .vmem S512x512 .f32
  z19 : m19.IsWhole
  m20 : Memref sig .tc .vmem S512x512 .bf16
  z20 : m20.IsWhole
  m21 : Memref sig .tc .vmem S512x512 .bf16
  z21 : m21.IsWhole
  m22 : Memref sig .tc .vmem S512x512 .bf16
  z22 : m22.IsWhole
  m23 : Memref sig .tc .vmem S512x512 .bf16
  z23 : m23.IsWhole
  m24 : Memref sig .tc .vmem S80x512 .f32
  z24 : m24.IsWhole
  m25 : Memref sig .tc .vmem S64x512 .f32
  z25 : m25.IsWhole

/-- The contents of the buffers a step only reads. -/
structure Ins (F : FTy → Type) [FloatOps F] where
  x2 : Vec F S8x32 .f32
  x3 : Vec F S8x32 .f32
  x4 : Vec F S8 .f32
  x5 : Vec F S32x128x512 .bf16
  x6 : Vec F S1x512x128 .bf16
  x7 : Vec F S1x80x512 .bf16
  x8 : Vec F S1x512x128 .bf16
  x9 : Vec F S32x128x512 .bf16
  x10 : Vec F S1x32x1x512 .f32
  x11 : Vec F S1x32x1x512 .f32

/-- The contents of the buffers a step writes. -/
structure Bufs (F : FTy → Type) [FloatOps F] where
  a12 : Vec F S32x80x512 .f32
  a13 : Vec F S1x64x512 .f32
  a14 : Vec F S1x64x512 .f32
  a15 : Vec F S1x1x8x512 .f32
  a16 : Vec F S512x512 .f32
  a17 : Vec F S512x512 .f32
  a18 : Vec F S512x512 .f32
  a19 : Vec F S512x512 .f32
  a20 : Vec F S512x512 .bf16
  a21 : Vec F S512x512 .bf16
  a22 : Vec F S512x512 .bf16
  a23 : Vec F S512x512 .bf16
  a24 : Vec F S80x512 .f32
  a25 : Vec F S64x512 .f32

variable (A : Mems) (c : Dev nD) (i : grid0.Coords) (x : Ins F) (b : Bufs F)

/-- The buffers a step only reads, held at their contents. -/
def ins : sProp 𝕄 := iprop(owns (c : Thread nD τ) A.m2 fullShare x.x2 ∗ owns (c : Thread nD τ) A.m3 fullShare x.x3 ∗ owns (c : Thread nD τ) A.m4 fullShare x.x4 ∗ owns (c :
    Thread nD τ) A.m5 fullShare x.x5 ∗ owns (c : Thread nD τ) A.m6 fullShare x.x6 ∗ owns (c : Thread nD τ) A.m7 fullShare x.x7 ∗ owns (c :
    Thread nD τ) A.m8 fullShare x.x8 ∗ owns (c : Thread nD τ) A.m9 fullShare x.x9 ∗ owns (c : Thread nD τ) A.m10 fullShare x.x10 ∗ owns (c :
    Thread nD τ) A.m11 fullShare x.x11)

/-- The buffers a step writes, held at their contents. -/
def bufs : sProp 𝕄 := iprop(owns (c : Thread nD τ) A.m12 fullShare b.a12 ∗ owns (c : Thread nD τ) A.m13 fullShare b.a13 ∗ owns (c : Thread nD τ) A.m14 fullShare b.a14 ∗
    owns (c : Thread nD τ) A.m15 fullShare b.a15 ∗ owns (c : Thread nD τ) A.m16 fullShare b.a16 ∗ owns (c : Thread nD τ) A.m17 fullShare b.a17 ∗
    owns (c : Thread nD τ) A.m18 fullShare b.a18 ∗ owns (c : Thread nD τ) A.m19 fullShare b.a19 ∗ owns (c : Thread nD τ) A.m20 fullShare b.a20 ∗
    owns (c : Thread nD τ) A.m21 fullShare b.a21 ∗ owns (c : Thread nD τ) A.m22 fullShare b.a22 ∗ owns (c : Thread nD τ) A.m23 fullShare b.a23 ∗
    owns (c : Thread nD τ) A.m24 fullShare b.a24 ∗ owns (c : Thread nD τ) A.m25 fullShare b.a25)

/-- A buffer held at some contents is held at what those contents read as. -/
theorem owns_read {sp : Space} {sh : Shape} {e : EltTy} (m : Memref sig .tc sp sh e) (f : m.view.ty.Contents (Elt F)) :
    (m.view.loc (c : Thread nD τ) ↦[m.view.set]{fullShare} f : sProp 𝕄) ⊢ owns (c : Thread nD τ) m fullShare (m.view.read (Elt F) f) := by
  unfold owns
  iintro H
  iexists _; isplitr
  · ipureintro; rfl
  · iexact H

/-- The first step of a head up to the first product: what was found of it. -/
abbrev Mems.startR (h1 : Scalar.cmpi .ne (Scalar.extui (Scalar.cmpi .eq (BitVec.ofNat 32 (i 1).val) 0#32)) 0#32 = 1#1) := start A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i h1 x.x2 x.x3 x.x4 x.x5 x.x6 b.a12 b.a16 b.a24 b.a25

/-- The first step of a head up to the first product: the contents it leaves. -/
def Mems.start (h1 : Scalar.cmpi .ne (Scalar.extui (Scalar.cmpi .eq (BitVec.ofNat 32 (i 1).val) 0#32)) 0#32 = 1#1) : Bufs F :=
  let r := A.startR c i x b h1
  { b with
      a12 := A.m12.view.read (Elt F) (A.m12.view.writes (Elt F) (A.z12.unread b.a12) r.2.1),
      a16 := A.m16.view.read (Elt F) (A.m16.view.writes (Elt F) (A.z16.unread b.a16) r.2.2.1),
      a24 := A.m24.view.read (Elt F) (A.m24.view.writes (Elt F) (A.z24.unread b.a24) r.2.2.2.1),
      a25 := A.m25.view.read (Elt F) (A.m25.view.writes (Elt F) (A.z25.unread b.a25) r.2.2.2.2.1) }

theorem Mems.start_wp (h1 : Scalar.cmpi .ne (Scalar.extui (Scalar.cmpi .eq (BitVec.ofNat 32 (i 1).val) 0#32)) 0#32 = 1#1) (E : Set ℕ) (K : _ → sProp 𝕄) :
    iprop(ins A c x ∗ bufs A c b ∗ (iprop(ins A c x ∗ bufs A c (A.start c i x b h1)) -∗ K (A.startR c i x b h1).1))
      ⊢ wp frame (wpE (defs₀ (F := F)) 𝒱₀ (c : Thread nD τ) none) E (k0_part29 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25) K := by
  unfold ins bufs
  iintro ⟨⟨H2, H3, H4, H5, H6, H7, H8, H9, H10, H11⟩, ⟨H12, H13, H14, H15, H16, H17, H18, H19, H20, H21, H22, H23, H24, H25⟩, Hk⟩
  iapply ((A.startR c i x b h1).2.2.2.2.2 E K)
  iframe H2 H3 H4 H5 H6 H12 H16 H24 H25
  iintro ⟨H2, H3, H4, H5, H6, H12, H16, H24, H25⟩
  iapply Hk
  iframe H2 H3 H4 H5 H6 H7 H8 H9 H10 H11 H13 H14 H15 H17 H18 H19 H20 H21 H22 H23
  isplitl [H12]; · iapply (owns_read c A.m12); iexact H12
  isplitl [H16]; · iapply (owns_read c A.m16); iexact H16
  isplitl [H24]; · iapply (owns_read c A.m24); iexact H24
  iapply (owns_read c A.m25); iexact H25

/-- A later step of a head up to the first product: what was found of it. -/
abbrev Mems.nextR (h1 : ¬Scalar.cmpi .ne (Scalar.extui (Scalar.cmpi .eq (BitVec.ofNat 32 (i 1).val) 0#32)) 0#32 = 1#1) := next A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i h1 x.x2 x.x3 x.x4 x.x5 x.x6 b.a16 b.a24 b.a25

/-- A later step of a head up to the first product: the contents it leaves. -/
def Mems.next (h1 : ¬Scalar.cmpi .ne (Scalar.extui (Scalar.cmpi .eq (BitVec.ofNat 32 (i 1).val) 0#32)) 0#32 = 1#1) : Bufs F :=
  let r := A.nextR c i x b h1
  { b with
      a16 := A.m16.view.read (Elt F) (A.m16.view.writes (Elt F) (A.z16.unread b.a16) r.2.1),
      a24 := A.m24.view.read (Elt F) (A.m24.view.writes (Elt F) (A.z24.unread b.a24) r.2.2.1),
      a25 := A.m25.view.read (Elt F) (A.m25.view.writes (Elt F) (A.z25.unread b.a25) r.2.2.2.1) }

theorem Mems.next_wp (h1 : ¬Scalar.cmpi .ne (Scalar.extui (Scalar.cmpi .eq (BitVec.ofNat 32 (i 1).val) 0#32)) 0#32 = 1#1) (E : Set ℕ) (K : _ → sProp 𝕄) :
    iprop(ins A c x ∗ bufs A c b ∗ (iprop(ins A c x ∗ bufs A c (A.next c i x b h1)) -∗ K (A.nextR c i x b h1).1))
      ⊢ wp frame (wpE (defs₀ (F := F)) 𝒱₀ (c : Thread nD τ) none) E (k0_part29 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25) K := by
  unfold ins bufs
  iintro ⟨⟨H2, H3, H4, H5, H6, H7, H8, H9, H10, H11⟩, ⟨H12, H13, H14, H15, H16, H17, H18, H19, H20, H21, H22, H23, H24, H25⟩, Hk⟩
  iapply ((A.nextR c i x b h1).2.2.2.2 E K)
  iframe H2 H3 H4 H5 H6 H16 H24 H25
  iintro ⟨H2, H3, H4, H5, H6, H16, H24, H25⟩
  iapply Hk
  iframe H2 H3 H4 H5 H6 H7 H8 H9 H10 H11 H12 H13 H14 H15 H17 H18 H19 H20 H21 H22 H23
  isplitl [H16]; · iapply (owns_read c A.m16); iexact H16
  isplitl [H24]; · iapply (owns_read c A.m24); iexact H24
  iapply (owns_read c A.m25); iexact H25

/-- The products of the own block: what was found of it. -/
abbrev Mems.diagR (v0 v6 : BitVec 32) := diag A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 x.x5 x.x6 x.x8 x.x9 b.a16 b.a17

/-- The products of the own block: the contents it leaves. -/
def Mems.diag (v0 v6 : BitVec 32) : Bufs F :=
  let r := A.diagR c i x b v0 v6
  { b with
      a16 := A.m16.view.read (Elt F) (A.m16.view.writes (Elt F) (A.z16.unread b.a16) r.2.1),
      a17 := A.m17.view.read (Elt F) (A.m17.view.writes (Elt F) (A.z17.unread b.a17) r.2.2.1) }

theorem Mems.diag_wp (v0 v6 : BitVec 32) (E : Set ℕ) (K : _ → sProp 𝕄) :
    iprop(ins A c x ∗ bufs A c b ∗ (iprop(ins A c x ∗ bufs A c (A.diag c i x b v0 v6)) -∗ K (A.diagR c i x b v0 v6).1))
      ⊢ wp frame (wpE (defs₀ (F := F)) 𝒱₀ (c : Thread nD τ) none) E (k0_part30 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6) K := by
  unfold ins bufs
  iintro ⟨⟨H2, H3, H4, H5, H6, H7, H8, H9, H10, H11⟩, ⟨H12, H13, H14, H15, H16, H17, H18, H19, H20, H21, H22, H23, H24, H25⟩, Hk⟩
  iapply ((A.diagR c i x b v0 v6).2.2.2 E K)
  iframe H5 H6 H8 H9 H16 H17
  iintro ⟨H5, H6, H8, H9, H16, H17⟩
  iapply Hk
  iframe H2 H3 H4 H5 H6 H7 H8 H9 H10 H11 H12 H13 H14 H15 H18 H19 H20 H21 H22 H23 H24 H25
  isplitl [H16]; · iapply (owns_read c A.m16); iexact H16
  iapply (owns_read c A.m17); iexact H17

/-- The products of the next block: what was found of it. -/
abbrev Mems.aheadR (v0 v6 : BitVec 32) (hw2 : k0_chk2 i v6) (v57 : BitVec 32) (v59 : FVec F S512x128 .bf16) := ahead A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 hw2 v57 v59 x.x5 x.x8 x.x9 x.x10 x.x11 b.a16 b.a18 b.a19

/-- The products of the next block: the contents it leaves. -/
def Mems.ahead (v0 v6 : BitVec 32) (hw2 : k0_chk2 i v6) (v57 : BitVec 32) (v59 : FVec F S512x128 .bf16) : Bufs F :=
  let r := A.aheadR c i x b v0 v6 hw2 v57 v59
  { b with
      a18 := A.m18.view.read (Elt F) (A.m18.view.writes (Elt F) (A.z18.unread b.a18) r.2.1),
      a19 := A.m19.view.read (Elt F) (A.m19.view.writes (Elt F) (A.z19.unread b.a19) r.2.2.1) }

theorem Mems.ahead_wp (v0 v6 : BitVec 32) (hw2 : k0_chk2 i v6) (v57 : BitVec 32) (v59 : FVec F S512x128 .bf16) (E : Set ℕ) (K : _ → sProp 𝕄) :
    iprop(ins A c x ∗ bufs A c b ∗ (iprop(ins A c x ∗ bufs A c (A.ahead c i x b v0 v6 hw2 v57 v59)) -∗ K (A.aheadR c i x b v0 v6 hw2 v57 v59).1))
      ⊢ wp frame (wpE (defs₀ (F := F)) 𝒱₀ (c : Thread nD τ) none) E (k0_part31 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v57 v59) K := by
  unfold ins bufs
  iintro ⟨⟨H2, H3, H4, H5, H6, H7, H8, H9, H10, H11⟩, ⟨H12, H13, H14, H15, H16, H17, H18, H19, H20, H21, H22, H23, H24, H25⟩, Hk⟩
  iapply ((A.aheadR c i x b v0 v6 hw2 v57 v59).2.2.2 E K)
  iframe H5 H8 H9 H10 H11 H16 H18 H19
  iintro ⟨H5, H8, H9, H10, H11, H16, H18, H19⟩
  iapply Hk
  iframe H2 H3 H4 H5 H6 H7 H8 H9 H10 H11 H12 H13 H14 H15 H16 H17 H20 H21 H22 H23 H24 H25
  isplitl [H18]; · iapply (owns_read c A.m18); iexact H18
  iapply (owns_read c A.m19); iexact H19

/-- The probabilities of the own block: what was found of it. -/
abbrev Mems.ownR (v78 v81 : FVec F S1x512 .f32) (v90 : FVec F S256x512 .f32) (v91 : FVec F S256x512 .bf16) := own A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v78 v81 v90 v91 b.a16 b.a17 b.a20 b.a21

/-- The probabilities of the own block: the contents it leaves. -/
def Mems.own (v78 v81 : FVec F S1x512 .f32) (v90 : FVec F S256x512 .f32) (v91 : FVec F S256x512 .bf16) : Bufs F :=
  let r := A.ownR c i b v78 v81 v90 v91
  { b with
      a20 := A.m20.view.read (Elt F) (A.m20.view.writes (Elt F) (A.z20.unread b.a20) r.2.1),
      a21 := A.m21.view.read (Elt F) (A.m21.view.writes (Elt F) (A.z21.unread b.a21) r.2.2.1) }

theorem Mems.own_wp (v78 v81 : FVec F S1x512 .f32) (v90 : FVec F S256x512 .f32) (v91 : FVec F S256x512 .bf16) (E : Set ℕ) (K : _ → sProp 𝕄) :
    iprop(ins A c x ∗ bufs A c b ∗ (iprop(ins A c x ∗ bufs A c (A.own c i b v78 v81 v90 v91)) -∗ K (A.ownR c i b v78 v81 v90 v91).1))
      ⊢ wp frame (wpE (defs₀ (F := F)) 𝒱₀ (c : Thread nD τ) none) E (k0_part32 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v78 v81 v90 v91) K := by
  unfold ins bufs
  iintro ⟨⟨H2, H3, H4, H5, H6, H7, H8, H9, H10, H11⟩, ⟨H12, H13, H14, H15, H16, H17, H18, H19, H20, H21, H22, H23, H24, H25⟩, Hk⟩
  iapply ((A.ownR c i b v78 v81 v90 v91).2.2.2 E K)
  iframe H16 H17 H20 H21
  iintro ⟨H16, H17, H20, H21⟩
  iapply Hk
  iframe H2 H3 H4 H5 H6 H7 H8 H9 H10 H11 H12 H13 H14 H15 H16 H17 H18 H19 H22 H23 H24 H25
  isplitl [H20]; · iapply (owns_read c A.m20); iexact H20
  iapply (owns_read c A.m21); iexact H21

/-- The end of a step with one block: what was found of it. -/
abbrev Mems.endOneR (v0 v6 : BitVec 32) (hw2 : k0_chk2 i v6) (v19 v156 v164 : BitVec 32) (v165 : BitVec 1) (v167 : BitVec 32) (h2 : ¬k0_cond2 i v6 = 1#1) (h3 : ¬k0_cond3 i v6 = 1#1) (h1 : Scalar.cmpi .ne (Scalar.extui (Scalar.cmpi .eq v19 1#32)) 0#32 = 1#1) := endOne A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 hw2 v19 v156 v164 v165 v167 h2 h3 h1 x.x5 x.x7 x.x9 b.a20 b.a21 b.a12 b.a13 b.a14 b.a15 b.a24 b.a25

/-- The end of a step with one block: the contents it leaves. -/
def Mems.endOne (v0 v6 : BitVec 32) (hw2 : k0_chk2 i v6) (v19 v156 v164 : BitVec 32) (v165 : BitVec 1) (v167 : BitVec 32) (h2 : ¬k0_cond2 i v6 = 1#1) (h3 : ¬k0_cond3 i v6 = 1#1) (h1 : Scalar.cmpi .ne (Scalar.extui (Scalar.cmpi .eq v19 1#32)) 0#32 = 1#1) : Bufs F :=
  let r := A.endOneR c i x b v0 v6 hw2 v19 v156 v164 v165 v167 h2 h3 h1
  { b with
      a12 := A.m12.view.read (Elt F) (A.m12.view.writes (Elt F) (A.z12.unread b.a12) r.1),
      a13 := A.m13.view.read (Elt F) (A.m13.view.writes (Elt F) (A.z13.unread b.a13) r.2.1),
      a14 := A.m14.view.read (Elt F) (A.m14.view.writes (Elt F) (A.z14.unread b.a14) r.2.2.1),
      a15 := A.m15.view.read (Elt F) (A.m15.view.writes (Elt F) (A.z15.unread b.a15) r.2.2.2.1),
      a24 := A.m24.view.read (Elt F) (A.m24.view.writes (Elt F) (A.z24.unread b.a24) r.2.2.2.2.1),
      a25 := A.m25.view.read (Elt F) (A.m25.view.writes (Elt F) (A.z25.unread b.a25) r.2.2.2.2.2.1) }

theorem Mems.endOne_wp (v0 v6 : BitVec 32) (hw2 : k0_chk2 i v6) (v19 v156 v164 : BitVec 32) (v165 : BitVec 1) (v167 : BitVec 32) (h2 : ¬k0_cond2 i v6 = 1#1) (h3 : ¬k0_cond3 i v6 = 1#1) (h1 : Scalar.cmpi .ne (Scalar.extui (Scalar.cmpi .eq v19 1#32)) 0#32 = 1#1) (E : Set ℕ) (K : _ → sProp 𝕄) :
    iprop(ins A c x ∗ bufs A c b ∗ (iprop(ins A c x ∗ bufs A c (A.endOne c i x b v0 v6 hw2 v19 v156 v164 v165 v167 h2 h3 h1)) -∗ K ⟨⟩))
      ⊢ wp frame (wpE (defs₀ (F := F)) 𝒱₀ (c : Thread nD τ) none) E ((k0_part34 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v156 v164 v165 v167) >>= fun _ => finish A.m14 A.m15 A.m24 A.m25) K := by
  unfold ins bufs
  iintro ⟨⟨H2, H3, H4, H5, H6, H7, H8, H9, H10, H11⟩, ⟨H12, H13, H14, H15, H16, H17, H18, H19, H20, H21, H22, H23, H24, H25⟩, Hk⟩
  iapply ((A.endOneR c i x b v0 v6 hw2 v19 v156 v164 v165 v167 h2 h3 h1).2.2.2.2.2.2 E K)
  iframe H5 H7 H9 H20 H21 H12 H13 H14 H15 H24 H25
  iintro ⟨H5, H7, H9, H20, H21, H12, H13, H14, H15, H24, H25⟩
  iapply Hk
  iframe H2 H3 H4 H5 H6 H7 H8 H9 H10 H11 H16 H17 H18 H19 H20 H21 H22 H23
  isplitl [H12]; · iapply (owns_read c A.m12); iexact H12
  isplitl [H13]; · iapply (owns_read c A.m13); iexact H13
  isplitl [H14]; · iapply (owns_read c A.m14); iexact H14
  isplitl [H15]; · iapply (owns_read c A.m15); iexact H15
  isplitl [H24]; · iapply (owns_read c A.m24); iexact H24
  iapply (owns_read c A.m25); iexact H25

/-- The end of a step with an even number of blocks: what was found of it. -/
abbrev Mems.endEvenR (v0 v6 : BitVec 32) (hw2 : k0_chk2 i v6) (v19 v156 v164 : BitVec 32) (v165 : BitVec 1) (v167 : BitVec 32) (h2 : k0_cond2 i v6 = 1#1) (h3 : ¬k0_cond3 i v6 = 1#1) (h1 : ¬Scalar.cmpi .ne (Scalar.extui (Scalar.cmpi .eq v19 1#32)) 0#32 = 1#1) := endEven A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 hw2 v19 v156 v164 v165 v167 h2 h3 h1 x.x5 x.x7 x.x9 x.x10 x.x11 b.a18 b.a19 b.a20 b.a21 b.a12 b.a13 b.a14 b.a15 b.a22 b.a23 b.a24 b.a25

/-- The end of a step with an even number of blocks: the contents it leaves. -/
def Mems.endEven (v0 v6 : BitVec 32) (hw2 : k0_chk2 i v6) (v19 v156 v164 : BitVec 32) (v165 : BitVec 1) (v167 : BitVec 32) (h2 : k0_cond2 i v6 = 1#1) (h3 : ¬k0_cond3 i v6 = 1#1) (h1 : ¬Scalar.cmpi .ne (Scalar.extui (Scalar.cmpi .eq v19 1#32)) 0#32 = 1#1) : Bufs F :=
  let r := A.endEvenR c i x b v0 v6 hw2 v19 v156 v164 v165 v167 h2 h3 h1
  { b with
      a12 := A.m12.view.read (Elt F) (A.m12.view.writes (Elt F) (A.z12.unread b.a12) r.1),
      a13 := A.m13.view.read (Elt F) (A.m13.view.writes (Elt F) (A.z13.unread b.a13) r.2.1),
      a14 := A.m14.view.read (Elt F) (A.m14.view.writes (Elt F) (A.z14.unread b.a14) r.2.2.1),
      a15 := A.m15.view.read (Elt F) (A.m15.view.writes (Elt F) (A.z15.unread b.a15) r.2.2.2.1),
      a22 := A.m22.view.read (Elt F) (A.m22.view.writes (Elt F) (A.z22.unread b.a22) r.2.2.2.2.1),
      a23 := A.m23.view.read (Elt F) (A.m23.view.writes (Elt F) (A.z23.unread b.a23) r.2.2.2.2.2.1),
      a24 := A.m24.view.read (Elt F) (A.m24.view.writes (Elt F) (A.z24.unread b.a24) r.2.2.2.2.2.2.1),
      a25 := A.m25.view.read (Elt F) (A.m25.view.writes (Elt F) (A.z25.unread b.a25) r.2.2.2.2.2.2.2.1) }

theorem Mems.endEven_wp (v0 v6 : BitVec 32) (hw2 : k0_chk2 i v6) (v19 v156 v164 : BitVec 32) (v165 : BitVec 1) (v167 : BitVec 32) (h2 : k0_cond2 i v6 = 1#1) (h3 : ¬k0_cond3 i v6 = 1#1) (h1 : ¬Scalar.cmpi .ne (Scalar.extui (Scalar.cmpi .eq v19 1#32)) 0#32 = 1#1) (E : Set ℕ) (K : _ → sProp 𝕄) :
    iprop(ins A c x ∗ bufs A c b ∗ (iprop(ins A c x ∗ bufs A c (A.endEven c i x b v0 v6 hw2 v19 v156 v164 v165 v167 h2 h3 h1)) -∗ K ⟨⟩))
      ⊢ wp frame (wpE (defs₀ (F := F)) 𝒱₀ (c : Thread nD τ) none) E ((k0_part34 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v156 v164 v165 v167) >>= fun _ => finish A.m14 A.m15 A.m24 A.m25) K := by
  unfold ins bufs
  iintro ⟨⟨H2, H3, H4, H5, H6, H7, H8, H9, H10, H11⟩, ⟨H12, H13, H14, H15, H16, H17, H18, H19, H20, H21, H22, H23, H24, H25⟩, Hk⟩
  iapply ((A.endEvenR c i x b v0 v6 hw2 v19 v156 v164 v165 v167 h2 h3 h1).2.2.2.2.2.2.2.2 E K)
  iframe H5 H7 H9 H10 H11 H18 H19 H20 H21 H12 H13 H14 H15 H22 H23 H24 H25
  iintro ⟨H5, H7, H9, H10, H11, H18, H19, H20, H21, H12, H13, H14, H15, H22, H23, H24, H25⟩
  iapply Hk
  iframe H2 H3 H4 H5 H6 H7 H8 H9 H10 H11 H16 H17 H18 H19 H20 H21
  isplitl [H12]; · iapply (owns_read c A.m12); iexact H12
  isplitl [H13]; · iapply (owns_read c A.m13); iexact H13
  isplitl [H14]; · iapply (owns_read c A.m14); iexact H14
  isplitl [H15]; · iapply (owns_read c A.m15); iexact H15
  isplitl [H22]; · iapply (owns_read c A.m22); iexact H22
  isplitl [H23]; · iapply (owns_read c A.m23); iexact H23
  isplitl [H24]; · iapply (owns_read c A.m24); iexact H24
  iapply (owns_read c A.m25); iexact H25

/-- The end of a step with an odd number of blocks: what was found of it. -/
abbrev Mems.endOddR (v0 v6 : BitVec 32) (hw2 : k0_chk2 i v6) (v19 v156 v164 : BitVec 32) (v165 : BitVec 1) (v167 : BitVec 32) (h2 : ¬k0_cond2 i v6 = 1#1) (h3 : k0_cond3 i v6 = 1#1) (h1 : ¬Scalar.cmpi .ne (Scalar.extui (Scalar.cmpi .eq v19 1#32)) 0#32 = 1#1) := endOdd A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 hw2 v19 v156 v164 v165 v167 h2 h3 h1 x.x5 x.x6 x.x7 x.x8 x.x9 x.x10 x.x11 b.a18 b.a19 b.a12 b.a13 b.a14 b.a15 b.a16 b.a17 b.a20 b.a21 b.a22 b.a23 b.a24 b.a25

/-- The end of a step with an odd number of blocks: the contents it leaves. -/
def Mems.endOdd (v0 v6 : BitVec 32) (hw2 : k0_chk2 i v6) (v19 v156 v164 : BitVec 32) (v165 : BitVec 1) (v167 : BitVec 32) (h2 : ¬k0_cond2 i v6 = 1#1) (h3 : k0_cond3 i v6 = 1#1) (h1 : ¬Scalar.cmpi .ne (Scalar.extui (Scalar.cmpi .eq v19 1#32)) 0#32 = 1#1) : Bufs F :=
  let r := A.endOddR c i x b v0 v6 hw2 v19 v156 v164 v165 v167 h2 h3 h1
  { b with
      a12 := A.m12.view.read (Elt F) (A.m12.view.writes (Elt F) (A.z12.unread b.a12) r.1),
      a13 := A.m13.view.read (Elt F) (A.m13.view.writes (Elt F) (A.z13.unread b.a13) r.2.1),
      a14 := A.m14.view.read (Elt F) (A.m14.view.writes (Elt F) (A.z14.unread b.a14) r.2.2.1),
      a15 := A.m15.view.read (Elt F) (A.m15.view.writes (Elt F) (A.z15.unread b.a15) r.2.2.2.1),
      a16 := A.m16.view.read (Elt F) (A.m16.view.writes (Elt F) (A.z16.unread b.a16) r.2.2.2.2.1),
      a17 := A.m17.view.read (Elt F) (A.m17.view.writes (Elt F) (A.z17.unread b.a17) r.2.2.2.2.2.1),
      a20 := A.m20.view.read (Elt F) (A.m20.view.writes (Elt F) (A.z20.unread b.a20) r.2.2.2.2.2.2.1),
      a21 := A.m21.view.read (Elt F) (A.m21.view.writes (Elt F) (A.z21.unread b.a21) r.2.2.2.2.2.2.2.1),
      a22 := A.m22.view.read (Elt F) (A.m22.view.writes (Elt F) (A.z22.unread b.a22) r.2.2.2.2.2.2.2.2.1),
      a23 := A.m23.view.read (Elt F) (A.m23.view.writes (Elt F) (A.z23.unread b.a23) r.2.2.2.2.2.2.2.2.2.1),
      a24 := A.m24.view.read (Elt F) (A.m24.view.writes (Elt F) (A.z24.unread b.a24) r.2.2.2.2.2.2.2.2.2.2.1),
      a25 := A.m25.view.read (Elt F) (A.m25.view.writes (Elt F) (A.z25.unread b.a25) r.2.2.2.2.2.2.2.2.2.2.2.1) }

theorem Mems.endOdd_wp (v0 v6 : BitVec 32) (hw2 : k0_chk2 i v6) (v19 v156 v164 : BitVec 32) (v165 : BitVec 1) (v167 : BitVec 32) (h2 : ¬k0_cond2 i v6 = 1#1) (h3 : k0_cond3 i v6 = 1#1) (h1 : ¬Scalar.cmpi .ne (Scalar.extui (Scalar.cmpi .eq v19 1#32)) 0#32 = 1#1) (E : Set ℕ) (K : _ → sProp 𝕄) :
    iprop(ins A c x ∗ bufs A c b ∗ (iprop(ins A c x ∗ bufs A c (A.endOdd c i x b v0 v6 hw2 v19 v156 v164 v165 v167 h2 h3 h1)) -∗ K ⟨⟩))
      ⊢ wp frame (wpE (defs₀ (F := F)) 𝒱₀ (c : Thread nD τ) none) E ((k0_part34 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v156 v164 v165 v167) >>= fun _ => finish A.m14 A.m15 A.m24 A.m25) K := by
  unfold ins bufs
  iintro ⟨⟨H2, H3, H4, H5, H6, H7, H8, H9, H10, H11⟩, ⟨H12, H13, H14, H15, H16, H17, H18, H19, H20, H21, H22, H23, H24, H25⟩, Hk⟩
  iapply ((A.endOddR c i x b v0 v6 hw2 v19 v156 v164 v165 v167 h2 h3 h1).2.2.2.2.2.2.2.2.2.2.2.2 E K)
  iframe H5 H6 H7 H8 H9 H10 H11 H18 H19 H12 H13 H14 H15 H16 H17 H20 H21 H22 H23 H24 H25
  iintro ⟨H5, H6, H7, H8, H9, H10, H11, H18, H19, H12, H13, H14, H15, H16, H17, H20, H21, H22, H23, H24, H25⟩
  iapply Hk
  iframe H2 H3 H4 H5 H6 H7 H8 H9 H10 H11 H18 H19
  isplitl [H12]; · iapply (owns_read c A.m12); iexact H12
  isplitl [H13]; · iapply (owns_read c A.m13); iexact H13
  isplitl [H14]; · iapply (owns_read c A.m14); iexact H14
  isplitl [H15]; · iapply (owns_read c A.m15); iexact H15
  isplitl [H16]; · iapply (owns_read c A.m16); iexact H16
  isplitl [H17]; · iapply (owns_read c A.m17); iexact H17
  isplitl [H20]; · iapply (owns_read c A.m20); iexact H20
  isplitl [H21]; · iapply (owns_read c A.m21); iexact H21
  isplitl [H22]; · iapply (owns_read c A.m22); iexact H22
  isplitl [H23]; · iapply (owns_read c A.m23); iexact H23
  isplitl [H24]; · iapply (owns_read c A.m24); iexact H24
  iapply (owns_read c A.m25); iexact H25

/-- One trip of the loop: what was found of it. -/
abbrev Mems.tripR (v0 v6 : BitVec 32) (hw2 : k0_chk2 i v6) (v19 : BitVec 32) (v132 : FVec F S256x256 .bf16) (v133 : Vec F S256x256 .bf16) (k : Fin (k0_t1_loop i v6).trips) := trip A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 c i v0 v6 hw2 v19 v132 v133 k x.x5 x.x6 x.x7 x.x8 x.x9 x.x10 x.x11 b.a12 b.a16 b.a17 b.a18 b.a19 b.a20 b.a21 b.a22 b.a23 b.a24 b.a25

/-- One trip of the loop: the contents it leaves. -/
def Mems.trip (v0 v6 : BitVec 32) (hw2 : k0_chk2 i v6) (v19 : BitVec 32) (v132 : FVec F S256x256 .bf16) (v133 : Vec F S256x256 .bf16) (k : Fin (k0_t1_loop i v6).trips) : Bufs F :=
  let r := A.tripR c i x b v0 v6 hw2 v19 v132 v133 k
  { b with
      a12 := A.m12.view.read (Elt F) (A.m12.view.writes (Elt F) (A.z12.unread b.a12) r.1),
      a16 := A.m16.view.read (Elt F) (A.m16.view.writes (Elt F) (A.z16.unread b.a16) r.2.1),
      a17 := A.m17.view.read (Elt F) (A.m17.view.writes (Elt F) (A.z17.unread b.a17) r.2.2.1),
      a18 := A.m18.view.read (Elt F) (A.m18.view.writes (Elt F) (A.z18.unread b.a18) r.2.2.2.1),
      a19 := A.m19.view.read (Elt F) (A.m19.view.writes (Elt F) (A.z19.unread b.a19) r.2.2.2.2.1),
      a20 := A.m20.view.read (Elt F) (A.m20.view.writes (Elt F) (A.z20.unread b.a20) r.2.2.2.2.2.1),
      a21 := A.m21.view.read (Elt F) (A.m21.view.writes (Elt F) (A.z21.unread b.a21) r.2.2.2.2.2.2.1),
      a22 := A.m22.view.read (Elt F) (A.m22.view.writes (Elt F) (A.z22.unread b.a22) r.2.2.2.2.2.2.2.1),
      a23 := A.m23.view.read (Elt F) (A.m23.view.writes (Elt F) (A.z23.unread b.a23) r.2.2.2.2.2.2.2.2.1),
      a24 := A.m24.view.read (Elt F) (A.m24.view.writes (Elt F) (A.z24.unread b.a24) r.2.2.2.2.2.2.2.2.2.1),
      a25 := A.m25.view.read (Elt F) (A.m25.view.writes (Elt F) (A.z25.unread b.a25) r.2.2.2.2.2.2.2.2.2.2.1) }

theorem Mems.trip_wp (v0 v6 : BitVec 32) (hw2 : k0_chk2 i v6) (v19 : BitVec 32) (v132 : FVec F S256x256 .bf16) (v133 : Vec F S256x256 .bf16) (k : Fin (k0_t1_loop i v6).trips) (E : Set ℕ) (K : _ → sProp 𝕄) :
    iprop(ins A c x ∗ bufs A c b ∗ (iprop(ins A c x ∗ bufs A c (A.trip c i x b v0 v6 hw2 v19 v132 v133 k)) -∗ K ⟨⟩))
      ⊢ wp frame (wpE (defs₀ (F := F)) 𝒱₀ (c : Thread nD τ) none) E (k0_t1_body (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v132 v133 k ()) K := by
  unfold ins bufs
  iintro ⟨⟨H2, H3, H4, H5, H6, H7, H8, H9, H10, H11⟩, ⟨H12, H13, H14, H15, H16, H17, H18, H19, H20, H21, H22, H23, H24, H25⟩, Hk⟩
  iapply ((A.tripR c i x b v0 v6 hw2 v19 v132 v133 k).2.2.2.2.2.2.2.2.2.2.2 E K)
  iframe H5 H6 H7 H8 H9 H10 H11 H12 H16 H17 H18 H19 H20 H21 H22 H23 H24 H25
  iintro ⟨H5, H6, H7, H8, H9, H10, H11, H12, H16, H17, H18, H19, H20, H21, H22, H23, H24, H25⟩
  iapply Hk
  iframe H2 H3 H4 H5 H6 H7 H8 H9 H10 H11 H13 H14 H15
  isplitl [H12]; · iapply (owns_read c A.m12); iexact H12
  isplitl [H16]; · iapply (owns_read c A.m16); iexact H16
  isplitl [H17]; · iapply (owns_read c A.m17); iexact H17
  isplitl [H18]; · iapply (owns_read c A.m18); iexact H18
  isplitl [H19]; · iapply (owns_read c A.m19); iexact H19
  isplitl [H20]; · iapply (owns_read c A.m20); iexact H20
  isplitl [H21]; · iapply (owns_read c A.m21); iexact H21
  isplitl [H22]; · iapply (owns_read c A.m22); iexact H22
  isplitl [H23]; · iapply (owns_read c A.m23); iexact H23
  isplitl [H24]; · iapply (owns_read c A.m24); iexact H24
  iapply (owns_read c A.m25); iexact H25

end Cert.AttnBwdIdeal.Own

end
-- ==== Proof.AttnBody.lean ====
module

public import proofs.«01_k».proof.Proof.AttnStage

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (A : Mems) (c : Dev nD) (i : grid0.Coords) (x : Ins F) (b : Bufs F)

/-- A buffer held at contents that read as `X` is held at those contents. -/
theorem owns_open {sp : Space} {sh : Shape} {e : EltTy} (m : Memref sig .tc sp sh e) (h : m.IsWhole) (X : sh.Idx → Elt F e) :
    (owns (c : Thread nD τ) m fullShare X : sProp 𝕄) ⊢ (m.view.loc (c : Thread nD τ) ↦[m.view.set]{fullShare} h.unread X) := by
  unfold owns
  iintro ⟨%f, %hf, H⟩
  obtain rfl := h.eq_unread hf
  iexact H

section Loop

variable (v0 v6 : BitVec 32) (hw2 : k0_chk2 i v6) (v19 : BitVec 32) (v132 : FVec F S256x256 .bf16) (v133 : Vec F S256x256 .bf16)

/-- The buffers after `n` trips of the loop. -/
def Mems.trips : ℕ → Bufs F
  | 0 => b
  | n + 1 => if h : n < (k0_t1_loop i v6).trips then A.trip c i x (Mems.trips n) v0 v6 hw2 v19 v132 v133 ⟨n, h⟩ else Mems.trips n

/-- The buffers after the loop. -/
def Mems.loop : Bufs F := Mems.trips A c i x b v0 v6 hw2 v19 v132 v133 (k0_t1_loop i v6).trips

/-- The second counted loop has no trip: the count of pairs is whole. -/
theorem rest_trips (h : k0_chk2 i v6) (h2 : ∃ n, 31 - (i 1).val ≤ n ∧ n ≤ 31 ∧ v6 = BitVec.ofNat 32 n) : (k0_t2_loop i v6).trips = 0 := by
  obtain ⟨n, h1, h2, rfl⟩ := h2
  have key : ∀ s n : Fin 32, 31 - s.val ≤ n.val → (k0_t2_loop (at0 s) (BitVec.ofNat 32 n.val)).trips = 0 := by
    decide +kernel
  exact key (i 1) ⟨n, by omega⟩ h1

/-- The buffers before the loop: the last blocks of the own probabilities and gradients are stored. -/
def Mems.put : Bufs F :=
  { b with
      a20 := A.m20.view.read (Elt F) (A.m20.view.writes (Elt F) (A.z20.unread b.a20)
        [⟨Rect.unit (s := S512x512) ![256, 0] S256x256.size inb_S512x512_S256x256_256_0, k0_pay151 v132⟩])
      a21 := A.m21.view.read (Elt F) (A.m21.view.writes (Elt F) (A.z21.unread b.a21)
        [⟨Rect.unit (s := S512x512) ![256, 0] S256x256.size inb_S512x512_S256x256_256_0, k0_pay152 (F := F)⟩]) }

/-- A trip takes the buffers after `k` trips to those after `k + 1`. -/
theorem trips_step (E : Set ℕ) (k : Fin (k0_t1_loop i v6).trips) :
    iprop(ins A c x ∗ bufs A c (Mems.trips A c i x b v0 v6 hw2 v19 v132 v133 k.val))
      ⊢ wp frame (wpE (defs₀ (F := F)) 𝒱₀ (c : Thread nD τ) none) E (k0_t1_body (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v132 v133 k ())
          (fun _ => iprop(ins A c x ∗ bufs A c (Mems.trips A c i x b v0 v6 hw2 v19 v132 v133 (k.val + 1)))) := by
  rw [show Mems.trips A c i x b v0 v6 hw2 v19 v132 v133 (k.val + 1) = A.trip c i x (Mems.trips A c i x b v0 v6 hw2 v19 v132 v133 k.val) v0 v6 hw2 v19 v132 v133 k from dif_pos k.isLt]
  iintro ⟨HI, HB⟩
  iapply (A.trip_wp c i x _ v0 v6 hw2 v19 v132 v133 k E)
  iframe HI HB
  iintro ⟨HI, HB⟩
  iframe HI HB

/-- The counted loops of a step: what they leave, and the words after them. -/
def Mems.loopR : { r : (Σ' (v156 : BitVec 32) (v164 : BitVec 32) (v165 : BitVec 1), BitVec 32) //
    (∃ n, 31 - (i 1).val ≤ n ∧ n ≤ 31 ∧ v6 = BitVec.ofNat 32 n) → ∀ (E : Set ℕ) (K : (Σ' (v156 : BitVec 32) (v164 : BitVec 32) (v165 : BitVec 1), BitVec 32) → sProp 𝕄),
      iprop(ins A c x ∗ bufs A c b ∗ (iprop(ins A c x ∗ bufs A c (A.loop c i x (A.put b v132) v0 v6 hw2 v19 v132 v133)) -∗ K r))
        ⊢ wp frame (wpE (defs₀ (F := F)) 𝒱₀ (c : Thread nD τ) none) E (k0_part33 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 v132 v133) K } := by
  refine ⟨?_, fun hn E K => ?run⟩
  case run =>
    simp only [k0_part33_eq_skeleton]
    unfold k0_part33_skel
    simp only [Prog.lift, Prog.bind_op, Prog.bind_ret, Prog.pure_eq_ret]
    iintro ⟨HI, HB, Hk⟩
    unfold bufs
    icases HB with ⟨H12, H13, H14, H15, H16, H17, H18, H19, H20, H21, H22, H23, H24, H25⟩
    ihave H20 := (owns_open c A.m20 A.z20 b.a20) $$ H20
    ihave H21 := (owns_open c A.m21 A.z21 b.a21) $$ H21
    sl_exec
    iapply (Scf.wp_for_bind frame (wpE (defs₀ (F := F)) 𝒱₀ (c : Thread nD τ) none) E _ _ _ _ _ _
      (fun n _ => iprop(ins A c x ∗ bufs A c (Mems.trips A c i x (A.put b v132) v0 v6 hw2 v19 v132 v133 n)))
      (fun k _ => trips_step A c i x (A.put b v132) v0 v6 hw2 v19 v132 v133 E k)) $$ [HI H12 H13 H14 H15 H16 H17 H18 H19 H20 H21 H22 H23 H24 H25]
    · unfold bufs
      iframe HI H12 H13 H14 H15 H16 H17 H18 H19 H22 H23 H24 H25
      isplitl [H20]; · iapply (owns_read c A.m20); iexact H20
      iapply (owns_read c A.m21); iexact H21
    iintro %_ ⟨HI, HB⟩
    iapply (Scf.wp_for_bind frame (wpE (defs₀ (F := F)) 𝒱₀ (c : Thread nD τ) none) E _ _ _ _ _ _
      (fun n _ => iprop(ins A c x ∗ bufs A c (A.loop c i x (A.put b v132) v0 v6 hw2 v19 v132 v133)))
      (fun k _ => ((Nat.not_lt_zero _ (lt_of_lt_of_eq k.isLt (rest_trips i v6 hw2 hn))).elim))) $$ [HI HB]
    · iframe HI HB
    iintro %_ ⟨HI, HB⟩
    sl_step
    unfold bufs
    iapply Hk
    isplitl [HI]
    · iexact HI
    · iexact HB

end Loop

/-- How a step ends: with an even number of blocks, with an odd number of at least three, or with one. -/
theorem ending (v6 : BitVec 32) (h2 : ∃ n, 31 - (i 1).val ≤ n ∧ n ≤ 31 ∧ v6 = BitVec.ofNat 32 n) :
    let one := Scalar.cmpi .ne (Scalar.extui (Scalar.cmpi .eq (Scalar.addi (Scalar.subi v6 (Scalar.subi 31#32 (BitVec.ofNat 32 (i 1).val))) 1#32) 1#32)) 0#32
    (k0_cond2 i v6 = 1#1 ∧ ¬k0_cond3 i v6 = 1#1 ∧ ¬one = 1#1) ∨ (¬k0_cond2 i v6 = 1#1 ∧ k0_cond3 i v6 = 1#1 ∧ ¬one = 1#1)
      ∨ (¬k0_cond2 i v6 = 1#1 ∧ ¬k0_cond3 i v6 = 1#1 ∧ one = 1#1) := by
  obtain ⟨n, h1, h2, rfl⟩ := h2
  have key : ∀ s n : Fin 32, 31 - s.val ≤ n.val →
      let one := Scalar.cmpi .ne (Scalar.extui (Scalar.cmpi .eq (Scalar.addi (Scalar.subi (BitVec.ofNat 32 n.val) (Scalar.subi 31#32 (BitVec.ofNat 32 s.val))) 1#32) 1#32)) 0#32
      (k0_cond2 (at0 s) (BitVec.ofNat 32 n.val) = 1#1 ∧ ¬k0_cond3 (at0 s) (BitVec.ofNat 32 n.val) = 1#1 ∧ ¬one = 1#1)
        ∨ (¬k0_cond2 (at0 s) (BitVec.ofNat 32 n.val) = 1#1 ∧ k0_cond3 (at0 s) (BitVec.ofNat 32 n.val) = 1#1 ∧ ¬one = 1#1)
        ∨ (¬k0_cond2 (at0 s) (BitVec.ofNat 32 n.val) = 1#1 ∧ ¬k0_cond3 (at0 s) (BitVec.ofNat 32 n.val) = 1#1 ∧ one = 1#1) := by
    decide +kernel
  exact key (i 1) ⟨n, by omega⟩ h1

/-- A step up to the first product: what it passes on, and the buffers it leaves. -/
def Mems.first : (Σ' (v0 : BitVec 32) (v6 : BitVec 32) (k0_hw2 : k0_chk2 i v6), BitVec 32) × Bufs F :=
  if h1 : Scalar.cmpi .ne (Scalar.extui (Scalar.cmpi .eq (BitVec.ofNat 32 (i 1).val) 0#32)) 0#32 = 1#1 then ⟨(A.startR c i x b h1).1, A.start c i x b h1⟩ else ⟨(A.nextR c i x b h1).1, A.next c i x b h1⟩

theorem Mems.first_wp (E : Set ℕ) (K : (Σ' (v0 : BitVec 32) (v6 : BitVec 32) (k0_hw2 : k0_chk2 i v6), BitVec 32) → sProp 𝕄) :
    iprop(ins A c x ∗ bufs A c b ∗ (iprop(ins A c x ∗ bufs A c (A.first c i x b).2) -∗ K (A.first c i x b).1))
      ⊢ wp frame (wpE (defs₀ (F := F)) 𝒱₀ (c : Thread nD τ) none) E (k0_part29 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25) K := by
  unfold Mems.first
  split_ifs with h1
  · exact A.start_wp c i x b h1 E K
  · exact A.next_wp c i x b h1 E K

/-- The last block a step takes, as a number. -/
def Mems.top : ℕ :=
  look i A.m2 A.z2 (A.m3.view.readAt (Elt F) (Rect.unit (s := S8x32) (k0_off1 i) S1x1.size (k0_off1_inb i)).toLoadRect (A.z3.unread x.x3) (Shape.Idx.first (show 0 < S1x1.numel by decide)))
    (k0_pay130 (A.m4.view.readAt (Elt F) (Rect.unit (s := S8) (k0_off2 i) S1.size (k0_off2_inb i)).toLoadRect (A.z4.unread x.x4) (Shape.Idx.first (show 0 < S1.numel by decide))))
    x.x2 (i 1).val (31 - (i 1).val)

theorem Mems.top_spec : 31 - (i 1).val ≤ A.top i x ∧ A.top i x ≤ 31 :=
  ⟨look_ge .., le_trans (look_le ..) (le_of_eq (step_add i))⟩

theorem Mems.first_v0 : (A.first c i x b).1.1 = (Scalar.subi 31#32 (BitVec.ofNat 32 (i 1).val)) := by
  unfold Mems.first; split_ifs <;> exact (v0_eq i).symm

theorem Mems.first_v6 : (A.first c i x b).1.2.1 = BitVec.ofNat 32 (A.top i x) := by
  unfold Mems.first; split_ifs <;> rfl

theorem Mems.first_v19 : (A.first c i x b).1.2.2.2 = Scalar.addi (Scalar.subi (A.first c i x b).1.2.1 (A.first c i x b).1.1) 1#32 := by
  unfold Mems.first
  by_cases h1 : Scalar.cmpi .ne (Scalar.extui (Scalar.cmpi .eq (BitVec.ofNat 32 (i 1).val) 0#32)) 0#32 = 1#1
  · rw [dif_pos h1]; rfl
  · rw [dif_neg h1]; rfl

end Cert.AttnBwdIdeal.Own

end
-- ==== Proof.AttnStep.lean ====
module

public import proofs.«01_k».proof.Proof.AttnBody

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (A : Mems) (c : Dev nD) (i : grid0.Coords) (x : Ins F) (b : Bufs F)

/-- The buffers after the end of a step, by the number of blocks. -/
def Mems.last (v0 v6 : BitVec 32) (hw2 : k0_chk2 i v6) (v19 : BitVec 32) (r : (Σ' (v156 : BitVec 32) (v164 : BitVec 32) (v165 : BitVec 1), BitVec 32)) : Bufs F :=
  if h : k0_cond2 i v6 = 1#1 ∧ ¬k0_cond3 i v6 = 1#1 ∧ ¬Scalar.cmpi .ne (Scalar.extui (Scalar.cmpi .eq v19 1#32)) 0#32 = 1#1 then A.endEven c i x b v0 v6 hw2 v19 r.1 r.2.1 r.2.2.1 r.2.2.2 h.1 h.2.1 h.2.2
  else if h : ¬k0_cond2 i v6 = 1#1 ∧ k0_cond3 i v6 = 1#1 ∧ ¬Scalar.cmpi .ne (Scalar.extui (Scalar.cmpi .eq v19 1#32)) 0#32 = 1#1 then A.endOdd c i x b v0 v6 hw2 v19 r.1 r.2.1 r.2.2.1 r.2.2.2 h.1 h.2.1 h.2.2
  else if h : ¬k0_cond2 i v6 = 1#1 ∧ ¬k0_cond3 i v6 = 1#1 ∧ Scalar.cmpi .ne (Scalar.extui (Scalar.cmpi .eq v19 1#32)) 0#32 = 1#1 then A.endOne c i x b v0 v6 hw2 v19 r.1 r.2.1 r.2.2.1 r.2.2.2 h.1 h.2.1 h.2.2
  else b

theorem Mems.last_wp (v0 v6 : BitVec 32) (hw2 : k0_chk2 i v6) (v19 : BitVec 32) (r : (Σ' (v156 : BitVec 32) (v164 : BitVec 32) (v165 : BitVec 1), BitVec 32))
    (hv0 : v0 = (Scalar.subi 31#32 (BitVec.ofNat 32 (i 1).val))) (hv19 : v19 = Scalar.addi (Scalar.subi v6 v0) 1#32)
    (hn : ∃ n, 31 - (i 1).val ≤ n ∧ n ≤ 31 ∧ v6 = BitVec.ofNat 32 n) (E : Set ℕ) (K : PUnit → sProp 𝕄) :
    iprop(ins A c x ∗ bufs A c b ∗ (iprop(ins A c x ∗ bufs A c (A.last c i x b v0 v6 hw2 v19 r)) -∗ K ⟨⟩))
      ⊢ wp frame (wpE (defs₀ (F := F)) 𝒱₀ (c : Thread nD τ) none) E ((k0_part34 (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25 v0 v6 hw2 v19 r.1 r.2.1 r.2.2.1 r.2.2.2) >>= fun _ => finish A.m14 A.m15 A.m24 A.m25) K := by
  have e := ending i v6 hn
  rw [← hv0, ← hv19] at e
  unfold Mems.last
  by_cases h : k0_cond2 i v6 = 1#1 ∧ ¬k0_cond3 i v6 = 1#1 ∧ ¬Scalar.cmpi .ne (Scalar.extui (Scalar.cmpi .eq v19 1#32)) 0#32 = 1#1
  · rw [dif_pos h]; exact A.endEven_wp c i x b v0 v6 hw2 v19 r.1 r.2.1 r.2.2.1 r.2.2.2 h.1 h.2.1 h.2.2 E K
  rw [dif_neg h]
  by_cases h' : ¬k0_cond2 i v6 = 1#1 ∧ k0_cond3 i v6 = 1#1 ∧ ¬Scalar.cmpi .ne (Scalar.extui (Scalar.cmpi .eq v19 1#32)) 0#32 = 1#1
  · rw [dif_pos h']; exact A.endOdd_wp c i x b v0 v6 hw2 v19 r.1 r.2.1 r.2.2.1 r.2.2.2 h'.1 h'.2.1 h'.2.2 E K
  rw [dif_neg h']
  have h'' := (e.resolve_left h).resolve_left h'
  rw [dif_pos h'']; exact A.endOne_wp c i x b v0 v6 hw2 v19 r.1 r.2.1 r.2.2.1 r.2.2.2 h''.1 h''.2.1 h''.2.2 E K

/-- What the first product passes on. -/
def Mems.r1 : (Σ' (v0 : BitVec 32) (v6 : BitVec 32) (k0_hw2 : k0_chk2 i v6), BitVec 32) := (A.first c i x b).1
/-- The buffers before the products of the own block. -/
def Mems.b1 : Bufs F := (A.first c i x b).2
/-- What the products of the own block pass on. -/
def Mems.r2 : (Σ' (v57 : BitVec 32), FVec F S512x128 .bf16) := (A.diagR c i x (A.b1 c i x b) (A.r1 c i x b).1 (A.r1 c i x b).2.1).1
/-- The buffers after the products of the own block. -/
def Mems.b2 : Bufs F := A.diag c i x (A.b1 c i x b) (A.r1 c i x b).1 (A.r1 c i x b).2.1
/-- What the products of the next block pass on. -/
def Mems.r3 : (Σ' (v78 : FVec F S1x512 .f32) (v81 : FVec F S1x512 .f32) (v90 : FVec F S256x512 .f32), FVec F S256x512 .bf16) := (A.aheadR c i x (A.b2 c i x b) (A.r1 c i x b).1 (A.r1 c i x b).2.1 (A.r1 c i x b).2.2.1 (A.r2 c i x b).1 (A.r2 c i x b).2).1
/-- The buffers after the products of the next block. -/
def Mems.b3 : Bufs F := A.ahead c i x (A.b2 c i x b) (A.r1 c i x b).1 (A.r1 c i x b).2.1 (A.r1 c i x b).2.2.1 (A.r2 c i x b).1 (A.r2 c i x b).2
/-- What the probabilities of the own block pass on. -/
def Mems.r4 : (Σ' (v132 : FVec F S256x256 .bf16), Vec F S256x256 .bf16) := (A.ownR c i (A.b3 c i x b) (A.r3 c i x b).1 (A.r3 c i x b).2.1 (A.r3 c i x b).2.2.1 (A.r3 c i x b).2.2.2).1
/-- The buffers after the probabilities of the own block. -/
def Mems.b4 : Bufs F := A.own c i (A.b3 c i x b) (A.r3 c i x b).1 (A.r3 c i x b).2.1 (A.r3 c i x b).2.2.1 (A.r3 c i x b).2.2.2
/-- What the loop passes on. -/
def Mems.r5 : (Σ' (v156 : BitVec 32) (v164 : BitVec 32) (v165 : BitVec 1), BitVec 32) := (A.loopR c i x (A.b4 c i x b) (A.r1 c i x b).1 (A.r1 c i x b).2.1 (A.r1 c i x b).2.2.1 (A.r1 c i x b).2.2.2 (A.r4 c i x b).1 (A.r4 c i x b).2).1
/-- The buffers after the loop. -/
def Mems.b5 : Bufs F := A.loop c i x (A.put (A.b4 c i x b) (A.r4 c i x b).1) (A.r1 c i x b).1 (A.r1 c i x b).2.1 (A.r1 c i x b).2.2.1 (A.r1 c i x b).2.2.2 (A.r4 c i x b).1 (A.r4 c i x b).2
/-- The buffers after a step. -/
def Mems.step : Bufs F := A.last c i x (A.b5 c i x b) (A.r1 c i x b).1 (A.r1 c i x b).2.1 (A.r1 c i x b).2.2.1 (A.r1 c i x b).2.2.2 (A.r5 c i x b)

/-- One step of the kernel takes its buffers from `b` to `A.step c i x b`. -/
theorem Mems.step_wp (E : Set ℕ) (K : PUnit → sProp 𝕄) :
    iprop(ins A c x ∗ bufs A c b ∗ (iprop(ins A c x ∗ bufs A c (A.step c i x b)) -∗ K ⟨⟩))
      ⊢ wp frame (wpE (defs₀ (F := F)) 𝒱₀ (c : Thread nD τ) none) E (cc0_attn_bwd (F := F) i A.m2 A.z2 A.m3 A.z3 A.m4 A.z4 A.m5 A.z5 A.m6 A.z6 A.m7 A.z7 A.m8 A.z8 A.m9 A.z9 A.m10 A.z10 A.m11
    A.z11 A.m12 A.z12 A.m13 A.z13 A.m14 A.z14 A.m15 A.z15 A.m16 A.z16 A.m17 A.z17 A.m18 A.z18 A.m19 A.z19
    A.m20 A.z20 A.m21 A.z21 A.m22 A.z22 A.m23 A.z23 A.m24 A.z24 A.m25 A.z25) K := by
  have hn : ∃ n, 31 - (i 1).val ≤ n ∧ n ≤ 31 ∧ (A.r1 c i x b).2.1 = BitVec.ofNat 32 n :=
    ⟨A.top i x, (A.top_spec i x).1, (A.top_spec i x).2, A.first_v6 c i x b⟩
  rw [cc0_attn_bwd_eq_skeleton]
  unfold cc0_attn_bwd_skel
  iintro ⟨HI, HB, Hk⟩
  rw [wp_bind]
  iapply (A.first_wp c i x b E)
  iframe HI HB
  iintro ⟨HI, HB⟩
  dsimp only
  rw [wp_bind]
  iapply (A.diag_wp c i x (A.b1 c i x b) (A.r1 c i x b).1 (A.r1 c i x b).2.1 E)
  isplitl [HI]; · iexact HI
  isplitl [HB]; · iexact HB
  iintro ⟨HI, HB⟩
  dsimp only
  rw [wp_bind]
  iapply (A.ahead_wp c i x (A.b2 c i x b) (A.r1 c i x b).1 (A.r1 c i x b).2.1 (A.r1 c i x b).2.2.1 (A.r2 c i x b).1 (A.r2 c i x b).2 E)
  isplitl [HI]; · iexact HI
  isplitl [HB]; · iexact HB
  iintro ⟨HI, HB⟩
  dsimp only
  rw [wp_bind]
  iapply (A.own_wp c i x (A.b3 c i x b) (A.r3 c i x b).1 (A.r3 c i x b).2.1 (A.r3 c i x b).2.2.1 (A.r3 c i x b).2.2.2 E)
  isplitl [HI]; · iexact HI
  isplitl [HB]; · iexact HB
  iintro ⟨HI, HB⟩
  rw [wp_bind]
  iapply ((A.loopR c i x (A.b4 c i x b) (A.r1 c i x b).1 (A.r1 c i x b).2.1 (A.r1 c i x b).2.2.1 (A.r1 c i x b).2.2.2 (A.r4 c i x b).1 (A.r4 c i x b).2).2 hn E)
  isplitl [HI]; · iexact HI
  isplitl [HB]; · iexact HB
  iintro ⟨HI, HB⟩
  iapply (A.last_wp c i x (A.b5 c i x b) (A.r1 c i x b).1 (A.r1 c i x b).2.1 (A.r1 c i x b).2.2.1 (A.r1 c i x b).2.2.2 (A.r5 c i x b) (A.first_v0 c i x b) (A.first_v19 c i x b) hn E)
  isplitl [HI]; · iexact HI
  isplitl [HB]; · iexact HB
  iexact Hk

end Cert.AttnBwdIdeal.Own

end
-- ==== Proof.AttnFrame.lean ====
module

public import proofs.«01_k».proof.Proof.AttnStep
public import proofs.«01_k».proof.Proof.Gen.AttnBwdIdeal.Launch
public import proofs.«01_k».proof.Proof.Gen.AttnBwdIdeal.Points

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the kernel -/

/-- What the buffers hold when the kernel starts. -/
def V0 (c : Dev nD) : Valuation τ sig (Elt F) := StableHlo.after (List.flatten [hostOps0, hostOps0_1, hostOps0_2, hostOps0_3, hostOps0_4, hostOps0_5, hostOps0_6]) (fun b => m (c, b))
/-- The same, read at a reference. -/
abbrev V (c : Dev nD) (b : Ref sig .tc) : Buf (Elt F) ((c : Thread nD τ).loc b) := V0 m c (Proc.devRef .tc b)

/-- No host line allocates. -/
theorem pre_fresh : ∀ ops ∈ ([hostOps0, hostOps0_1, hostOps0_2, hostOps0_3, hostOps0_4, hostOps0_5, hostOps0_6] : List (List (HloOp τ sig (Elt F)))), ops.Forall fun op => op.fresh = ∅ := by
  intro ops h
  simp only [List.mem_cons, List.mem_nil_iff, or_false] at h
  rcases h with rfl | rfl | rfl | rfl | rfl | rfl | rfl <;> (simp only [List.Forall]; repeat' constructor)
theorem post_fresh : (hostOps1 : List (HloOp τ sig (Elt F))).Forall fun op => op.fresh = ∅ := by
  simp only [List.Forall]; repeat' constructor

set_option maxHeartbeats 800000 in
/-- The program is the host lines, the kernel and the last host lines. -/
theorem hmain : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (List.forall_iff_forall_mem.mpr pre_fresh) main_chain

/-- The last lines touch no scoped buffer, allocate nothing and write no array the kernel is given. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp post_fresh) op hop

/-- The buffers the last lines write. -/
def tailBufs : Finset (Ref sig .tc) := {main_v107, main_v108, main_v109, main_v110, main_cst_17, main_v111, main_v112, main_v113, main_v114, main_v115, main_v116, main_v117, main_v118}

theorem sfx_writes : ∀ ops ∈ ([hostOps1] : List (List (HloOp τ sig (Elt F)))), ∀ op ∈ ops, ∃ b ∈ tailBufs, op.writes = {Proc.devRef .tc b} := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl
  all_goals exact ⟨_, by decide, rfl⟩
theorem sfx_keeps : ∀ ops ∈ ([hostOps1] : List (List (HloOp τ sig (Elt F)))), ∀ op ∈ ops,
    ∀ w, Proc.devRef .tc (Pipeline.arrRef spec0 w) ∉ op.writes := by
  intro ops hops op hop w hw
  obtain ⟨b, hb, e⟩ := sfx_writes ops hops op hop
  rw [e, Finset.mem_singleton] at hw
  have : ∀ w, ∀ b ∈ tailBufs, Pipeline.arrRef spec0 w ≠ b := by decide
  exact StableHlo.devRef_ne_of_ne (this w b hb) hw
theorem sfx_tail : ∀ ops ∈ ([hostOps1] : List (List (HloOp τ sig (Elt F)))), ∀ op ∈ ops, ∀ b : Ref sig .tc,
    Proc.devRef .tc b ∈ op.writes → b ∈ tailBufs := by
  intro ops hops op hop b hw
  obtain ⟨b', hb, e⟩ := sfx_writes ops hops op hop
  rw [e, Finset.mem_singleton] at hw
  by_contra hn
  refine absurd hw (StableHlo.devRef_ne_of_ne fun h => hn ?_)
  rw [h]; exact hb

/-- The arguments' buffers. -/
def argBufs : Finset (Ref sig .tc) := {main_arg0, main_arg1, main_arg2, main_arg3, main_arg4}

theorem pre_writes : ∀ ops ∈ ([hostOps0, hostOps0_1, hostOps0_2, hostOps0_3, hostOps0_4, hostOps0_5, hostOps0_6] : List (List (HloOp τ sig (Elt F)))), ops.Forall fun op => ∃ b, b ∉ argBufs ∧ op.writes = {Proc.devRef .tc b} := by
  intro ops h
  simp only [List.mem_cons, List.mem_nil_iff, or_false] at h
  rcases h with rfl | rfl | rfl | rfl | rfl | rfl | rfl
  all_goals
    simp only [List.Forall]
    repeat' apply And.intro
    all_goals exact ⟨_, by decide, rfl⟩

/-- No host line before the kernel writes an argument. -/
theorem V_arg (c : Dev nD) (b : Ref sig .tc) (hb : b ∈ argBufs) :
    V m c b = m ((c : Thread nD τ).loc b) := by
  refine StableHlo.after_of_forall_not_mem (b := Proc.devRef .tc b) _ _ fun op hop hw => ?_
  obtain ⟨ops, hops, hop⟩ := List.mem_flatten.mp hop
  obtain ⟨b', hb', e⟩ := List.forall_iff_forall_mem.mp (pre_writes ops hops) op hop
  rw [e, Finset.mem_singleton] at hw
  refine absurd hw (StableHlo.devRef_ne_of_ne fun h => hb' ?_)
  rw [← h]; exact hb

/-- The arguments are arrays the kernel is not given and the last lines do not write. -/
theorem arg_rest (b : Ref sig .tc) (hb : b ∈ argBufs) :
    b ∈ Pipeline.restRefs sig spec0 \ tailBufs := by
  have h1 : ∀ b ∈ argBufs,
      b.isScoped = false ∧ (∀ w, (spec0 w).arr.view.ref ≠ b) ∧ b ∉ tailBufs := by decide
  exact Finset.mem_sdiff.mpr ⟨Pipeline.mem_restRefs_of b (h1 b hb).1 (h1 b hb).2.1, (h1 b hb).2.2⟩

/-! ## One step under the pipeline -/

/-- The buffers of step `t`. -/
abbrev mems (t : Fin (cfg0 (F := F)).N) : Mems where
  m2 := win0_0.stage ((cfg0 (F := F)).slots t 0)
  z2 := hstage0_0 (((cfg0 (F := F)).slots t 0).cast nbuf0_0)
  m3 := win0_1.stage ((cfg0 (F := F)).slots t 1)
  z3 := hstage0_1 (((cfg0 (F := F)).slots t 1).cast nbuf0_1)
  m4 := win0_2.stage ((cfg0 (F := F)).slots t 2)
  z4 := hstage0_2 (((cfg0 (F := F)).slots t 2).cast nbuf0_2)
  m5 := win0_3.stage ((cfg0 (F := F)).slots t 3)
  z5 := hstage0_3 (((cfg0 (F := F)).slots t 3).cast nbuf0_3)
  m6 := win0_4.stage ((cfg0 (F := F)).slots t 4)
  z6 := hstage0_4 (((cfg0 (F := F)).slots t 4).cast nbuf0_4)
  m7 := win0_5.stage ((cfg0 (F := F)).slots t 5)
  z7 := hstage0_5 (((cfg0 (F := F)).slots t 5).cast nbuf0_5)
  m8 := win0_6.stage ((cfg0 (F := F)).slots t 6)
  z8 := hstage0_6 (((cfg0 (F := F)).slots t 6).cast nbuf0_6)
  m9 := win0_7.stage ((cfg0 (F := F)).slots t 7)
  z9 := hstage0_7 (((cfg0 (F := F)).slots t 7).cast nbuf0_7)
  m10 := win0_8.stage ((cfg0 (F := F)).slots t 8)
  z10 := hstage0_8 (((cfg0 (F := F)).slots t 8).cast nbuf0_8)
  m11 := win0_9.stage ((cfg0 (F := F)).slots t 9)
  z11 := hstage0_9 (((cfg0 (F := F)).slots t 9).cast nbuf0_9)
  m12 := win0_10.stage ((cfg0 (F := F)).slots t 10)
  z12 := hstage0_10 (((cfg0 (F := F)).slots t 10).cast nbuf0_10)
  m13 := win0_11.stage ((cfg0 (F := F)).slots t 11)
  z13 := hstage0_11 (((cfg0 (F := F)).slots t 11).cast nbuf0_11)
  m14 := win0_12.stage ((cfg0 (F := F)).slots t 12)
  z14 := hstage0_12 (((cfg0 (F := F)).slots t 12).cast nbuf0_12)
  m15 := win0_13.stage ((cfg0 (F := F)).slots t 13)
  z15 := hstage0_13 (((cfg0 (F := F)).slots t 13).cast nbuf0_13)
  m16 := Memref.whole cc0_scratch0
  z16 := Memref.isWhole_whole _
  m17 := Memref.whole cc0_scratch1
  z17 := Memref.isWhole_whole _
  m18 := Memref.whole cc0_scratch2
  z18 := Memref.isWhole_whole _
  m19 := Memref.whole cc0_scratch3
  z19 := Memref.isWhole_whole _
  m20 := Memref.whole cc0_scratch4
  z20 := Memref.isWhole_whole _
  m21 := Memref.whole cc0_scratch5
  z21 := Memref.isWhole_whole _
  m22 := Memref.whole cc0_scratch6
  z22 := Memref.isWhole_whole _
  m23 := Memref.whole cc0_scratch7
  z23 := Memref.isWhole_whole _
  m24 := Memref.whole cc0_scratch8
  z24 := Memref.isWhole_whole _
  m25 := Memref.whole cc0_scratch9
  z25 := Memref.isWhole_whole _

/-- The body as the pipeline calls it. -/
theorem defs₀_row (t : Fin (cfg0 (F := F)).N) : defs₀ (F := F) .tc cfg0.body (cfg0.bodyArgs t (cfg0.slots t)) = bodyAt0 t := by
  unfold defs₀; rw [Defs.onTc_tc]

/-- A step under the pipeline's invariant: whatever the scratch holds, the windows' buffers end as `Mems.step` says. -/
theorem body_step (c : Dev nD) (t : Fin (cfg0 (F := F)).N) (x : Ins F) (y12 : Vec F S32x80x512 .f32) (y13 : Vec F S1x64x512 .f32) (y14 : Vec F S1x64x512 .f32) (y15 : Vec F S1x1x8x512 .f32)
    (K : PUnit → sProp 𝕄) :
    iprop((Pipeline.ΦA (Val := Elt F) (U := UR sig nD τ) spec0 c : sProp 𝕄) ∗ ins (mems t) c x
        ∗ owns (c : Thread nD τ) (mems t).m12 fullShare y12 ∗ owns (c : Thread nD τ) (mems t).m13 fullShare y13 ∗ owns (c : Thread nD τ) (mems t).m14 fullShare y14 ∗ owns (c : Thread nD τ) (mems t).m15 fullShare y15
        ∗ (iprop((Pipeline.ΦA (Val := Elt F) (U := UR sig nD τ) spec0 c : sProp 𝕄) ∗ ins (mems t) c x
            ∗ ∃ b : Bufs F, ⌜b.a12 = y12 ∧ b.a13 = y13 ∧ b.a14 = y14 ∧ b.a15 = y15⌝
              ∗ owns (c : Thread nD τ) (mems t).m12 fullShare ((mems t).step c (grid0.coords t) x b).a12 ∗ owns (c : Thread nD τ) (mems t).m13 fullShare ((mems t).step c (grid0.coords t) x b).a13 ∗ owns (c : Thread nD τ) (mems t).m14 fullShare ((mems t).step c (grid0.coords t) x b).a14 ∗ owns (c : Thread nD τ) (mems t).m15 fullShare ((mems t).step c (grid0.coords t) x b).a15) -∗ K ⟨⟩))
      ⊢ wp frame (wpE (defs₀ (F := F)) 𝒱₀ (c : Thread nD τ) none) Set.univ (bodyAt0 t) K := by
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, HG⟩, HI, H12, H13, H14, H15, Hk⟩
  iapply ((mems t).step_wp c (grid0.coords t) x ⟨y12, y13, y14, y15, f0, f1, f2, f3, f4, f5, f6, f7, f8, f9⟩ Set.univ K)
  isplitl [HI]; · iexact HI
  isplitl [H12 H13 H14 H15 S0 S1 S2 S3 S4 S5 S6 S7 S8 S9]
  · unfold bufs
    simp only [owns_whole]
    iframe H12 H13 H14 H15 S0 S1 S2 S3 S4 S5 S6 S7 S8 S9
  iintro ⟨HI, HB⟩
  unfold bufs
  icases HB with ⟨H12, H13, H14, H15, S0, S1, S2, S3, S4, S5, S6, S7, S8, S9⟩
  iapply Hk
  isplitl [HG S0 S1 S2 S3 S4 S5 S6 S7 S8 S9]
  · isplitr [HG]
    · simp only [owns_whole]
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    · iexact HG
  isplitl [HI]; · iexact HI
  iexists _
  isplitr; rotate_left
  · isplitl [H12]; · iexact H12
    isplitl [H13]; · iexact H13
    isplitl [H14]; · iexact H14
    iexact H15
  · ipureintro; exact ⟨rfl, rfl, rfl, rfl⟩

/-! ## The frame -/

/-- The proof data of the frame: nothing is said of what the windows hold. -/
def rdats (c : Dev nD) : RDat τ (Elt F) Unit ℕ (UR sig nD τ) ℕ (cfgs (F := F) 0) c where
  A w := V m c (Pipeline.arrRef spec0 w)
  after := fun _ _ _ _ => True
  Φ := fun _ => Pipeline.ΦA spec0 c
  q := fun _ => fullShare
  owed := fun _ => 0

theorem body_obligation (c : Dev nD) : (rdats m c).BodyObligation (defs₀ (F := F)) 𝒱₀ () Set.univ := fun t Y _ => by
  rw [bigSep_W0, bigSep_W0, show (rdats m c).Φ t.succ = (Pipeline.ΦA spec0 c : sProp 𝕄) from rfl, show (rdats m c).Φ t.castSucc = (Pipeline.ΦA spec0 c : sProp 𝕄) from rfl]
  refine triple_restated (W := wp frame (wpE (defs₀ (F := F)) 𝒱₀ (c : Thread nD τ) none) Set.univ (bodyAt0 t)) ?_ (by rw [← defs₀_row]) .rfl fun _ => .rfl
  iintro ⟨HP, HO, H2, H3, H4, H5, H6, H7, H8, H9, H10, H11, H12, H13, H14, H15⟩
  iapply (body_step c t ⟨Y 0, Y 1, Y 2, Y 3, Y 4, Y 5, Y 6, Y 7, Y 8, Y 9⟩ (Y 10) (Y 11) (Y 12) (Y 13) _)
  isplitl [HP]; · iexact HP
  isplitl [H2 H3 H4 H5 H6 H7 H8 H9 H10 H11]
  · unfold ins; iframe H2 H3 H4 H5 H6 H7 H8 H9 H10 H11
  iframe H12 H13 H14 H15
  iintro ⟨HP, HI, ⟨%b, -, H12, H13, H14, H15⟩⟩
  unfold ins
  icases HI with ⟨H2, H3, H4, H5, H6, H7, H8, H9, H10, H11⟩
  isplitl [HP]; · iexact HP
  isplitl [HO]; · iexact HO
  isplitl [H2]
  · iexists (Y 0); isplitr; · ipureintro; trivial
    iexact H2
  isplitl [H3]
  · iexists (Y 1); isplitr; · ipureintro; trivial
    iexact H3
  isplitl [H4]
  · iexists (Y 2); isplitr; · ipureintro; trivial
    iexact H4
  isplitl [H5]
  · iexists (Y 3); isplitr; · ipureintro; trivial
    iexact H5
  isplitl [H6]
  · iexists (Y 4); isplitr; · ipureintro; trivial
    iexact H6
  isplitl [H7]
  · iexists (Y 5); isplitr; · ipureintro; trivial
    iexact H7
  isplitl [H8]
  · iexists (Y 6); isplitr; · ipureintro; trivial
    iexact H8
  isplitl [H9]
  · iexists (Y 7); isplitr; · ipureintro; trivial
    iexact H9
  isplitl [H10]
  · iexists (Y 8); isplitr; · ipureintro; trivial
    iexact H10
  isplitl [H11]
  · iexists (Y 9); isplitr; · ipureintro; trivial
    iexact H11
  isplitl [H12]
  · iexists (((mems t).step c (grid0.coords t) ⟨Y 0, Y 1, Y 2, Y 3, Y 4, Y 5, Y 6, Y 7, Y 8, Y 9⟩ b).a12); isplitr; · ipureintro; trivial
    iexact H12
  isplitl [H13]
  · iexists (((mems t).step c (grid0.coords t) ⟨Y 0, Y 1, Y 2, Y 3, Y 4, Y 5, Y 6, Y 7, Y 8, Y 9⟩ b).a13); isplitr; · ipureintro; trivial
    iexact H13
  isplitl [H14]
  · iexists (((mems t).step c (grid0.coords t) ⟨Y 0, Y 1, Y 2, Y 3, Y 4, Y 5, Y 6, Y 7, Y 8, Y 9⟩ b).a14); isplitr; · ipureintro; trivial
    iexact H14
  iexists (((mems t).step c (grid0.coords t) ⟨Y 0, Y 1, Y 2, Y 3, Y 4, Y 5, Y 6, Y 7, Y 8, Y 9⟩ b).a15); isplitr; · ipureintro; trivial
  iexact H15

set_option backward.isDefEq.respectTransparency.types false in
set_option maxHeartbeats 800000 in
/-- The program runs, its arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  RDat.θ_run_frame_around_T cfgs (0 : Fin 1) launch0 defs₀ 𝒱₀ (rdats m) tailBufs m ρ main
    (hbody := body_obligation m) (hshare := fun c w => (rdats m c).share_full (fun _ => rfl) w) (howed := fun _ _ => rfl) (V₀ := V0 m) (opss := [hostOps1])
    (hsub := sfx_sub) (hfresh := sfx_fresh) (hkeep := sfx_keeps) (hT := sfx_tail) (hmain := hmain m) (hA := fun _ _ => rfl) (hΦ := fun _ _ => rfl)
    (Q' := _) (hQ' := fun r h => ⟨fun c => ⟨((h.1 c).2 main_arg0 (arg_rest main_arg0 (by decide))).trans (V_arg m c main_arg0 (by decide)), ((h.1 c).2 main_arg1 (arg_rest main_arg1 (by decide))).trans (V_arg m c main_arg1 (by decide)), ((h.1 c).2 main_arg2 (arg_rest main_arg2 (by decide))).trans (V_arg m c main_arg2 (by decide)), ((h.1 c).2 main_arg3 (arg_rest main_arg3 (by decide))).trans (V_arg m c main_arg3 (by decide)), ((h.1 c).2 main_arg4 (arg_rest main_arg4 (by decide))).trans (V_arg m c main_arg4 (by decide))⟩, h.2⟩)

end Cert.AttnBwdIdeal.Own

end
-- ==== Proof.AttnRead.lean ====
/- How partial stores and partial loads of the attention gradient's buffers read, at extended reals. -/
module

public import proofs.«01_k».proof.Proof.AttnStep
public import Idealize.ShloMosaic.Lib.Pipeline.ValueKit
public import Idealize.ShloMosaic.Lib.Pipeline.ReadBack

@[expose] public section

set_option maxRecDepth 16384

noncomputable section

namespace Cert.AttnBwdIdeal.Own

open Cert.AttnBwdIdeal Cert.AttnBwdIdeal.Gen
open Idealize.ShloMosaic TcCoe Tactic

section Boxes

variable {n0 n1 p q : Nat} {e : EltTy}

/-- Inside the last stored box a buffer reads that box's payload. -/
theorem canon_in (a b : Nat) (inb) (w : (⟨2, ![p, q]⟩ : Shape).Idx → Elt Ideal e)
    (L : List (View.Piece (Elt Ideal) ⟨2, ![n0, n1]⟩ e)) (r : Fin n0) (s : Fin n1)
    (h0 : a ≤ r.val) (h0' : r.val - a < p) (h1 : b ≤ s.val) (h1' : s.val - b < q) :
    View.canon ((⟨Rect.unit (s := ⟨2, ![n0, n1]⟩) ![a, b] ![p, q] inb, w⟩ : View.Piece (Elt Ideal) ⟨2, ![n0, n1]⟩ e) :: L) (ix2 r s)
      = w (ix2 ⟨r.val - a, h0'⟩ ⟨s.val - b, h1'⟩) := by
  have e := View.canon_cons_emb (Val := Elt Ideal) (Rect.unit (s := ⟨2, ![n0, n1]⟩) ![a, b] ![p, q] inb) w L (ix2 ⟨r.val - a, h0'⟩ ⟨s.val - b, h1'⟩)
  refine Eq.trans (congrArg _ (funext fun d => Fin.ext ?_)) e
  fin_cases d
  · show r.val = a + 1 * (r.val - a); omega
  · show s.val = b + 1 * (s.val - b); omega

/-- Off the last stored rows it reads what was stored before. -/
theorem canon_off0 (a b : Nat) (inb) (w : (⟨2, ![p, q]⟩ : Shape).Idx → Elt Ideal e)
    (L : List (View.Piece (Elt Ideal) ⟨2, ![n0, n1]⟩ e)) (r : Fin n0) (s : Fin n1)
    (h : r.val < a ∨ a + p ≤ r.val) :
    View.canon ((⟨Rect.unit (s := ⟨2, ![n0, n1]⟩) ![a, b] ![p, q] inb, w⟩ : View.Piece (Elt Ideal) ⟨2, ![n0, n1]⟩ e) :: L) (ix2 r s)
      = View.canon L (ix2 r s) := by
  rw [View.canon_cons_of_not_mem]
  rw [Rect.mem_set_unit]
  intro h'
  have := h' 0
  have h1 : a ≤ r.val := this.1
  have h2 : r.val < a + p := this.2
  omega

/-- Off the last stored columns it reads what was stored before. -/
theorem canon_off1 (a b : Nat) (inb) (w : (⟨2, ![p, q]⟩ : Shape).Idx → Elt Ideal e)
    (L : List (View.Piece (Elt Ideal) ⟨2, ![n0, n1]⟩ e)) (r : Fin n0) (s : Fin n1)
    (h : s.val < b ∨ b + q ≤ s.val) :
    View.canon ((⟨Rect.unit (s := ⟨2, ![n0, n1]⟩) ![a, b] ![p, q] inb, w⟩ : View.Piece (Elt Ideal) ⟨2, ![n0, n1]⟩ e) :: L) (ix2 r s)
      = View.canon L (ix2 r s) := by
  rw [View.canon_cons_of_not_mem]
  rw [Rect.mem_set_unit]
  intro h'
  have := h' 1
  have h1 : b ≤ s.val := this.1
  have h2 : s.val < b + q := this.2
  omega

/-- The same at a written position: inside the last stored box, -/
theorem canon_in_mk (a b : Nat) (inb) (w : (⟨2, ![p, q]⟩ : Shape).Idx → Elt Ideal e)
    (L : List (View.Piece (Elt Ideal) ⟨2, ![n0, n1]⟩ e)) (r : ℕ) (hr : r < n0) (s : Fin n1)
    (h0 : a ≤ r) (h0' : r - a < p) (h1 : b ≤ s.val) (h1' : s.val - b < q) :
    View.canon ((⟨Rect.unit (s := ⟨2, ![n0, n1]⟩) ![a, b] ![p, q] inb, w⟩ : View.Piece (Elt Ideal) ⟨2, ![n0, n1]⟩ e) :: L) (ix2 ⟨r, hr⟩ s)
      = w (ix2 ⟨r - a, h0'⟩ ⟨s.val - b, h1'⟩) := canon_in a b inb w L ⟨r, hr⟩ s h0 h0' h1 h1'

/-- and off its rows. -/
theorem canon_off_mk (a b : Nat) (inb) (w : (⟨2, ![p, q]⟩ : Shape).Idx → Elt Ideal e)
    (L : List (View.Piece (Elt Ideal) ⟨2, ![n0, n1]⟩ e)) (r : ℕ) (hr : r < n0) (s : Fin n1)
    (h : r < a ∨ a + p ≤ r) :
    View.canon ((⟨Rect.unit (s := ⟨2, ![n0, n1]⟩) ![a, b] ![p, q] inb, w⟩ : View.Piece (Elt Ideal) ⟨2, ![n0, n1]⟩ e) :: L) (ix2 ⟨r, hr⟩ s)
      = View.canon L (ix2 ⟨r, hr⟩ s) := canon_off0 a b inb w L ⟨r, hr⟩ s h

variable {sp : Space} (v : View sig .tc sp ⟨2, ![n0, n1]⟩ e)

/-- Inside the last stored box a buffer with its earlier contents reads that box's payload. -/
theorem read_in (f : v.ty.Contents (Elt Ideal)) (a b : Nat) (inb) (w : (⟨2, ![p, q]⟩ : Shape).Idx → Elt Ideal e)
    (L : List (View.Piece (Elt Ideal) ⟨2, ![n0, n1]⟩ e)) (r : Fin n0) (s : Fin n1)
    (h0 : a ≤ r.val) (h0' : r.val - a < p) (h1 : b ≤ s.val) (h1' : s.val - b < q) :
    v.read (Elt Ideal) (v.writes (Elt Ideal) f ((⟨Rect.unit (s := ⟨2, ![n0, n1]⟩) ![a, b] ![p, q] inb, w⟩ : View.Piece (Elt Ideal) ⟨2, ![n0, n1]⟩ e) :: L)) (ix2 r s)
      = w (ix2 ⟨r.val - a, h0'⟩ ⟨s.val - b, h1'⟩) := by
  have e := View.read_writes_cons_emb v f (Rect.unit (s := ⟨2, ![n0, n1]⟩) ![a, b] ![p, q] inb) w L (ix2 ⟨r.val - a, h0'⟩ ⟨s.val - b, h1'⟩)
  refine Eq.trans (congrArg _ (funext fun d => Fin.ext ?_)) e
  fin_cases d
  · show r.val = a + 1 * (r.val - a); omega
  · show s.val = b + 1 * (s.val - b); omega

/-- Off the last stored box a buffer reads what the earlier stores left. -/
theorem read_off (f : v.ty.Contents (Elt Ideal)) (p' : View.Piece (Elt Ideal) ⟨2, ![n0, n1]⟩ e) (L : List (View.Piece (Elt Ideal) ⟨2, ![n0, n1]⟩ e))
    (y : (⟨2, ![n0, n1]⟩ : Shape).Idx) (h : y ∉ p'.1.set) :
    v.read (Elt Ideal) (v.writes (Elt Ideal) f (p' :: L)) y = v.read (Elt Ideal) (v.writes (Elt Ideal) f L) y := by
  have hy' : y ∉ Finset.univ.map p'.1.emb := by rwa [Rect.map_emb_univ]
  rw [View.writes_cons, View.read_slice_write_of_not_mem p'.1 _ _ _ hy']

theorem read_off0 (f : v.ty.Contents (Elt Ideal)) (a b : Nat) (inb) (w : (⟨2, ![p, q]⟩ : Shape).Idx → Elt Ideal e)
    (L : List (View.Piece (Elt Ideal) ⟨2, ![n0, n1]⟩ e)) (r : Fin n0) (s : Fin n1)
    (h : r.val < a ∨ a + p ≤ r.val) :
    v.read (Elt Ideal) (v.writes (Elt Ideal) f ((⟨Rect.unit (s := ⟨2, ![n0, n1]⟩) ![a, b] ![p, q] inb, w⟩ : View.Piece (Elt Ideal) ⟨2, ![n0, n1]⟩ e) :: L)) (ix2 r s)
      = v.read (Elt Ideal) (v.writes (Elt Ideal) f L) (ix2 r s) := by
  refine read_off v f _ L _ ?_
  rw [Rect.mem_set_unit]
  intro h'
  have := h' 0
  have h1 : a ≤ r.val := this.1
  have h2 : r.val < a + p := this.2
  omega

theorem read_off1 (f : v.ty.Contents (Elt Ideal)) (a b : Nat) (inb) (w : (⟨2, ![p, q]⟩ : Shape).Idx → Elt Ideal e)
    (L : List (View.Piece (Elt Ideal) ⟨2, ![n0, n1]⟩ e)) (r : Fin n0) (s : Fin n1)
    (h : s.val < b ∨ b + q ≤ s.val) :
    v.read (Elt Ideal) (v.writes (Elt Ideal) f ((⟨Rect.unit (s := ⟨2, ![n0, n1]⟩) ![a, b] ![p, q] inb, w⟩ : View.Piece (Elt Ideal) ⟨2, ![n0, n1]⟩ e) :: L)) (ix2 r s)
      = v.read (Elt Ideal) (v.writes (Elt Ideal) f L) (ix2 r s) := by
  refine read_off v f _ L _ ?_
  rw [Rect.mem_set_unit]
  intro h'
  have := h' 1
  have h1 : b ≤ s.val := this.1
  have h2 : s.val < b + q := this.2
  omega

/-- A load of a box after stores reads them at the box's place. -/
theorem readCov_at (L : List (View.Piece (Elt Ideal) ⟨2, ![n0, n1]⟩ e)) (a b : Nat) (inb) (r : Fin p) (s : Fin q) :
    v.readCov L (Rect.unit (s := ⟨2, ![n0, n1]⟩) ![a, b] ![p, q] inb).toLoadRect (ix2 r s)
      = View.canon L (ix2 ⟨a + r.val, lt_of_lt_of_le (Nat.add_lt_add_left r.isLt _) (inb 0)⟩ ⟨b + s.val, lt_of_lt_of_le (Nat.add_lt_add_left s.isLt _) (inb 1)⟩) := by
  rw [View.readCov_eq_canon']
  refine congrArg _ (funext fun d => Fin.ext ?_)
  fin_cases d
  · show a + 1 * r.val = a + r.val; omega
  · show b + 1 * s.val = b + s.val; omega

/-- A box of an array reads at the box's place. -/
theorem ld_at (X : (⟨2, ![n0, n1]⟩ : Shape).Idx → Elt Ideal e) (a b : Nat) (inb) (r : Fin p) (s : Fin q) :
    View.ld X (Rect.unit (s := ⟨2, ![n0, n1]⟩) ![a, b] ![p, q] inb) (ix2 r s)
      = X (ix2 ⟨a + r.val, lt_of_lt_of_le (Nat.add_lt_add_left r.isLt _) (inb 0)⟩ ⟨b + s.val, lt_of_lt_of_le (Nat.add_lt_add_left s.isLt _) (inb 1)⟩) := by
  refine congrArg X (funext fun d => Fin.ext ?_)
  fin_cases d
  · show a + 1 * r.val = a + r.val; omega
  · show b + 1 * s.val = b + s.val; omega

/-- A box of a rank-3 array reads at the box's place. -/
theorem ld3_at {n2 o : Nat} (X : (⟨3, ![n0, n1, n2]⟩ : Shape).Idx → Elt Ideal e) (a b d : Nat) (inb) (r : Fin p) (s : Fin q) (t : Fin o) :
    View.ld X (Rect.unit (s := ⟨3, ![n0, n1, n2]⟩) ![a, b, d] ![p, q, o] inb) (ix3 r s t)
      = X (ix3 ⟨a + r.val, lt_of_lt_of_le (Nat.add_lt_add_left r.isLt _) (inb 0)⟩ ⟨b + s.val, lt_of_lt_of_le (Nat.add_lt_add_left s.isLt _) (inb 1)⟩
          ⟨d + t.val, lt_of_lt_of_le (Nat.add_lt_add_left t.isLt _) (inb 2)⟩) := by
  refine congrArg X (funext fun z' => Fin.ext ?_)
  fin_cases z'
  · show a + 1 * r.val = a + r.val; omega
  · show b + 1 * s.val = b + s.val; omega
  · show d + 1 * t.val = d + t.val; omega

/-- A box of a rank-4 array reads at the box's place. -/
theorem ld4_at {n2 n3 o u : Nat} (X : (⟨4, ![n0, n1, n2, n3]⟩ : Shape).Idx → Elt Ideal e) (a b d f : Nat) (inb) (r : Fin p) (s : Fin q) (t : Fin o) (z : Fin u) :
    View.ld X (Rect.unit (s := ⟨4, ![n0, n1, n2, n3]⟩) ![a, b, d, f] ![p, q, o, u] inb) (ix4 r s t z)
      = X (ix4 ⟨a + r.val, lt_of_lt_of_le (Nat.add_lt_add_left r.isLt _) (inb 0)⟩ ⟨b + s.val, lt_of_lt_of_le (Nat.add_lt_add_left s.isLt _) (inb 1)⟩
          ⟨d + t.val, lt_of_lt_of_le (Nat.add_lt_add_left t.isLt _) (inb 2)⟩ ⟨f + z.val, lt_of_lt_of_le (Nat.add_lt_add_left z.isLt _) (inb 3)⟩) := by
  refine congrArg X (funext fun z' => Fin.ext ?_)
  fin_cases z'
  · show a + 1 * r.val = a + r.val; omega
  · show b + 1 * s.val = b + s.val; omega
  · show d + 1 * t.val = d + t.val; omega
  · show f + 1 * z.val = f + z.val; omega

end Boxes

section Slabs

variable {n0 n1 n2 : Nat} {e : EltTy} {sp : Space} (v : View sig .tc sp ⟨3, ![n0, n1, n2]⟩ e)

/-- The last stored slab of a rank-3 buffer reads its payload; -/
theorem read_slab (f : v.ty.Contents (Elt Ideal)) (n : Nat) (inb) (w : (⟨3, ![1, n1, n2]⟩ : Shape).Idx → Elt Ideal e)
    (L : List (View.Piece (Elt Ideal) ⟨3, ![n0, n1, n2]⟩ e)) (g : Fin n0) (r : Fin n1) (s : Fin n2) (h : g.val = n) :
    v.read (Elt Ideal) (v.writes (Elt Ideal) f ((⟨Rect.unit (s := ⟨3, ![n0, n1, n2]⟩) ![n, 0, 0] ![1, n1, n2] inb, w⟩ : View.Piece (Elt Ideal) ⟨3, ![n0, n1, n2]⟩ e) :: L)) (ix3 g r s)
      = w (ix3 0 r s) := by
  have e := View.read_writes_cons_emb v f (Rect.unit (s := ⟨3, ![n0, n1, n2]⟩) ![n, 0, 0] ![1, n1, n2] inb) w L (ix3 0 r s)
  refine Eq.trans (congrArg _ (funext fun a => Fin.ext ?_)) e
  fin_cases a
  · show g.val = n + 1 * 0; omega
  · show r.val = 0 + 1 * r.val; omega
  · show s.val = 0 + 1 * s.val; omega

/-- the others read what was there before. -/
theorem read_slab_off (f : v.ty.Contents (Elt Ideal)) (n : Nat) (inb) (w : (⟨3, ![1, n1, n2]⟩ : Shape).Idx → Elt Ideal e)
    (L : List (View.Piece (Elt Ideal) ⟨3, ![n0, n1, n2]⟩ e)) (g : Fin n0) (r : Fin n1) (s : Fin n2) (h : g.val ≠ n) :
    v.read (Elt Ideal) (v.writes (Elt Ideal) f ((⟨Rect.unit (s := ⟨3, ![n0, n1, n2]⟩) ![n, 0, 0] ![1, n1, n2] inb, w⟩ : View.Piece (Elt Ideal) ⟨3, ![n0, n1, n2]⟩ e) :: L)) (ix3 g r s)
      = v.read (Elt Ideal) (v.writes (Elt Ideal) f L) (ix3 g r s) := by
  have hy : ix3 g r s ∉ (Rect.unit (s := ⟨3, ![n0, n1, n2]⟩) ![n, 0, 0] ![1, n1, n2] inb).set := by
    rw [Rect.mem_set_unit]
    intro h'
    have := h' 0
    have h1 : n ≤ g.val := this.1
    have h2 : g.val < n + 1 := this.2
    omega
  have hy' : ix3 g r s ∉ Finset.univ.map (Rect.unit (s := ⟨3, ![n0, n1, n2]⟩) ![n, 0, 0] ![1, n1, n2] inb).emb := by rwa [Rect.map_emb_univ]
  rw [View.writes_cons, View.read_slice_write_of_not_mem _ _ _ _ hy']

/-- A buffer stored whole reads the payload. -/
theorem read_whole (f : v.ty.Contents (Elt Ideal)) (inb) (w : (⟨3, ![n0, n1, n2]⟩ : Shape).Idx → Elt Ideal e)
    (L : List (View.Piece (Elt Ideal) ⟨3, ![n0, n1, n2]⟩ e)) (g : Fin n0) (r : Fin n1) (s : Fin n2) :
    v.read (Elt Ideal) (v.writes (Elt Ideal) f ((⟨Rect.unit (s := ⟨3, ![n0, n1, n2]⟩) ![0, 0, 0] ![n0, n1, n2] inb, w⟩ : View.Piece (Elt Ideal) ⟨3, ![n0, n1, n2]⟩ e) :: L)) (ix3 g r s)
      = w (ix3 g r s) := by
  have e := View.read_writes_cons_emb v f (Rect.unit (s := ⟨3, ![n0, n1, n2]⟩) ![0, 0, 0] ![n0, n1, n2] inb) w L (ix3 g r s)
  refine Eq.trans (congrArg _ (funext fun a => Fin.ext ?_)) e
  fin_cases a
  · show g.val = 0 + 1 * g.val; omega
  · show r.val = 0 + 1 * r.val; omega
  · show s.val = 0 + 1 * s.val; omega

/-- The same at rank 4. -/
theorem read_whole4 {n3 : Nat} (v : View sig .tc sp ⟨4, ![n0, n1, n2, n3]⟩ e) (f : v.ty.Contents (Elt Ideal)) (inb) (w : (⟨4, ![n0, n1, n2, n3]⟩ : Shape).Idx → Elt Ideal e)
    (L : List (View.Piece (Elt Ideal) ⟨4, ![n0, n1, n2, n3]⟩ e)) (g : Fin n0) (r : Fin n1) (s : Fin n2) (t : Fin n3) :
    v.read (Elt Ideal) (v.writes (Elt Ideal) f ((⟨Rect.unit (s := ⟨4, ![n0, n1, n2, n3]⟩) ![0, 0, 0, 0] ![n0, n1, n2, n3] inb, w⟩ : View.Piece (Elt Ideal) ⟨4, ![n0, n1, n2, n3]⟩ e) :: L)) (ix4 g r s t)
      = w (ix4 g r s t) := by
  have e := View.read_writes_cons_emb v f (Rect.unit (s := ⟨4, ![n0, n1, n2, n3]⟩) ![0, 0, 0, 0] ![n0, n1, n2, n3] inb) w L (ix4 g r s t)
  refine Eq.trans (congrArg _ (funext fun a => Fin.ext ?_)) e
  fin_cases a
  · show g.val = 0 + 1 * g.val; omega
  · show r.val = 0 + 1 * r.val; omega
  · show s.val = 0 + 1 * s.val; omega
  · show t.val = 0 + 1 * t.val; omega

end Slabs

end Cert.AttnBwdIdeal.Own

end
-- ==== Proof.AttnPair.lean ====
module

public import proofs.«01_k».proof.Proof.AttnRead

@[expose] public section

set_option maxRecDepth 16384

noncomputable section

namespace Cert.AttnBwdIdeal.Own

open Cert.AttnBwdIdeal Cert.AttnBwdIdeal.Gen
open Idealize.ShloMosaic TcCoe Tactic
open Idealize.ShloMosaic.Rounds

/-! ## The arrays of one pair of blocks, entry by entry -/

section Entries

variable (x : Ins Ideal) (n : Fin 32)

/-- The logit of the own block's row `t` against block `n`'s column `s`, with the bias, before the row's maximum is taken off. -/
def kS (t s : Fin 512) : EReal := ∑ k : Fin 128, x.x6 (ix3 0 t k) * x.x5 (ix3 n k s)
/-- The gradient at the probability there. -/
def kD (t s : Fin 512) : EReal := ∑ k : Fin 128, x.x8 (ix3 0 t k) * x.x9 (ix3 n k s)
/-- A probability from its logit. -/
def kp (s : Fin 512) (S : EReal) : EReal :=
  FloatOps.exp2 (F := Ideal) (φ := .f32) ((S - x.x10 (ix4 0 n 0 s)) * Named.named (F := Ideal) κ (φ := .f32) "log2e" 0x3FB8AA3B#32)
/-- The gradient at a logit, from its probability and the gradient there. -/
def ke (s : Fin 512) (S D : EReal) : EReal := kp x n s S * (D - x.x11 (ix4 0 n 0 s))

/-- A block's share of the gradient of the values. -/
def gV (P : Fin 512 → Fin 512 → EReal) (f : Fin 64) (t : Fin 512) : EReal :=
  ∑ s : Fin 512, x.x9 (ix3 n ⟨f.val, by omega⟩ s) * P t s
/-- A block's share of the gradient of the keys. -/
def gK (E : Fin 512 → Fin 512 → EReal) (f : Fin 80) (t : Fin 512) : EReal :=
  ∑ s : Fin 512, x.x5 (ix3 n ⟨f.val, by omega⟩ s) * E t s
/-- The own block's share of the gradient of a block of queries. -/
def gQ (E : Fin 512 → Fin 512 → EReal) (f : Fin 80) (s : Fin 512) : EReal :=
  ∑ t : Fin 512, x.x7 (ix3 0 f t) * E t s

end Entries

/-! ## One trip of the loop -/

section Trip

variable (A : Mems) (c : Dev nD) (i : grid0.Coords) (x : Ins Ideal) (b : Bufs Ideal)
    (v0 : BitVec 32) (hw2 : k0_chk2 i 31#32) (v19 : BitVec 32) (v132 : FVec Ideal S256x256 .bf16) (v133 : Vec Ideal S256x256 .bf16)
    (k : Fin (k0_t1_loop i 31#32).trips) (hs : 2 * k.val + 3 ≤ (i 1).val)

/-- The block `a` after the first of a trip. -/
def nk (s k a : ℕ) : Fin 32 := ⟨(31 - s + 2 * k + a) % 32, Nat.mod_lt _ (by decide)⟩

/-- The blocks a trip names, by their distance from the own block. -/
theorem words (i : grid0.Coords) (k : ℕ) (h : 2 * k + 3 ≤ (i 1).val) :
    (BitVec.toNat (Scalar.indexCast (Scalar.addi (Scalar.subi 31#32 (BitVec.ofNat 32 (i 1).val)) (Scalar.muli 2#32 (Scf.iv 0#32 1#32 k)))) = (nk (i 1).val k 0).val
    ∧ BitVec.toNat (Scalar.indexCast (Scalar.addi (Scalar.subi 31#32 (BitVec.ofNat 32 (i 1).val)) (Scalar.addi (Scalar.muli 2#32 (Scf.iv 0#32 1#32 k)) 1#32))) = (nk (i 1).val k 1).val)
    ∧ BitVec.toNat (Scalar.indexCast (Scalar.minsi (Scalar.addi (Scalar.subi 31#32 (BitVec.ofNat 32 (i 1).val)) (Scalar.addi (Scalar.muli 2#32 (Scf.iv 0#32 1#32 k)) 1#32)) 31#32)) = (nk (i 1).val k 1).val
    ∧ BitVec.toNat (Scalar.indexCast (Scalar.minsi (Scalar.addi (Scalar.subi 31#32 (BitVec.ofNat 32 (i 1).val)) (Scalar.addi (Scalar.muli 2#32 (Scf.iv 0#32 1#32 k)) 2#32)) 31#32)) = (nk (i 1).val k 2).val
    ∧ BitVec.toNat (Scalar.indexCast (Scalar.minsi (Scalar.addi (Scalar.subi 31#32 (BitVec.ofNat 32 (i 1).val)) (Scalar.addi (Scalar.muli 2#32 (Scf.iv 0#32 1#32 k)) 3#32)) 31#32)) = (nk (i 1).val k 3).val := by
  have key : ∀ (s : Fin 32) (k : Fin 16), 2 * k.val + 3 ≤ s.val →
      (BitVec.toNat (Scalar.indexCast (Scalar.addi (Scalar.subi 31#32 (BitVec.ofNat 32 s.val)) (Scalar.muli 2#32 (Scf.iv 0#32 1#32 k.val)))) = (nk s k 0).val
      ∧ BitVec.toNat (Scalar.indexCast (Scalar.addi (Scalar.subi 31#32 (BitVec.ofNat 32 s.val)) (Scalar.addi (Scalar.muli 2#32 (Scf.iv 0#32 1#32 k.val)) 1#32))) = (nk s k 1).val)
      ∧ BitVec.toNat (Scalar.indexCast (Scalar.minsi (Scalar.addi (Scalar.subi 31#32 (BitVec.ofNat 32 s.val)) (Scalar.addi (Scalar.muli 2#32 (Scf.iv 0#32 1#32 k.val)) 1#32)) 31#32)) = (nk s k 1).val
      ∧ BitVec.toNat (Scalar.indexCast (Scalar.minsi (Scalar.addi (Scalar.subi 31#32 (BitVec.ofNat 32 s.val)) (Scalar.addi (Scalar.muli 2#32 (Scf.iv 0#32 1#32 k.val)) 2#32)) 31#32)) = (nk s k 2).val
      ∧ BitVec.toNat (Scalar.indexCast (Scalar.minsi (Scalar.addi (Scalar.subi 31#32 (BitVec.ofNat 32 s.val)) (Scalar.addi (Scalar.muli 2#32 (Scf.iv 0#32 1#32 k.val)) 3#32)) 31#32)) = (nk s k 3).val := by
    decide +kernel
  exact key (i 1) ⟨k, by have : (i 1).val < 32 := (i 1).isLt; omega⟩ h

theorem back {t : ℕ} (h : ¬t < 256) : 256 + (t - 256) = t := by omega

include hs

set_option maxHeartbeats 1000000 in
theorem trip_a18 (t s : Fin 512) : (A.trip c i x b v0 31#32 hw2 v19 v132 v133 k).a18 (ix2 t s) = kS x (nk (i 1).val k 3) t s := by
  have hw := words i k hs
  unfold Mems.trip Mems.tripR trip
  dsimp only
  sl_unfold_words
  simp only [View.readAt_eq_ld, A.z5.read_unread, A.z6.read_unread]
  by_cases h : t.val < 256 <;>
    pointwise (disch := omega) [read_off0, read_in, readCov_at, canon_off0, canon_in, k0_pay29, k0_pay28, k0_pay39, ld_at, ld3_at, ld4_at, back, hw, kS, kD, kp, ke, gV, gK, gQ]

set_option maxHeartbeats 1000000 in
theorem trip_a19 (t s : Fin 512) : (A.trip c i x b v0 31#32 hw2 v19 v132 v133 k).a19 (ix2 t s) = kD x (nk (i 1).val k 3) t s := by
  have hw := words i k hs
  unfold Mems.trip Mems.tripR trip
  dsimp only
  sl_unfold_words
  simp only [View.readAt_eq_ld, A.z8.read_unread, A.z9.read_unread]
  by_cases h : t.val < 256 <;>
    pointwise (disch := omega) [read_off0, read_in, readCov_at, canon_off0, canon_in, k0_pay30, k0_pay40, ld_at, ld3_at, ld4_at, back, hw, kS, kD, kp, ke, gV, gK, gQ]

set_option maxHeartbeats 1000000 in
theorem trip_a20 (t s : Fin 512) : (A.trip c i x b v0 31#32 hw2 v19 v132 v133 k).a20 (ix2 t s) = kp x (nk (i 1).val k 2) s (kS x (nk (i 1).val k 2) t s) := by
  have hw := words i k hs
  unfold Mems.trip Mems.tripR trip
  dsimp only
  sl_unfold_words
  simp only [View.readAt_eq_ld, A.z5.read_unread, A.z6.read_unread, A.z10.read_unread]
  by_cases h : t.val < 256 <;>
    pointwise (disch := omega) [read_off0, read_in, readCov_at, canon_off0, canon_in, k0_pay32, k0_pay31, k0_pay42, k0_pay41, ld_at, ld3_at, ld4_at, back, hw, kS, kD, kp, ke, gV, gK, gQ]

set_option maxHeartbeats 1000000 in
theorem trip_a21 (t s : Fin 512) : (A.trip c i x b v0 31#32 hw2 v19 v132 v133 k).a21 (ix2 t s) = ke x (nk (i 1).val k 2) s (kS x (nk (i 1).val k 2) t s) (kD x (nk (i 1).val k 2) t s) := by
  have hw := words i k hs
  unfold Mems.trip Mems.tripR trip
  dsimp only
  sl_unfold_words
  simp only [View.readAt_eq_ld, A.z5.read_unread, A.z6.read_unread, A.z8.read_unread, A.z9.read_unread, A.z10.read_unread, A.z11.read_unread]
  by_cases h : t.val < 256 <;>
    pointwise (disch := omega) [read_off0, read_in, readCov_at, canon_off0, canon_in, k0_pay33, k0_pay9, k0_pay31, k0_pay43, k0_pay41, ld_at, ld3_at, ld4_at, back, hw, kS, kD, kp, ke, gV, gK, gQ]

set_option maxHeartbeats 1000000 in
theorem trip_a25 (f : Fin 64) (t : Fin 512) : (A.trip c i x b v0 31#32 hw2 v19 v132 v133 k).a25 (ix2 f t)
    = b.a25 (ix2 f t) + gV x (nk (i 1).val k 0) (fun t s => b.a20 (ix2 t s)) f t + gV x (nk (i 1).val k 1) (fun t s => kp x (nk (i 1).val k 1) s (b.a18 (ix2 t s))) f t := by
  have hw := words i k hs
  unfold Mems.trip Mems.tripR trip
  dsimp only
  sl_unfold_words
  simp only [View.readAt_eq_ld, A.z9.read_unread, A.z20.read_unread, A.z18.read_unread, A.z10.read_unread, A.z25.read_unread]
  by_cases h : t.val < 256 <;>
    pointwise (disch := omega) [read_off1, read_in, readCov_at, canon_off0, canon_off1, canon_in, k0_pay44, k0_pay21, k0_pay13, k0_pay19, k0_pay18, k0_pay11, k0_pay10, ld_at, ld3_at, ld4_at, back, hw, kS, kD, kp, ke, gV, gK, gQ]

set_option maxHeartbeats 1000000 in
theorem trip_a24 (f : Fin 80) (t : Fin 512) : (A.trip c i x b v0 31#32 hw2 v19 v132 v133 k).a24 (ix2 f t)
    = b.a24 (ix2 f t) + gK x (nk (i 1).val k 0) (fun t s => b.a21 (ix2 t s)) f t + gK x (nk (i 1).val k 1) (fun t s => ke x (nk (i 1).val k 1) s (b.a18 (ix2 t s)) (b.a19 (ix2 t s))) f t := by
  have hw := words i k hs
  unfold Mems.trip Mems.tripR trip
  dsimp only
  sl_unfold_words
  simp only [View.readAt_eq_ld, A.z5.read_unread, A.z21.read_unread, A.z18.read_unread, A.z19.read_unread, A.z10.read_unread, A.z11.read_unread, A.z24.read_unread]
  by_cases h : t.val < 256 <;>
    pointwise (disch := omega) [read_off1, read_in, readCov_at, canon_off0, canon_off1, canon_in, k0_pay45, k0_pay22, k0_pay14, k0_pay20, k0_pay18, k0_pay12, k0_pay10, ld_at, ld3_at, ld4_at, back, hw, kS, kD, kp, ke, gV, gK, gQ]

set_option maxHeartbeats 1000000 in
theorem trip_a12 (g : Fin 32) (r : Fin 80) (s : Fin 512) : (A.trip c i x b v0 31#32 hw2 v19 v132 v133 k).a12 (ix3 g r s)
    = if g = nk (i 1).val k 0 then b.a12 (ix3 g r s) + gQ x (fun t s => b.a21 (ix2 t s)) r s
      else if g = nk (i 1).val k 1 then b.a12 (ix3 g r s) + gQ x (fun t s => ke x (nk (i 1).val k 1) s (b.a18 (ix2 t s)) (b.a19 (ix2 t s))) r s
      else b.a12 (ix3 g r s) := by
  have hw := words i k hs
  unfold Mems.trip Mems.tripR trip
  dsimp only
  sl_unfold_words
  simp only [View.readAt_eq_ld, A.z7.read_unread, A.z21.read_unread, A.z18.read_unread, A.z19.read_unread, A.z10.read_unread, A.z11.read_unread, A.z12.read_unread]
  have h01 : (nk (i 1).val k 0).val ≠ (nk (i 1).val k 1).val := by
    show (_ : ℕ) % 32 ≠ _ % 32
    omega
  by_cases h : g.val = (nk (i 1).val k 1).val
  · rw [if_neg (fun e => by omega), if_pos (Fin.ext h)]
    pointwise (disch := omega) [read_slab, read_slab_off, readCov_at, canon_off_mk, canon_in_mk, View.writes_nil, A.z12.read_unread, Nat.add_sub_cancel_left, k0_pay153, k0_pay46, k0_pay154, k0_pay20, k0_pay12, k0_pay18, k0_pay10, ld_at, ld3_at, ld4_at, hw]
    rw [gQ, Fin.sum_univ_two_halves 256 256 rfl]
    pointwise [ke, kp]
    rw [show g = nk (i 1).val k 1 from Fin.ext h]
  · rw [if_neg (c := g = nk (i 1).val k 1) (fun e => h (by rw [e]))]
    by_cases h0 : g.val = (nk (i 1).val k 0).val
    · rw [if_pos (Fin.ext h0)]
      pointwise (disch := omega) [read_slab, read_slab_off, readCov_at, canon_off_mk, canon_in_mk, View.writes_nil, A.z12.read_unread, Nat.add_sub_cancel_left, k0_pay153, k0_pay46, k0_pay154, k0_pay20, k0_pay12, k0_pay18, k0_pay10, ld_at, ld3_at, ld4_at, hw]
      rw [Fin.ext h0, gQ, Fin.sum_univ_two_halves 256 256 rfl]
    · rw [if_neg (fun e => h0 (by rw [e]))]
      pointwise (disch := omega) [read_slab, read_slab_off, readCov_at, canon_off_mk, canon_in_mk, View.writes_nil, A.z12.read_unread, Nat.add_sub_cancel_left, k0_pay153, k0_pay46, k0_pay154, k0_pay20, k0_pay12, k0_pay18, k0_pay10, ld_at, ld3_at, ld4_at, hw]

end Trip

end Cert.AttnBwdIdeal.Own

end
-- ==== Proof.AttnEarly.lean ====
module

public import proofs.«01_k».proof.Proof.AttnPair

@[expose] public section

set_option maxRecDepth 16384

noncomputable section

namespace Cert.AttnBwdIdeal.Own

open Cert.AttnBwdIdeal Cert.AttnBwdIdeal.Gen
open Idealize.ShloMosaic TcCoe Tactic
open Idealize.ShloMosaic.Rounds

section Early

variable (A : Mems) (c : Dev nD) (i : grid0.Coords) (x : Ins Ideal) (b : Bufs Ideal)

/-- The block at distance `m` from the own block of step `s`. -/
abbrev bk (s m : ℕ) : Fin 32 := nk s 0 m

/-- The own block, and the block after it. -/
theorem word0 (i : grid0.Coords) :
    BitVec.toNat (Scalar.indexCast (Scalar.subi 31#32 (BitVec.ofNat 32 (i 1).val))) = (bk (i 1).val 0).val
    ∧ (1 ≤ (i 1).val → BitVec.toNat (Scalar.indexCast (Scalar.minsi (Scalar.addi (Scalar.subi 31#32 (BitVec.ofNat 32 (i 1).val)) 1#32) 31#32)) = (bk (i 1).val 1).val) := by
  have key : ∀ s : Fin 32,
      BitVec.toNat (Scalar.indexCast (Scalar.subi 31#32 (BitVec.ofNat 32 s.val))) = (bk s 0).val
      ∧ (1 ≤ s.val → BitVec.toNat (Scalar.indexCast (Scalar.minsi (Scalar.addi (Scalar.subi 31#32 (BitVec.ofNat 32 s.val)) 1#32) 31#32)) = (bk s 1).val) := by
    decide +kernel
  exact key (i 1)

/-- The causal mask at two positions. -/
theorem sel {α : Type} {a b : ℕ} (ha : a < 2 ^ 31) (hb : b < 2 ^ 31) (u v : α) :
    Scalar.select (IntOp.cmpi .sle (BitVec.ofNat 32 a) (BitVec.ofNat 32 b)) u v = if a ≤ b then u else v := by
  rw [WordCmp.cmpi_sle_ofNat ha hb, Scalar.select_ofBool]
  simp only [decide_eq_true_eq]

theorem start_a12 (h1 : Scalar.cmpi .ne (Scalar.extui (Scalar.cmpi .eq (BitVec.ofNat 32 (i 1).val) 0#32)) 0#32 = 1#1) (g : Fin 32) (r : Fin 80) (s : Fin 512) : (A.start c i x b h1).a12 (ix3 g r s) = 0 := by
  have hw := word0 i
  unfold Mems.start Mems.startR start
  dsimp only
  sl_unfold_words
  pointwise (disch := omega) [read_off0, read_in, read_whole, readCov_at, canon_off0, canon_in, ld_at, ld3_at, ld4_at, back, hw, kS, kD, kp, ke, sel, k0_pay131]

theorem start_a16 (h1 : Scalar.cmpi .ne (Scalar.extui (Scalar.cmpi .eq (BitVec.ofNat 32 (i 1).val) 0#32)) 0#32 = 1#1) (t s : Fin 512) (h : t.val < 256) : (A.start c i x b h1).a16 (ix2 t s) = kS x (bk (i 1).val 0) t s := by
  have hw := word0 i
  unfold Mems.start Mems.startR start
  dsimp only
  sl_unfold_words
  simp only [View.readAt_eq_ld, A.z5.read_unread, A.z6.read_unread]
  pointwise (disch := omega) [read_off0, read_in, read_whole, readCov_at, canon_off0, canon_in, ld_at, ld3_at, ld4_at, back, hw, kS, kD, kp, ke, sel, k0_pay134]

theorem start_a24 (h1 : Scalar.cmpi .ne (Scalar.extui (Scalar.cmpi .eq (BitVec.ofNat 32 (i 1).val) 0#32)) 0#32 = 1#1) (f : Fin 80) (s : Fin 512) : (A.start c i x b h1).a24 (ix2 f s) = 0 := by
  have hw := word0 i
  unfold Mems.start Mems.startR start
  dsimp only
  sl_unfold_words
  pointwise (disch := omega) [read_off0, read_in, read_whole, readCov_at, canon_off0, canon_in, ld_at, ld3_at, ld4_at, back, hw, kS, kD, kp, ke, sel, k0_pay132]

theorem start_a25 (h1 : Scalar.cmpi .ne (Scalar.extui (Scalar.cmpi .eq (BitVec.ofNat 32 (i 1).val) 0#32)) 0#32 = 1#1) (f : Fin 64) (s : Fin 512) : (A.start c i x b h1).a25 (ix2 f s) = 0 := by
  have hw := word0 i
  unfold Mems.start Mems.startR start
  dsimp only
  sl_unfold_words
  pointwise (disch := omega) [read_off0, read_in, read_whole, readCov_at, canon_off0, canon_in, ld_at, ld3_at, ld4_at, back, hw, kS, kD, kp, ke, sel, k0_pay133]

theorem next_a16 (h1 : ¬Scalar.cmpi .ne (Scalar.extui (Scalar.cmpi .eq (BitVec.ofNat 32 (i 1).val) 0#32)) 0#32 = 1#1) (t s : Fin 512) (h : t.val < 256) : (A.next c i x b h1).a16 (ix2 t s) = kS x (bk (i 1).val 0) t s := by
  have hw := word0 i
  unfold Mems.next Mems.nextR next
  dsimp only
  sl_unfold_words
  simp only [View.readAt_eq_ld, A.z5.read_unread, A.z6.read_unread]
  pointwise (disch := omega) [read_off0, read_in, read_whole, readCov_at, canon_off0, canon_in, ld_at, ld3_at, ld4_at, back, hw, kS, kD, kp, ke, sel, k0_pay134]

theorem next_a24 (h1 : ¬Scalar.cmpi .ne (Scalar.extui (Scalar.cmpi .eq (BitVec.ofNat 32 (i 1).val) 0#32)) 0#32 = 1#1) (f : Fin 80) (s : Fin 512) : (A.next c i x b h1).a24 (ix2 f s) = 0 := by
  have hw := word0 i
  unfold Mems.next Mems.nextR next
  dsimp only
  sl_unfold_words
  pointwise (disch := omega) [read_off0, read_in, read_whole, readCov_at, canon_off0, canon_in, ld_at, ld3_at, ld4_at, back, hw, kS, kD, kp, ke, sel, k0_pay132]

theorem next_a25 (h1 : ¬Scalar.cmpi .ne (Scalar.extui (Scalar.cmpi .eq (BitVec.ofNat 32 (i 1).val) 0#32)) 0#32 = 1#1) (f : Fin 64) (s : Fin 512) : (A.next c i x b h1).a25 (ix2 f s) = 0 := by
  have hw := word0 i
  unfold Mems.next Mems.nextR next
  dsimp only
  sl_unfold_words
  pointwise (disch := omega) [read_off0, read_in, read_whole, readCov_at, canon_off0, canon_in, ld_at, ld3_at, ld4_at, back, hw, kS, kD, kp, ke, sel, k0_pay133]

theorem diag_a16_lo v0 v6 (h6 : v6 = 31#32) (t s : Fin 512) (h : t.val < 256) : (A.diag c i x b v0 v6).a16 (ix2 t s) = b.a16 (ix2 t s) := by
  subst h6
  have hw := word0 i
  unfold Mems.diag Mems.diagR diag
  dsimp only
  sl_unfold_words
  simp only [View.readAt_eq_ld, A.z5.read_unread, A.z6.read_unread]
  pointwise (disch := omega) [read_off0, read_in, read_whole, readCov_at, canon_off0, canon_in, ld_at, ld3_at, ld4_at, back, hw, kS, kD, kp, ke, sel, k0_pay136, View.writes_nil, A.z16.read_unread]

theorem diag_a16_hi v0 v6 (h6 : v6 = 31#32) (t s : Fin 512) (h : 256 ≤ t.val) (h' : 256 ≤ s.val) : (A.diag c i x b v0 v6).a16 (ix2 t s) = kS x (bk (i 1).val 0) t s := by
  subst h6
  have hw := word0 i
  unfold Mems.diag Mems.diagR diag
  dsimp only
  sl_unfold_words
  simp only [View.readAt_eq_ld, A.z5.read_unread, A.z6.read_unread]
  pointwise (disch := omega) [read_off0, read_in, read_whole, readCov_at, canon_off0, canon_in, ld_at, ld3_at, ld4_at, back, hw, kS, kD, kp, ke, sel, k0_pay136, A.z16.read_unread, Nat.add_sub_cancel' h, Nat.add_sub_cancel' h']

theorem diag_a17_lo v0 v6 (h6 : v6 = 31#32) (t s : Fin 512) (h : t.val < 256) : (A.diag c i x b v0 v6).a17 (ix2 t s) = kD x (bk (i 1).val 0) t s := by
  subst h6
  have hw := word0 i
  unfold Mems.diag Mems.diagR diag
  dsimp only
  sl_unfold_words
  simp only [View.readAt_eq_ld, A.z8.read_unread, A.z9.read_unread]
  pointwise (disch := omega) [read_off0, read_in, read_whole, readCov_at, canon_off0, canon_in, ld_at, ld3_at, ld4_at, back, hw, kS, kD, kp, ke, sel, k0_pay135]

theorem diag_a17_hi v0 v6 (h6 : v6 = 31#32) (t s : Fin 512) (h : 256 ≤ t.val) (h' : 256 ≤ s.val) : (A.diag c i x b v0 v6).a17 (ix2 t s) = kD x (bk (i 1).val 0) t s := by
  subst h6
  have hw := word0 i
  unfold Mems.diag Mems.diagR diag
  dsimp only
  sl_unfold_words
  simp only [View.readAt_eq_ld, A.z8.read_unread, A.z9.read_unread]
  pointwise (disch := omega) [read_off0, read_in, read_whole, readCov_at, canon_off0, canon_in, ld_at, ld3_at, ld4_at, back, hw, kS, kD, kp, ke, sel, k0_pay137, Nat.add_sub_cancel' h, Nat.add_sub_cancel' h']

theorem diagR_eq v0 v6 (h6 : v6 = 31#32) (t : Fin 512) (k : Fin 128) : (A.diagR c i x b v0 v6).1.2 (ix2 t k) = x.x6 (ix3 0 t k) := by
  subst h6
  have hw := word0 i
  unfold Mems.diagR diag
  dsimp only
  sl_unfold_words
  simp only [View.readAt_eq_ld, A.z6.read_unread]
  pointwise (disch := omega) [read_off0, read_in, read_whole, readCov_at, canon_off0, canon_in, ld_at, ld3_at, ld4_at, back, hw, kS, kD, kp, ke, sel, k0_pay138]

theorem ahead_a18 v0 v6 (h6 : v6 = 31#32) hw2 v57 v59 (h9 : ∀ t k, v59 (ix2 t k) = x.x6 (ix3 0 t k)) (hs : 1 ≤ (i 1).val) (t s : Fin 512) : (A.ahead c i x b v0 v6 hw2 v57 v59).a18 (ix2 t s) = kS x (bk (i 1).val 1) t s := by
  subst h6
  have hw := word0 i
  unfold Mems.ahead Mems.aheadR ahead
  dsimp only
  sl_unfold_words
  simp only [View.readAt_eq_ld, A.z5.read_unread]
  pointwise (disch := omega) [read_off0, read_in, read_whole, readCov_at, canon_off0, canon_in, ld_at, ld3_at, ld4_at, back, hw, kS, kD, kp, ke, sel, k0_pay139, h9, hw.2 hs]

theorem ahead_a19 v0 v6 (h6 : v6 = 31#32) hw2 v57 v59 (hs : 1 ≤ (i 1).val) (t s : Fin 512) : (A.ahead c i x b v0 v6 hw2 v57 v59).a19 (ix2 t s) = kD x (bk (i 1).val 1) t s := by
  subst h6
  have hw := word0 i
  unfold Mems.ahead Mems.aheadR ahead
  dsimp only
  sl_unfold_words
  simp only [View.readAt_eq_ld, A.z8.read_unread, A.z9.read_unread]
  pointwise (disch := omega) [read_off0, read_in, read_whole, readCov_at, canon_off0, canon_in, ld_at, ld3_at, ld4_at, back, hw, kS, kD, kp, ke, sel, k0_pay140, hw.2 hs]

theorem aheadR_1 v0 v6 (h6 : v6 = 31#32) hw2 v57 v59 (s : Fin 512) : (A.aheadR c i x b v0 v6 hw2 v57 v59).1.1 (ix2 0 s) = x.x10 (ix4 0 (bk (i 1).val 0) 0 s) := by
  subst h6
  have hw := word0 i
  unfold Mems.aheadR ahead
  dsimp only
  sl_unfold_words
  simp only [View.readAt_eq_ld, A.z10.read_unread]
  pointwise (disch := omega) [read_off0, read_in, read_whole, readCov_at, canon_off0, canon_in, ld_at, ld3_at, ld4_at, back, hw, kS, kD, kp, ke, sel, k0_pay141]

theorem aheadR_2 v0 v6 (h6 : v6 = 31#32) hw2 v57 v59 (s : Fin 512) : (A.aheadR c i x b v0 v6 hw2 v57 v59).1.2.1 (ix2 0 s) = x.x11 (ix4 0 (bk (i 1).val 0) 0 s) := by
  subst h6
  have hw := word0 i
  unfold Mems.aheadR ahead
  dsimp only
  sl_unfold_words
  simp only [View.readAt_eq_ld, A.z11.read_unread]
  pointwise (disch := omega) [read_off0, read_in, read_whole, readCov_at, canon_off0, canon_in, ld_at, ld3_at, ld4_at, back, hw, kS, kD, kp, ke, sel, k0_pay142]

theorem aheadR_3 v0 v6 (h6 : v6 = 31#32) hw2 v57 v59 (t : Fin 256) (s : Fin 512) : (A.aheadR c i x b v0 v6 hw2 v57 v59).1.2.2.1 (ix2 t s) = if t.val ≤ s.val then kp x (bk (i 1).val 0) s (b.a16 (ix2 ⟨t.val, by omega⟩ s)) else 0 := by
  subst h6
  have hw := word0 i
  unfold Mems.aheadR ahead
  dsimp only
  sl_unfold_words
  simp only [View.readAt_eq_ld, A.z10.read_unread, A.z16.read_unread]
  pointwise (disch := omega) [read_off0, read_in, read_whole, readCov_at, canon_off0, canon_in, ld_at, ld3_at, ld4_at, back, hw, kS, kD, kp, ke, sel, k0_pay143, k0_pay141]

theorem aheadR_4 v0 v6 (h6 : v6 = 31#32) hw2 v57 v59 (t : Fin 256) (s : Fin 512) : (A.aheadR c i x b v0 v6 hw2 v57 v59).1.2.2.2 (ix2 t s) = if t.val ≤ s.val then kp x (bk (i 1).val 0) s (b.a16 (ix2 ⟨t.val, by omega⟩ s)) else 0 := by
  subst h6
  have hw := word0 i
  unfold Mems.aheadR ahead
  dsimp only
  sl_unfold_words
  simp only [View.readAt_eq_ld, A.z10.read_unread, A.z16.read_unread]
  pointwise (disch := omega) [read_off0, read_in, read_whole, readCov_at, canon_off0, canon_in, ld_at, ld3_at, ld4_at, back, hw, kS, kD, kp, ke, sel, k0_pay144, k0_pay143, k0_pay141]

theorem own_a20_lo v78 v81 v90 v91 (t s : Fin 512) (h : t.val < 256) : (A.own c i b v78 v81 v90 v91).a20 (ix2 t s) = v91 (ix2 ⟨t.val, h⟩ s) := by
  have hw := word0 i
  unfold Mems.own Mems.ownR own
  dsimp only
  sl_unfold_words
  pointwise (disch := omega) [read_off0, read_in, read_whole, readCov_at, canon_off0, canon_in, ld_at, ld3_at, ld4_at, back, hw, kS, kD, kp, ke, sel, k0_pay145]

theorem own_a20_hi v78 v81 v90 v91 (t s : Fin 512) (h : 256 ≤ t.val) (h' : 256 ≤ s.val) (h8 : ∀ s, v78 (ix2 0 s) = x.x10 (ix4 0 (bk (i 1).val 0) 0 s)) : (A.own c i b v78 v81 v90 v91).a20 (ix2 t s) = if t.val ≤ s.val then kp x (bk (i 1).val 0) s (b.a16 (ix2 t s)) else 0 := by
  have hw := word0 i
  unfold Mems.own Mems.ownR own
  dsimp only
  sl_unfold_words
  simp only [View.readAt_eq_ld, A.z16.read_unread]
  pointwise (disch := omega) [read_off0, read_in, read_whole, readCov_at, canon_off0, canon_in, ld_at, ld3_at, ld4_at, back, hw, kS, kD, kp, ke, sel, k0_pay148, k0_pay147, h8, Nat.sub_le_sub_iff_right h', ite_mul, zero_mul, Nat.add_sub_cancel' h, Nat.add_sub_cancel' h']

theorem own_a21_lo v78 v81 v90 v91 (t s : Fin 512) (h : t.val < 256) (h1 : ∀ s, v81 (ix2 0 s) = x.x11 (ix4 0 (bk (i 1).val 0) 0 s)) : (A.own c i b v78 v81 v90 v91).a21 (ix2 t s) = v90 (ix2 ⟨t.val, h⟩ s) * (b.a17 (ix2 t s) - x.x11 (ix4 0 (bk (i 1).val 0) 0 s)) := by
  have hw := word0 i
  unfold Mems.own Mems.ownR own
  dsimp only
  sl_unfold_words
  simp only [View.readAt_eq_ld, A.z17.read_unread]
  pointwise (disch := omega) [read_off0, read_in, read_whole, readCov_at, canon_off0, canon_in, ld_at, ld3_at, ld4_at, back, hw, kS, kD, kp, ke, sel, k0_pay146, h1]

theorem own_a21_hi v78 v81 v90 v91 (t s : Fin 512) (h : 256 ≤ t.val) (h' : 256 ≤ s.val) (h8 : ∀ s, v78 (ix2 0 s) = x.x10 (ix4 0 (bk (i 1).val 0) 0 s)) (h1 : ∀ s, v81 (ix2 0 s) = x.x11 (ix4 0 (bk (i 1).val 0) 0 s)) : (A.own c i b v78 v81 v90 v91).a21 (ix2 t s) = (if t.val ≤ s.val then kp x (bk (i 1).val 0) s (b.a16 (ix2 t s)) else 0) * (b.a17 (ix2 t s) - x.x11 (ix4 0 (bk (i 1).val 0) 0 s)) := by
  have hw := word0 i
  unfold Mems.own Mems.ownR own
  dsimp only
  sl_unfold_words
  simp only [View.readAt_eq_ld, A.z16.read_unread, A.z17.read_unread]
  pointwise (disch := omega) [read_off0, read_in, read_whole, readCov_at, canon_off0, canon_in, ld_at, ld3_at, ld4_at, back, hw, kS, kD, kp, ke, sel, k0_pay149, k0_pay147, h8, Nat.sub_le_sub_iff_right h', ite_mul, zero_mul, h1, Nat.add_sub_cancel' h, Nat.add_sub_cancel' h']

theorem ownR_eq v78 v81 v90 v91 (r : Fin 256) (s : Fin 256) : (A.ownR c i b v78 v81 v90 v91).1.1 (ix2 r s) = 0 := by
  have hw := word0 i
  unfold Mems.ownR own
  dsimp only
  sl_unfold_words
  pointwise (disch := omega) [read_off0, read_in, read_whole, readCov_at, canon_off0, canon_in, ld_at, ld3_at, ld4_at, back, hw, kS, kD, kp, ke, sel, k0_pay150]

end Early

end Cert.AttnBwdIdeal.Own

end
-- ==== Proof.AttnLate.lean ====
module

public import proofs.«01_k».proof.Proof.AttnEarly

@[expose] public section

set_option maxRecDepth 16384

noncomputable section

namespace Cert.AttnBwdIdeal.Own

open Cert.AttnBwdIdeal Cert.AttnBwdIdeal.Gen
open Idealize.ShloMosaic TcCoe Tactic
open Idealize.ShloMosaic.Rounds

/-- Words of the last pair of blocks, when the count of blocks is even. -/
theorem wordE (i : grid0.Coords) (K : ℕ) (h : (i 1).val = 2 * K + 1) :
    Scalar.subi (Scalar.select (Scalar.andi (Scalar.cmpi .ne (Scalar.subi (Scalar.extui (Scalar.cmpi .sgt (Scalar.addi (Scalar.subi 31#32 (Scalar.subi 31#32 (BitVec.ofNat 32 (i 1).val))) 1#32) 0#32)) (Scalar.extui (Scalar.cmpi .slt (Scalar.addi (Scalar.subi 31#32 (Scalar.subi 31#32 (BitVec.ofNat 32 (i 1).val))) 1#32) 0#32))) (Scalar.subi (Scalar.extui (Scalar.cmpi .sgt 2#32 0#32)) (Scalar.extui (Scalar.cmpi .slt 2#32 0#32)))) (Scalar.cmpi .ne (Scalar.remsi (Scalar.addi (Scalar.subi 31#32 (Scalar.subi 31#32 (BitVec.ofNat 32 (i 1).val))) 1#32) 2#32) 0#32)) (Scalar.subi (Scalar.divsi (Scalar.addi (Scalar.subi 31#32 (Scalar.subi 31#32 (BitVec.ofNat 32 (i 1).val))) 1#32) 2#32) 1#32) (Scalar.divsi (Scalar.addi (Scalar.subi 31#32 (Scalar.subi 31#32 (BitVec.ofNat 32 (i 1).val))) 1#32) 2#32)) 1#32 = BitVec.ofNat 32 K
    ∧ BitVec.toNat (Scalar.indexCast (Scalar.addi (Scalar.subi 31#32 (BitVec.ofNat 32 (i 1).val)) (Scalar.muli 2#32 (BitVec.ofNat 32 K)))) = (bk (i 1).val (2 * K)).val
    ∧ BitVec.toNat (Scalar.indexCast (Scalar.addi (Scalar.subi 31#32 (BitVec.ofNat 32 (i 1).val)) (Scalar.addi (Scalar.muli 2#32 (BitVec.ofNat 32 K)) 1#32))) = (bk (i 1).val (2 * K + 1)).val
    ∧ BitVec.toNat (Scalar.indexCast (Scalar.minsi (Scalar.addi (Scalar.subi 31#32 (BitVec.ofNat 32 (i 1).val)) (Scalar.addi (Scalar.muli 2#32 (BitVec.ofNat 32 K)) 1#32)) 31#32)) = (bk (i 1).val (2 * K + 1)).val := by
  have key : ∀ (s : Fin 32) (K : Fin 16), s.val = 2 * K.val + 1 →
    Scalar.subi (Scalar.select (Scalar.andi (Scalar.cmpi .ne (Scalar.subi (Scalar.extui (Scalar.cmpi .sgt (Scalar.addi (Scalar.subi 31#32 (Scalar.subi 31#32 (BitVec.ofNat 32 s.val))) 1#32) 0#32)) (Scalar.extui (Scalar.cmpi .slt (Scalar.addi (Scalar.subi 31#32 (Scalar.subi 31#32 (BitVec.ofNat 32 s.val))) 1#32) 0#32))) (Scalar.subi (Scalar.extui (Scalar.cmpi .sgt 2#32 0#32)) (Scalar.extui (Scalar.cmpi .slt 2#32 0#32)))) (Scalar.cmpi .ne (Scalar.remsi (Scalar.addi (Scalar.subi 31#32 (Scalar.subi 31#32 (BitVec.ofNat 32 s.val))) 1#32) 2#32) 0#32)) (Scalar.subi (Scalar.divsi (Scalar.addi (Scalar.subi 31#32 (Scalar.subi 31#32 (BitVec.ofNat 32 s.val))) 1#32) 2#32) 1#32) (Scalar.divsi (Scalar.addi (Scalar.subi 31#32 (Scalar.subi 31#32 (BitVec.ofNat 32 s.val))) 1#32) 2#32)) 1#32 = BitVec.ofNat 32 K.val
    ∧ BitVec.toNat (Scalar.indexCast (Scalar.addi (Scalar.subi 31#32 (BitVec.ofNat 32 s.val)) (Scalar.muli 2#32 (BitVec.ofNat 32 K.val)))) = (bk s.val (2 * K.val)).val
    ∧ BitVec.toNat (Scalar.indexCast (Scalar.addi (Scalar.subi 31#32 (BitVec.ofNat 32 s.val)) (Scalar.addi (Scalar.muli 2#32 (BitVec.ofNat 32 K.val)) 1#32))) = (bk s.val (2 * K.val + 1)).val
    ∧ BitVec.toNat (Scalar.indexCast (Scalar.minsi (Scalar.addi (Scalar.subi 31#32 (BitVec.ofNat 32 s.val)) (Scalar.addi (Scalar.muli 2#32 (BitVec.ofNat 32 K.val)) 1#32)) 31#32)) = (bk s.val (2 * K.val + 1)).val := by
    decide +kernel
  exact key (i 1) ⟨K, by have : (i 1).val < 32 := (i 1).isLt; omega⟩ h

/-- Words of the last three blocks, when the count of blocks is odd. -/
theorem wordO (i : grid0.Coords) (K : ℕ) (h : (i 1).val = 2 * K + 2) :
    Scalar.subi (Scalar.select (Scalar.andi (Scalar.cmpi .ne (Scalar.subi (Scalar.extui (Scalar.cmpi .sgt (Scalar.addi (Scalar.subi 31#32 (Scalar.subi 31#32 (BitVec.ofNat 32 (i 1).val))) 1#32) 0#32)) (Scalar.extui (Scalar.cmpi .slt (Scalar.addi (Scalar.subi 31#32 (Scalar.subi 31#32 (BitVec.ofNat 32 (i 1).val))) 1#32) 0#32))) (Scalar.subi (Scalar.extui (Scalar.cmpi .sgt 2#32 0#32)) (Scalar.extui (Scalar.cmpi .slt 2#32 0#32)))) (Scalar.cmpi .ne (Scalar.remsi (Scalar.addi (Scalar.subi 31#32 (Scalar.subi 31#32 (BitVec.ofNat 32 (i 1).val))) 1#32) 2#32) 0#32)) (Scalar.subi (Scalar.divsi (Scalar.addi (Scalar.subi 31#32 (Scalar.subi 31#32 (BitVec.ofNat 32 (i 1).val))) 1#32) 2#32) 1#32) (Scalar.divsi (Scalar.addi (Scalar.subi 31#32 (Scalar.subi 31#32 (BitVec.ofNat 32 (i 1).val))) 1#32) 2#32)) 1#32 = BitVec.ofNat 32 K
    ∧ BitVec.toNat (Scalar.indexCast (Scalar.addi (Scalar.subi 31#32 (BitVec.ofNat 32 (i 1).val)) (Scalar.muli 2#32 (BitVec.ofNat 32 K)))) = (bk (i 1).val (2 * K)).val
    ∧ BitVec.toNat (Scalar.indexCast (Scalar.addi (Scalar.subi 31#32 (BitVec.ofNat 32 (i 1).val)) (Scalar.addi (Scalar.muli 2#32 (BitVec.ofNat 32 K)) 1#32))) = (bk (i 1).val (2 * K + 1)).val
    ∧ BitVec.toNat (Scalar.indexCast (Scalar.minsi (Scalar.addi (Scalar.subi 31#32 (BitVec.ofNat 32 (i 1).val)) (Scalar.addi (Scalar.muli 2#32 (BitVec.ofNat 32 K)) 1#32)) 31#32)) = (bk (i 1).val (2 * K + 1)).val
    ∧ BitVec.toNat (Scalar.indexCast (Scalar.addi (Scalar.subi 31#32 (BitVec.ofNat 32 (i 1).val)) (Scalar.addi (Scalar.muli 2#32 (BitVec.ofNat 32 K)) 2#32))) = (bk (i 1).val (2 * K + 2)).val
    ∧ BitVec.toNat (Scalar.indexCast (Scalar.minsi (Scalar.addi (Scalar.subi 31#32 (BitVec.ofNat 32 (i 1).val)) (Scalar.addi (Scalar.muli 2#32 (BitVec.ofNat 32 K)) 2#32)) 31#32)) = (bk (i 1).val (2 * K + 2)).val := by
  have key : ∀ (s : Fin 32) (K : Fin 16), s.val = 2 * K.val + 2 →
    Scalar.subi (Scalar.select (Scalar.andi (Scalar.cmpi .ne (Scalar.subi (Scalar.extui (Scalar.cmpi .sgt (Scalar.addi (Scalar.subi 31#32 (Scalar.subi 31#32 (BitVec.ofNat 32 s.val))) 1#32) 0#32)) (Scalar.extui (Scalar.cmpi .slt (Scalar.addi (Scalar.subi 31#32 (Scalar.subi 31#32 (BitVec.ofNat 32 s.val))) 1#32) 0#32))) (Scalar.subi (Scalar.extui (Scalar.cmpi .sgt 2#32 0#32)) (Scalar.extui (Scalar.cmpi .slt 2#32 0#32)))) (Scalar.cmpi .ne (Scalar.remsi (Scalar.addi (Scalar.subi 31#32 (Scalar.subi 31#32 (BitVec.ofNat 32 s.val))) 1#32) 2#32) 0#32)) (Scalar.subi (Scalar.divsi (Scalar.addi (Scalar.subi 31#32 (Scalar.subi 31#32 (BitVec.ofNat 32 s.val))) 1#32) 2#32) 1#32) (Scalar.divsi (Scalar.addi (Scalar.subi 31#32 (Scalar.subi 31#32 (BitVec.ofNat 32 s.val))) 1#32) 2#32)) 1#32 = BitVec.ofNat 32 K.val
    ∧ BitVec.toNat (Scalar.indexCast (Scalar.addi (Scalar.subi 31#32 (BitVec.ofNat 32 s.val)) (Scalar.muli 2#32 (BitVec.ofNat 32 K.val)))) = (bk s.val (2 * K.val)).val
    ∧ BitVec.toNat (Scalar.indexCast (Scalar.addi (Scalar.subi 31#32 (BitVec.ofNat 32 s.val)) (Scalar.addi (Scalar.muli 2#32 (BitVec.ofNat 32 K.val)) 1#32))) = (bk s.val (2 * K.val + 1)).val
    ∧ BitVec.toNat (Scalar.indexCast (Scalar.minsi (Scalar.addi (Scalar.subi 31#32 (BitVec.ofNat 32 s.val)) (Scalar.addi (Scalar.muli 2#32 (BitVec.ofNat 32 K.val)) 1#32)) 31#32)) = (bk s.val (2 * K.val + 1)).val
    ∧ BitVec.toNat (Scalar.indexCast (Scalar.addi (Scalar.subi 31#32 (BitVec.ofNat 32 s.val)) (Scalar.addi (Scalar.muli 2#32 (BitVec.ofNat 32 K.val)) 2#32))) = (bk s.val (2 * K.val + 2)).val
    ∧ BitVec.toNat (Scalar.indexCast (Scalar.minsi (Scalar.addi (Scalar.subi 31#32 (BitVec.ofNat 32 s.val)) (Scalar.addi (Scalar.muli 2#32 (BitVec.ofNat 32 K.val)) 2#32)) 31#32)) = (bk s.val (2 * K.val + 2)).val := by
    decide +kernel
  exact key (i 1) ⟨K, by have : (i 1).val < 32 := (i 1).isLt; omega⟩ h

/-- The word of the only block. -/
theorem wordN (i : grid0.Coords) : BitVec.toNat (Scalar.indexCast (Scalar.addi (Scalar.subi 31#32 (BitVec.ofNat 32 (i 1).val)) 0#32)) = (bk (i 1).val 0).val := by
  have key : ∀ s : Fin 32, BitVec.toNat (Scalar.indexCast (Scalar.addi (Scalar.subi 31#32 (BitVec.ofNat 32 s.val)) 0#32)) = (bk s.val 0).val := by
    decide +kernel
  exact key (i 1)

section Late

variable (A : Mems) (c : Dev nD) (i : grid0.Coords) (x : Ins Ideal) (b : Bufs Ideal)
  (v0 : BitVec 32) (hw2 : k0_chk2 i 31#32) (v19 v156 v164 : BitVec 32) (v165 : BitVec 1) (v167 : BitVec 32)

set_option maxHeartbeats 1000000 in
theorem endOne_a14  h2 h3 h1 (r : Fin 64) (s : Fin 512) : (A.endOne c i x b v0 31#32 hw2 v19 v156 v164 v165 v167 h2 h3 h1).a14 (ix3 0 r s)
    = b.a25 (ix2 r s)
    + gV x (bk (i 1).val (0)) (fun t s => b.a20 (ix2 t s)) r s := by
  have hw := wordN i
  unfold Mems.endOne Mems.endOneR endOne
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endOne_a13  h2 h3 h1 (r : Fin 64) (s : Fin 512) : (A.endOne c i x b v0 31#32 hw2 v19 v156 v164 v165 v167 h2 h3 h1).a13 (ix3 0 r s)
    = b.a24 (ix2 ⟨r.val, by omega⟩ s)
    + gK x (bk (i 1).val (0)) (fun t s => b.a21 (ix2 t s)) ⟨r.val, by omega⟩ s := by
  have hw := wordN i
  unfold Mems.endOne Mems.endOneR endOne
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endOne_a15  h2 h3 h1 (r : Fin 8) (s : Fin 512) : (A.endOne c i x b v0 31#32 hw2 v19 v156 v164 v165 v167 h2 h3 h1).a15 (ix4 0 0 r s)
    = b.a24 (ix2 ⟨64 + r.val, by omega⟩ s)
    + gK x (bk (i 1).val (0)) (fun t s => b.a21 (ix2 t s)) ⟨64 + r.val, by omega⟩ s := by
  have hw := wordN i
  unfold Mems.endOne Mems.endOneR endOne
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endOne_a12  h2 h3 h1 (g : Fin 32) (r : Fin 80) (s : Fin 512) : (A.endOne c i x b v0 31#32 hw2 v19 v156 v164 v165 v167 h2 h3 h1).a12 (ix3 g r s)
    = if g = (bk (i 1).val (0)) then b.a12 (ix3 g r s) + gQ x (fun t s => b.a21 (ix2 t s)) r s
      else b.a12 (ix3 g r s) := by
  have hw := wordN i
  unfold Mems.endOne Mems.endOneR endOne
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  by_cases g0 : g = (bk (i 1).val (0))
  · subst g0
    rw [if_pos rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
  rw [if_neg g0]
  replace g0 : g.val ≠ (bk (i 1).val (0)).val := fun e => g0 (Fin.ext e)
  pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]

set_option maxHeartbeats 1000000 in
theorem endEven_a14 (K : ℕ) (hK : (i 1).val = 2 * K + 1) h2 h3 h1 (r : Fin 64) (s : Fin 512) : (A.endEven c i x b v0 31#32 hw2 v19 v156 v164 v165 v167 h2 h3 h1).a14 (ix3 0 r s)
    = b.a25 (ix2 r s)
    + gV x (bk (i 1).val (2 * K)) (fun t s => b.a20 (ix2 t s)) r s
    + gV x (bk (i 1).val (2 * K + 1)) (fun t s => kp x (bk (i 1).val (2 * K + 1)) s (b.a18 (ix2 t s))) r s := by
  obtain ⟨hp, hw⟩ := wordE i K hK
  rw [← hp] at hw
  unfold Mems.endEven Mems.endEvenR endEven
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endEven_a13 (K : ℕ) (hK : (i 1).val = 2 * K + 1) h2 h3 h1 (r : Fin 64) (s : Fin 512) : (A.endEven c i x b v0 31#32 hw2 v19 v156 v164 v165 v167 h2 h3 h1).a13 (ix3 0 r s)
    = b.a24 (ix2 ⟨r.val, by omega⟩ s)
    + gK x (bk (i 1).val (2 * K)) (fun t s => b.a21 (ix2 t s)) ⟨r.val, by omega⟩ s
    + gK x (bk (i 1).val (2 * K + 1)) (fun t s => ke x (bk (i 1).val (2 * K + 1)) s (b.a18 (ix2 t s)) (b.a19 (ix2 t s))) ⟨r.val, by omega⟩ s := by
  obtain ⟨hp, hw⟩ := wordE i K hK
  rw [← hp] at hw
  unfold Mems.endEven Mems.endEvenR endEven
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endEven_a15 (K : ℕ) (hK : (i 1).val = 2 * K + 1) h2 h3 h1 (r : Fin 8) (s : Fin 512) : (A.endEven c i x b v0 31#32 hw2 v19 v156 v164 v165 v167 h2 h3 h1).a15 (ix4 0 0 r s)
    = b.a24 (ix2 ⟨64 + r.val, by omega⟩ s)
    + gK x (bk (i 1).val (2 * K)) (fun t s => b.a21 (ix2 t s)) ⟨64 + r.val, by omega⟩ s
    + gK x (bk (i 1).val (2 * K + 1)) (fun t s => ke x (bk (i 1).val (2 * K + 1)) s (b.a18 (ix2 t s)) (b.a19 (ix2 t s))) ⟨64 + r.val, by omega⟩ s := by
  obtain ⟨hp, hw⟩ := wordE i K hK
  rw [← hp] at hw
  unfold Mems.endEven Mems.endEvenR endEven
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  pointwise (disch := omega) [read_whole, read_whole4, readCov_at, canon_in, canon_off0, canon_off1, canon_off_mk, canon_in_mk, ld_at, ld3_at, ld4_at, gV, gK, kp, ke, kS, kD, hw]

set_option maxHeartbeats 1000000 in
theorem endEven_a12 (K : ℕ) (hK : (i 1).val = 2 * K + 1) h2 h3 h1 (g : Fin 32) (r : Fin 80) (s : Fin 512) : (A.endEven c i x b v0 31#32 hw2 v19 v156 v164 v165 v167 h2 h3 h1).a12 (ix3 g r s)
    = if g = (bk (i 1).val (2 * K)) then b.a12 (ix3 g r s) + gQ x (fun t s => b.a21 (ix2 t s)) r s
      else if g = (bk (i 1).val (2 * K + 1)) then b.a12 (ix3 g r s) + gQ x (fun t s => ke x (bk (i 1).val (2 * K + 1)) s (b.a18 (ix2 t s)) (b.a19 (ix2 t s))) r s
      else b.a12 (ix3 g r s) := by
  obtain ⟨hp, hw⟩ := wordE i K hK
  rw [← hp] at hw
  unfold Mems.endEven Mems.endEvenR endEven
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  have h01 : (bk (i 1).val (2 * K)).val ≠ (bk (i 1).val (2 * K + 1)).val := by
    show (_ : ℕ) % 32 ≠ _ % 32
    omega
  by_cases g0 : g = (bk (i 1).val (2 * K))
  · subst g0
    rw [if_pos rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
  rw [if_neg g0]
  replace g0 : g.val ≠ (bk (i 1).val (2 * K)).val := fun e => g0 (Fin.ext e)
  by_cases g1 : g = (bk (i 1).val (2 * K + 1))
  · subst g1
    rw [if_pos rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
  rw [if_neg g1]
  replace g1 : g.val ≠ (bk (i 1).val (2 * K + 1)).val := fun e => g1 (Fin.ext e)
  pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]

set_option maxHeartbeats 1000000 in
theorem endOdd_a14 (K : ℕ) (hK : (i 1).val = 2 * K + 2) h2 h3 h1 (r : Fin 64) (s : Fin 512) : (A.endOdd c i x b v0 31#32 hw2 v19 v156 v164 v165 v167 h2 h3 h1).a14 (ix3 0 r s)
    = b.a25 (ix2 r s)
    + gV x (bk (i 1).val (2 * K)) (fun t s => b.a20 (ix2 t s)) r s
    + gV x (bk (i 1).val (2 * K + 1)) (fun t s => kp x (bk (i 1).val (2 * K + 1)) s (b.a18 (ix2 t s))) r s
    + gV x (bk (i 1).val (2 * K + 2)) (fun t s => kp x (bk (i 1).val (2 * K + 2)) s (kS x (bk (i 1).val (2 * K + 2)) t s)) r s := by
  obtain ⟨hp, hw⟩ := wordO i K hK
  rw [← hp] at hw
  unfold Mems.endOdd Mems.endOddR endOdd
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  by_cases h : s.val < 256 <;>
    pointwise (disch := omega) [read_whole, read_whole4, readCov_at, canon_in, canon_off0, canon_off1, canon_off_mk, canon_in_mk, ld_at, back, ld3_at, ld4_at, gV, gK, kp, ke, kS, kD, hw]

set_option maxHeartbeats 1000000 in
theorem endOdd_a13 (K : ℕ) (hK : (i 1).val = 2 * K + 2) h2 h3 h1 (r : Fin 64) (s : Fin 512) : (A.endOdd c i x b v0 31#32 hw2 v19 v156 v164 v165 v167 h2 h3 h1).a13 (ix3 0 r s)
    = b.a24 (ix2 ⟨r.val, by omega⟩ s)
    + gK x (bk (i 1).val (2 * K)) (fun t s => b.a21 (ix2 t s)) ⟨r.val, by omega⟩ s
    + gK x (bk (i 1).val (2 * K + 1)) (fun t s => ke x (bk (i 1).val (2 * K + 1)) s (b.a18 (ix2 t s)) (b.a19 (ix2 t s))) ⟨r.val, by omega⟩ s
    + gK x (bk (i 1).val (2 * K + 2)) (fun t s => ke x (bk (i 1).val (2 * K + 2)) s (kS x (bk (i 1).val (2 * K + 2)) t s) (kD x (bk (i 1).val (2 * K + 2)) t s)) ⟨r.val, by omega⟩ s := by
  obtain ⟨hp, hw⟩ := wordO i K hK
  rw [← hp] at hw
  unfold Mems.endOdd Mems.endOddR endOdd
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  by_cases h : s.val < 256 <;>
    pointwise (disch := omega) [read_whole, read_whole4, readCov_at, canon_in, canon_off0, canon_off1, canon_off_mk, canon_in_mk, ld_at, back, ld3_at, ld4_at, gV, gK, kp, ke, kS, kD, hw]

set_option maxHeartbeats 1000000 in
theorem endOdd_a15 (K : ℕ) (hK : (i 1).val = 2 * K + 2) h2 h3 h1 (r : Fin 8) (s : Fin 512) : (A.endOdd c i x b v0 31#32 hw2 v19 v156 v164 v165 v167 h2 h3 h1).a15 (ix4 0 0 r s)
    = b.a24 (ix2 ⟨64 + r.val, by omega⟩ s)
    + gK x (bk (i 1).val (2 * K)) (fun t s => b.a21 (ix2 t s)) ⟨64 + r.val, by omega⟩ s
    + gK x (bk (i 1).val (2 * K + 1)) (fun t s => ke x (bk (i 1).val (2 * K + 1)) s (b.a18 (ix2 t s)) (b.a19 (ix2 t s))) ⟨64 + r.val, by omega⟩ s
    + gK x (bk (i 1).val (2 * K + 2)) (fun t s => ke x (bk (i 1).val (2 * K + 2)) s (kS x (bk (i 1).val (2 * K + 2)) t s) (kD x (bk (i 1).val (2 * K + 2)) t s)) ⟨64 + r.val, by omega⟩ s := by
  obtain ⟨hp, hw⟩ := wordO i K hK
  rw [← hp] at hw
  unfold Mems.endOdd Mems.endOddR endOdd
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  by_cases h : s.val < 256 <;>
    pointwise (disch := omega) [read_whole, read_whole4, readCov_at, canon_in, canon_off0, canon_off1, canon_off_mk, canon_in_mk, ld_at, back, ld3_at, ld4_at, gV, gK, kp, ke, kS, kD, hw]

set_option maxHeartbeats 1000000 in
theorem endOdd_a12 (K : ℕ) (hK : (i 1).val = 2 * K + 2) h2 h3 h1 (g : Fin 32) (r : Fin 80) (s : Fin 512) : (A.endOdd c i x b v0 31#32 hw2 v19 v156 v164 v165 v167 h2 h3 h1).a12 (ix3 g r s)
    = if g = (bk (i 1).val (2 * K)) then b.a12 (ix3 g r s) + gQ x (fun t s => b.a21 (ix2 t s)) r s
      else if g = (bk (i 1).val (2 * K + 1)) then b.a12 (ix3 g r s) + gQ x (fun t s => ke x (bk (i 1).val (2 * K + 1)) s (b.a18 (ix2 t s)) (b.a19 (ix2 t s))) r s
      else if g = (bk (i 1).val (2 * K + 2)) then b.a12 (ix3 g r s) + gQ x (fun t s => ke x (bk (i 1).val (2 * K + 2)) s (kS x (bk (i 1).val (2 * K + 2)) t s) (kD x (bk (i 1).val (2 * K + 2)) t s)) r s
      else b.a12 (ix3 g r s) := by
  obtain ⟨hp, hw⟩ := wordO i K hK
  rw [← hp] at hw
  unfold Mems.endOdd Mems.endOddR endOdd
  dsimp only
  sl_unfold_words
  unfold_payloads
  simp only [View.readAt_eq_ld, A.z5.read_unread, A.z7.read_unread, A.z9.read_unread, A.z10.read_unread, A.z11.read_unread, A.z6.read_unread, A.z8.read_unread, A.z12.read_unread, A.z18.read_unread, A.z19.read_unread, A.z20.read_unread, A.z21.read_unread, A.z24.read_unread, A.z25.read_unread]
  have h01 : (bk (i 1).val (2 * K)).val ≠ (bk (i 1).val (2 * K + 1)).val := by
    show (_ : ℕ) % 32 ≠ _ % 32
    omega
  have h02 : (bk (i 1).val (2 * K)).val ≠ (bk (i 1).val (2 * K + 2)).val := by
    show (_ : ℕ) % 32 ≠ _ % 32
    omega
  have h12 : (bk (i 1).val (2 * K + 1)).val ≠ (bk (i 1).val (2 * K + 2)).val := by
    show (_ : ℕ) % 32 ≠ _ % 32
    omega
  by_cases g0 : g = (bk (i 1).val (2 * K))
  · subst g0
    rw [if_pos rfl]
    unfold gQ
    rw [Fin.sum_univ_two_halves 256 256 rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
  rw [if_neg g0]
  replace g0 : g.val ≠ (bk (i 1).val (2 * K)).val := fun e => g0 (Fin.ext e)
  by_cases g1 : g = (bk (i 1).val (2 * K + 1))
  · subst g1
    rw [if_pos rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
    refine congrArg (_ + ·) (Finset.sum_congr rfl fun t _ => ?_)
    by_cases h : t.val < 256 <;> pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, back]
  rw [if_neg g1]
  replace g1 : g.val ≠ (bk (i 1).val (2 * K + 1)).val := fun e => g1 (Fin.ext e)
  by_cases g2 : g = (bk (i 1).val (2 * K + 2))
  · subst g2
    rw [if_pos rfl]
    pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]
    refine congrArg (_ + ·) (Finset.sum_congr rfl fun t _ => ?_)
    by_cases h : t.val < 256 <;> pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, back]
  rw [if_neg g2]
  replace g2 : g.val ≠ (bk (i 1).val (2 * K + 2)).val := fun e => g2 (Fin.ext e)
  pointwise (disch := omega) [read_slab, read_slab_off, View.writes_nil, A.z12.read_unread, Nat.add_sub_cancel_left, read_whole4, readCov_at, canon_in, canon_off0, canon_off1, canon_off_mk, canon_in_mk, ld_at, ld3_at, ld4_at, kp, ke, kS, kD, hw, gQ]

end Late

end Cert.AttnBwdIdeal.Own

end
-- ==== Proof.AttnClosed.lean ====
module

public import proofs.«01_k».proof.Proof.AttnLate

@[expose] public section

set_option maxRecDepth 16384

noncomputable section

namespace Cert.AttnBwdIdeal.Own

open Cert.AttnBwdIdeal Cert.AttnBwdIdeal.Gen
open Idealize.ShloMosaic TcCoe Tactic
open Idealize.ShloMosaic.Rounds

theorem add_if {p : Prop} [Decidable p] (a b : EReal) (h : p) : a + b = a + if p then b else 0 := by rw [if_pos h]

section Stored

variable (A : Mems) (b : Bufs Ideal) (v132 : FVec Ideal S256x256 .bf16)

/-- Before the loop the quarter above the diagonal is stored; the rest of the own block stays. -/
theorem put_a20_in (t s : Fin 512) (h : 256 ≤ t.val) (h' : s.val < 256) :
    (A.put b v132).a20 (ix2 t s) = v132 (ix2 ⟨t.val - 256, by omega⟩ ⟨s.val, h'⟩) := by
  unfold Mems.put
  dsimp only
  pointwise (disch := omega) [read_in, k0_pay151]
theorem put_a20_off (t s : Fin 512) (h : t.val < 256 ∨ 256 ≤ s.val) : (A.put b v132).a20 (ix2 t s) = b.a20 (ix2 t s) := by
  unfold Mems.put
  dsimp only
  rcases h with h | h
  · pointwise (disch := omega) [read_off0, View.writes_nil, A.z20.read_unread]
  · pointwise (disch := omega) [read_off1, View.writes_nil, A.z20.read_unread]
theorem put_a21_in (t s : Fin 512) (h : 256 ≤ t.val) (h' : s.val < 256) : (A.put b v132).a21 (ix2 t s) = 0 := by
  unfold Mems.put
  dsimp only
  pointwise (disch := omega) [read_in, k0_pay152]
theorem put_a21_off (t s : Fin 512) (h : t.val < 256 ∨ 256 ≤ s.val) : (A.put b v132).a21 (ix2 t s) = b.a21 (ix2 t s) := by
  unfold Mems.put
  dsimp only
  rcases h with h | h
  · pointwise (disch := omega) [read_off0, View.writes_nil, A.z21.read_unread]
  · pointwise (disch := omega) [read_off1, View.writes_nil, A.z21.read_unread]

end Stored

section Step

variable (A : Mems) (c : Dev nD) (i : grid0.Coords) (x : Ins Ideal) (b : Bufs Ideal)

/-- The probability of the own block `o` at row `t` against block `n` at column `s`: zero above the diagonal. -/
def pr (o n : Fin 32) (t s : Fin 512) : EReal := if n = o ∧ s.val < t.val then 0 else kp x n s (kS x n t s)
/-- The gradient at the logit there. -/
def er (o n : Fin 32) (t s : Fin 512) : EReal := if n = o ∧ s.val < t.val then 0 else ke x n s (kS x n t s) (kD x n t s)

theorem pr_self (o : Fin 32) (t s : Fin 512) : pr x o o t s = if t.val ≤ s.val then kp x o s (kS x o t s) else 0 := by
  unfold pr
  by_cases h : t.val ≤ s.val
  · rw [if_neg (by omega), if_pos h]
  · rw [if_pos (by omega), if_neg h]
theorem er_self (o : Fin 32) (t s : Fin 512) :
    er x o o t s = (if t.val ≤ s.val then kp x o s (kS x o t s) else 0) * (kD x o t s - x.x11 (ix4 0 o 0 s)) := by
  unfold er ke
  by_cases h : t.val ≤ s.val
  · rw [if_neg (by omega), if_pos h]
  · rw [if_pos (by omega), if_neg h, zero_mul]

theorem first_cond : Scalar.cmpi .ne (Scalar.extui (Scalar.cmpi .eq (BitVec.ofNat 32 (i 1).val) 0#32)) 0#32 = 1#1 ↔ (i 1).val = 0 := by
  have key : ∀ s : Fin 32, Scalar.cmpi .ne (Scalar.extui (Scalar.cmpi .eq (BitVec.ofNat 32 s.val) 0#32)) 0#32 = 1#1 ↔ s.val = 0 := by
    decide +kernel
  exact key (i 1)

theorem first_a12 (g : Fin 32) (r : Fin 80) (s : Fin 512) : (A.b1 c i x b).a12 (ix3 g r s) = if (i 1).val = 0 then 0 else b.a12 (ix3 g r s) := by
  unfold Mems.b1 Mems.first
  split_ifs with h h' h'
  · exact start_a12 A c i x b h g r s
  · exact absurd ((first_cond i).1 h) h'
  · exact absurd ((first_cond i).2 h') h
  · rfl
theorem first_a16 (t s : Fin 512) (ht : t.val < 256) : (A.b1 c i x b).a16 (ix2 t s) = kS x (bk (i 1).val 0) t s := by
  unfold Mems.b1 Mems.first
  split_ifs with h
  · exact start_a16 A c i x b h t s ht
  · exact next_a16 A c i x b h t s ht
theorem first_a24 (f : Fin 80) (s : Fin 512) : (A.b1 c i x b).a24 (ix2 f s) = 0 := by
  unfold Mems.b1 Mems.first
  split_ifs with h
  · exact start_a24 A c i x b h f s
  · exact next_a24 A c i x b h f s
theorem first_a25 (f : Fin 64) (s : Fin 512) : (A.b1 c i x b).a25 (ix2 f s) = 0 := by
  unfold Mems.b1 Mems.first
  split_ifs with h
  · exact start_a25 A c i x b h f s
  · exact next_a25 A c i x b h f s

/-- What the buffers of a step hold before trip `k` of the loop. -/
structure Inv (b0 : Bufs Ideal) (k : ℕ) (b : Bufs Ideal) : Prop where
  a18 : 1 ≤ (i 1).val → ∀ t s, b.a18 (ix2 t s) = kS x (bk (i 1).val (2 * k + 1)) t s
  a19 : 1 ≤ (i 1).val → ∀ t s, b.a19 (ix2 t s) = kD x (bk (i 1).val (2 * k + 1)) t s
  a20 : ∀ t s, b.a20 (ix2 t s) = pr x (bk (i 1).val 0) (bk (i 1).val (2 * k)) t s
  a21 : ∀ t s, b.a21 (ix2 t s) = er x (bk (i 1).val 0) (bk (i 1).val (2 * k)) t s
  a24 : ∀ f t, b.a24 (ix2 f t) = ∑ m ∈ Finset.range (2 * k), gK x (bk (i 1).val m) (er x (bk (i 1).val 0) (bk (i 1).val m)) f t
  a25 : ∀ f t, b.a25 (ix2 f t) = ∑ m ∈ Finset.range (2 * k), gV x (bk (i 1).val m) (pr x (bk (i 1).val 0) (bk (i 1).val m)) f t
  a12 : ∀ g r s, b.a12 (ix3 g r s) = (if (i 1).val = 0 then 0 else b0.a12 (ix3 g r s))
    + if 31 - (i 1).val ≤ g.val ∧ g.val < 31 - (i 1).val + 2 * k then gQ x (er x (bk (i 1).val 0) g) r s else 0

theorem early (h : A.top i x = 31) : Inv i x b 0 (A.put (A.b4 c i x b) (A.r4 c i x b).1) := by
  have h6 : (A.r1 c i x b).2.1 = 31#32 := (A.first_v6 c i x b).trans (by rw [h])
  have lo20 (t s : Fin 512) (ht : t.val < 256) : (A.b4 c i x b).a20 (ix2 t s) = pr x (bk (i 1).val 0) (bk (i 1).val 0) t s := by
    refine (own_a20_lo A c i (A.b3 c i x b) _ _ _ _ t s ht).trans ?_
    refine (aheadR_4 A c i x (A.b2 c i x b) _ _ h6 _ _ _ _ s).trans ?_
    rw [pr_self, show (A.b2 c i x b).a16 (ix2 t s) = _ from (diag_a16_lo A c i x _ _ _ h6 t s ht).trans (first_a16 A c i x b t s ht)]
  have hi16 (t s : Fin 512) (ht : 256 ≤ t.val) (hs : 256 ≤ s.val) : (A.b3 c i x b).a16 (ix2 t s) = kS x (bk (i 1).val 0) t s :=
    diag_a16_hi A c i x (A.b1 c i x b) _ _ h6 t s ht hs
  have hi17 (t s : Fin 512) (ht : 256 ≤ t.val) (hs : 256 ≤ s.val) : (A.b3 c i x b).a17 (ix2 t s) = kD x (bk (i 1).val 0) t s :=
    diag_a17_hi A c i x (A.b1 c i x b) _ _ h6 t s ht hs
  have lo17 (t s : Fin 512) (ht : t.val < 256) : (A.b3 c i x b).a17 (ix2 t s) = kD x (bk (i 1).val 0) t s :=
    diag_a17_lo A c i x (A.b1 c i x b) _ _ h6 t s ht
  have v78 (s : Fin 512) := aheadR_1 A c i x (A.b2 c i x b) (A.r1 c i x b).1 (A.r1 c i x b).2.1 h6 (A.r1 c i x b).2.2.1 (A.r2 c i x b).1 (A.r2 c i x b).2 s
  have v81 (s : Fin 512) := aheadR_2 A c i x (A.b2 c i x b) (A.r1 c i x b).1 (A.r1 c i x b).2.1 h6 (A.r1 c i x b).2.2.1 (A.r2 c i x b).1 (A.r2 c i x b).2 s
  have hi20 (t s : Fin 512) (ht : 256 ≤ t.val) (hs : 256 ≤ s.val) : (A.b4 c i x b).a20 (ix2 t s) = pr x (bk (i 1).val 0) (bk (i 1).val 0) t s := by
    refine (own_a20_hi A c i x (A.b3 c i x b) _ _ _ _ t s ht hs v78).trans ?_
    rw [pr_self, hi16 t s ht hs]
  have lo21 (t s : Fin 512) (ht : t.val < 256) : (A.b4 c i x b).a21 (ix2 t s) = er x (bk (i 1).val 0) (bk (i 1).val 0) t s := by
    refine (own_a21_lo A c i x (A.b3 c i x b) _ _ _ _ t s ht v81).trans ?_
    rw [lo17 t s ht, er_self]
    refine congrArg (· * _) ((aheadR_3 A c i x (A.b2 c i x b) _ _ h6 _ _ _ _ s).trans ?_)
    rw [show (A.b2 c i x b).a16 (ix2 t s) = _ from (diag_a16_lo A c i x _ _ _ h6 t s ht).trans (first_a16 A c i x b t s ht)]
  have hi21 (t s : Fin 512) (ht : 256 ≤ t.val) (hs : 256 ≤ s.val) : (A.b4 c i x b).a21 (ix2 t s) = er x (bk (i 1).val 0) (bk (i 1).val 0) t s := by
    refine (own_a21_hi A c i x (A.b3 c i x b) _ _ _ _ t s ht hs v78 v81).trans ?_
    rw [er_self, hi16 t s ht hs, hi17 t s ht hs]
  refine ⟨fun hs t s => ?_, fun hs t s => ?_, fun t s => ?_, fun t s => ?_, fun f t => ?_, fun f t => ?_, fun g r s => ?_⟩
  · refine (congrFun (show (A.put (A.b4 c i x b) (A.r4 c i x b).1).a18 = (A.b3 c i x b).a18 from rfl) (ix2 t s)).trans ?_
    exact ahead_a18 A c i x (A.b2 c i x b) (A.r1 c i x b).1 (A.r1 c i x b).2.1 h6 (A.r1 c i x b).2.2.1 (A.r2 c i x b).1 (A.r2 c i x b).2 (fun t k => diagR_eq A c i x (A.b1 c i x b) (A.r1 c i x b).1 (A.r1 c i x b).2.1 h6 t k) hs t s
  · refine (congrFun (show (A.put (A.b4 c i x b) (A.r4 c i x b).1).a19 = (A.b3 c i x b).a19 from rfl) (ix2 t s)).trans ?_
    exact ahead_a19 A c i x (A.b2 c i x b) (A.r1 c i x b).1 (A.r1 c i x b).2.1 h6 (A.r1 c i x b).2.2.1 (A.r2 c i x b).1 (A.r2 c i x b).2 hs t s
  · by_cases h1 : t.val < 256
    · rw [put_a20_off A _ _ t s (Or.inl h1), lo20 t s h1]
    by_cases h2 : s.val < 256
    · rw [put_a20_in A _ _ t s (by omega) h2, pr_self, if_neg (by omega)]
      exact ownR_eq A c i (A.b3 c i x b) _ _ _ _ _ _
    · rw [put_a20_off A _ _ t s (Or.inr (by omega)), hi20 t s (by omega) (by omega)]
  · by_cases h1 : t.val < 256
    · rw [put_a21_off A _ _ t s (Or.inl h1), lo21 t s h1]
    by_cases h2 : s.val < 256
    · rw [put_a21_in A _ _ t s (by omega) h2, er_self, if_neg (by omega), zero_mul]
    · rw [put_a21_off A _ _ t s (Or.inr (by omega)), hi21 t s (by omega) (by omega)]
  · exact first_a24 A c i x b f t
  · exact first_a25 A c i x b f t
  · rw [if_neg (c := 31 - (i 1).val ≤ g.val ∧ _) (by omega), add_zero]
    exact first_a12 A c i x b g r s

theorem nk_bk (s k a : ℕ) : nk s k a = bk s (2 * k + a) := Fin.ext (congrArg (· % 32) (by omega))

theorem bk_val (s m : ℕ) (h : m ≤ s) (hs : s < 32) : (bk s m).val = 31 - s + m := by
  show (31 - s + 2 * 0 + m) % 32 = _
  omega

theorem pr_off (o n : Fin 32) (h : n ≠ o) : pr x o n = fun t s => kp x n s (kS x n t s) := by
  funext t s; exact if_neg fun e => h e.1
theorem er_off (o n : Fin 32) (h : n ≠ o) : er x o n = fun t s => ke x n s (kS x n t s) (kD x n t s) := by
  funext t s; exact if_neg fun e => h e.1

/-- A trip keeps it. -/
theorem inv_trip (b0 : Bufs Ideal) (v0 : BitVec 32) (hw2 : k0_chk2 i 31#32) (v19 : BitVec 32) (v132 : FVec Ideal S256x256 .bf16) (v133 : Vec Ideal S256x256 .bf16)
    (k : Fin (k0_t1_loop i 31#32).trips) (hs : 2 * k.val + 3 ≤ (i 1).val) (H : Inv i x b0 k.val b) :
    Inv i x b0 (k.val + 1) (A.trip c i x b v0 31#32 hw2 v19 v132 v133 k) := by
  have hi : (i 1).val < 32 := (i 1).isLt
  have o (m : ℕ) (h : 1 ≤ m) (h' : m ≤ (i 1).val) : bk (i 1).val m ≠ bk (i 1).val 0 := fun e => by
    have := congrArg Fin.val e
    rw [bk_val _ _ h' hi, bk_val _ _ (by omega) hi] at this
    omega
  have e21 : (fun t s => b.a21 (ix2 t s)) = er x (bk (i 1).val 0) (bk (i 1).val (2 * k.val)) := funext fun t => funext fun s => H.a21 t s
  have e20 : (fun t s => b.a20 (ix2 t s)) = pr x (bk (i 1).val 0) (bk (i 1).val (2 * k.val)) := funext fun t => funext fun s => H.a20 t s
  have e1 := o (2 * k.val + 1) (by omega) (by omega)
  have e2 := o (2 * k.val + 2) (by omega) (by omega)
  refine ⟨fun _ t s => ?_, fun _ t s => ?_, fun t s => ?_, fun t s => ?_, fun f t => ?_, fun f t => ?_, fun g r s => ?_⟩
  · rw [trip_a18 A c i x b v0 hw2 v19 v132 v133 k hs, nk_bk]; rfl
  · rw [trip_a19 A c i x b v0 hw2 v19 v132 v133 k hs, nk_bk]; rfl
  · rw [trip_a20 A c i x b v0 hw2 v19 v132 v133 k hs, nk_bk, show 2 * (k.val + 1) = 2 * k.val + 2 by ring, pr_off x _ _ e2]
  · rw [trip_a21 A c i x b v0 hw2 v19 v132 v133 k hs, nk_bk, show 2 * (k.val + 1) = 2 * k.val + 2 by ring, er_off x _ _ e2]
  · rw [trip_a24 A c i x b v0 hw2 v19 v132 v133 k hs, nk_bk, nk_bk, show 2 * (k.val + 1) = 2 * k.val + 1 + 1 by ring, Finset.sum_range_succ, Finset.sum_range_succ, H.a24, e21, er_off x _ _ e1]
    simp only [H.a18 (by omega), H.a19 (by omega)]; rfl
  · rw [trip_a25 A c i x b v0 hw2 v19 v132 v133 k hs, nk_bk, nk_bk, show 2 * (k.val + 1) = 2 * k.val + 1 + 1 by ring, Finset.sum_range_succ, Finset.sum_range_succ, H.a25, e20, pr_off x _ _ e1]
    simp only [H.a18 (by omega)]; rfl
  · rw [trip_a12 A c i x b v0 hw2 v19 v132 v133 k hs, nk_bk, nk_bk, H.a12, e21]
    simp only [H.a18 (by omega), H.a19 (by omega)]
    rw [← er_off x _ _ e1]
    have w0 := bk_val (i 1).val (2 * k.val + 0) (by omega) hi
    have w1 := bk_val (i 1).val (2 * k.val + 1) (by omega) hi
    by_cases g0 : g = bk (i 1).val (2 * k.val + 0)
    · subst g0
      rw [if_pos rfl, if_neg (c := 31 - (i 1).val ≤ _ ∧ _) (by omega), add_zero]
      exact add_if _ _ (by omega)
    · have g0' : g.val ≠ (bk (i 1).val (2 * k.val + 0)).val := fun e => g0 (Fin.ext e)
      rw [if_neg g0]
      by_cases g1 : g = bk (i 1).val (2 * k.val + 1)
      · subst g1
        rw [if_pos rfl, if_neg (c := 31 - (i 1).val ≤ _ ∧ _) (by omega), add_zero]
        exact add_if _ _ (by omega)
      · have g1' : g.val ≠ (bk (i 1).val (2 * k.val + 1)).val := fun e => g1 (Fin.ext e)
        rw [if_neg g1]
        exact congrArg₂ _ rfl (if_congr (by omega) rfl rfl)

theorem trips_count : (k0_t1_loop i 31#32).trips = ((i 1).val + 1) / 2 - 1 := by
  have key : ∀ s : Fin 32, (k0_t1_loop (at0 s) 31#32).trips = (s.val + 1) / 2 - 1 := by
    decide +kernel
  exact key (i 1)

theorem inv_trips (b0 : Bufs Ideal) (v0 : BitVec 32) (hw2 : k0_chk2 i 31#32) (v19 : BitVec 32) (v132 : FVec Ideal S256x256 .bf16) (v133 : Vec Ideal S256x256 .bf16)
    (H : Inv i x b0 0 b) (n : ℕ) (hn : n ≤ ((i 1).val + 1) / 2 - 1) : Inv i x b0 n (Mems.trips A c i x b v0 31#32 hw2 v19 v132 v133 n) := by
  induction n with
  | zero => exact H
  | succ n ih =>
    have hn' : n < (k0_t1_loop i 31#32).trips := by rw [trips_count]; omega
    rw [Mems.trips, dif_pos hn']
    exact inv_trip A c i x _ b0 v0 hw2 v19 v132 v133 ⟨n, hn'⟩ (by show 2 * n + 3 ≤ _; omega) (ih (by omega))

/-- What a step leaves: the sums over the blocks from the own one to the last. -/
structure Out (b0 b : Bufs Ideal) : Prop where
  a14 : ∀ f t, b.a14 (ix3 0 f t) = ∑ m ∈ Finset.range ((i 1).val + 1), gV x (bk (i 1).val m) (pr x (bk (i 1).val 0) (bk (i 1).val m)) f t
  a13 : ∀ f t, b.a13 (ix3 0 f t) = ∑ m ∈ Finset.range ((i 1).val + 1), gK x (bk (i 1).val m) (er x (bk (i 1).val 0) (bk (i 1).val m)) ⟨f.val, by omega⟩ t
  a15 : ∀ f t, b.a15 (ix4 0 0 f t) = ∑ m ∈ Finset.range ((i 1).val + 1), gK x (bk (i 1).val m) (er x (bk (i 1).val 0) (bk (i 1).val m)) ⟨64 + f.val, by omega⟩ t
  a12 : ∀ g r s, b.a12 (ix3 g r s) = (if (i 1).val = 0 then 0 else b0.a12 (ix3 g r s))
    + if 31 - (i 1).val ≤ g.val then gQ x (er x (bk (i 1).val 0) g) r s else 0

theorem last_one (b0 : Bufs Ideal) (v0 : BitVec 32) (hw2 : k0_chk2 i 31#32) (v19 v156 v164 : BitVec 32) (v165 : BitVec 1) (v167 : BitVec 32) h2 h3 h1
    (hs : (i 1).val = 0) (H : Inv i x b0 0 b) : Out i x b0 (A.endOne c i x b v0 31#32 hw2 v19 v156 v164 v165 v167 h2 h3 h1) := by
  have e21 : (fun t s => b.a21 (ix2 t s)) = er x (bk (i 1).val 0) (bk (i 1).val 0) := funext fun t => funext fun s => H.a21 t s
  have e20 : (fun t s => b.a20 (ix2 t s)) = pr x (bk (i 1).val 0) (bk (i 1).val 0) := funext fun t => funext fun s => H.a20 t s
  have r : Finset.range ((i 1).val + 1) = Finset.range 1 := by rw [hs]
  refine ⟨fun f t => ?_, fun f t => ?_, fun f t => ?_, fun g q s => ?_⟩
  · rw [endOne_a14, e20, H.a25, r, Finset.sum_range_succ]
  · rw [endOne_a13, e21, H.a24, r, Finset.sum_range_succ]
  · rw [endOne_a15, e21, H.a24, r, Finset.sum_range_succ]
  · rw [endOne_a12, e21, H.a12, if_neg (c := 31 - (i 1).val ≤ _ ∧ _) (by omega), add_zero]
    have w0 := bk_val (i 1).val 0 (by omega) (by omega)
    by_cases g0 : g = bk (i 1).val 0
    · subst g0
      rw [if_pos rfl]
      exact add_if _ _ (by omega)
    · have g0' : g.val ≠ (bk (i 1).val 0).val := fun e => g0 (Fin.ext e)
      rw [if_neg g0, if_neg (c := 31 - (i 1).val ≤ _) (by omega), add_zero]

theorem own_ne (m : ℕ) (h : 1 ≤ m) (h' : m ≤ (i 1).val) : bk (i 1).val m ≠ bk (i 1).val 0 := fun e => by
  have hi : (i 1).val < 32 := (i 1).isLt
  have := congrArg Fin.val e
  rw [bk_val _ _ h' hi, bk_val _ _ (by omega) hi] at this
  omega

theorem last_even (b0 : Bufs Ideal) (v0 : BitVec 32) (hw2 : k0_chk2 i 31#32) (v19 v156 v164 : BitVec 32) (v165 : BitVec 1) (v167 : BitVec 32) h2 h3 h1
    (K : ℕ) (hs : (i 1).val = 2 * K + 1) (H : Inv i x b0 K b) : Out i x b0 (A.endEven c i x b v0 31#32 hw2 v19 v156 v164 v165 v167 h2 h3 h1) := by
  have hi : (i 1).val < 32 := (i 1).isLt
  have e21 : (fun t s => b.a21 (ix2 t s)) = er x (bk (i 1).val 0) (bk (i 1).val (2 * K)) := funext fun t => funext fun s => H.a21 t s
  have e20 : (fun t s => b.a20 (ix2 t s)) = pr x (bk (i 1).val 0) (bk (i 1).val (2 * K)) := funext fun t => funext fun s => H.a20 t s
  have r : Finset.range ((i 1).val + 1) = Finset.range (2 * K + 1 + 1) := by rw [hs]
  have e1 := own_ne i (2 * K + 1) (by omega) (by omega)
  have h18 := H.a18 (by omega)
  have h19 := H.a19 (by omega)
  have p1 : (fun t s => kp x (bk (i 1).val (2 * K + 1)) s (b.a18 (ix2 t s))) = pr x (bk (i 1).val 0) (bk (i 1).val (2 * K + 1)) := by
    simp only [h18]; rw [pr_off x _ _ e1]
  have q1 : (fun t s => ke x (bk (i 1).val (2 * K + 1)) s (b.a18 (ix2 t s)) (b.a19 (ix2 t s))) = er x (bk (i 1).val 0) (bk (i 1).val (2 * K + 1)) := by
    simp only [h18, h19]; rw [er_off x _ _ e1]
  refine ⟨fun f t => ?_, fun f t => ?_, fun f t => ?_, fun g q s => ?_⟩
  · rw [endEven_a14 A c i x b _ _ _ _ _ _ _ K hs, e20, p1, H.a25, r, Finset.sum_range_succ, Finset.sum_range_succ]
  · rw [endEven_a13 A c i x b _ _ _ _ _ _ _ K hs, e21, q1, H.a24, r, Finset.sum_range_succ, Finset.sum_range_succ]
  · rw [endEven_a15 A c i x b _ _ _ _ _ _ _ K hs, e21, q1, H.a24, r, Finset.sum_range_succ, Finset.sum_range_succ]
  · rw [endEven_a12 A c i x b _ _ _ _ _ _ _ K hs, e21, q1, H.a12]
    have w0 := bk_val (i 1).val (2 * K) (by omega) hi
    have w1 := bk_val (i 1).val (2 * K + 1) (by omega) hi
    by_cases g0 : g = bk (i 1).val (2 * K)
    · subst g0
      rw [if_pos rfl, if_neg (c := 31 - (i 1).val ≤ _ ∧ _) (by omega), add_zero]
      exact add_if _ _ (by omega)
    have g0' : g.val ≠ (bk (i 1).val (2 * K)).val := fun e => g0 (Fin.ext e)
    rw [if_neg g0]
    by_cases g1 : g = bk (i 1).val (2 * K + 1)
    · subst g1
      rw [if_pos rfl, if_neg (c := 31 - (i 1).val ≤ _ ∧ _) (by omega), add_zero]
      exact add_if _ _ (by omega)
    have g1' : g.val ≠ (bk (i 1).val (2 * K + 1)).val := fun e => g1 (Fin.ext e)
    rw [if_neg g1]
    exact congrArg₂ _ rfl (if_congr (by omega) rfl rfl)

theorem last_odd (b0 : Bufs Ideal) (v0 : BitVec 32) (hw2 : k0_chk2 i 31#32) (v19 v156 v164 : BitVec 32) (v165 : BitVec 1) (v167 : BitVec 32) h2 h3 h1
    (K : ℕ) (hs : (i 1).val = 2 * K + 2) (H : Inv i x b0 K b) : Out i x b0 (A.endOdd c i x b v0 31#32 hw2 v19 v156 v164 v165 v167 h2 h3 h1) := by
  have hi : (i 1).val < 32 := (i 1).isLt
  have e21 : (fun t s => b.a21 (ix2 t s)) = er x (bk (i 1).val 0) (bk (i 1).val (2 * K)) := funext fun t => funext fun s => H.a21 t s
  have e20 : (fun t s => b.a20 (ix2 t s)) = pr x (bk (i 1).val 0) (bk (i 1).val (2 * K)) := funext fun t => funext fun s => H.a20 t s
  have r : Finset.range ((i 1).val + 1) = Finset.range (2 * K + 1 + 1 + 1) := by rw [hs]
  have e1 := own_ne i (2 * K + 1) (by omega) (by omega)
  have e2 := own_ne i (2 * K + 2) (by omega) (by omega)
  have h18 := H.a18 (by omega)
  have h19 := H.a19 (by omega)
  have p1 : (fun t s => kp x (bk (i 1).val (2 * K + 1)) s (b.a18 (ix2 t s))) = pr x (bk (i 1).val 0) (bk (i 1).val (2 * K + 1)) := by
    simp only [h18]; rw [pr_off x _ _ e1]
  have q1 : (fun t s => ke x (bk (i 1).val (2 * K + 1)) s (b.a18 (ix2 t s)) (b.a19 (ix2 t s))) = er x (bk (i 1).val 0) (bk (i 1).val (2 * K + 1)) := by
    simp only [h18, h19]; rw [er_off x _ _ e1]
  refine ⟨fun f t => ?_, fun f t => ?_, fun f t => ?_, fun g q s => ?_⟩
  · rw [endOdd_a14 A c i x b _ _ _ _ _ _ _ K hs, e20, p1, ← pr_off x _ _ e2, H.a25, r, Finset.sum_range_succ, Finset.sum_range_succ, Finset.sum_range_succ]
  · rw [endOdd_a13 A c i x b _ _ _ _ _ _ _ K hs, e21, q1, ← er_off x _ _ e2, H.a24, r, Finset.sum_range_succ, Finset.sum_range_succ, Finset.sum_range_succ]
  · rw [endOdd_a15 A c i x b _ _ _ _ _ _ _ K hs, e21, q1, ← er_off x _ _ e2, H.a24, r, Finset.sum_range_succ, Finset.sum_range_succ, Finset.sum_range_succ]
  · rw [endOdd_a12 A c i x b _ _ _ _ _ _ _ K hs, e21, q1, ← er_off x _ _ e2, H.a12]
    have w0 := bk_val (i 1).val (2 * K) (by omega) hi
    have w1 := bk_val (i 1).val (2 * K + 1) (by omega) hi
    have w2 := bk_val (i 1).val (2 * K + 2) (by omega) hi
    by_cases g0 : g = bk (i 1).val (2 * K)
    · subst g0
      rw [if_pos rfl, if_neg (c := 31 - (i 1).val ≤ _ ∧ _) (by omega), add_zero]
      exact add_if _ _ (by omega)
    have g0' : g.val ≠ (bk (i 1).val (2 * K)).val := fun e => g0 (Fin.ext e)
    rw [if_neg g0]
    by_cases g1 : g = bk (i 1).val (2 * K + 1)
    · subst g1
      rw [if_pos rfl, if_neg (c := 31 - (i 1).val ≤ _ ∧ _) (by omega), add_zero]
      exact add_if _ _ (by omega)
    have g1' : g.val ≠ (bk (i 1).val (2 * K + 1)).val := fun e => g1 (Fin.ext e)
    rw [if_neg g1]
    by_cases g2 : g = bk (i 1).val (2 * K + 2)
    · subst g2
      rw [if_pos rfl, if_neg (c := 31 - (i 1).val ≤ _ ∧ _) (by omega), add_zero]
      exact add_if _ _ (by omega)
    have g2' : g.val ≠ (bk (i 1).val (2 * K + 2)).val := fun e => g2 (Fin.ext e)
    rw [if_neg g2]
    exact congrArg₂ _ rfl (if_congr (by omega) rfl rfl)

theorem which : let one := Scalar.cmpi .ne (Scalar.extui (Scalar.cmpi .eq (Scalar.addi (Scalar.subi 31#32 (Scalar.subi 31#32 (BitVec.ofNat 32 (i 1).val))) 1#32) 1#32)) 0#32
    (one = 1#1 → (i 1).val = 0) ∧ (k0_cond2 i 31#32 = 1#1 → (i 1).val % 2 = 1) ∧ (k0_cond3 i 31#32 = 1#1 → (i 1).val % 2 = 0 ∧ (i 1).val ≠ 0) := by
  have key : ∀ s : Fin 32, let one := Scalar.cmpi .ne (Scalar.extui (Scalar.cmpi .eq (Scalar.addi (Scalar.subi 31#32 (Scalar.subi 31#32 (BitVec.ofNat 32 s.val))) 1#32) 1#32)) 0#32
      (one = 1#1 → s.val = 0) ∧ (k0_cond2 (at0 s) 31#32 = 1#1 → s.val % 2 = 1) ∧ (k0_cond3 (at0 s) 31#32 = 1#1 → s.val % 2 = 0 ∧ s.val ≠ 0) := by
    decide +kernel
  exact key (i 1)

theorem out_last (b0 : Bufs Ideal) (v0 v6 : BitVec 32) (h6 : v6 = 31#32) (hw2 : k0_chk2 i v6) (v19 : BitVec 32) (r : (Σ' (v156 : BitVec 32) (v164 : BitVec 32) (v165 : BitVec 1), BitVec 32))
    (hv0 : v0 = Scalar.subi 31#32 (BitVec.ofNat 32 (i 1).val)) (hv19 : v19 = Scalar.addi (Scalar.subi v6 v0) 1#32) (v132 : FVec Ideal S256x256 .bf16) (v133 : Vec Ideal S256x256 .bf16)
    (H : Inv i x b0 0 b) : Out i x b0 (A.last c i x (A.loop c i x b v0 v6 hw2 v19 v132 v133) v0 v6 hw2 v19 r) := by
  subst h6
  have hi : (i 1).val < 32 := (i 1).isLt
  have e := ending i 31#32 ⟨31, by omega, le_refl _, rfl⟩
  have w := which i
  rw [← hv0, ← hv19] at e w
  dsimp only at e w
  have HL : Inv i x b0 (((i 1).val + 1) / 2 - 1) (A.loop c i x b v0 31#32 hw2 v19 v132 v133) := by
    unfold Mems.loop
    rw [trips_count]
    exact inv_trips A c i x b b0 v0 hw2 v19 v132 v133 H _ (le_refl _)
  rw [Mems.last]
  split_ifs with h2 h3 h1
  · have := w.2.1 h2.1
    refine last_even A c i x _ b0 _ _ _ _ _ _ _ _ _ _ (((i 1).val + 1) / 2 - 1) (by omega) HL
  · have := w.2.2 h3.2.1
    refine last_odd A c i x _ b0 _ _ _ _ _ _ _ _ _ _ (((i 1).val + 1) / 2 - 1) (by omega) HL
  · have h0 := w.1 h1.2.2
    refine last_one A c i x _ b0 _ _ _ _ _ _ _ _ _ _ h0 ?_
    rwa [h0] at HL
  · rcases e with e | e | e
    · exact absurd e h2
    · exact absurd e h3
    · exact absurd e h1

/-- A whole step, when every block from the own one on is looked at. -/
theorem out_step (h : A.top i x = 31) : Out i x b (A.step c i x b) := by
  unfold Mems.step Mems.b5
  exact out_last A c i x _ b _ _ ((A.first_v6 c i x b).trans (by rw [h])) _ _ _ (A.first_v0 c i x b) (A.first_v19 c i x b) _ _ (early A c i x b h)

end Step

end Cert.AttnBwdIdeal.Own

end
-- ==== Proof.AttnDat.lean ====
module

public import proofs.«01_k».proof.Proof.AttnFrame
public import proofs.«01_k».proof.Proof.AttnClosed

@[expose] public section

set_option maxRecDepth 16384

noncomputable section

namespace Cert.AttnBwdIdeal.Own

open Cert.AttnBwdIdeal Cert.AttnBwdIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-- The block window `w` holds at point `t`. -/
def iblk (c : Dev nD) (w : Fin (cfg0 (F := Ideal)).W) (t : Fin (cfg0 (F := Ideal)).N) : ((cfg0.win w).xblock (cfg0.grid.coords t)).Idx → Elt Ideal (cfg0.win w).elt :=
  ((cfg0.win w).blk t).view.read (Elt Ideal) (V m c (Pipeline.arrRef spec0 w))

/-- The blocks a step reads. -/
def insAt (c : Dev nD) (t : Fin (cfg0 (F := Ideal)).N) : Ins Ideal :=
  ⟨iblk m c 0 t, iblk m c 1 t, iblk m c 2 t, iblk m c 3 t, iblk m c 4 t, iblk m c 5 t, iblk m c 6 t, iblk m c 7 t, iblk m c 8 t, iblk m c 9 t⟩

/-- The blocks of a step, counted along the grid. -/
theorem coord0 : ∀ t : Fin (cfg0 (F := Ideal)).N, (grid0.coords t 0).val = t.val / 32 :=
  (by decide +kernel : ∀ t : Fin grid0.N, (grid0.coords t 0).val = t.val / 32)
theorem coord1 : ∀ t : Fin (cfg0 (F := Ideal)).N, (grid0.coords t 1).val = t.val % 32 :=
  (by decide +kernel : ∀ t : Fin grid0.N, (grid0.coords t 1).val = t.val % 32)

/-- What step `t` adds to the gradient of block `g` of the queries. -/
def dqNew (c : Dev nD) (t : Fin (cfg0 (F := Ideal)).N) (g : Fin 32) (r : Fin 80) (s : Fin 512) : EReal :=
  if 31 - t.val % 32 ≤ g.val then gQ (insAt m c t) (er (insAt m c t) (bk (t.val % 32) 0) g) r s else 0
/-- The same at a step's number. -/
def dqPart (c : Dev nD) (u : ℕ) (g : Fin 32) (r : Fin 80) (s : Fin 512) : EReal :=
  if h : u < (cfg0 (F := Ideal)).N then dqNew m c ⟨u, h⟩ g r s else 0
/-- The gradient of the queries after step `t`: the sum over the head's steps so far. -/
def dqAt (c : Dev nD) (t : Fin (cfg0 (F := Ideal)).N) : Vec Ideal S32x80x512 .f32 :=
  fun w => ∑ u ∈ Finset.range (t.val % 32 + 1), dqPart m c (t.val / 32 * 32 + u) (w 0) (w 1) (w 2)
/-- The gradient of a block of keys. -/
def dkAt (c : Dev nD) (t : Fin (cfg0 (F := Ideal)).N) : Vec Ideal S1x64x512 .f32 :=
  fun w => ∑ k ∈ Finset.range (t.val % 32 + 1), gK (insAt m c t) (bk (t.val % 32) k) (er (insAt m c t) (bk (t.val % 32) 0) (bk (t.val % 32) k)) ⟨(w 1).val, lt_trans (w 1).isLt (by decide)⟩ (w 2)
/-- The gradient of a block of values. -/
def dvAt (c : Dev nD) (t : Fin (cfg0 (F := Ideal)).N) : Vec Ideal S1x64x512 .f32 :=
  fun w => ∑ k ∈ Finset.range (t.val % 32 + 1), gV (insAt m c t) (bk (t.val % 32) k) (pr (insAt m c t) (bk (t.val % 32) 0) (bk (t.val % 32) k)) (w 1) (w 2)
/-- The part of the gradient of the gates that falls on a block of keys. -/
def dfAt (c : Dev nD) (t : Fin (cfg0 (F := Ideal)).N) : Vec Ideal S1x1x8x512 .f32 :=
  fun w => ∑ k ∈ Finset.range (t.val % 32 + 1), gK (insAt m c t) (bk (t.val % 32) k) (er (insAt m c t) (bk (t.val % 32) 0) (bk (t.val % 32) k)) ⟨64 + (w 2).val, by have : (w 2).val < 8 := (w 2).isLt; omega⟩ (w 3)

/-- The proof data: what each window holds after each step. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqAt m c t
    | ⟨11, _⟩ => dkAt m c t
    | ⟨12, _⟩ => dvAt m c t
    | ⟨13, _⟩ => dfAt m c t
  Φ _ := Pipeline.ΦA spec0 c
  q _ := fullShare
  owed _ := 0

theorem A_eq (c : Dev nD) (w : Fin (cfg0 (F := Ideal)).W) : (dats m 0 c).A w = V m c (Pipeline.arrRef spec0 w) := by
  dsimp only [dats]

theorem after_0 (c : Dev nD) (t : Fin (cfg0 (F := Ideal)).N) : (dats m 0 c).after 0 t = iblk m c 0 t := by dsimp only [dats]
theorem after_1 (c : Dev nD) (t : Fin (cfg0 (F := Ideal)).N) : (dats m 0 c).after 1 t = iblk m c 1 t := by dsimp only [dats]
theorem after_2 (c : Dev nD) (t : Fin (cfg0 (F := Ideal)).N) : (dats m 0 c).after 2 t = iblk m c 2 t := by dsimp only [dats]
theorem after_3 (c : Dev nD) (t : Fin (cfg0 (F := Ideal)).N) : (dats m 0 c).after 3 t = iblk m c 3 t := by dsimp only [dats]
theorem after_4 (c : Dev nD) (t : Fin (cfg0 (F := Ideal)).N) : (dats m 0 c).after 4 t = iblk m c 4 t := by dsimp only [dats]
theorem after_5 (c : Dev nD) (t : Fin (cfg0 (F := Ideal)).N) : (dats m 0 c).after 5 t = iblk m c 5 t := by dsimp only [dats]
theorem after_6 (c : Dev nD) (t : Fin (cfg0 (F := Ideal)).N) : (dats m 0 c).after 6 t = iblk m c 6 t := by dsimp only [dats]
theorem after_7 (c : Dev nD) (t : Fin (cfg0 (F := Ideal)).N) : (dats m 0 c).after 7 t = iblk m c 7 t := by dsimp only [dats]
theorem after_8 (c : Dev nD) (t : Fin (cfg0 (F := Ideal)).N) : (dats m 0 c).after 8 t = iblk m c 8 t := by dsimp only [dats]
theorem after_9 (c : Dev nD) (t : Fin (cfg0 (F := Ideal)).N) : (dats m 0 c).after 9 t = iblk m c 9 t := by dsimp only [dats]
theorem after_10 (c : Dev nD) (t : Fin (cfg0 (F := Ideal)).N) : (dats m 0 c).after 10 t = dqAt m c t := by dsimp only [dats]
theorem after_11 (c : Dev nD) (t : Fin (cfg0 (F := Ideal)).N) : (dats m 0 c).after 11 t = dkAt m c t := by dsimp only [dats]
theorem after_12 (c : Dev nD) (t : Fin (cfg0 (F := Ideal)).N) : (dats m 0 c).after 12 t = dvAt m c t := by dsimp only [dats]
theorem after_13 (c : Dev nD) (t : Fin (cfg0 (F := Ideal)).N) : (dats m 0 c).after 13 t = dfAt m c t := by dsimp only [dats]
theorem before_0 (c : Dev nD) (t : Fin (cfg0 (F := Ideal)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := Ideal)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := Ideal)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := Ideal)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := Ideal)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (F := Ideal)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (F := Ideal)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfg0 (F := Ideal)).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfg0 (F := Ideal)).N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin (cfg0 (F := Ideal)).N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
/-- Between the steps of a head the gradient of the queries stays where it is. -/
theorem before_10 (c : Dev nD) (t : Fin (cfg0 (F := Ideal)).N) (h : ¬t.val % 32 = 0) (d) :
    (dats m 0 c).before 10 t d = dqAt m c ⟨t.val - 1, Nat.lt_of_le_of_lt (Nat.sub_le _ _) t.isLt⟩ := by
  have hN : t.val < 256 := lt_of_lt_of_eq t.isLt (show (cfg0 (F := Ideal)).N = 256 from N_0)
  rw [Dat.before_out_kept _ 10 rfl t (by omega) (Bool.eq_false_iff.mpr fun h => by have := (flush0_10 _).mp h; dsimp only at this; omega)
    (fun _ => rfl) (fun _ _ => rfl)]
  dsimp only [dats]

/-! ## Every block is looked at -/

variable (hthr : ∀ (c : Dev nD) (t : Fin (cfg0 (F := Ideal)).N) (w : S8.Idx), (insAt m c t).x4 w ≠ ⊥)

theorem prune_top : Named.named (F := Ideal) κ (φ := .f32) "prune" 0x42D20000#32 = ⊤ :=
  IdealRules.named_const.ideal_named_scalar _ _ _ _ rfl

theorem cut_bot (z : EReal) (h : z ≠ ⊥) : k0_pay130 (F := Ideal) z = ⊥ := by
  show (Ideal.ofBits .f32 0x00000000#32 : EReal) - (Named.named (F := Ideal) κ (φ := .f32) "prune" 0x42D20000#32 + z) = ⊥
  rw [prune_top, EReal.top_add_of_ne_bot h]
  simp [Ideal.ofBits, Ideal.ieee]

theorem above_bot (z : EReal) : Scalar.cmpf (F := Ideal) (φ := .f32) .oge z (⊥ : EReal) = 1#1 := by
  show BitVec.ofBool (decide ((⊥ : EReal) ≤ z)) = 1#1
  rw [decide_eq_true bot_le]; rfl

include hthr in
theorem top_all (c : Dev nD) (t : Fin (cfg0 (F := Ideal)).N) : (mems t).top (grid0.coords t) (insAt m c t) = 31 := by
  have hs : (grid0.coords t 1).val < 32 := (grid0.coords t 1).isLt
  unfold Mems.top
  rw [look_all, Nat.sub_add_cancel (by omega)]
  · intro w
    rw [cut_bot]
    · exact above_bot _
    · rw [View.readAt_eq_ld, (mems t).z4.read_unread]
      exact hthr c t _
  · omega

/-! ## The step under the pipeline -/

theorem dqPart_at (c : Dev nD) (t : Fin (cfg0 (F := Ideal)).N) (n : ℕ) (h : n = t.val) (g : Fin 32) (r : Fin 80) (s : Fin 512) :
    dqPart m c n g r s = dqNew m c t g r s := by
  subst h; exact dif_pos t.isLt

/-- A step's buffers hold what the proof data say, whatever the accumulators held. -/
theorem step_12 (c : Dev nD) (t : Fin (cfg0 (F := Ideal)).N) (b : Bufs Ideal) (H : Out (grid0.coords t) (insAt m c t) b ((mems t).step c (grid0.coords t) (insAt m c t) b))
    (h : ¬t.val % 32 = 0 → b.a12 = dqAt m c ⟨t.val - 1, Nat.lt_of_le_of_lt (Nat.sub_le _ _) t.isLt⟩) :
    ((mems t).step c (grid0.coords t) (insAt m c t) b).a12 = dqAt m c t := by
  funext w
  obtain ⟨g, r, s, rfl⟩ : ∃ (g : Fin 32) (r : Fin 80) (s : Fin 512), w = ix3 g r s := ⟨w 0, w 1, w 2, funext fun a => match a with | 0 => rfl | 1 => rfl | 2 => rfl⟩
  have e := H.a12 g r s
  rw [coord1] at e
  rw [e]
  unfold dqAt
  rw [Finset.sum_range_succ]
  have ht : t.val / 32 * 32 + t.val % 32 = t.val := by omega
  refine congrArg₂ _ ?_ ?_
  · by_cases h0 : t.val % 32 = 0
    · rw [if_pos h0, h0, Finset.sum_range_zero]
    · rw [if_neg h0, h h0]
      unfold dqAt
      dsimp only
      rw [show (t.val - 1) % 32 + 1 = t.val % 32 by omega, show (t.val - 1) / 32 = t.val / 32 by omega]
  · exact (dqPart_at m c t _ ht g r s).symm
theorem step_13 (c : Dev nD) (t : Fin (cfg0 (F := Ideal)).N) (b : Bufs Ideal) (H : Out (grid0.coords t) (insAt m c t) b ((mems t).step c (grid0.coords t) (insAt m c t) b)) :
    ((mems t).step c (grid0.coords t) (insAt m c t) b).a13 = dkAt m c t := by
  funext w
  obtain ⟨f, s, rfl⟩ : ∃ (f : Fin 64) (s : Fin 512), w = ix3 0 f s := ⟨w 1, w 2, funext fun a => match a with | 0 => Subsingleton.elim (α := Fin 1) _ _ | 1 => rfl | 2 => rfl⟩
  have e := H.a13 f s
  rw [coord1] at e
  exact e
theorem step_14 (c : Dev nD) (t : Fin (cfg0 (F := Ideal)).N) (b : Bufs Ideal) (H : Out (grid0.coords t) (insAt m c t) b ((mems t).step c (grid0.coords t) (insAt m c t) b)) :
    ((mems t).step c (grid0.coords t) (insAt m c t) b).a14 = dvAt m c t := by
  funext w
  obtain ⟨f, s, rfl⟩ : ∃ (f : Fin 64) (s : Fin 512), w = ix3 0 f s := ⟨w 1, w 2, funext fun a => match a with | 0 => Subsingleton.elim (α := Fin 1) _ _ | 1 => rfl | 2 => rfl⟩
  have e := H.a14 f s
  rw [coord1] at e
  exact e
theorem step_15 (c : Dev nD) (t : Fin (cfg0 (F := Ideal)).N) (b : Bufs Ideal) (H : Out (grid0.coords t) (insAt m c t) b ((mems t).step c (grid0.coords t) (insAt m c t) b)) :
    ((mems t).step c (grid0.coords t) (insAt m c t) b).a15 = dfAt m c t := by
  funext w
  obtain ⟨f, s, rfl⟩ : ∃ (f : Fin 8) (s : Fin 512), w = ix4 0 0 f s :=
    ⟨w 2, w 3, funext fun a => match a with | 0 => Subsingleton.elim (α := Fin 1) _ _ | 1 => Subsingleton.elim (α := Fin 1) _ _ | 2 => rfl | 3 => rfl⟩
  have e := H.a15 f s
  rw [coord1] at e
  exact e

theorem ins_0 (c : Dev nD) (t : Fin (cfg0 (F := Ideal)).N) : (insAt m c t).x2 = iblk m c 0 t := by dsimp only [insAt]
theorem ins_1 (c : Dev nD) (t : Fin (cfg0 (F := Ideal)).N) : (insAt m c t).x3 = iblk m c 1 t := by dsimp only [insAt]
theorem ins_2 (c : Dev nD) (t : Fin (cfg0 (F := Ideal)).N) : (insAt m c t).x4 = iblk m c 2 t := by dsimp only [insAt]
theorem ins_3 (c : Dev nD) (t : Fin (cfg0 (F := Ideal)).N) : (insAt m c t).x5 = iblk m c 3 t := by dsimp only [insAt]
theorem ins_4 (c : Dev nD) (t : Fin (cfg0 (F := Ideal)).N) : (insAt m c t).x6 = iblk m c 4 t := by dsimp only [insAt]
theorem ins_5 (c : Dev nD) (t : Fin (cfg0 (F := Ideal)).N) : (insAt m c t).x7 = iblk m c 5 t := by dsimp only [insAt]
theorem ins_6 (c : Dev nD) (t : Fin (cfg0 (F := Ideal)).N) : (insAt m c t).x8 = iblk m c 6 t := by dsimp only [insAt]
theorem ins_7 (c : Dev nD) (t : Fin (cfg0 (F := Ideal)).N) : (insAt m c t).x9 = iblk m c 7 t := by dsimp only [insAt]
theorem ins_8 (c : Dev nD) (t : Fin (cfg0 (F := Ideal)).N) : (insAt m c t).x10 = iblk m c 8 t := by dsimp only [insAt]
theorem ins_9 (c : Dev nD) (t : Fin (cfg0 (F := Ideal)).N) : (insAt m c t).x11 = iblk m c 9 t := by dsimp only [insAt]
theorem before_in_0 (c : Dev nD) (t : Fin (cfg0 (F := Ideal)).N) (d) : (dats m 0 c).before 0 t d = (insAt m c t).x2 :=
  (before_0 m c t d).trans (ins_0 m c t).symm
theorem before_in_1 (c : Dev nD) (t : Fin (cfg0 (F := Ideal)).N) (d) : (dats m 0 c).before 1 t d = (insAt m c t).x3 :=
  (before_1 m c t d).trans (ins_1 m c t).symm
theorem before_in_2 (c : Dev nD) (t : Fin (cfg0 (F := Ideal)).N) (d) : (dats m 0 c).before 2 t d = (insAt m c t).x4 :=
  (before_2 m c t d).trans (ins_2 m c t).symm
theorem before_in_3 (c : Dev nD) (t : Fin (cfg0 (F := Ideal)).N) (d) : (dats m 0 c).before 3 t d = (insAt m c t).x5 :=
  (before_3 m c t d).trans (ins_3 m c t).symm
theorem before_in_4 (c : Dev nD) (t : Fin (cfg0 (F := Ideal)).N) (d) : (dats m 0 c).before 4 t d = (insAt m c t).x6 :=
  (before_4 m c t d).trans (ins_4 m c t).symm
theorem before_in_5 (c : Dev nD) (t : Fin (cfg0 (F := Ideal)).N) (d) : (dats m 0 c).before 5 t d = (insAt m c t).x7 :=
  (before_5 m c t d).trans (ins_5 m c t).symm
theorem before_in_6 (c : Dev nD) (t : Fin (cfg0 (F := Ideal)).N) (d) : (dats m 0 c).before 6 t d = (insAt m c t).x8 :=
  (before_6 m c t d).trans (ins_6 m c t).symm
theorem before_in_7 (c : Dev nD) (t : Fin (cfg0 (F := Ideal)).N) (d) : (dats m 0 c).before 7 t d = (insAt m c t).x9 :=
  (before_7 m c t d).trans (ins_7 m c t).symm
theorem before_in_8 (c : Dev nD) (t : Fin (cfg0 (F := Ideal)).N) (d) : (dats m 0 c).before 8 t d = (insAt m c t).x10 :=
  (before_8 m c t d).trans (ins_8 m c t).symm
theorem before_in_9 (c : Dev nD) (t : Fin (cfg0 (F := Ideal)).N) (d) : (dats m 0 c).before 9 t d = (insAt m c t).x11 :=
  (before_9 m c t d).trans (ins_9 m c t).symm

theorem after_in_0 (c : Dev nD) (t : Fin (cfg0 (F := Ideal)).N) : (dats m 0 c).after 0 t = (insAt m c t).x2 :=
  (after_0 m c t).trans (ins_0 m c t).symm
theorem after_in_1 (c : Dev nD) (t : Fin (cfg0 (F := Ideal)).N) : (dats m 0 c).after 1 t = (insAt m c t).x3 :=
  (after_1 m c t).trans (ins_1 m c t).symm
theorem after_in_2 (c : Dev nD) (t : Fin (cfg0 (F := Ideal)).N) : (dats m 0 c).after 2 t = (insAt m c t).x4 :=
  (after_2 m c t).trans (ins_2 m c t).symm
theorem after_in_3 (c : Dev nD) (t : Fin (cfg0 (F := Ideal)).N) : (dats m 0 c).after 3 t = (insAt m c t).x5 :=
  (after_3 m c t).trans (ins_3 m c t).symm
theorem after_in_4 (c : Dev nD) (t : Fin (cfg0 (F := Ideal)).N) : (dats m 0 c).after 4 t = (insAt m c t).x6 :=
  (after_4 m c t).trans (ins_4 m c t).symm
theorem after_in_5 (c : Dev nD) (t : Fin (cfg0 (F := Ideal)).N) : (dats m 0 c).after 5 t = (insAt m c t).x7 :=
  (after_5 m c t).trans (ins_5 m c t).symm
theorem after_in_6 (c : Dev nD) (t : Fin (cfg0 (F := Ideal)).N) : (dats m 0 c).after 6 t = (insAt m c t).x8 :=
  (after_6 m c t).trans (ins_6 m c t).symm
theorem after_in_7 (c : Dev nD) (t : Fin (cfg0 (F := Ideal)).N) : (dats m 0 c).after 7 t = (insAt m c t).x9 :=
  (after_7 m c t).trans (ins_7 m c t).symm
theorem after_in_8 (c : Dev nD) (t : Fin (cfg0 (F := Ideal)).N) : (dats m 0 c).after 8 t = (insAt m c t).x10 :=
  (after_8 m c t).trans (ins_8 m c t).symm
theorem after_in_9 (c : Dev nD) (t : Fin (cfg0 (F := Ideal)).N) : (dats m 0 c).after 9 t = (insAt m c t).x11 :=
  (after_9 m c t).trans (ins_9 m c t).symm

/-- What the body is called with at point `t`, -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (mems t).m2 fullShare ((dats m 0 c).before 0 t d))
    ∗ (∃ d, owns (c : Thread nD τ) (mems t).m3 fullShare ((dats m 0 c).before 1 t d))
    ∗ (∃ d, owns (c : Thread nD τ) (mems t).m4 fullShare ((dats m 0 c).before 2 t d))
    ∗ (∃ d, owns (c : Thread nD τ) (mems t).m5 fullShare ((dats m 0 c).before 3 t d))
    ∗ (∃ d, owns (c : Thread nD τ) (mems t).m6 fullShare ((dats m 0 c).before 4 t d))
    ∗ (∃ d, owns (c : Thread nD τ) (mems t).m7 fullShare ((dats m 0 c).before 5 t d))
    ∗ (∃ d, owns (c : Thread nD τ) (mems t).m8 fullShare ((dats m 0 c).before 6 t d))
    ∗ (∃ d, owns (c : Thread nD τ) (mems t).m9 fullShare ((dats m 0 c).before 7 t d))
    ∗ (∃ d, owns (c : Thread nD τ) (mems t).m10 fullShare ((dats m 0 c).before 8 t d))
    ∗ (∃ d, owns (c : Thread nD τ) (mems t).m11 fullShare ((dats m 0 c).before 9 t d))
    ∗ (∃ d, owns (c : Thread nD τ) (mems t).m12 fullShare ((dats m 0 c).before 10 t d))
    ∗ (∃ d, owns (c : Thread nD τ) (mems t).m13 fullShare ((dats m 0 c).before 11 t d))
    ∗ (∃ d, owns (c : Thread nD τ) (mems t).m14 fullShare ((dats m 0 c).before 12 t d))
    ∗ (∃ d, owns (c : Thread nD τ) (mems t).m15 fullShare ((dats m 0 c).before 13 t d)))
/-- and what it returns. -/
def bodyPost (c : Dev nD) (t : Fin (cfg0 (F := Ideal)).N) : sProp 𝕄 :=
  iprop((dats m 0 c).Φ t.succ ∗ (dats m 0 c).owesAt () t.succ
    ∗ owns (c : Thread nD τ) (mems t).m2 fullShare ((dats m 0 c).after 0 t)
    ∗ owns (c : Thread nD τ) (mems t).m3 fullShare ((dats m 0 c).after 1 t)
    ∗ owns (c : Thread nD τ) (mems t).m4 fullShare ((dats m 0 c).after 2 t)
    ∗ owns (c : Thread nD τ) (mems t).m5 fullShare ((dats m 0 c).after 3 t)
    ∗ owns (c : Thread nD τ) (mems t).m6 fullShare ((dats m 0 c).after 4 t)
    ∗ owns (c : Thread nD τ) (mems t).m7 fullShare ((dats m 0 c).after 5 t)
    ∗ owns (c : Thread nD τ) (mems t).m8 fullShare ((dats m 0 c).after 6 t)
    ∗ owns (c : Thread nD τ) (mems t).m9 fullShare ((dats m 0 c).after 7 t)
    ∗ owns (c : Thread nD τ) (mems t).m10 fullShare ((dats m 0 c).after 8 t)
    ∗ owns (c : Thread nD τ) (mems t).m11 fullShare ((dats m 0 c).after 9 t)
    ∗ owns (c : Thread nD τ) (mems t).m12 fullShare ((dats m 0 c).after 10 t)
    ∗ owns (c : Thread nD τ) (mems t).m13 fullShare ((dats m 0 c).after 11 t)
    ∗ owns (c : Thread nD τ) (mems t).m14 fullShare ((dats m 0 c).after 12 t)
    ∗ owns (c : Thread nD τ) (mems t).m15 fullShare ((dats m 0 c).after 13 t))

include hthr in
/-- A step from the blocks it reads to the contents the proof data say. -/
theorem step_at (c : Dev nD) (t : Fin (cfg0 (F := Ideal)).N) (x : Ins Ideal) (hx : x = insAt m c t)
    (y12 : Vec Ideal S32x80x512 .f32) (y13 : Vec Ideal S1x64x512 .f32) (y14 : Vec Ideal S1x64x512 .f32) (y15 : Vec Ideal S1x1x8x512 .f32)
    (hy : ¬t.val % 32 = 0 → y12 = dqAt m c ⟨t.val - 1, Nat.lt_of_le_of_lt (Nat.sub_le _ _) t.isLt⟩) (O : sProp 𝕄) :
    iprop((Pipeline.ΦA (Val := Elt Ideal) (U := UR sig nD τ) spec0 c : sProp 𝕄) ∗ O
        ∗ owns (c : Thread nD τ) (mems t).m2 fullShare x.x2
        ∗ owns (c : Thread nD τ) (mems t).m3 fullShare x.x3
        ∗ owns (c : Thread nD τ) (mems t).m4 fullShare x.x4
        ∗ owns (c : Thread nD τ) (mems t).m5 fullShare x.x5
        ∗ owns (c : Thread nD τ) (mems t).m6 fullShare x.x6
        ∗ owns (c : Thread nD τ) (mems t).m7 fullShare x.x7
        ∗ owns (c : Thread nD τ) (mems t).m8 fullShare x.x8
        ∗ owns (c : Thread nD τ) (mems t).m9 fullShare x.x9
        ∗ owns (c : Thread nD τ) (mems t).m10 fullShare x.x10
        ∗ owns (c : Thread nD τ) (mems t).m11 fullShare x.x11
        ∗ owns (c : Thread nD τ) (mems t).m12 fullShare y12 ∗ owns (c : Thread nD τ) (mems t).m13 fullShare y13 ∗ owns (c : Thread nD τ) (mems t).m14 fullShare y14 ∗ owns (c : Thread nD τ) (mems t).m15 fullShare y15)
      ⊢ wp frame (wpE (defs₀ (F := Ideal)) 𝒱₀ (c : Thread nD τ) none) Set.univ (bodyAt0 t) (fun _ =>
        iprop((Pipeline.ΦA (Val := Elt Ideal) (U := UR sig nD τ) spec0 c : sProp 𝕄) ∗ O
        ∗ owns (c : Thread nD τ) (mems t).m2 fullShare x.x2
        ∗ owns (c : Thread nD τ) (mems t).m3 fullShare x.x3
        ∗ owns (c : Thread nD τ) (mems t).m4 fullShare x.x4
        ∗ owns (c : Thread nD τ) (mems t).m5 fullShare x.x5
        ∗ owns (c : Thread nD τ) (mems t).m6 fullShare x.x6
        ∗ owns (c : Thread nD τ) (mems t).m7 fullShare x.x7
        ∗ owns (c : Thread nD τ) (mems t).m8 fullShare x.x8
        ∗ owns (c : Thread nD τ) (mems t).m9 fullShare x.x9
        ∗ owns (c : Thread nD τ) (mems t).m10 fullShare x.x10
        ∗ owns (c : Thread nD τ) (mems t).m11 fullShare x.x11
        ∗ owns (c : Thread nD τ) (mems t).m12 fullShare (dqAt m c t) ∗ owns (c : Thread nD τ) (mems t).m13 fullShare (dkAt m c t) ∗ owns (c : Thread nD τ) (mems t).m14 fullShare (dvAt m c t) ∗ owns (c : Thread nD τ) (mems t).m15 fullShare (dfAt m c t))) := by
  iintro ⟨HP, HO, H2, H3, H4, H5, H6, H7, H8, H9, H10, H11, H12, H13, H14, H15⟩
  iapply (body_step c t x y12 y13 y14 y15 _)
  isplitl [HP]; · iexact HP
  isplitl [H2 H3 H4 H5 H6 H7 H8 H9 H10 H11]
  · unfold ins; iframe H2 H3 H4 H5 H6 H7 H8 H9 H10 H11
  iframe H12 H13 H14 H15
  iintro ⟨HP, HI, ⟨%b, %hb, H12, H13, H14, H15⟩⟩
  have H := out_step (mems t) c (grid0.coords t) (insAt m c t) b (top_all m hthr c t)
  rw [← hx] at H
  have e12 := step_12 m c t b (by rw [← hx]; exact H) (fun h => hb.1.trans (hy h))
  have e13 := step_13 m c t b (by rw [← hx]; exact H)
  have e14 := step_14 m c t b (by rw [← hx]; exact H)
  have e15 := step_15 m c t b (by rw [← hx]; exact H)
  rw [← hx] at e12 e13 e14 e15
  rw [e12, e13, e14, e15]
  unfold ins
  icases HI with ⟨H2, H3, H4, H5, H6, H7, H8, H9, H10, H11⟩
  isplitl [HP]; · iexact HP
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

include hthr in
set_option maxHeartbeats 1600000 in
theorem sound_body (c : Dev nD) (t : Fin (cfg0 (F := Ideal)).N) :
    bodyPre m c t ⊢ wp frame (wpE (defs₀ (F := Ideal)) 𝒱₀ c none) Set.univ (bodyAt0 t) (fun _ => bodyPost m c t) := by
  unfold bodyPre bodyPost
  simp only [before_in_0, before_in_1, before_in_2, before_in_3, before_in_4, before_in_5, before_in_6, before_in_7, before_in_8, before_in_9]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl, after_in_0, after_in_1, after_in_2, after_in_3, after_in_4, after_in_5, after_in_6, after_in_7, after_in_8, after_in_9, after_10, after_11, after_12, after_13]
  iintro ⟨HP, HO, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H15⟩⟩
  iapply (step_at m hthr c t (insAt m c t) rfl ((dats m 0 c).before 10 t d10) ((dats m 0 c).before 11 t d11) ((dats m 0 c).before 12 t d12) ((dats m 0 c).before 13 t d13)
    (fun h => before_10 m c t h d10) ((dats m 0 c).owesAt () t.castSucc))
  isplitl [HP]; · iexact HP
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

include hthr in
/-- The library's body obligation, at every point. -/
theorem body_obligation_at (c : Dev nD) : BodyObligation (dats m 0 c) (defs₀ (F := Ideal)) 𝒱₀ () Set.univ := fun t => by
  rw [bigSep_W0, bigSep_W0, defs₀_row]
  exact triple_restated (sound_body m hthr c t) rfl .rfl fun _ => .rfl

include hthr in
set_option backward.isDefEq.respectTransparency.types false in
set_option maxHeartbeats 800000 in
/-- The run: every array the kernel is given ends at what the proof data say, and the last lines follow. -/
theorem run_main_all : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation_at m hthr c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m) (hA := A_eq m) (hΦ := fun _ _ => rfl)

end Cert.AttnBwdIdeal.Own

end
-- ==== Proof.AttnReal.lean ====
/- Facts about extended reals that the values of the attention's backward call need. -/
module

public import Idealize.ShloMosaic.Lib.Pointwise
public import Idealize.ShloMosaic.Lib.WordCmp
public import Mathlib.Analysis.SpecialFunctions.Log.Basic

@[expose] public section

noncomputable section

namespace Cert.AttnReal

open Idealize.ShloMosaic

/-- A sum of reals, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem lit_eighth : Ideal.ofBits .f32 0x3E000000#32 = ((1 / 8 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_ninf : Ideal.ofBits .f32 0xFF800000#32 = (⊥ : EReal) := by
  simp [Ideal.ofBits, Ideal.ieee]

theorem lit_zero : Ideal.ofBits .f32 0x00000000#32 = (0 : EReal) := by
  simp [Ideal.ofBits, Ideal.ieee]

/-- The margin of the threshold is a positive real. -/
theorem lit_margin : ∃ r : ℝ, 0 ≤ r ∧ Ideal.ofBits .f32 0x400147AE#32 = ((r : ℝ) : EReal) := by
  refine ⟨_, ?_, by simp [Ideal.ofBits, Ideal.ieee, -EReal.coe_mul]; rfl⟩
  positivity

theorem zero_word : (FloatOps.sitofp (F := Ideal) .bf16 (0#32 : BitVec 32) : EReal) = 0 := by
  show (((0#32 : BitVec 32).toInt : ℝ) : EReal) = 0
  simp

/-- A choice by the order of two small words. -/
theorem select_le {α : Type} {a b : ℕ} (ha : a < 2 ^ 31) (hb : b < 2 ^ 31) (x y : α) :
    Scalar.select (IntOp.cmpi CmpIPredicate.sle (BitVec.ofNat 32 a) (BitVec.ofNat 32 b)) x y = if a ≤ b then x else y := by
  rw [WordCmp.cmpi_sle_ofNat ha hb, WordCmp.select_ofBool]
  simp

/-- The greatest of finitely many values, not all −∞ and none +∞, is a real. -/
theorem fold_max_real {n : ℕ} (f : Fin n → EReal) (ht : ∀ i, f i ≠ ⊤) (i₀ : Fin n) (h₀ : f i₀ ≠ ⊥) :
    ∃ r : ℝ, Finset.univ.fold max ⊥ f = (r : EReal) := by
  have hb : Finset.univ.fold max ⊥ f ≠ ⊥ := fun h => h₀ (le_bot_iff.mp (h ▸ Finset.le_fold_max (f i₀) |>.mpr (Or.inr ⟨i₀, Finset.mem_univ _, le_rfl⟩)))
  have hT : Finset.univ.fold max ⊥ f ≠ ⊤ := by
    have := (Finset.fold_max_lt (s := Finset.univ) (f := f) (b := (⊥ : EReal)) ⊤).mpr ⟨bot_lt_top, fun i _ => lt_top_iff_ne_top.mpr (ht i)⟩
    exact this.ne
  exact ⟨_, (EReal.coe_toReal hT hb).symm⟩

section Softmax

variable (q k v g : Fin 16384 → Fin 8 → Fin 64 → ℝ) (f : Fin 16384 → Fin 8 → ℝ)

/-- The logit of query `s` and key `t` in head `h`. -/
def lgR (h : Fin 8) (s t : Fin 16384) : ℝ := (∑ d : Fin 64, q s h d * k t h d) * (1 / 8) + f s h - f t h
/-- The weight before the division, the logits lowered by `M`. -/
def eR (M : ℝ) (h : Fin 8) (s t : Fin 16384) : ℝ := if t.val ≤ s.val then Real.exp (lgR q k f h s t - M) else 0
/-- Its sum over the keys. -/
def zR (M : ℝ) (h : Fin 8) (s : Fin 16384) : ℝ := ∑ t, eR q k f M h s t
/-- The weight. -/
def pR (h : Fin 8) (s t : Fin 16384) : ℝ := eR q k f 0 h s t / zR q k f 0 h s
/-- The gradient of the weight. -/
def dpR (h : Fin 8) (s t : Fin 16384) : ℝ := ∑ d : Fin 64, v t h d * g s h d
/-- Its mean under the weights. -/
def dlR (h : Fin 8) (s : Fin 16384) : ℝ := ∑ t, pR q k f h s t * dpR v g h s t
/-- The gradient of the logit. -/
def dsR (h : Fin 8) (s t : Fin 16384) : ℝ := pR q k f h s t * (dpR v g h s t - dlR q k v g f h s)

theorem eR_nonneg (M : ℝ) (h : Fin 8) (s t : Fin 16384) : 0 ≤ eR q k f M h s t := by
  unfold eR; split_ifs
  · exact (Real.exp_pos _).le
  · exact le_rfl

theorem zR_pos (M : ℝ) (h : Fin 8) (s : Fin 16384) : 0 < zR q k f M h s := by
  refine Finset.sum_pos' (fun t _ => eR_nonneg q k f M h s t) ⟨s, Finset.mem_univ _, ?_⟩
  unfold eR
  rw [if_pos le_rfl]
  exact Real.exp_pos _

theorem eR_shift (M : ℝ) (h : Fin 8) (s t : Fin 16384) : eR q k f M h s t = eR q k f 0 h s t * Real.exp (-M) := by
  unfold eR
  split_ifs
  · rw [← Real.exp_add]; congr 1; ring
  · rw [zero_mul]

theorem zR_shift (M : ℝ) (h : Fin 8) (s : Fin 16384) : zR q k f M h s = zR q k f 0 h s * Real.exp (-M) := by
  unfold zR
  rw [Finset.sum_mul]
  exact Finset.sum_congr rfl fun t _ => eR_shift q k f M h s t

/-- The weight does not depend on what the logits are lowered by. -/
theorem pR_eq (M : ℝ) (h : Fin 8) (s t : Fin 16384) : eR q k f M h s t / zR q k f M h s = pR q k f h s t := by
  rw [eR_shift, zR_shift, pR, mul_div_mul_right _ _ (Real.exp_pos _).ne']

theorem pR_masked (h : Fin 8) (s t : Fin 16384) (hst : s.val < t.val) : pR q k f h s t = 0 := by
  rw [pR, eR, if_neg (by omega), zero_div]

theorem dsR_masked (h : Fin 8) (s t : Fin 16384) (hst : s.val < t.val) : dsR q k v g f h s t = 0 := by
  rw [dsR, pR_masked q k f h s t hst, zero_mul]

/-- The weight from the logarithm of the sum. -/
theorem pR_exp (M : ℝ) (h : Fin 8) (s t : Fin 16384) (hst : t.val ≤ s.val) :
    Real.exp (lgR q k f h s t - (M + Real.log (zR q k f M h s))) = pR q k f h s t := by
  rw [← pR_eq q k f M, eR, if_pos hst, ← sub_sub, Real.exp_sub, Real.exp_log (zR_pos q k f M h s)]

/-- The mean from the forward result. -/
theorem dlR_eq (h : Fin 8) (s : Fin 16384) : ∑ d : Fin 64, (∑ t, v t h d * pR q k f h s t) * g s h d = dlR q k v g f h s := by
  unfold dlR dpR
  simp only [Finset.sum_mul, Finset.mul_sum]
  rw [Finset.sum_comm]
  exact Finset.sum_congr rfl fun t _ => Finset.sum_congr rfl fun d _ => by ring

end Softmax

/-- A base-two exponential of a real scaled by the logarithm's inverse. -/
theorem exp2_scaled (x : ℝ) : Ideal.exp2 ((x : EReal) * (((Real.log 2)⁻¹ : ℝ) : EReal)) = ((Real.exp x : ℝ) : EReal) := by
  rw [← EReal.coe_mul]
  show ((Real.rpow 2 (x * (Real.log 2)⁻¹) : ℝ) : EReal) = _
  congr 1
  show (2 : ℝ) ^ (x * (Real.log 2)⁻¹) = _
  rw [Real.rpow_def_of_pos two_pos]
  congr 1
  have := (Real.log_pos one_lt_two).ne'
  field_simp

theorem exp_coe (x : ℝ) : Ideal.exp (x : EReal) = ((Real.exp x : ℝ) : EReal) := rfl
theorem exp_bot : Ideal.exp (⊥ : EReal) = 0 := rfl
theorem log_coe {x : ℝ} (h : 0 < x) : Ideal.log (x : EReal) = ((Real.log x : ℝ) : EReal) := by
  show (if x ≤ 0 then (⊥ : EReal) else _) = _
  rw [if_neg (not_le.mpr h)]
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul]
  rfl

/-- A sum over all blocks, of terms that are zero in the blocks before one, from that block on. -/
theorem sum_tail (s : ℕ) (hs : s < 32) (H : Fin 32 → ℝ) (b : ℕ → Fin 32) (hb : ∀ k, k ≤ s → (b k).val = 31 - s + k) (hz : ∀ n : Fin 32, n.val < 31 - s → H n = 0) :
    ∑ k ∈ Finset.range (s + 1), H (b k) = ∑ n, H n := by
  have e : ∑ n, H n = ∑ n ∈ Finset.range (31 - s + (s + 1)), (if hn : n < 32 then H ⟨n, hn⟩ else 0) := by
    rw [show 31 - s + (s + 1) = 32 by omega, Finset.sum_range]
    exact Finset.sum_congr rfl fun n _ => by rw [dif_pos n.isLt]
  rw [e, Finset.sum_range_add _ (31 - s) (s + 1), Finset.sum_eq_zero (s := Finset.range (31 - s)) fun n hn => ?_, zero_add]
  · refine Finset.sum_congr rfl fun k hk => ?_
    have hk := Finset.mem_range.mp hk
    rw [dif_pos (by omega)]
    exact congrArg H (Fin.ext (hb k (by omega)))
  · have hn := Finset.mem_range.mp hn
    rw [dif_pos (by omega)]
    exact hz _ hn

end Cert.AttnReal
-- ==== Proof.AttnArrays.lean ====
/- The arrays the attention's backward call stages, as formulas over its arguments, at extended reals. -/
module

public import proofs.«01_k».proof.Proof.AttnDat
public import proofs.«01_k».proof.Proof.AttnReal
public import Idealize.ShloMosaic.Lib.StableHlo.ReadAt

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (ρ : Dev nD → PrngReg) (c : Dev nD)

def aQ : Vec Ideal S16384x8x64 .f32 := m ((c : Thread nD τ).loc main_arg0)
def aK : Vec Ideal S16384x8x64 .f32 := m ((c : Thread nD τ).loc main_arg1)
def aV : Vec Ideal S16384x8x64 .f32 := m ((c : Thread nD τ).loc main_arg2)
def aF : Vec Ideal S16384x8 .f32 := m ((c : Thread nD τ).loc main_arg3)
def aDo : Vec Ideal S16384x8x64 .f32 := m ((c : Thread nD τ).loc main_arg4)

/-- One eighth, as the programs spell it. -/
def lit8 : EReal := FloatOps.ofBits (F := Ideal) .f32 0x3E000000#32

/-- The arrays the windows stage, and those they are made from, as the region finds them. -/
def wLg : Vec Ideal S8x16384x16384 .f32 := V m c main_v14
def wM : Vec Ideal S8x16384 .f32 := V m c main_v15
def wE : Vec Ideal S8x16384x16384 .f32 := V m c main_v19
def wZ : Vec Ideal S8x16384 .f32 := V m c main_v20
def wP : Vec Ideal S8x16384x16384 .f32 := V m c main_v23
def wO : Vec Ideal S16384x8x64 .f32 := V m c main_v25
def wL : Vec Ideal S8x32x1x512 .f32 := V m c main_v28
def wD : Vec Ideal S8x32x1x512 .f32 := V m c main_v32
def wNq : Vec Ideal S8 .f32 := V m c main_v38
def wNk : Vec Ideal S8 .f32 := V m c main_v41
def wT : Vec Ideal S8 .f32 := V m c main_v45
def wQ : Vec Ideal S32x1024x512 .bf16 := V m c main_v85
def wKa : Vec Ideal S8x16384x128 .bf16 := V m c main_v88
def wV : Vec Ideal S8x16384x128 .bf16 := V m c main_v91
def wKt : Vec Ideal S32x640x512 .bf16 := V m c main_v97
def wDo : Vec Ideal S32x1024x512 .bf16 := V m c main_v101

def wC1 : Vec Ideal S16384x8x8 .bf16 := V m c main_v71
def wC2 : Vec Ideal S16384x8x8 .bf16 := V m c main_v80

/-- Three pieces laid side by side along the last axis, read at an index. -/
theorem cat3_at (x : Vec Ideal S16384x8x64 .bf16) (y : Vec Ideal S16384x8x8 .bf16) (z : Vec Ideal S16384x8x56 .bf16) (s : Fin 16384) (h : Fin 8) (d : Fin 128) :
    concatenate S16384x8x128 2 [⟨S16384x8x64, x⟩, ⟨S16384x8x8, y⟩, ⟨S16384x8x56, z⟩] concatenates_S16384x8x64_S16384x8x8_S16384x8x56_S16384x8x128_d2 (ix3 s h d)
      = if h0 : d.val < 64 then x (ix3 s h ⟨d.val, h0⟩) else if h1 : d.val - 64 < 8 then y (ix3 s h ⟨d.val - 64, h1⟩) else z (ix3 s h ⟨d.val - 64 - 8, by omega⟩) := by
  pointwise

/-- Eight columns laid side by side, read at an index. -/
theorem cat8_at (x0 x1 x2 x3 x4 x5 x6 x7 : Vec Ideal S16384x8x1 .bf16) (s : Fin 16384) (h : Fin 8) (e : Fin 8) :
    concatenate S16384x8x8 2 [⟨S16384x8x1, x0⟩, ⟨S16384x8x1, x1⟩, ⟨S16384x8x1, x2⟩, ⟨S16384x8x1, x3⟩, ⟨S16384x8x1, x4⟩, ⟨S16384x8x1, x5⟩, ⟨S16384x8x1, x6⟩, ⟨S16384x8x1, x7⟩]
        concatenates_S16384x8x1_S16384x8x1_S16384x8x1_S16384x8x1_S16384x8x1_S16384x8x1_S16384x8x1_S16384x8x1_S16384x8x8_d2 (ix3 s h e)
      = (![x0, x1, x2, x3, x4, x5, x6, x7] e) (ix3 s h 0) := by
  fin_cases e <;> pointwise

theorem wC1_at (s : Fin 16384) (h : Fin 8) (e : Fin 8) : wC1 m c (ix3 s h e) = (![1, 1, 1, aF m c (ix2 s h), aF m c (ix2 s h) - aF m c (ix2 s h), (aF m c (ix2 s h) - aF m c (ix2 s h)) - (aF m c (ix2 s h) - aF m c (ix2 s h)), 0, 0] : Fin 8 → EReal) e := by
  simp only [wC1, V, V0]
  simp only [hostOps0, hostOps0_1, hostOps0_2, hostOps0_3, hostOps0_4, hostOps0_5, hostOps0_6, List.flatten_cons, List.flatten_nil, List.append_nil, List.cons_append, List.nil_append]
  after_results
  refine (cat8_at _ _ _ _ _ _ _ _ s h e).trans ?_
  fin_cases e
  all_goals
    simp only [Fin.mk_zero, Fin.mk_one, Fin.reduceFinMk, Matrix.cons_val]
    pointwise
    simp only [↓ StableHlo.readResult, ↓ StableHlo.readPieces, -eq_self]
    pointwise
    try rfl

theorem wC2_at (s : Fin 16384) (h : Fin 8) (e : Fin 8) : wC2 m c (ix3 s h e) = (![-aF m c (ix2 s h), -aF m c (ix2 s h) - -aF m c (ix2 s h), (-aF m c (ix2 s h) - -aF m c (ix2 s h)) - (-aF m c (ix2 s h) - -aF m c (ix2 s h)), 1, 1, 1, 0, 0] : Fin 8 → EReal) e := by
  simp only [wC2, V, V0]
  simp only [hostOps0, hostOps0_1, hostOps0_2, hostOps0_3, hostOps0_4, hostOps0_5, hostOps0_6, List.flatten_cons, List.flatten_nil, List.append_nil, List.cons_append, List.nil_append]
  after_results
  refine (cat8_at _ _ _ _ _ _ _ _ s h e).trans ?_
  fin_cases e
  all_goals
    simp only [Fin.mk_zero, Fin.mk_one, Fin.reduceFinMk, Matrix.cons_val]
    pointwise
    simp only [↓ StableHlo.readResult, ↓ StableHlo.readPieces, -eq_self]
    pointwise
    try rfl

/-- The columns of a query: its features scaled, three ones, the three parts of the forget sum, zeros. -/
def qCol (s : Fin 16384) (h : Fin 8) (d : Fin 128) : EReal :=
  if h0 : d.val < 64 then aQ m c (ix3 s h ⟨d.val, h0⟩) * lit8 else if h1 : d.val - 64 < 8 then wC1 m c (ix3 s h ⟨d.val - 64, h1⟩) else 0

/-- The columns of a key: its features, the three parts of the negated sum, three ones, zeros. -/
def kCol (t : Fin 16384) (h : Fin 8) (d : Fin 128) : EReal :=
  if h0 : d.val < 64 then aK m c (ix3 t h ⟨d.val, h0⟩) else if h1 : d.val - 64 < 8 then wC2 m c (ix3 t h ⟨d.val - 64, h1⟩) else 0

theorem wQ_at (i : Fin 32) (h : Fin 8) (d : Fin 128) (s : Fin 512) :
    wQ m c (ix3 i ⟨h.val * 128 + d.val, by omega⟩ s) = qCol m c ⟨i.val * 512 + s.val, by omega⟩ h d := by
  have e : wQ m c = transpose S32x1024x512 [0, 2, 1] (shapeCast S32x512x1024 (concatenate S16384x8x128 2 [⟨S16384x8x64, truncf (F := Ideal) .bf16 (mulf (F := Ideal) (φ := .f32) (aQ m c) (broadcastInDim S16384x8x64 ![] bcast_S_S16384x8x64 (constant S_ .f32 0x3E000000#32))) bitsLt_bf16_f32⟩, ⟨S16384x8x8, wC1 m c⟩,
      ⟨S16384x8x56, broadcastInDim S16384x8x56 ![] bcast_S_S16384x8x56 (constant S_ .bf16 0#16)⟩] concatenates_S16384x8x64_S16384x8x8_S16384x8x56_S16384x8x128_d2) shapeCasts_S16384x8x128_S32x512x1024) transposes_S32x512x1024_S32x1024x512_0_2_1 := by
    simp only [wQ, wC1, V, V0]
    simp only [hostOps0, hostOps0_1, hostOps0_2, hostOps0_3, hostOps0_4, hostOps0_5, hostOps0_6, List.flatten_cons, List.flatten_nil, List.append_nil, List.cons_append, List.nil_append]
    after_results
    simp only [↓ StableHlo.readResult, ↓ StableHlo.readPieces, -eq_self]
    rfl
  rw [e]
  clear e
  pointwise
  rfl

theorem wKa_at (h : Fin 8) (t : Fin 16384) (d : Fin 128) : wKa m c (ix3 h t d) = kCol m c t h d := by
  have e : wKa m c = transpose S8x16384x128 [1, 0, 2] (concatenate S16384x8x128 2 [⟨S16384x8x64, truncf (F := Ideal) .bf16 (aK m c) bitsLt_bf16_f32⟩, ⟨S16384x8x8, wC2 m c⟩,
      ⟨S16384x8x56, broadcastInDim S16384x8x56 ![] bcast_S_S16384x8x56 (constant S_ .bf16 0#16)⟩] concatenates_S16384x8x64_S16384x8x8_S16384x8x56_S16384x8x128_d2) transposes_S16384x8x128_S8x16384x128_1_0_2 := by
    simp only [wKa, wC2, V, V0]
    simp only [hostOps0, hostOps0_1, hostOps0_2, hostOps0_3, hostOps0_4, hostOps0_5, hostOps0_6, List.flatten_cons, List.flatten_nil, List.append_nil, List.cons_append, List.nil_append]
    after_results
    simp only [↓ StableHlo.readResult, ↓ StableHlo.readPieces, -eq_self]
    rfl
  rw [e]
  clear e
  pointwise
  rfl

theorem wKt_at (j : Fin 32) (h : Fin 8) (f : Fin 80) (t : Fin 512) :
    wKt m c (ix3 j ⟨h.val * 80 + f.val, by omega⟩ t) = if hf : f.val < 64 then aK m c (ix3 ⟨j.val * 512 + t.val, by omega⟩ h ⟨f.val, hf⟩) else
      if f.val = 64 then 1 else 0 := by
  unfold wKt
  show StableHlo.after _ _ (Proc.devRef .tc main_v97) _ = _
  simp only [hostOps0, hostOps0_1, hostOps0_2, hostOps0_3, hostOps0_4, hostOps0_5, hostOps0_6, List.flatten_cons, List.flatten_nil, List.append_nil, List.cons_append, List.nil_append]
  after_results
  pointwise
  simp only [↓ StableHlo.readResult, ↓ StableHlo.readPieces, -eq_self]
  pointwise
  have e1 : (h.val * 80 + f.val) % 80 = f.val := by omega
  have e2 : (h.val * 80 + f.val) / 80 = h.val := by omega
  simp only [e1, e2]
  split_ifs <;> first | rfl | omega

theorem wV_at (h : Fin 8) (t : Fin 16384) (d : Fin 128) :
    wV m c (ix3 h t d) = if hd : d.val < 64 then aV m c (ix3 t h ⟨d.val, hd⟩) else 0 := by
  have e : wV m c = transpose S8x16384x128 [1, 0, 2] (pad S16384x8x128 ![0, 0, 0] ![0, 0, 64] ![0, 0, 0] (truncf (F := Ideal) .bf16 (aV m c) bitsLt_bf16_f32)
      (sitofp (F := Ideal) .bf16 (constantI S_ 32 0#32)) pads_S16384x8x64_S16384x8x128_000_000_0640 h_S_) transposes_S16384x8x128_S8x16384x128_1_0_2 := by
    show StableHlo.after _ _ (Proc.devRef .tc main_v91) = _
    simp only [hostOps0, hostOps0_1, hostOps0_2, hostOps0_3, hostOps0_4, hostOps0_5, hostOps0_6, List.flatten_cons, List.flatten_nil, List.append_nil, List.cons_append, List.nil_append]
    after_results
    rfl
  rw [e]
  pointwise
  simp only [zero_word]

theorem wDo_at (i : Fin 32) (h : Fin 8) (d : Fin 128) (s : Fin 512) :
    wDo m c (ix3 i ⟨h.val * 128 + d.val, by omega⟩ s) = if hd : d.val < 64 then aDo m c (ix3 ⟨i.val * 512 + s.val, by omega⟩ h ⟨d.val, hd⟩) else 0 := by
  have e : wDo m c = transpose S32x1024x512 [0, 2, 1] (shapeCast S32x512x1024 (pad S16384x8x128 ![0, 0, 0] ![0, 0, 64] ![0, 0, 0] (truncf (F := Ideal) .bf16 (aDo m c) bitsLt_bf16_f32)
      (sitofp (F := Ideal) .bf16 (constantI S_ 32 0#32)) pads_S16384x8x64_S16384x8x128_000_000_0640 h_S_) shapeCasts_S16384x8x128_S32x512x1024) transposes_S32x512x1024_S32x1024x512_0_2_1 := by
    show StableHlo.after _ _ (Proc.devRef .tc main_v101) = _
    simp only [hostOps0, hostOps0_1, hostOps0_2, hostOps0_3, hostOps0_4, hostOps0_5, hostOps0_6, List.flatten_cons, List.flatten_nil, List.append_nil, List.cons_append, List.nil_append]
    after_results
    rfl
  rw [e]
  pointwise
  have hb : i.val * 512 + s.val < 16384 := by omega
  simp only [zero_word, hb, true_and]

theorem wLg_at (h : Fin 8) (s t : Fin 16384) :
    wLg m c (ix3 h s t) = if t.val ≤ s.val then (∑ d : Fin 64, aQ m c (ix3 s h d) * aK m c (ix3 t h d)) * lit8 + aF m c (ix2 s h) - aF m c (ix2 t h) else ⊥ := by
  unfold wLg
  show StableHlo.after _ _ (Proc.devRef .tc main_v14) _ = _
  simp only [hostOps0, hostOps0_1, hostOps0_2, hostOps0_3, hostOps0_4, hostOps0_5, hostOps0_6, List.flatten_cons, List.flatten_nil, List.append_nil, List.cons_append, List.nil_append]
  after_reads_at
  rw [select_le (by omega) (by omega)]
  show (if _ then _ else Ideal.ofBits .f32 0xFF800000#32) = _
  rw [lit_ninf]
  rfl

theorem wM_at (h : Fin 8) (s : Fin 16384) : wM m c (ix2 h s) = Finset.univ.fold max ⊥ fun t : Fin 16384 => wLg m c (ix3 h s t) := by
  have e : wM m c = Host.reduce (FloatOps.maximumf (F := Ideal)) (wLg m c) (constant S_ .f32 0xFF800000#32) reducesTo_S8x16384x16384_S8x16384_d2 h_S_ := by
    simp only [wM, wLg, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wLg m c = y0
  pointwise
  rw [lit_ninf]

theorem wE_at (h : Fin 8) (s t : Fin 16384) : wE m c (ix3 h s t) = Ideal.exp (wLg m c (ix3 h s t) - wM m c (ix2 h s)) := by
  have e : wE m c = Host.exp (F := Ideal) (φ := .f32) (subf (F := Ideal) (φ := .f32) (wLg m c) (broadcastInDim S8x16384x16384 ![0, 1, 2] bcast_S8x16384x1_S8x16384x16384_0_1_2 (broadcastInDim S8x16384x1 ![0, 1] bcast_S8x16384_S8x16384x1_0_1 (wM m c)))) := by
    simp only [wE, wLg, wM, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wLg m c = y0
  generalize wM m c = y1
  pointwise

theorem wZ_at (h : Fin 8) (s : Fin 16384) : wZ m c (ix2 h s) = ∑ t : Fin 16384, wE m c (ix3 h s t) := by
  have e : wZ m c = Host.reduceAdd (F := Ideal) (wE m c) (constant S_ .f32 0x00000000#32) reducesTo_S8x16384x16384_S8x16384_d2 h_S_ := by
    simp only [wZ, wE, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wE m c = y0
  pointwise

theorem wP_at (h : Fin 8) (s t : Fin 16384) : wP m c (ix3 h s t) = Ideal.div (wE m c (ix3 h s t)) (wZ m c (ix2 h s)) := by
  have e : wP m c = Host.divf (F := Ideal) (φ := .f32) (wE m c) (broadcastInDim S8x16384x16384 ![0, 1, 2] bcast_S8x16384x1_S8x16384x16384_0_1_2 (broadcastInDim S8x16384x1 ![0, 1] bcast_S8x16384_S8x16384x1_0_1 (wZ m c))) := by
    simp only [wP, wE, wZ, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wE m c = y0
  generalize wZ m c = y1
  pointwise

theorem wO_at (s : Fin 16384) (h : Fin 8) (d : Fin 64) : wO m c (ix3 s h d) = ∑ t : Fin 16384, aV m c (ix3 t h d) * wP m c (ix3 h s t) := by
  have e : wO m c = transpose S16384x8x64 [2, 0, 1] (Host.dotGeneral (F := Ideal) (φ₁ := .f32) (φ₂ := .f32) dot_S16384x8x64_S8x16384x16384_S8x64x16384_0_2_2_1_1_0 none (aV m c) (wP m c)) transposes_S8x64x16384_S16384x8x64_2_0_1 := by
    simp only [wO, wP, aV, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wP m c = y0
  generalize aV m c = y1
  pointwise

theorem resh_L (x y : Vec Ideal S8x16384 .f32) (h : Fin 8) (i : Fin 32) (s : Fin 512) :
    shapeCast S8x32x1x512 (addf (F := Ideal) (φ := .f32) (broadcastInDim S8x16384x1 ![0, 1] bcast_S8x16384_S8x16384x1_0_1 x) (Host.log (F := Ideal) (φ := .f32) (broadcastInDim S8x16384x1 ![0, 1] bcast_S8x16384_S8x16384x1_0_1 y))) shapeCasts_S8x16384x1_S8x32x1x512 (ix4 h i 0 s)
      = x (ix2 h ⟨i.val * 512 + s.val, by omega⟩) + Ideal.log (y (ix2 h ⟨i.val * 512 + s.val, by omega⟩)) := by
  pointwise

theorem wL_at (h : Fin 8) (i : Fin 32) (s : Fin 512) :
    wL m c (ix4 h i 0 s) = wM m c (ix2 h ⟨i.val * 512 + s.val, by omega⟩) + Ideal.log (wZ m c (ix2 h ⟨i.val * 512 + s.val, by omega⟩)) := by
  have e : wL m c = shapeCast S8x32x1x512 (addf (F := Ideal) (φ := .f32) (broadcastInDim S8x16384x1 ![0, 1] bcast_S8x16384_S8x16384x1_0_1 (wM m c)) (Host.log (F := Ideal) (φ := .f32) (broadcastInDim S8x16384x1 ![0, 1] bcast_S8x16384_S8x16384x1_0_1 (wZ m c)))) shapeCasts_S8x16384x1_S8x32x1x512 := by
    simp only [wL, wM, wZ, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  exact resh_L _ _ h i s

theorem wD_at (h : Fin 8) (i : Fin 32) (s : Fin 512) :
    wD m c (ix4 h i 0 s) = ∑ d : Fin 64, wO m c (ix3 ⟨i.val * 512 + s.val, by omega⟩ h d) * aDo m c (ix3 ⟨i.val * 512 + s.val, by omega⟩ h d) := by
  have e : wD m c = shapeCast S8x32x1x512 (transpose S8x16384 [1, 0] (Host.reduceAdd (F := Ideal) (φ := .f32) (mulf (F := Ideal) (φ := .f32) (wO m c) (aDo m c)) (constant S_ .f32 0x00000000#32) reducesTo_S16384x8x64_S16384x8_d2 h_S_) transposes_S16384x8_S8x16384_1_0) shapeCasts_S8x16384_S8x32x1x512 := by
    simp only [wD, wO, aDo, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wO m c = y0
  generalize aDo m c = y1
  pointwise

theorem wT_at (h : Fin 8) : wT m c (ix1 h) = Ideal.ofBits .f32 0x400147AE#32 * Ideal.sqrt (wNq m c (ix1 h) * wNk m c (ix1 h)) := by
  have e : wT m c = mulf (F := Ideal) (φ := .f32) (broadcastInDim S8 ![] bcast_S_S8 (constant S_ .f32 0x400147AE#32)) (Host.sqrt (F := Ideal) (φ := .f32) (mulf (F := Ideal) (φ := .f32) (wNq m c) (wNk m c))) := by
    simp only [wT, wNq, wNk, V, V0]
    simp only [hostOps0, hostOps0_1, hostOps0_2, hostOps0_3, hostOps0_4, hostOps0_5, hostOps0_6, List.flatten_cons, List.flatten_nil, List.append_nil, List.cons_append, List.nil_append]
    after_results
    all_goals rfl
  rw [e]
  clear e
  generalize wNq m c = y0
  generalize wNk m c = y1
  pointwise

theorem wNq_at (h : Fin 8) : wNq m c (ix1 h) = Finset.univ.fold max ⊥ fun s : Fin 16384 => ∑ d : Fin 64, (aQ m c (ix3 s h d) * lit8) * (aQ m c (ix3 s h d) * lit8) := by
  unfold wNq
  show StableHlo.after _ _ (Proc.devRef .tc main_v38) _ = _
  simp only [hostOps0, hostOps0_1, hostOps0_2, hostOps0_3, hostOps0_4, hostOps0_5, hostOps0_6, List.flatten_cons, List.flatten_nil, List.append_nil, List.cons_append, List.nil_append]
  after_reads_at
  rw [lit_ninf]
  rfl

theorem wNk_at (h : Fin 8) : wNk m c (ix1 h) = Finset.univ.fold max ⊥ fun s : Fin 16384 => ∑ d : Fin 64, aK m c (ix3 s h d) * aK m c (ix3 s h d) := by
  unfold wNk
  show StableHlo.after _ _ (Proc.devRef .tc main_v41) _ = _
  simp only [hostOps0, hostOps0_1, hostOps0_2, hostOps0_3, hostOps0_4, hostOps0_5, hostOps0_6, List.flatten_cons, List.flatten_nil, List.append_nil, List.cons_append, List.nil_append]
  after_reads_at
  rw [lit_ninf]
  rfl

end Cert.AttnBwdIdeal.Own
-- ==== Proof.AttnBlocks.lean ====
/- What a step of the attention's backward call reads and adds, at arguments that are reals. -/
module

public import proofs.«01_k».proof.Proof.AttnArrays

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (c : Dev nD)

theorem t_lt (t : Fin (cfg0 (F := Ideal)).N) : t.val < 256 := lt_of_lt_of_eq t.isLt (by decide +kernel)

theorem ixw2 : ∀ t : Fin (cfg0 (F := Ideal)).N, win0_2.index t 0 = 0 :=
  (by decide +kernel : ∀ t : Fin grid0.N, win0_2.index t 0 = 0)
theorem ixw3 : ∀ t : Fin (cfg0 (F := Ideal)).N, win0_3.index t 0 = 0 ∧ win0_3.index t 1 = t.val / 32 ∧ win0_3.index t 2 = 0 :=
  (by decide +kernel : ∀ t : Fin grid0.N, win0_3.index t 0 = 0 ∧ win0_3.index t 1 = t.val / 32 ∧ win0_3.index t 2 = 0)
theorem ixw4 : ∀ t : Fin (cfg0 (F := Ideal)).N, win0_4.index t 0 = t.val / 32 ∧ win0_4.index t 1 = 31 - t.val % 32 ∧ win0_4.index t 2 = 0 :=
  (by decide +kernel : ∀ t : Fin grid0.N, win0_4.index t 0 = t.val / 32 ∧ win0_4.index t 1 = 31 - t.val % 32 ∧ win0_4.index t 2 = 0)
theorem ixw5 : ∀ t : Fin (cfg0 (F := Ideal)).N, win0_5.index t 0 = 31 - t.val % 32 ∧ win0_5.index t 1 = t.val / 32 ∧ win0_5.index t 2 = 0 :=
  (by decide +kernel : ∀ t : Fin grid0.N, win0_5.index t 0 = 31 - t.val % 32 ∧ win0_5.index t 1 = t.val / 32 ∧ win0_5.index t 2 = 0)
theorem ixw6 : ∀ t : Fin (cfg0 (F := Ideal)).N, win0_6.index t 0 = t.val / 32 ∧ win0_6.index t 1 = 31 - t.val % 32 ∧ win0_6.index t 2 = 0 :=
  (by decide +kernel : ∀ t : Fin grid0.N, win0_6.index t 0 = t.val / 32 ∧ win0_6.index t 1 = 31 - t.val % 32 ∧ win0_6.index t 2 = 0)
theorem ixw7 : ∀ t : Fin (cfg0 (F := Ideal)).N, win0_7.index t 0 = 0 ∧ win0_7.index t 1 = t.val / 32 ∧ win0_7.index t 2 = 0 :=
  (by decide +kernel : ∀ t : Fin grid0.N, win0_7.index t 0 = 0 ∧ win0_7.index t 1 = t.val / 32 ∧ win0_7.index t 2 = 0)
theorem ixw8 : ∀ t : Fin (cfg0 (F := Ideal)).N, win0_8.index t 0 = t.val / 32 ∧ win0_8.index t 1 = 0 ∧ win0_8.index t 2 = 0 ∧ win0_8.index t 3 = 0 :=
  (by decide +kernel : ∀ t : Fin grid0.N, win0_8.index t 0 = t.val / 32 ∧ win0_8.index t 1 = 0 ∧ win0_8.index t 2 = 0 ∧ win0_8.index t 3 = 0)
theorem ixw9 : ∀ t : Fin (cfg0 (F := Ideal)).N, win0_9.index t 0 = t.val / 32 ∧ win0_9.index t 1 = 0 ∧ win0_9.index t 2 = 0 ∧ win0_9.index t 3 = 0 :=
  (by decide +kernel : ∀ t : Fin grid0.N, win0_9.index t 0 = t.val / 32 ∧ win0_9.index t 1 = 0 ∧ win0_9.index t 2 = 0 ∧ win0_9.index t 3 = 0)

theorem x5_at (t : Fin (cfg0 (F := Ideal)).N) (n : Fin 32) (d : Fin 128) (s : Fin 512) : (insAt m c t).x5 (ix3 n d s) = wQ m c (ix3 n ⟨t.val / 32 * 128 + d.val, by have := t_lt t; omega⟩ s) := by
  show iblk m c 3 t (ix3 n d s) = _
  unfold iblk
  rw [View.read_apply]
  refine congrArg (wQ m c) (funext fun a => Fin.ext ?_)
  match a with
  | ⟨0, _⟩ => show win0_3.index t 0 * 32 + 1 * n.val = n.val; rw [(ixw3 t).1]; omega
  | ⟨1, _⟩ => show win0_3.index t 1 * 128 + 1 * d.val = t.val / 32 * 128 + d.val; rw [(ixw3 t).2.1]; omega
  | ⟨2, _⟩ => show win0_3.index t 2 * 512 + 1 * s.val = s.val; rw [(ixw3 t).2.2]; omega

theorem x6_at (t : Fin (cfg0 (F := Ideal)).N) (r : Fin 512) (d : Fin 128) : (insAt m c t).x6 (ix3 0 r d) = wKa m c (ix3 ⟨t.val / 32, by have := t_lt t; omega⟩ ⟨(31 - t.val % 32) * 512 + r.val, by omega⟩ d) := by
  show iblk m c 4 t (ix3 0 r d) = _
  unfold iblk
  rw [View.read_apply]
  refine congrArg (wKa m c) (funext fun a => Fin.ext ?_)
  match a with
  | ⟨0, _⟩ => show win0_4.index t 0 * 1 + 1 * 0 = t.val / 32; rw [(ixw4 t).1]; omega
  | ⟨1, _⟩ => show win0_4.index t 1 * 512 + 1 * r.val = (31 - t.val % 32) * 512 + r.val; rw [(ixw4 t).2.1]; omega
  | ⟨2, _⟩ => show win0_4.index t 2 * 128 + 1 * d.val = d.val; rw [(ixw4 t).2.2]; omega

theorem x7_at (t : Fin (cfg0 (F := Ideal)).N) (f : Fin 80) (r : Fin 512) : (insAt m c t).x7 (ix3 0 f r) = wKt m c (ix3 ⟨31 - t.val % 32, by omega⟩ ⟨t.val / 32 * 80 + f.val, by have := t_lt t; omega⟩ r) := by
  show iblk m c 5 t (ix3 0 f r) = _
  unfold iblk
  rw [View.read_apply]
  refine congrArg (wKt m c) (funext fun a => Fin.ext ?_)
  match a with
  | ⟨0, _⟩ => show win0_5.index t 0 * 1 + 1 * 0 = 31 - t.val % 32; rw [(ixw5 t).1]; omega
  | ⟨1, _⟩ => show win0_5.index t 1 * 80 + 1 * f.val = t.val / 32 * 80 + f.val; rw [(ixw5 t).2.1]; omega
  | ⟨2, _⟩ => show win0_5.index t 2 * 512 + 1 * r.val = r.val; rw [(ixw5 t).2.2]; omega

theorem x8_at (t : Fin (cfg0 (F := Ideal)).N) (r : Fin 512) (d : Fin 128) : (insAt m c t).x8 (ix3 0 r d) = wV m c (ix3 ⟨t.val / 32, by have := t_lt t; omega⟩ ⟨(31 - t.val % 32) * 512 + r.val, by omega⟩ d) := by
  show iblk m c 6 t (ix3 0 r d) = _
  unfold iblk
  rw [View.read_apply]
  refine congrArg (wV m c) (funext fun a => Fin.ext ?_)
  match a with
  | ⟨0, _⟩ => show win0_6.index t 0 * 1 + 1 * 0 = t.val / 32; rw [(ixw6 t).1]; omega
  | ⟨1, _⟩ => show win0_6.index t 1 * 512 + 1 * r.val = (31 - t.val % 32) * 512 + r.val; rw [(ixw6 t).2.1]; omega
  | ⟨2, _⟩ => show win0_6.index t 2 * 128 + 1 * d.val = d.val; rw [(ixw6 t).2.2]; omega

theorem x9_at (t : Fin (cfg0 (F := Ideal)).N) (n : Fin 32) (d : Fin 128) (s : Fin 512) : (insAt m c t).x9 (ix3 n d s) = wDo m c (ix3 n ⟨t.val / 32 * 128 + d.val, by have := t_lt t; omega⟩ s) := by
  show iblk m c 7 t (ix3 n d s) = _
  unfold iblk
  rw [View.read_apply]
  refine congrArg (wDo m c) (funext fun a => Fin.ext ?_)
  match a with
  | ⟨0, _⟩ => show win0_7.index t 0 * 32 + 1 * n.val = n.val; rw [(ixw7 t).1]; omega
  | ⟨1, _⟩ => show win0_7.index t 1 * 128 + 1 * d.val = t.val / 32 * 128 + d.val; rw [(ixw7 t).2.1]; omega
  | ⟨2, _⟩ => show win0_7.index t 2 * 512 + 1 * s.val = s.val; rw [(ixw7 t).2.2]; omega

theorem x10_iblk (t : Fin (cfg0 (F := Ideal)).N) : (insAt m c t).x10 = iblk m c 8 t := rfl

theorem x10_read (t : Fin (cfg0 (F := Ideal)).N) : iblk m c 8 t = ((cfg0 (F := Ideal)).win 8 |>.blk t).view.read (Elt Ideal) (wL m c) := rfl

theorem x10_gen (t : Fin (cfg0 (F := Ideal)).N) (A : Vec Ideal S8x32x1x512 .f32) (n : Fin 32) (s : Fin 512) :
    (((cfg0 (F := Ideal)).win 8).blk t).view.read (Elt Ideal) A (ix4 0 n 0 s) = A (ix4 ⟨t.val / 32, by have := t_lt t; omega⟩ n 0 s) := by
  rw [View.read_apply]
  refine congrArg A (funext fun a => Fin.ext ?_)
  match a with
  | ⟨0, _⟩ => show win0_8.index t 0 * 1 + 1 * 0 = t.val / 32; rw [(ixw8 t).1]; omega
  | ⟨1, _⟩ => show win0_8.index t 1 * 32 + 1 * n.val = n.val; rw [(ixw8 t).2.1]; omega
  | ⟨2, _⟩ => show win0_8.index t 2 * 1 + 1 * 0 = 0; rw [(ixw8 t).2.2.1]
  | ⟨3, _⟩ => show win0_8.index t 3 * 512 + 1 * s.val = s.val; rw [(ixw8 t).2.2.2]; omega

theorem x10_at (t : Fin (cfg0 (F := Ideal)).N) (n : Fin 32) (s : Fin 512) : (insAt m c t).x10 (ix4 0 n 0 s) = wL m c (ix4 ⟨t.val / 32, by have := t_lt t; omega⟩ n 0 s) :=
  (congrFun ((x10_iblk m c t).trans (x10_read m c t)) (ix4 0 n 0 s)).trans (x10_gen t (wL m c) n s)

theorem x11_iblk (t : Fin (cfg0 (F := Ideal)).N) : (insAt m c t).x11 = iblk m c 9 t := rfl

theorem x11_read (t : Fin (cfg0 (F := Ideal)).N) : iblk m c 9 t = ((cfg0 (F := Ideal)).win 9 |>.blk t).view.read (Elt Ideal) (wD m c) := rfl

theorem x11_gen (t : Fin (cfg0 (F := Ideal)).N) (A : Vec Ideal S8x32x1x512 .f32) (n : Fin 32) (s : Fin 512) :
    (((cfg0 (F := Ideal)).win 9).blk t).view.read (Elt Ideal) A (ix4 0 n 0 s) = A (ix4 ⟨t.val / 32, by have := t_lt t; omega⟩ n 0 s) := by
  rw [View.read_apply]
  refine congrArg A (funext fun a => Fin.ext ?_)
  match a with
  | ⟨0, _⟩ => show win0_9.index t 0 * 1 + 1 * 0 = t.val / 32; rw [(ixw9 t).1]; omega
  | ⟨1, _⟩ => show win0_9.index t 1 * 32 + 1 * n.val = n.val; rw [(ixw9 t).2.1]; omega
  | ⟨2, _⟩ => show win0_9.index t 2 * 1 + 1 * 0 = 0; rw [(ixw9 t).2.2.1]
  | ⟨3, _⟩ => show win0_9.index t 3 * 512 + 1 * s.val = s.val; rw [(ixw9 t).2.2.2]; omega

theorem x11_at (t : Fin (cfg0 (F := Ideal)).N) (n : Fin 32) (s : Fin 512) : (insAt m c t).x11 (ix4 0 n 0 s) = wD m c (ix4 ⟨t.val / 32, by have := t_lt t; omega⟩ n 0 s) :=
  (congrFun ((x11_iblk m c t).trans (x11_read m c t)) (ix4 0 n 0 s)).trans (x11_gen t (wD m c) n s)

theorem x4_at (t : Fin (cfg0 (F := Ideal)).N) (h : Fin 8) : (insAt m c t).x4 (ix1 h) = wT m c (ix1 h) := by
  show iblk m c 2 t (ix1 h) = _
  unfold iblk
  rw [View.read_apply]
  refine congrArg (wT m c) (funext fun a => Fin.ext ?_)
  match a with
  | ⟨0, _⟩ => show win0_2.index t 0 * 8 + 1 * h.val = h.val; rw [ixw2 t]; omega

end Cert.AttnBwdIdeal.Own
-- ==== Proof.AttnVals.lean ====
/- The values a step of the attention's backward call works with, at arguments that are reals. -/
module

public import proofs.«01_k».proof.Proof.AttnBlocks

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (c : Dev nD)

/-- The arguments are the given reals. -/
structure AtReals (q k v g : Fin 16384 → Fin 8 → Fin 64 → ℝ) (f : Fin 16384 → Fin 8 → ℝ) : Prop where
  q : ∀ s h d, aQ m c (ix3 s h d) = ((q s h d : ℝ) : EReal)
  k : ∀ s h d, aK m c (ix3 s h d) = ((k s h d : ℝ) : EReal)
  v : ∀ s h d, aV m c (ix3 s h d) = ((v s h d : ℝ) : EReal)
  g : ∀ s h d, aDo m c (ix3 s h d) = ((g s h d : ℝ) : EReal)
  f : ∀ s h, aF m c (ix2 s h) = ((f s h : ℝ) : EReal)

variable {m c} {q k v g : Fin 16384 → Fin 8 → Fin 64 → ℝ} {f : Fin 16384 → Fin 8 → ℝ} (H : AtReals m c q k v g f)

theorem lit8_eq : lit8 = ((1 / 8 : ℝ) : EReal) := lit_eighth

/-! ## The forward values -/

include H

theorem wLg_real (h : Fin 8) (s t : Fin 16384) : wLg m c (ix3 h s t) = if t.val ≤ s.val then ((lgR q k f h s t : ℝ) : EReal) else ⊥ := by
  rw [wLg_at]
  split_ifs with hts
  · simp only [H.q, H.k, H.f, lit8_eq, ← EReal.coe_mul, ← coe_sum, ← EReal.coe_add, ← EReal.coe_sub]; rfl
  · rfl

theorem wM_real (h : Fin 8) (s : Fin 16384) : ∃ M : ℝ, wM m c (ix2 h s) = (M : EReal) := by
  rw [wM_at]
  refine fold_max_real _ (fun t => ?_) s ?_
  · rw [wLg_real H]; split_ifs
    · exact EReal.coe_ne_top _
    · exact bot_ne_top
  · rw [wLg_real H, if_pos le_rfl]; exact EReal.coe_ne_bot _

theorem wE_real {M : ℝ} {h : Fin 8} {s : Fin 16384} (hM : wM m c (ix2 h s) = (M : EReal)) (t : Fin 16384) :
    wE m c (ix3 h s t) = ((eR q k f M h s t : ℝ) : EReal) := by
  rw [wE_at, wLg_real H, hM, eR]
  split_ifs
  · rw [← EReal.coe_sub, exp_coe]
  · rw [EReal.bot_sub, exp_bot]; rfl

theorem wZ_real {M : ℝ} {h : Fin 8} {s : Fin 16384} (hM : wM m c (ix2 h s) = (M : EReal)) :
    wZ m c (ix2 h s) = ((zR q k f M h s : ℝ) : EReal) := by
  rw [wZ_at, zR, coe_sum]
  exact Finset.sum_congr rfl fun t _ => wE_real H hM t

theorem wP_real (h : Fin 8) (s t : Fin 16384) : wP m c (ix3 h s t) = ((pR q k f h s t : ℝ) : EReal) := by
  obtain ⟨M, hM⟩ := wM_real H h s
  rw [wP_at, wE_real H hM, wZ_real H hM, div_coe _ (zR_pos q k f M h s).ne', pR_eq]

theorem wO_real (s : Fin 16384) (h : Fin 8) (d : Fin 64) : wO m c (ix3 s h d) = ((∑ t, v t h d * pR q k f h s t : ℝ) : EReal) := by
  rw [wO_at, coe_sum]
  exact Finset.sum_congr rfl fun t _ => by rw [H.v, wP_real H, EReal.coe_mul]

/-- A query's number from its block and its place there. -/
def row (n : Fin 32) (s : Fin 512) : Fin 16384 := ⟨n.val * 512 + s.val, by omega⟩

omit H in
theorem row_val (n : Fin 32) (s : Fin 512) : (row n s).val = n.val * 512 + s.val := rfl

theorem wL_real (h : Fin 8) (n : Fin 32) (s : Fin 512) : ∃ M : ℝ, wL m c (ix4 h n 0 s) = ((M + Real.log (zR q k f M h (row n s)) : ℝ) : EReal) := by
  obtain ⟨M, hM⟩ := wM_real H h (row n s)
  refine ⟨M, ?_⟩
  rw [wL_at]
  show wM m c (ix2 h (row n s)) + Ideal.log (wZ m c (ix2 h (row n s))) = _
  rw [wZ_real H hM, hM, log_coe (zR_pos q k f M h _), EReal.coe_add]

theorem wD_real (h : Fin 8) (n : Fin 32) (s : Fin 512) : wD m c (ix4 h n 0 s) = ((dlR q k v g f h (row n s) : ℝ) : EReal) := by
  rw [wD_at, ← dlR_eq, coe_sum]
  refine Finset.sum_congr rfl fun d _ => ?_
  show wO m c (ix3 (row n s) h d) * aDo m c (ix3 (row n s) h d) = _
  rw [wO_real H, H.g, EReal.coe_mul]

theorem wNq_real (h : Fin 8) : ∃ r : ℝ, 0 ≤ r ∧ wNq m c (ix1 h) = (r : EReal) := by
  have e : ∀ s : Fin 16384, ∑ d : Fin 64, (aQ m c (ix3 s h d) * lit8) * (aQ m c (ix3 s h d) * lit8) = ((∑ d : Fin 64, (q s h d * (1 / 8)) * (q s h d * (1 / 8)) : ℝ) : EReal) := fun s => by
    simp only [H.q, lit8_eq, ← EReal.coe_mul, ← coe_sum]
  rw [wNq_at]
  simp only [e]
  obtain ⟨r, hr⟩ := fold_max_real (fun s : Fin 16384 => ((∑ d : Fin 64, (q s h d * (1 / 8)) * (q s h d * (1 / 8)) : ℝ) : EReal)) (fun s => EReal.coe_ne_top _) 0 (EReal.coe_ne_bot _)
  refine ⟨r, ?_, hr⟩
  have : ((0 : ℝ) : EReal) ≤ (r : EReal) := hr ▸ (Finset.le_fold_max _).mpr (Or.inr ⟨0, Finset.mem_univ _, EReal.coe_le_coe_iff.mpr (Finset.sum_nonneg fun d _ => mul_self_nonneg _)⟩)
  exact EReal.coe_le_coe_iff.mp this

theorem wNk_real (h : Fin 8) : ∃ r : ℝ, 0 ≤ r ∧ wNk m c (ix1 h) = (r : EReal) := by
  have e : ∀ s : Fin 16384, ∑ d : Fin 64, aK m c (ix3 s h d) * aK m c (ix3 s h d) = ((∑ d : Fin 64, k s h d * k s h d : ℝ) : EReal) := fun s => by
    simp only [H.k, ← EReal.coe_mul, ← coe_sum]
  rw [wNk_at]
  simp only [e]
  obtain ⟨r, hr⟩ := fold_max_real (fun s : Fin 16384 => ((∑ d : Fin 64, k s h d * k s h d : ℝ) : EReal)) (fun s => EReal.coe_ne_top _) 0 (EReal.coe_ne_bot _)
  refine ⟨r, ?_, hr⟩
  have : ((0 : ℝ) : EReal) ≤ (r : EReal) := hr ▸ (Finset.le_fold_max _).mpr (Or.inr ⟨0, Finset.mem_univ _, EReal.coe_le_coe_iff.mpr (Finset.sum_nonneg fun d _ => mul_self_nonneg _)⟩)
  exact EReal.coe_le_coe_iff.mp this

/-- The bound of a head's logits is not −∞. -/
theorem wT_ne_bot (h : Fin 8) : wT m c (ix1 h) ≠ ⊥ := by
  obtain ⟨a, ha, ea⟩ := wNq_real H h
  obtain ⟨b, hb, eb⟩ := wNk_real H h
  obtain ⟨r, hr, er⟩ := lit_margin
  rw [wT_at, ea, eb, er, ← EReal.coe_mul]
  have : Ideal.sqrt ((a * b : ℝ) : EReal) = ((Real.sqrt (a * b) : ℝ) : EReal) := by
    show (if a * b < 0 then (⊥ : EReal) else _) = _
    rw [if_neg (not_lt.mpr (mul_nonneg ha hb))]
  rw [this, ← EReal.coe_mul]
  exact EReal.coe_ne_bot _

/-! ## The logits and their gradients in a step -/

omit H in
/-- The head and the block of keys of a step. -/
def hd (t : Fin (cfg0 (F := Ideal)).N) : Fin 8 := ⟨t.val / 32, by have := t_lt t; omega⟩
omit H in
def jb (t : Fin (cfg0 (F := Ideal)).N) : Fin 32 := ⟨31 - t.val % 32, by omega⟩

omit H in
theorem kCol_mid (t : Fin 16384) (h : Fin 8) (e : Fin 8) (d : Fin 128) (hd : d.val = 64 + e.val) : kCol m c t h d = wC2 m c (ix3 t h e) := by
  unfold kCol
  rw [dif_neg (by omega), dif_pos (by omega)]
  exact congrArg (fun e => wC2 m c (ix3 t h e)) (Fin.ext (by show d.val - 64 = e.val; omega))
omit H in
theorem qCol_mid (t : Fin 16384) (h : Fin 8) (e : Fin 8) (d : Fin 128) (hd : d.val = 64 + e.val) : qCol m c t h d = wC1 m c (ix3 t h e) := by
  unfold qCol
  rw [dif_neg (by omega), dif_pos (by omega)]
  exact congrArg (fun e => wC1 m c (ix3 t h e)) (Fin.ext (by show d.val - 64 = e.val; omega))

theorem parts_real (h : Fin 8) (s t : Fin 16384) : ∑ e : Fin 8, wC2 m c (ix3 t h e) * wC1 m c (ix3 s h e) = ((f s h - f t h : ℝ) : EReal) := by
  simp only [Fin.sum_univ_eight, wC1_at, wC2_at, H.f]
  simp only [Matrix.cons_val]
  simp only [← EReal.coe_one, ← EReal.coe_zero, ← EReal.coe_neg, ← EReal.coe_sub, ← EReal.coe_mul, ← EReal.coe_add]
  congr 1
  ring

theorem cols_real (h : Fin 8) (s t : Fin 16384) : ∑ d : Fin 128, kCol m c t h d * qCol m c s h d = ((lgR q k f h s t : ℝ) : EReal) := by
  have e1 : ∀ d : Fin 64, kCol m c t h ⟨d.val, by omega⟩ * qCol m c s h ⟨d.val, by omega⟩ = ((k t h d * (q s h d * (1 / 8)) : ℝ) : EReal) := fun d => by
    simp only [kCol, qCol, dif_pos d.isLt, H.q, H.k, lit8_eq, ← EReal.coe_mul]
  have e2 : ∀ e : Fin 8, kCol m c t h ⟨64 + e.val, by omega⟩ * qCol m c s h ⟨64 + e.val, by omega⟩ = wC2 m c (ix3 t h e) * wC1 m c (ix3 s h e) := fun e => by
    rw [kCol_mid t h e _ rfl, qCol_mid s h e _ rfl]
  have e3 : ∀ e : Fin 56, kCol m c t h ⟨64 + (8 + e.val), by omega⟩ * qCol m c s h ⟨64 + (8 + e.val), by omega⟩ = 0 := fun e => by
    have : kCol m c t h ⟨64 + (8 + e.val), by omega⟩ = 0 := by unfold kCol; rw [dif_neg (by dsimp only; omega), dif_neg (by dsimp only; omega)]
    rw [this, zero_mul]
  have h2 : ∑ e : Fin 64, kCol m c t h ⟨64 + e.val, by omega⟩ * qCol m c s h ⟨64 + e.val, by omega⟩ = ((f s h - f t h : ℝ) : EReal) := by
    refine (Fin.sum_univ_two_halves 8 56 rfl _).trans ?_
    rw [← parts_real H]
    exact (congrArg₂ (· + ·) (Finset.sum_congr rfl fun e _ => e2 e) (Finset.sum_eq_zero fun e _ => e3 e)).trans (add_zero _)
  refine (Fin.sum_univ_two_halves 64 64 rfl _).trans ?_
  refine (congrArg₂ (· + ·) (Finset.sum_congr rfl fun d _ => e1 d) h2).trans ?_
  rw [← coe_sum, ← EReal.coe_add]
  congr 1
  unfold lgR
  rw [Finset.sum_mul, ← add_sub_assoc]
  congr 2
  exact Finset.sum_congr rfl fun d _ => by ring

theorem kS_real (t : Fin (cfg0 (F := Ideal)).N) (n : Fin 32) (r s : Fin 512) :
    kS (insAt m c t) n r s = ((lgR q k f (hd t) (row n s) (row (jb t) r) : ℝ) : EReal) := by
  rw [← cols_real H]
  unfold kS
  refine Finset.sum_congr rfl fun d _ => ?_
  rw [x6_at, x5_at]
  exact congrArg₂ (· * ·) (wKa_at m c (hd t) (row (jb t) r) d) (wQ_at m c n (hd t) d s)

theorem kD_real (t : Fin (cfg0 (F := Ideal)).N) (n : Fin 32) (r s : Fin 512) :
    kD (insAt m c t) n r s = ((dpR v g (hd t) (row n s) (row (jb t) r) : ℝ) : EReal) := by
  have e : kD (insAt m c t) n r s = ∑ d : Fin 128, (if hd' : d.val < 64 then aV m c (ix3 (row (jb t) r) (hd t) ⟨d.val, hd'⟩) else 0) * (if hd' : d.val < 64 then aDo m c (ix3 (row n s) (hd t) ⟨d.val, hd'⟩) else 0) := by
    unfold kD
    refine Finset.sum_congr rfl fun d _ => ?_
    rw [x8_at, x9_at]
    exact congrArg₂ (· * ·) (wV_at m c (hd t) (row (jb t) r) d) (wDo_at m c n (hd t) d s)
  rw [e, Fin.sum_univ_two_halves 64 64 rfl, dpR, coe_sum]
  rw [Finset.sum_eq_zero (s := (Finset.univ : Finset (Fin 64))) (f := fun d : Fin 64 => _ * (if hd' : 64 + d.val < 64 then aDo m c (ix3 (row n s) (hd t) ⟨64 + d.val, hd'⟩) else 0)) (fun d _ => by
    rw [dif_neg (by omega : ¬ 64 + d.val < 64), zero_mul]), add_zero]
  exact Finset.sum_congr rfl fun d _ => by rw [dif_pos d.isLt, dif_pos d.isLt, H.v, H.g, EReal.coe_mul]

theorem kp_real (t : Fin (cfg0 (F := Ideal)).N) (n : Fin 32) (r s : Fin 512) (hle : (row (jb t) r).val ≤ (row n s).val) :
    kp (insAt m c t) n s (kS (insAt m c t) n r s) = ((pR q k f (hd t) (row n s) (row (jb t) r) : ℝ) : EReal) := by
  obtain ⟨M, hM⟩ := wL_real H (hd t) n s
  have hx : (insAt m c t).x10 (ix4 0 n 0 s) = ((M + Real.log (zR q k f M (hd t) (row n s)) : ℝ) : EReal) := (x10_at m c t n s).trans hM
  have hn : Named.named (F := Ideal) κ (φ := .f32) "log2e" 0x3FB8AA3B#32 = (((Real.log 2)⁻¹ : ℝ) : EReal) :=
    IdealRules.named_const.ideal_named_scalar _ _ _ _ rfl
  unfold kp
  rw [kS_real H, hx, hn, ← EReal.coe_sub]
  exact (exp2_scaled _).trans (congrArg _ (pR_exp q k f M _ _ _ hle))

omit H in
theorem row_le {t : Fin (cfg0 (F := Ideal)).N} {n : Fin 32} {r s : Fin 512} (hn : 31 - t.val % 32 ≤ n.val) (h : ¬ (n = jb t ∧ s.val < r.val)) :
    (row (jb t) r).val ≤ (row n s).val := by
  rw [row_val, row_val]
  rcases Nat.lt_or_ge (jb t).val n.val with hlt | hge
  · omega
  · have e : n = jb t := Fin.ext (le_antisymm hge hn)
    have : r.val ≤ s.val := by by_contra hc; exact h ⟨e, by omega⟩
    subst e; omega

omit H in
theorem row_lt {t : Fin (cfg0 (F := Ideal)).N} {n : Fin 32} {r s : Fin 512} (h : n = jb t ∧ s.val < r.val) : (row n s).val < (row (jb t) r).val := by
  obtain ⟨rfl, h⟩ := h
  rw [row_val, row_val]; omega

theorem pr_real (t : Fin (cfg0 (F := Ideal)).N) (n : Fin 32) (r s : Fin 512) (hn : 31 - t.val % 32 ≤ n.val) :
    pr (insAt m c t) (jb t) n r s = ((pR q k f (hd t) (row n s) (row (jb t) r) : ℝ) : EReal) := by
  unfold pr
  by_cases h : n = jb t ∧ s.val < r.val
  · rw [if_pos h, pR_masked _ _ _ _ _ _ (row_lt h)]; rfl
  · rw [if_neg h, kp_real H t n r s (row_le hn h)]

theorem er_real (t : Fin (cfg0 (F := Ideal)).N) (n : Fin 32) (r s : Fin 512) (hn : 31 - t.val % 32 ≤ n.val) :
    er (insAt m c t) (jb t) n r s = ((dsR q k v g f (hd t) (row n s) (row (jb t) r) : ℝ) : EReal) := by
  unfold er
  by_cases h : n = jb t ∧ s.val < r.val
  · rw [if_pos h, dsR_masked _ _ _ _ _ _ _ _ (row_lt h)]; rfl
  · have hx : (insAt m c t).x11 (ix4 0 n 0 s) = ((dlR q k v g f (hd t) (row n s) : ℝ) : EReal) := (x11_at m c t n s).trans (wD_real H (hd t) n s)
    rw [if_neg h, ke, kp_real H t n r s (row_le hn h), kD_real H, hx, ← EReal.coe_sub, ← EReal.coe_mul]
    rfl

/-- No step's bound is −∞. -/
theorem thr_ne_bot (t : Fin (cfg0 (F := Ideal)).N) (w : S8.Idx) : (insAt m c t).x4 w ≠ ⊥ := by
  obtain ⟨h, rfl⟩ : ∃ h, w = ix1 h := ⟨w 0, funext fun a => match a with | ⟨0, _⟩ => rfl⟩
  rw [x4_at]; exact wT_ne_bot H h

end Cert.AttnBwdIdeal.Own
-- ==== Proof.AttnSums.lean ====
/- What the steps of the attention's backward call add up to, at arguments that are reals. -/
module

public import proofs.«01_k».proof.Proof.AttnVals

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (c : Dev nD)

variable {m c} {q k v g : Fin 16384 → Fin 8 → Fin 64 → ℝ} {f : Fin 16384 → Fin 8 → ℝ} (H : AtReals m c q k v g f)

theorem bk_zero (t : Fin (cfg0 (F := Ideal)).N) : bk (t.val % 32) 0 = jb t :=
  Fin.ext ((bk_val _ _ (Nat.zero_le _) (Nat.mod_lt _ (by decide))).trans rfl)

/-- A sum over the blocks of rows and the rows of each. -/
theorem sum_rows (Y : Fin 16384 → ℝ) : ∑ n : Fin 32, ∑ s : Fin 512, Y (row n s) = ∑ s, Y s := (Fin.sum_univ_tiles 32 512 rfl Y).symm

/-- A sum over a step's trips is a sum over all queries where the queries before the step's block count nothing. -/
theorem sum_trips (t : Fin (cfg0 (F := Ideal)).N) (G : Fin 32 → EReal) (Y : Fin 16384 → ℝ) (hz : ∀ s, s.val < (31 - t.val % 32) * 512 → Y s = 0)
    (hG : ∀ n : Fin 32, 31 - t.val % 32 ≤ n.val → G n = ((∑ s : Fin 512, Y (row n s) : ℝ) : EReal)) :
    ∑ k ∈ Finset.range (t.val % 32 + 1), G (bk (t.val % 32) k) = ((∑ s, Y s : ℝ) : EReal) := by
  have ht : t.val % 32 < 32 := Nat.mod_lt _ (by decide)
  have hb : ∀ k, k ≤ t.val % 32 → (bk (t.val % 32) k).val = 31 - t.val % 32 + k := fun k hk => bk_val _ _ hk ht
  rw [← sum_rows, ← sum_tail (t.val % 32) ht (fun n => ∑ s : Fin 512, Y (row n s)) (bk (t.val % 32)) hb fun n hn =>
    Finset.sum_eq_zero fun s _ => hz _ (by rw [row_val]; omega), coe_sum]
  refine Finset.sum_congr rfl fun k hk => hG _ ?_
  rw [hb k (by have := Finset.mem_range.mp hk; omega)]
  omega

section Keys

include H

/-- A step's sum of the gradients at the logits, each times one row of the queries' columns. -/
theorem gK_sum (t : Fin (cfg0 (F := Ideal)).N) (r : Fin 512) (e : Fin 80) (X : Fin 16384 → ℝ)
    (hX : ∀ s, qCol m c s (hd t) ⟨e.val, by omega⟩ = ((X s : ℝ) : EReal)) :
    ∑ k ∈ Finset.range (t.val % 32 + 1), gK (insAt m c t) (bk (t.val % 32) k) (er (insAt m c t) (bk (t.val % 32) 0) (bk (t.val % 32) k)) e r
      = ((∑ s, X s * dsR q k v g f (hd t) s (row (jb t) r) : ℝ) : EReal) := by
  rw [bk_zero]
  refine sum_trips t (fun n => gK (insAt m c t) n (er (insAt m c t) (jb t) n) e r) (fun s => X s * dsR q k v g f (hd t) s (row (jb t) r)) (fun s hs => ?_) fun n hn => ?_
  · rw [dsR_masked _ _ _ _ _ _ _ _ (by rw [row_val]; exact lt_of_lt_of_le hs (Nat.le_add_right _ _)), mul_zero]
  · show gK _ _ _ _ _ = _
    rw [gK, coe_sum]
    refine Finset.sum_congr rfl fun s _ => ?_
    rw [x5_at, er_real H t n r s hn, EReal.coe_mul]
    exact congrArg (· * _) ((wQ_at m c n (hd t) _ s).trans (hX (row n s)))

theorem dk_real (t : Fin (cfg0 (F := Ideal)).N) (d : Fin 64) (r : Fin 512) :
    dkAt m c t (ix3 0 d r) = ((∑ s, q s (hd t) d * (1 / 8) * dsR q k v g f (hd t) s (row (jb t) r) : ℝ) : EReal) :=
  gK_sum H t r ⟨d.val, by omega⟩ (fun s => q s (hd t) d * (1 / 8)) fun s => by
    simp only [qCol, dif_pos d.isLt, H.q, lit8_eq, ← EReal.coe_mul]

theorem df_real (t : Fin (cfg0 (F := Ideal)).N) (r : Fin 512) :
    dfAt m c t (ix4 0 0 0 r) = ((∑ s, dsR q k v g f (hd t) s (row (jb t) r) : ℝ) : EReal) :=
  (gK_sum H t r ⟨64, by omega⟩ (fun s => 1) fun s => by
    rw [qCol_mid s (hd t) 0 _ rfl, wC1_at]; rfl).trans (by simp only [one_mul])

theorem dv_real (t : Fin (cfg0 (F := Ideal)).N) (d : Fin 64) (r : Fin 512) :
    dvAt m c t (ix3 0 d r) = ((∑ s, g s (hd t) d * pR q k f (hd t) s (row (jb t) r) : ℝ) : EReal) := by
  show ∑ i ∈ Finset.range (t.val % 32 + 1), gV (insAt m c t) (bk (t.val % 32) i) (pr (insAt m c t) (bk (t.val % 32) 0) (bk (t.val % 32) i)) d r = _
  rw [bk_zero]
  refine sum_trips t (fun n => gV (insAt m c t) n (pr (insAt m c t) (jb t) n) d r) (fun s => g s (hd t) d * pR q k f (hd t) s (row (jb t) r)) (fun s hs => ?_) fun n hn => ?_
  · rw [pR_masked _ _ _ _ _ _ (by rw [row_val]; exact lt_of_lt_of_le hs (Nat.le_add_right _ _)), mul_zero]
  · show gV _ _ _ _ _ = _
    rw [gV, coe_sum]
    refine Finset.sum_congr rfl fun s _ => ?_
    rw [x9_at, pr_real H t n r s hn, EReal.coe_mul, ← H.g]
    exact congrArg (· * _) ((wDo_at m c n (hd t) _ s).trans (dif_pos d.isLt))

/-- What a step adds to the gradient of a block of queries, for one row of the keys' columns. -/
theorem gQ_real (t : Fin (cfg0 (F := Ideal)).N) (n : Fin 32) (s : Fin 512) (e : Fin 80) (X : Fin 16384 → ℝ)
    (hX : ∀ r, (if hf : e.val < 64 then aK m c (ix3 r (hd t) ⟨e.val, hf⟩) else if e.val = 64 then 1 else 0) = ((X r : ℝ) : EReal)) :
    dqNew m c t n e s = ((∑ r : Fin 512, X (row (jb t) r) * dsR q k v g f (hd t) (row n s) (row (jb t) r) : ℝ) : EReal) := by
  unfold dqNew
  by_cases hn : 31 - t.val % 32 ≤ n.val
  · rw [if_pos hn, bk_zero, gQ, coe_sum]
    refine Finset.sum_congr rfl fun r _ => ?_
    rw [x7_at, er_real H t n r s hn, EReal.coe_mul]
    exact congrArg (· * _) ((wKt_at m c (jb t) (hd t) e r).trans (hX (row (jb t) r)))
  · rw [if_neg hn]
    refine (EReal.coe_eq_zero.mpr (Finset.sum_eq_zero fun r _ => ?_)).symm
    rw [dsR_masked _ _ _ _ _ _ _ _ (by
      rw [row_val, row_val]
      have hj : (jb t).val = 31 - t.val % 32 := rfl
      omega), mul_zero]

omit H in
/-- A sum over the steps of a head is a sum over all keys. -/
theorem sum_steps (G : ℕ → EReal) (Y : Fin 16384 → ℝ) (hG : ∀ u (hu : u < 32), G u = ((∑ r : Fin 512, Y (row ⟨31 - u, by omega⟩ r) : ℝ) : EReal)) :
    ∑ u ∈ Finset.range 32, G u = ((∑ r, Y r : ℝ) : EReal) := by
  rw [Finset.sum_range, ← sum_rows, coe_sum]
  refine Fintype.sum_equiv Fin.revPerm _ _ fun u => ?_
  have : Fin.revPerm u = (⟨31 - u.val, by omega⟩ : Fin 32) := Fin.ext (by rw [Fin.revPerm_apply, Fin.val_rev]; show 32 - (u.val + 1) = 31 - u.val; omega)
  rw [this]
  exact hG u.val u.isLt

theorem dqPart_real (t : Fin (cfg0 (F := Ideal)).N) (n : Fin 32) (s : Fin 512) (e : Fin 80) (X : Fin 16384 → ℝ)
    (hX : ∀ r, (if hf : e.val < 64 then aK m c (ix3 r (hd t) ⟨e.val, hf⟩) else if e.val = 64 then 1 else 0) = ((X r : ℝ) : EReal)) (u : ℕ) (hu : u < 32) :
    dqPart m c (t.val / 32 * 32 + u) n e s = ((∑ r : Fin 512, X (row ⟨31 - u, by omega⟩ r) * dsR q k v g f (hd t) (row n s) (row ⟨31 - u, by omega⟩ r) : ℝ) : EReal) := by
  have hb := t_lt t
  have hN : (cfg0 (F := Ideal)).N = 256 := by decide +kernel
  have hlt : t.val / 32 * 32 + u < (cfg0 (F := Ideal)).N := by omega
  have hh : hd ⟨t.val / 32 * 32 + u, hlt⟩ = hd t := Fin.ext (by show (t.val / 32 * 32 + u) / 32 = t.val / 32; omega)
  have hj : jb ⟨t.val / 32 * 32 + u, hlt⟩ = ⟨31 - u, by omega⟩ := Fin.ext (by show 31 - (t.val / 32 * 32 + u) % 32 = 31 - u; omega)
  rw [dqPart, dif_pos hlt, gQ_real H ⟨_, hlt⟩ n s e X (by rw [hh]; exact hX), hh, hj]

theorem dq_sum (t : Fin (cfg0 (F := Ideal)).N) (ht : t.val % 32 = 31) (n : Fin 32) (s : Fin 512) (e : Fin 80) (X : Fin 16384 → ℝ)
    (hX : ∀ r, (if hf : e.val < 64 then aK m c (ix3 r (hd t) ⟨e.val, hf⟩) else if e.val = 64 then 1 else 0) = ((X r : ℝ) : EReal)) :
    dqAt m c t (ix3 n e s) = ((∑ r, X r * dsR q k v g f (hd t) (row n s) r : ℝ) : EReal) := by
  have e0 : dqAt m c t (ix3 n e s) = ∑ u ∈ Finset.range (t.val % 32 + 1), dqPart m c (t.val / 32 * 32 + u) n e s := rfl
  rw [e0, ht]
  exact sum_steps (fun u => dqPart m c (t.val / 32 * 32 + u) n e s) (fun r => X r * dsR q k v g f (hd t) (row n s) r) (dqPart_real H t n s e X hX)

theorem dq_real (t : Fin (cfg0 (F := Ideal)).N) (ht : t.val % 32 = 31) (n : Fin 32) (s : Fin 512) (d : Fin 64) :
    dqAt m c t (ix3 n ⟨d.val, by omega⟩ s) = ((∑ r, k r (hd t) d * dsR q k v g f (hd t) (row n s) r : ℝ) : EReal) :=
  dq_sum H t ht n s ⟨d.val, by omega⟩ (fun r => k r (hd t) d) fun r => (dif_pos d.isLt).trans (H.k _ _ _)

theorem dfq_real (t : Fin (cfg0 (F := Ideal)).N) (ht : t.val % 32 = 31) (n : Fin 32) (s : Fin 512) :
    dqAt m c t (ix3 n ⟨64, by omega⟩ s) = ((∑ r, dsR q k v g f (hd t) (row n s) r : ℝ) : EReal) :=
  (dq_sum H t ht n s ⟨64, by omega⟩ (fun r => 1) fun r => rfl).trans (by simp only [one_mul])

end Keys

end Cert.AttnBwdIdeal.Own
-- ==== Proof.AttnRun.lean ====
/- The run of the attention's backward call: its four result arrays. -/
module

public import proofs.«01_k».proof.Proof.AttnSums

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (ρ : Dev nD → PrngReg) (c : Dev nD)

theorem ixw10 : ∀ t : Fin (cfg0 (F := Ideal)).N, win0_10.index t 0 = 0 ∧ win0_10.index t 1 = t.val / 32 ∧ win0_10.index t 2 = 0 :=
  (by decide +kernel : ∀ t : Fin grid0.N, win0_10.index t 0 = 0 ∧ win0_10.index t 1 = t.val / 32 ∧ win0_10.index t 2 = 0)
theorem ixw11 : ∀ t : Fin (cfg0 (F := Ideal)).N, win0_11.index t 0 = 31 - t.val % 32 ∧ win0_11.index t 1 = t.val / 32 ∧ win0_11.index t 2 = 0 :=
  (by decide +kernel : ∀ t : Fin grid0.N, win0_11.index t 0 = 31 - t.val % 32 ∧ win0_11.index t 1 = t.val / 32 ∧ win0_11.index t 2 = 0)
theorem ixw12 : ∀ t : Fin (cfg0 (F := Ideal)).N, win0_12.index t 0 = 31 - t.val % 32 ∧ win0_12.index t 1 = t.val / 32 ∧ win0_12.index t 2 = 0 :=
  (by decide +kernel : ∀ t : Fin grid0.N, win0_12.index t 0 = 31 - t.val % 32 ∧ win0_12.index t 1 = t.val / 32 ∧ win0_12.index t 2 = 0)
theorem ixw13 : ∀ t : Fin (cfg0 (F := Ideal)).N, win0_13.index t 0 = t.val / 32 ∧ win0_13.index t 1 = 31 - t.val % 32 ∧ win0_13.index t 2 = 0 ∧ win0_13.index t 3 = 0 :=
  (by decide +kernel : ∀ t : Fin grid0.N, win0_13.index t 0 = t.val / 32 ∧ win0_13.index t 1 = 31 - t.val % 32 ∧ win0_13.index t 2 = 0 ∧ win0_13.index t 3 = 0)

/-- The step of a head and a block of keys. -/
def pt (h : Fin 8) (j : Fin 32) : Fin (cfg0 (F := Ideal)).N := ⟨h.val * 32 + (31 - j.val), lt_of_lt_of_eq (by omega : h.val * 32 + (31 - j.val) < 256) (by decide +kernel)⟩

theorem pt_eq (t : Fin (cfg0 (F := Ideal)).N) : pt (hd t) (jb t) = t := Fin.ext (by
  show t.val / 32 * 32 + (31 - (31 - t.val % 32)) = t.val
  omega)
theorem pt_last (t : Fin (cfg0 (F := Ideal)).N) (ht : t.val % 32 = 31) : pt (hd t) 0 = t := Fin.ext (by
  show t.val / 32 * 32 + (31 - 0) = t.val
  omega)

/-- The gradients of the queries and, in row 64 of each head, their part of the gates' gradient. -/
def res10 : Vec Ideal S32x640x512 .f32 := fun i =>
  dqAt m c (pt ⟨(i 1).val / 80, by have : (i 1).val < 640 := (i 1).isLt; omega⟩ 0) (ix3 (i 0) ⟨(i 1).val % 80, Nat.mod_lt _ (by decide)⟩ (i 2))
/-- The gradient of the keys. -/
def res11 : Vec Ideal S32x512x512 .f32 := fun i =>
  dkAt m c (pt ⟨(i 1).val / 64, by have : (i 1).val < 512 := (i 1).isLt; omega⟩ (i 0)) (ix3 0 ⟨(i 1).val % 64, Nat.mod_lt _ (by decide)⟩ (i 2))
/-- The gradient of the values. -/
def res12 : Vec Ideal S32x512x512 .f32 := fun i =>
  dvAt m c (pt ⟨(i 1).val / 64, by have : (i 1).val < 512 := (i 1).isLt; omega⟩ (i 0)) (ix3 0 ⟨(i 1).val % 64, Nat.mod_lt _ (by decide)⟩ (i 2))
/-- The keys' part of the gates' gradient. -/
def res13 : Vec Ideal S8x32x8x512 .f32 := fun i => dfAt m c (pt (i 0) (i 1)) (ix4 0 0 (i 2) (i 3))

theorem arr10 : (dats m 0 c).arrAt 10 (cfg0 (F := Ideal)).N = res10 m c := by
  refine (dats m 0 c).arrAt_eq_of_covers 10 _ (by decide +kernel) fun t hf y => ?_
  have ht : t.val % 32 = 31 := (flush0_10 t).mp hf
  blk_simp
  rw [after_10]
  obtain ⟨n, r, s, rfl⟩ : ∃ (n : Fin 32) (r : Fin 80) (s : Fin 512), y = ix3 n r s := ⟨y 0, y 1, y 2, by idx_ext⟩
  have e : ((win0_10.blk t).view.emb (ix3 n r s)) = ix3 n ⟨t.val / 32 * 80 + r.val, by have := t_lt t; omega⟩ s := by
    blk_ext [(ixw10 t).1, (ixw10 t).2.1, (ixw10 t).2.2]
  rw [e]
  have e1 : (⟨(t.val / 32 * 80 + r.val) / 80, by have := t_lt t; omega⟩ : Fin 8) = hd t := Fin.ext (by show _ = t.val / 32; dsimp only; omega)
  have e2 : (⟨(t.val / 32 * 80 + r.val) % 80, Nat.mod_lt _ (by decide)⟩ : Fin 80) = r := Fin.ext (by dsimp only; omega)
  show dqAt m c t (ix3 n r s) = dqAt m c (pt ⟨(t.val / 32 * 80 + r.val) / 80, _⟩ 0) (ix3 n ⟨(t.val / 32 * 80 + r.val) % 80, _⟩ s)
  rw [e1, e2, pt_last t ht]

theorem arr11 : (dats m 0 c).arrAt 11 (cfg0 (F := Ideal)).N = res11 m c := by
  refine (dats m 0 c).arrAt_eq_of_covers 11 _ (by decide +kernel) fun t hf y => ?_
  blk_simp
  rw [after_11]
  obtain ⟨n, r, s, rfl⟩ : ∃ (n : Fin 1) (r : Fin 64) (s : Fin 512), y = ix3 n r s := ⟨y 0, y 1, y 2, by idx_ext⟩
  obtain rfl : n = 0 := Subsingleton.elim _ _
  have e : ((win0_11.blk t).view.emb (ix3 0 r s)) = ix3 (jb t) ⟨t.val / 32 * 64 + r.val, by have := t_lt t; omega⟩ s := by
    blk_ext [(ixw11 t).1, (ixw11 t).2.1, (ixw11 t).2.2, jb]
  rw [e]
  have e1 : (⟨(t.val / 32 * 64 + r.val) / 64, by have := t_lt t; omega⟩ : Fin 8) = hd t := Fin.ext (by show _ = t.val / 32; dsimp only; omega)
  have e2 : (⟨(t.val / 32 * 64 + r.val) % 64, Nat.mod_lt _ (by decide)⟩ : Fin 64) = r := Fin.ext (by dsimp only; omega)
  show dkAt m c t (ix3 0 r s) = dkAt m c (pt ⟨(t.val / 32 * 64 + r.val) / 64, _⟩ (jb t)) (ix3 0 ⟨(t.val / 32 * 64 + r.val) % 64, _⟩ s)
  rw [e1, e2, pt_eq t]

theorem arr12 : (dats m 0 c).arrAt 12 (cfg0 (F := Ideal)).N = res12 m c := by
  refine (dats m 0 c).arrAt_eq_of_covers 12 _ (by decide +kernel) fun t hf y => ?_
  blk_simp
  rw [after_12]
  obtain ⟨n, r, s, rfl⟩ : ∃ (n : Fin 1) (r : Fin 64) (s : Fin 512), y = ix3 n r s := ⟨y 0, y 1, y 2, by idx_ext⟩
  obtain rfl : n = 0 := Subsingleton.elim _ _
  have e : ((win0_12.blk t).view.emb (ix3 0 r s)) = ix3 (jb t) ⟨t.val / 32 * 64 + r.val, by have := t_lt t; omega⟩ s := by
    blk_ext [(ixw12 t).1, (ixw12 t).2.1, (ixw12 t).2.2, jb]
  rw [e]
  have e1 : (⟨(t.val / 32 * 64 + r.val) / 64, by have := t_lt t; omega⟩ : Fin 8) = hd t := Fin.ext (by show _ = t.val / 32; dsimp only; omega)
  have e2 : (⟨(t.val / 32 * 64 + r.val) % 64, Nat.mod_lt _ (by decide)⟩ : Fin 64) = r := Fin.ext (by dsimp only; omega)
  show dvAt m c t (ix3 0 r s) = dvAt m c (pt ⟨(t.val / 32 * 64 + r.val) / 64, _⟩ (jb t)) (ix3 0 ⟨(t.val / 32 * 64 + r.val) % 64, _⟩ s)
  rw [e1, e2, pt_eq t]

theorem arr13 : (dats m 0 c).arrAt 13 (cfg0 (F := Ideal)).N = res13 m c := by
  refine (dats m 0 c).arrAt_eq_of_covers 13 _ (by decide +kernel) fun t hf y => ?_
  blk_simp
  rw [after_13]
  obtain ⟨n, o, r, s, rfl⟩ : ∃ (n : Fin 1) (o : Fin 1) (r : Fin 8) (s : Fin 512), y = ix4 n o r s := ⟨y 0, y 1, y 2, y 3, by idx_ext⟩
  obtain rfl : n = 0 := Subsingleton.elim _ _
  obtain rfl : o = 0 := Subsingleton.elim _ _
  have e : ((win0_13.blk t).view.emb (ix4 0 0 r s)) = ix4 (hd t) (jb t) r s := by
    blk_ext [(ixw13 t).1, (ixw13 t).2.1, (ixw13 t).2.2.1, (ixw13 t).2.2.2, jb, hd]
  rw [e]
  show dfAt m c t (ix4 0 0 r s) = dfAt m c (pt (hd t) (jb t)) (ix4 0 0 r s)
  rw [pt_eq t]

end Cert.AttnBwdIdeal.Own
-- ==== Proof.AttnOut.lean ====
/- The results of the attention's backward call at arguments that are reals, and its run. -/
module

public import proofs.«01_k».proof.Proof.AttnRun

@[expose] public section

set_option maxRecDepth 16384

noncomputable section

namespace Cert.AttnBwdIdeal.Own

open Idealize.ShloMosaic TcCoe Idealize.SL.Sem Tactic
open Idealize.ShloMosaic.Pipeline (Dat)
open Cert.AttnReal Cert.AttnBwdIdeal Cert.AttnBwdIdeal.Gen

variable (m : (ℓ : Loc nD τ sig) → Buf (Elt Ideal) ℓ) (ρ : Dev nD → PrngReg) (c : Dev nD)

/-- The gradient of the queries, out of the kernel's array. -/
theorem tail112 : Pipeline.afterTail₀ cfgs (dats m) 0 (V0 m) [hostOps1] c main_v112
    = (mulf (F := Ideal) (φ := .f32) (extractStridedSlice S32x8x64x512 ![0, 0, 0, 0] (shapeCast S32x8x80x512 (res10 m c) shapeCasts_S32x640x512_S32x8x80x512) slices_S32x8x80x512_S32x8x64x512_0_0_0_0) (broadcastInDim S32x8x64x512 ![] bcast_S_S32x8x64x512 (constant S_ .f32 0x3E000000#32)) : Vec Ideal S32x8x64x512 .f32) := by
  show StableHlo.after _ _ (Proc.devRef .tc main_v112) = _
  simp only [hostOps1, List.flatten_cons, List.flatten_nil, List.append_nil]
  after_results
  rw [← arr10 m c]
  rw [show Pipeline.withArrays (cfgs 0).spec c (V0 m c) (fun w => (dats m 0 c).arrAt w (cfgs 0).N) (Proc.devRef .tc main_v106_0)
      = (dats m 0 c).arrAt 10 (cfg0 (F := Ideal)).N from Pipeline.withArrays_arr spec0 (by decide) c (V0 m c) _ 10]
  rfl

/-- The gradient of the keys. -/
theorem tail108 : Pipeline.afterTail₀ cfgs (dats m) 0 (V0 m) [hostOps1] c main_v108
    = (shapeCast S32x8x64x512 (res11 m c) shapeCasts_S32x512x512_S32x8x64x512 : Vec Ideal S32x8x64x512 .f32) := by
  show StableHlo.after _ _ (Proc.devRef .tc main_v108) = _
  simp only [hostOps1, List.flatten_cons, List.flatten_nil, List.append_nil]
  after_results
  rw [← arr11 m c]
  rw [show Pipeline.withArrays (cfgs 0).spec c (V0 m c) (fun w => (dats m 0 c).arrAt w (cfgs 0).N) (Proc.devRef .tc main_v106_1)
      = (dats m 0 c).arrAt 11 (cfg0 (F := Ideal)).N from Pipeline.withArrays_arr spec0 (by decide) c (V0 m c) _ 11]
  rfl

/-- The gradient of the values. -/
theorem tail109 : Pipeline.afterTail₀ cfgs (dats m) 0 (V0 m) [hostOps1] c main_v109
    = (shapeCast S32x8x64x512 (res12 m c) shapeCasts_S32x512x512_S32x8x64x512 : Vec Ideal S32x8x64x512 .f32) := by
  show StableHlo.after _ _ (Proc.devRef .tc main_v109) = _
  simp only [hostOps1, List.flatten_cons, List.flatten_nil, List.append_nil]
  after_results
  rw [← arr12 m c]
  rw [show Pipeline.withArrays (cfgs 0).spec c (V0 m c) (fun w => (dats m 0 c).arrAt w (cfgs 0).N) (Proc.devRef .tc main_v106_2)
      = (dats m 0 c).arrAt 12 (cfg0 (F := Ideal)).N from Pipeline.withArrays_arr spec0 (by decide) c (V0 m c) _ 12]
  rfl

/-- The gradient of the gates' sums: the queries' part less the keys'. -/
theorem tail118 : Pipeline.afterTail₀ cfgs (dats m) 0 (V0 m) [hostOps1] c main_v118
    = (subf (F := Ideal) (φ := .f32) (shapeCast S32x8x512 (extractStridedSlice S32x8x1x512 ![0, 0, 64, 0] (shapeCast S32x8x80x512 (res10 m c) shapeCasts_S32x640x512_S32x8x80x512) slices_S32x8x80x512_S32x8x1x512_0_0_64_0) shapeCasts_S32x8x1x512_S32x8x512) (transpose S32x8x512 [1, 0, 2] (shapeCast S8x32x512 (extractStridedSlice S8x32x1x512 ![0, 0, 0, 0] (res13 m c) slices_S8x32x8x512_S8x32x1x512_0_0_0_0) shapeCasts_S8x32x1x512_S8x32x512) transposes_S8x32x512_S32x8x512_1_0_2) : Vec Ideal S32x8x512 .f32) := by
  show StableHlo.after _ _ (Proc.devRef .tc main_v118) = _
  simp only [hostOps1, List.flatten_cons, List.flatten_nil, List.append_nil]
  after_results
  rw [← arr10 m c, ← arr13 m c]
  rw [show Pipeline.withArrays (cfgs 0).spec c (V0 m c) (fun w => (dats m 0 c).arrAt w (cfgs 0).N) (Proc.devRef .tc main_v106_0)
      = (dats m 0 c).arrAt 10 (cfg0 (F := Ideal)).N from Pipeline.withArrays_arr spec0 (by decide) c (V0 m c) _ 10]
  rw [show Pipeline.withArrays (cfgs 0).spec c (V0 m c) (fun w => (dats m 0 c).arrAt w (cfgs 0).N) (Proc.devRef .tc main_v106_3)
      = (dats m 0 c).arrAt 13 (cfg0 (F := Ideal)).N from Pipeline.withArrays_arr spec0 (by decide) c (V0 m c) _ 13]
  rfl

theorem cut112 (x : Vec Ideal S32x640x512 .f32) (n : Fin 32) (h : Fin 8) (d : Fin 64) (s : Fin 512) :
    mulf (F := Ideal) (φ := .f32) (extractStridedSlice S32x8x64x512 ![0, 0, 0, 0] (shapeCast S32x8x80x512 x shapeCasts_S32x640x512_S32x8x80x512) slices_S32x8x80x512_S32x8x64x512_0_0_0_0) (broadcastInDim S32x8x64x512 ![] bcast_S_S32x8x64x512 (constant S_ .f32 0x3E000000#32)) (ix4 n h d s)
      = x (ix3 n ⟨h.val * 80 + d.val, by omega⟩ s) * lit8 := by
  pointwise
  rfl

theorem cut108 (x : Vec Ideal S32x512x512 .f32) (n : Fin 32) (h : Fin 8) (d : Fin 64) (s : Fin 512) :
    shapeCast S32x8x64x512 x shapeCasts_S32x512x512_S32x8x64x512 (ix4 n h d s) = x (ix3 n ⟨h.val * 64 + d.val, by omega⟩ s) := by
  pointwise

theorem cut118 (x : Vec Ideal S32x640x512 .f32) (y : Vec Ideal S8x32x8x512 .f32) (n : Fin 32) (h : Fin 8) (s : Fin 512) :
    subf (F := Ideal) (φ := .f32) (shapeCast S32x8x512 (extractStridedSlice S32x8x1x512 ![0, 0, 64, 0] (shapeCast S32x8x80x512 x shapeCasts_S32x640x512_S32x8x80x512) slices_S32x8x80x512_S32x8x1x512_0_0_64_0) shapeCasts_S32x8x1x512_S32x8x512) (transpose S32x8x512 [1, 0, 2] (shapeCast S8x32x512 (extractStridedSlice S8x32x1x512 ![0, 0, 0, 0] y slices_S8x32x8x512_S8x32x1x512_0_0_0_0) shapeCasts_S8x32x1x512_S8x32x512) transposes_S8x32x512_S32x8x512_1_0_2) (ix3 n h s)
      = x (ix3 n ⟨h.val * 80 + 64, by omega⟩ s) - y (ix4 h n 0 s) := by
  pointwise

theorem res10_at (n : Fin 32) (h : Fin 8) (r : Fin 80) (s : Fin 512) : res10 m c (ix3 n ⟨h.val * 80 + r.val, by omega⟩ s) = dqAt m c (pt h 0) (ix3 n r s) := by
  have e1 : (⟨(h.val * 80 + r.val) / 80, by omega⟩ : Fin 8) = h := Fin.ext (by dsimp only; omega)
  have e2 : (⟨(h.val * 80 + r.val) % 80, Nat.mod_lt _ (by decide)⟩ : Fin 80) = r := Fin.ext (by dsimp only; omega)
  show dqAt m c (pt ⟨(h.val * 80 + r.val) / 80, _⟩ 0) (ix3 n ⟨(h.val * 80 + r.val) % 80, _⟩ s) = _
  rw [e1, e2]
theorem res11_at (n : Fin 32) (h : Fin 8) (r : Fin 64) (s : Fin 512) : res11 m c (ix3 n ⟨h.val * 64 + r.val, by omega⟩ s) = dkAt m c (pt h n) (ix3 0 r s) := by
  have e1 : (⟨(h.val * 64 + r.val) / 64, by omega⟩ : Fin 8) = h := Fin.ext (by dsimp only; omega)
  have e2 : (⟨(h.val * 64 + r.val) % 64, Nat.mod_lt _ (by decide)⟩ : Fin 64) = r := Fin.ext (by dsimp only; omega)
  show dkAt m c (pt ⟨(h.val * 64 + r.val) / 64, _⟩ n) (ix3 0 ⟨(h.val * 64 + r.val) % 64, _⟩ s) = _
  rw [e1, e2]
theorem res12_at (n : Fin 32) (h : Fin 8) (r : Fin 64) (s : Fin 512) : res12 m c (ix3 n ⟨h.val * 64 + r.val, by omega⟩ s) = dvAt m c (pt h n) (ix3 0 r s) := by
  have e1 : (⟨(h.val * 64 + r.val) / 64, by omega⟩ : Fin 8) = h := Fin.ext (by dsimp only; omega)
  have e2 : (⟨(h.val * 64 + r.val) % 64, Nat.mod_lt _ (by decide)⟩ : Fin 64) = r := Fin.ext (by dsimp only; omega)
  show dvAt m c (pt ⟨(h.val * 64 + r.val) / 64, _⟩ n) (ix3 0 ⟨(h.val * 64 + r.val) % 64, _⟩ s) = _
  rw [e1, e2]

theorem hd_pt (h : Fin 8) (j : Fin 32) : hd (pt h j) = h := Fin.ext (by show (h.val * 32 + (31 - j.val)) / 32 = h.val; omega)
theorem jb_pt (h : Fin 8) (j : Fin 32) : jb (pt h j) = j := Fin.ext (by show 31 - (h.val * 32 + (31 - j.val)) % 32 = j.val; omega)
theorem pt_mod (h : Fin 8) : (pt h 0).val % 32 = 31 := by show (h.val * 32 + (31 - 0)) % 32 = 31; omega

/-! ## The results -/

section Results

variable {m c} {q k v g : Fin 16384 → Fin 8 → Fin 64 → ℝ} {f : Fin 16384 → Fin 8 → ℝ} (H : AtReals m c q k v g f)

include H

theorem out_dq (n : Fin 32) (h : Fin 8) (d : Fin 64) (s : Fin 512) : Pipeline.afterTail₀ cfgs (dats m) 0 (V0 m) [hostOps1] c main_v112 (ix4 n h d s)
    = (((∑ r, k r h d * dsR q k v g f h (row n s) r) * (1 / 8) : ℝ) : EReal) := by
  rw [tail112, cut112]
  refine (congrArg (· * lit8) ((res10_at m c n h ⟨d.val, by omega⟩ s).trans (dq_real H (pt h 0) (pt_mod h) n s d))).trans ?_
  show _ * lit8 = _
  rw [hd_pt, lit8_eq, ← EReal.coe_mul]

theorem out_dk (n : Fin 32) (h : Fin 8) (d : Fin 64) (r : Fin 512) : Pipeline.afterTail₀ cfgs (dats m) 0 (V0 m) [hostOps1] c main_v108 (ix4 n h d r)
    = ((∑ s, q s h d * (1 / 8) * dsR q k v g f h s (row n r) : ℝ) : EReal) := by
  rw [tail108, cut108, res11_at, dk_real H, hd_pt, jb_pt]

theorem out_dv (n : Fin 32) (h : Fin 8) (d : Fin 64) (r : Fin 512) : Pipeline.afterTail₀ cfgs (dats m) 0 (V0 m) [hostOps1] c main_v109 (ix4 n h d r)
    = ((∑ s, g s h d * pR q k f h s (row n r) : ℝ) : EReal) := by
  rw [tail109, cut108, res12_at, dv_real H, hd_pt, jb_pt]

theorem out_df (n : Fin 32) (h : Fin 8) (s : Fin 512) : Pipeline.afterTail₀ cfgs (dats m) 0 (V0 m) [hostOps1] c main_v118 (ix3 n h s)
    = (((∑ r, dsR q k v g f h (row n s) r) - ∑ r, dsR q k v g f h r (row n s) : ℝ) : EReal) := by
  rw [tail118, cut118]
  have e1 : res10 m c (ix3 n ⟨h.val * 80 + 64, by omega⟩ s) = ((∑ r, dsR q k v g f h (row n s) r : ℝ) : EReal) := by
    refine (res10_at m c n h ⟨64, by omega⟩ s).trans ((dfq_real H (pt h 0) (pt_mod h) n s).trans ?_)
    rw [hd_pt]
  have e2 : res13 m c (ix4 h n 0 s) = ((∑ r, dsR q k v g f h r (row n s) : ℝ) : EReal) := by
    refine (df_real H (pt h n) s).trans ?_
    rw [hd_pt, jb_pt]
  rw [e1, e2, ← EReal.coe_sub]

end Results

end Cert.AttnBwdIdeal.Own
-- ==== Proof.AttnRef.lean ====
/- The reference's gradients of the attention, read at an index, at arguments that are reals. -/
module

public import proofs.«01_k».proof.Defs
public import proofs.«01_k».proof.Proof.AttnReal
public import proofs.«01_k».proof.Proof.Gen.AttnBwdRefIdeal.Read

@[expose] public section

set_option maxRecDepth 16384

noncomputable section

namespace Cert.AttnBwdRefIdeal.Own

open Idealize.ShloMosaic TcCoe Idealize.SL.Sem Tactic
open Cert.AttnReal Cert.AttnBwdRefIdeal Cert.AttnBwdRefIdeal.Gen Cert.AttnBwdRefIdeal.Read

variable (x0 x1 x2 x4 : Vec Ideal S16384x8x64 .f32) (x3 : Vec Ideal S16384x8 .f32)

/-! ## The arrays at an index -/

theorem r19_1 (h : Fin 8) (s t : Fin 16384) : val_main_v19_1 (F := Ideal) (ix3 h s t) = IntOp.cmpi .sle (BitVec.ofNat 32 t.val) (BitVec.ofNat 32 s.val) := by
  pointwise [val_main_v19_1, val_main_v18, val_main_v17, val_main_v16, val_main_v15, val_main_v3, val_main_v2, val_main_v1, val_main_v0]

theorem r14 (h : Fin 8) (s t : Fin 16384) : val_main_v14 (F := Ideal) x0 x1 x3 (ix3 h s t)
    = (∑ d : Fin 64, x0 (ix3 s h d) * x1 (ix3 t h d)) * Ideal.ofBits .f32 0x3E000000#32 + x3 (ix2 s h) - x3 (ix2 t h) := by
  pointwise [val_main_v14, val_main_v13, val_main_v12, val_main_v11, val_main_v10, val_main_v9, val_main_v8, val_main_v7, val_main_v6, val_main_v5, val_main_v4, val_main_cst]

theorem r19 (h : Fin 8) (s t : Fin 16384) : val_main_v19_0 (F := Ideal) x0 x1 x3 (ix3 h s t)
    = if t.val ≤ s.val then (∑ d : Fin 64, x0 (ix3 s h d) * x1 (ix3 t h d)) * Ideal.ofBits .f32 0x3E000000#32 + x3 (ix2 s h) - x3 (ix2 t h) else ⊥ := by
  have e : val_main_call0_v2 (F := Ideal) (ix3 h s t) = ⊥ := by
    pointwise [val_main_call0_v2, val_main_call0_v0, val_main_cst_0]
    exact lit_ninf
  rw [val_main_v19_0_apply, r19_1, r14, e, select_le (by omega) (by omega)]

theorem r20 (h : Fin 8) (s : Fin 16384) : val_main_v20 (F := Ideal) x0 x1 x3 (ix2 h s)
    = Finset.univ.fold max ⊥ fun t : Fin 16384 => val_main_v19_0 (F := Ideal) x0 x1 x3 (ix3 h s t) := by
  unfold val_main_v20
  generalize val_main_v19_0 (F := Ideal) x0 x1 x3 = y
  rw [← lit_ninf]
  pointwise [val_main_cst_1]

theorem r27 (h : Fin 8) (s : Fin 16384) : val_main_v27 (F := Ideal) x0 x1 x3 (ix2 h s) = val_main_v20 (F := Ideal) x0 x1 x3 (ix2 h s) := by
  have e : val_main_v26 (F := Ideal) (ix2 h s) = ⊥ := by
    pointwise [val_main_v26, val_main_cst_3]
    exact lit_ninf
  rw [val_main_v27_apply, e]
  exact max_eq_right bot_le

theorem r40 (h : Fin 8) (s t : Fin 16384) : val_main_v40 (F := Ideal) x0 x1 x3 (ix3 h s t)
    = Ideal.exp (val_main_v19_0 (F := Ideal) x0 x1 x3 (ix3 h s t) - val_main_v27 (F := Ideal) x0 x1 x3 (ix2 h s)) := by
  unfold val_main_v40 val_main_v39 val_main_v38 val_main_v37
  generalize val_main_v19_0 (F := Ideal) x0 x1 x3 = y
  generalize val_main_v27 (F := Ideal) x0 x1 x3 = z
  pointwise

theorem r41 (h : Fin 8) (s : Fin 16384) : val_main_v41 (F := Ideal) x0 x1 x3 (ix2 h s)
    = ∑ t : Fin 16384, val_main_v40 (F := Ideal) x0 x1 x3 (ix3 h s t) := by
  unfold val_main_v41
  generalize val_main_v40 (F := Ideal) x0 x1 x3 = y
  pointwise [val_main_cst_9]

theorem r44 (h : Fin 8) (s t : Fin 16384) : val_main_v44 (F := Ideal) x0 x1 x3 (ix3 h s t)
    = Ideal.div (val_main_v40 (F := Ideal) x0 x1 x3 (ix3 h s t)) (val_main_v41 (F := Ideal) x0 x1 x3 (ix2 h s)) := by
  unfold val_main_v44 val_main_v43 val_main_v42
  generalize val_main_v40 (F := Ideal) x0 x1 x3 = y
  generalize val_main_v41 (F := Ideal) x0 x1 x3 = z
  pointwise

theorem r47 (h : Fin 8) (s : Fin 16384) : val_main_v47 (F := Ideal) x0 x1 x3 (ix3 h s 0)
    = Ideal.div (Ideal.ofBits .f32 0x3F800000#32) (val_main_v41 (F := Ideal) x0 x1 x3 (ix2 h s) * val_main_v41 (F := Ideal) x0 x1 x3 (ix2 h s)) := by
  unfold val_main_v47 val_main_v46 val_main_v45 val_main_v42
  generalize val_main_v41 (F := Ideal) x0 x1 x3 = z
  pointwise [val_main_cst_10]

theorem r51 (h : Fin 8) (s t : Fin 16384) : val_main_v51 (F := Ideal) x2 x4 (ix3 h s t) = ∑ d : Fin 64, x4 (ix3 s h d) * x2 (ix3 t h d) := by
  pointwise [val_main_v51, val_main_v50]

theorem r53 (t : Fin 16384) (h : Fin 8) (d : Fin 64) : val_main_v53 (F := Ideal) x0 x1 x3 x4 (ix3 t h d)
    = ∑ s : Fin 16384, x4 (ix3 s h d) * val_main_v44 (F := Ideal) x0 x1 x3 (ix3 h s t) := by
  unfold val_main_v53 val_main_v52
  generalize val_main_v44 (F := Ideal) x0 x1 x3 = y
  pointwise [val_main_v50]

theorem r57 (h : Fin 8) (s : Fin 16384) : val_main_v57 (F := Ideal) x0 x1 x2 x3 x4 (ix2 h s)
    = ∑ t : Fin 16384, (val_main_v51 (F := Ideal) x2 x4 (ix3 h s t) * val_main_v47 (F := Ideal) x0 x1 x3 (ix3 h s 0)) * val_main_v40 (F := Ideal) x0 x1 x3 (ix3 h s t) := by
  unfold val_main_v57 val_main_v56 val_main_v55 val_main_v54
  generalize val_main_v40 (F := Ideal) x0 x1 x3 = y
  generalize val_main_v47 (F := Ideal) x0 x1 x3 = z
  generalize val_main_v51 (F := Ideal) x2 x4 = w
  pointwise [val_main_cst_11]

theorem r62 (h : Fin 8) (s : Fin 16384) : val_main_v62 (F := Ideal) x0 x1 x2 x3 x4 (ix2 h s) = -val_main_v57 (F := Ideal) x0 x1 x2 x3 x4 (ix2 h s) := by
  unfold val_main_v62 val_main_v59 val_main_v58
  generalize val_main_v57 (F := Ideal) x0 x1 x2 x3 x4 = y
  pointwise [val_main_cst_12]
  simp only [Fin.sum_univ_one]

theorem r65 (h : Fin 8) (s t : Fin 16384) : val_main_v65 (F := Ideal) x0 x1 x2 x3 x4 (ix3 h s t)
    = (Ideal.div (val_main_v51 (F := Ideal) x2 x4 (ix3 h s t)) (val_main_v41 (F := Ideal) x0 x1 x3 (ix2 h s)) + val_main_v62 (F := Ideal) x0 x1 x2 x3 x4 (ix2 h s))
      * val_main_v40 (F := Ideal) x0 x1 x3 (ix3 h s t) := by
  unfold val_main_v65 val_main_v64 val_main_v63 val_main_v61 val_main_v60 val_main_v42
  generalize val_main_v40 (F := Ideal) x0 x1 x3 = y
  generalize val_main_v41 (F := Ideal) x0 x1 x3 = z
  generalize val_main_v51 (F := Ideal) x2 x4 = w
  generalize val_main_v62 (F := Ideal) x0 x1 x2 x3 x4 = u
  pointwise

theorem r66 (h : Fin 8) (s t : Fin 16384) : val_main_v66 (F := Ideal) x0 x1 x2 x3 x4 (ix3 h s t)
    = if t.val ≤ s.val then val_main_v65 (F := Ideal) x0 x1 x2 x3 x4 (ix3 h s t) else 0 := by
  have e : val_main_call1_v0 (F := Ideal) (ix3 h s t) = 0 := by
    pointwise [val_main_call1_v0, val_main_call1_cst]
  rw [val_main_v66_apply, r19_1, e, select_le (by omega) (by omega)]

theorem r76 (s : Fin 16384) (h : Fin 8) : val_main_v76 (F := Ideal) x0 x1 x2 x3 x4 (ix2 s h)
    = (∑ r : Fin 16384, -val_main_v66 (F := Ideal) x0 x1 x2 x3 x4 (ix3 h r s)) + ∑ r : Fin 16384, val_main_v66 (F := Ideal) x0 x1 x2 x3 x4 (ix3 h s r) := by
  unfold val_main_v76 val_main_v75 val_main_v74 val_main_v73 val_main_v72 val_main_v71 val_main_v70 val_main_v69 val_main_v68 val_main_v67
  generalize val_main_v66 (F := Ideal) x0 x1 x2 x3 x4 = y
  pointwise [val_main_cst_13, val_main_cst_14, val_main_cst_15, val_main_cst_16]
  simp only [Fin.sum_univ_one]

theorem r80 (t : Fin 16384) (h : Fin 8) (d : Fin 64) : val_main_v80 (F := Ideal) x0 x1 x2 x3 x4 (ix3 t h d)
    = ∑ s : Fin 16384, (val_main_v66 (F := Ideal) x0 x1 x2 x3 x4 (ix3 h s t) * Ideal.ofBits .f32 0x3E000000#32) * x0 (ix3 s h d) := by
  unfold val_main_v80 val_main_v79 val_main_v78
  generalize val_main_v66 (F := Ideal) x0 x1 x2 x3 x4 = y
  pointwise [val_main_v77, val_main_cst_17]

theorem r82 (s : Fin 16384) (h : Fin 8) (d : Fin 64) : val_main_v82 (F := Ideal) x0 x1 x2 x3 x4 (ix3 s h d)
    = ∑ t : Fin 16384, (val_main_v66 (F := Ideal) x0 x1 x2 x3 x4 (ix3 h s t) * Ideal.ofBits .f32 0x3E000000#32) * x1 (ix3 t h d) := by
  unfold val_main_v82 val_main_v81 val_main_v78
  generalize val_main_v66 (F := Ideal) x0 x1 x2 x3 x4 = y
  pointwise [val_main_v77, val_main_cst_17]

theorem r84 (n : Fin 32) (h : Fin 8) (d : Fin 64) (s : Fin 512) : val_main_v84 (F := Ideal) x0 x1 x2 x3 x4 (ix4 n h d s)
    = val_main_v82 (F := Ideal) x0 x1 x2 x3 x4 (ix3 ⟨n.val * 512 + s.val, by omega⟩ h d) := by
  unfold val_main_v84 val_main_v83
  generalize val_main_v82 (F := Ideal) x0 x1 x2 x3 x4 = y
  pointwise

theorem r86 (n : Fin 32) (h : Fin 8) (d : Fin 64) (s : Fin 512) : val_main_v86 (F := Ideal) x0 x1 x2 x3 x4 (ix4 n h d s)
    = val_main_v80 (F := Ideal) x0 x1 x2 x3 x4 (ix3 ⟨n.val * 512 + s.val, by omega⟩ h d) := by
  unfold val_main_v86 val_main_v85
  generalize val_main_v80 (F := Ideal) x0 x1 x2 x3 x4 = y
  pointwise

theorem r88 (n : Fin 32) (h : Fin 8) (d : Fin 64) (s : Fin 512) : val_main_v88 (F := Ideal) x0 x1 x3 x4 (ix4 n h d s)
    = val_main_v53 (F := Ideal) x0 x1 x3 x4 (ix3 ⟨n.val * 512 + s.val, by omega⟩ h d) := by
  unfold val_main_v88 val_main_v87
  generalize val_main_v53 (F := Ideal) x0 x1 x3 x4 = y
  pointwise

theorem r90 (n : Fin 32) (h : Fin 8) (s : Fin 512) : val_main_v90 (F := Ideal) x0 x1 x2 x3 x4 (ix3 n h s)
    = val_main_v76 (F := Ideal) x0 x1 x2 x3 x4 (ix2 ⟨n.val * 512 + s.val, by omega⟩ h) := by
  unfold val_main_v90 val_main_v89
  generalize val_main_v76 (F := Ideal) x0 x1 x2 x3 x4 = y
  pointwise

/-! ## At reals -/

/-- The gradient at a logit, as differentiating the division gives it. -/
theorem ds_div {ι : Type*} [Fintype ι] (e dp : ι → ℝ) (Z : ℝ) (hZ : Z ≠ 0) (t : ι) :
    (dp t / Z + -∑ r, (dp r * (1 / (Z * Z))) * e r) * e t = e t / Z * (dp t - ∑ r, e r / Z * dp r) := by
  have h : ∑ r, (dp r * (1 / (Z * Z))) * e r = (∑ r, e r / Z * dp r) / Z := by
    rw [Finset.sum_div]
    exact Finset.sum_congr rfl fun r _ => by field_simp
  rw [h]
  field_simp
  ring

section Reals

variable {x0 x1 x2 x4 x3} {q k v g : Fin 16384 → Fin 8 → Fin 64 → ℝ} {f : Fin 16384 → Fin 8 → ℝ}

/-- The arguments are the given reals. -/
structure AtReals (x0 x1 x2 x4 : Vec Ideal S16384x8x64 .f32) (x3 : Vec Ideal S16384x8 .f32) (q k v g : Fin 16384 → Fin 8 → Fin 64 → ℝ) (f : Fin 16384 → Fin 8 → ℝ) : Prop where
  q : ∀ s h d, x0 (ix3 s h d) = ((q s h d : ℝ) : EReal)
  k : ∀ s h d, x1 (ix3 s h d) = ((k s h d : ℝ) : EReal)
  v : ∀ s h d, x2 (ix3 s h d) = ((v s h d : ℝ) : EReal)
  g : ∀ s h d, x4 (ix3 s h d) = ((g s h d : ℝ) : EReal)
  f : ∀ s h, x3 (ix2 s h) = ((f s h : ℝ) : EReal)

variable (H : AtReals x0 x1 x2 x4 x3 q k v g f)

include H

theorem r19_real (h : Fin 8) (s t : Fin 16384) : val_main_v19_0 (F := Ideal) x0 x1 x3 (ix3 h s t) = if t.val ≤ s.val then ((lgR q k f h s t : ℝ) : EReal) else ⊥ := by
  rw [r19]
  split_ifs with hts
  · simp only [H.q, H.k, H.f, lit_eighth, ← EReal.coe_mul, ← coe_sum, ← EReal.coe_add, ← EReal.coe_sub]; rfl
  · rfl

theorem r27_real (h : Fin 8) (s : Fin 16384) : ∃ M : ℝ, val_main_v27 (F := Ideal) x0 x1 x3 (ix2 h s) = (M : EReal) := by
  rw [r27, r20]
  refine fold_max_real _ (fun t => ?_) s ?_
  · rw [r19_real H]; split_ifs
    · exact EReal.coe_ne_top _
    · exact bot_ne_top
  · rw [r19_real H, if_pos le_rfl]; exact EReal.coe_ne_bot _

theorem r40_real {M : ℝ} {h : Fin 8} {s : Fin 16384} (hM : val_main_v27 (F := Ideal) x0 x1 x3 (ix2 h s) = (M : EReal)) (t : Fin 16384) :
    val_main_v40 (F := Ideal) x0 x1 x3 (ix3 h s t) = ((eR q k f M h s t : ℝ) : EReal) := by
  rw [r40, r19_real H, hM, eR]
  split_ifs
  · rw [← EReal.coe_sub, exp_coe]
  · rw [EReal.bot_sub, exp_bot]; rfl

theorem r41_real {M : ℝ} {h : Fin 8} {s : Fin 16384} (hM : val_main_v27 (F := Ideal) x0 x1 x3 (ix2 h s) = (M : EReal)) :
    val_main_v41 (F := Ideal) x0 x1 x3 (ix2 h s) = ((zR q k f M h s : ℝ) : EReal) := by
  rw [r41, zR, coe_sum]
  exact Finset.sum_congr rfl fun t _ => r40_real H hM t

theorem r44_real (h : Fin 8) (s t : Fin 16384) : val_main_v44 (F := Ideal) x0 x1 x3 (ix3 h s t) = ((pR q k f h s t : ℝ) : EReal) := by
  obtain ⟨M, hM⟩ := r27_real H h s
  rw [r44, r40_real H hM, r41_real H hM, div_coe _ (zR_pos q k f M h s).ne', pR_eq]

theorem r51_real (h : Fin 8) (s t : Fin 16384) : val_main_v51 (F := Ideal) x2 x4 (ix3 h s t) = ((dpR v g h s t : ℝ) : EReal) := by
  rw [r51, dpR, coe_sum]
  exact Finset.sum_congr rfl fun d _ => by rw [H.v, H.g, ← EReal.coe_mul, mul_comm]

theorem r66_real (h : Fin 8) (s t : Fin 16384) : val_main_v66 (F := Ideal) x0 x1 x2 x3 x4 (ix3 h s t) = ((dsR q k v g f h s t : ℝ) : EReal) := by
  rw [r66]
  split_ifs with hts
  · obtain ⟨M, hM⟩ := r27_real H h s
    have hZ := (zR_pos q k f M h s).ne'
    rw [r65, r62, r57, r47, r41_real H hM, lit_one, ← EReal.coe_mul, div_coe _ (mul_ne_zero hZ hZ), r51_real H, div_coe _ hZ]
    simp only [r51_real H, r40_real H hM, ← EReal.coe_mul, ← coe_sum, ← EReal.coe_neg, ← EReal.coe_add]
    refine congrArg (fun x : ℝ => (x : EReal)) ?_
    rw [ds_div (eR q k f M h s) (dpR v g h s) _ hZ t]
    simp only [pR_eq]
    rfl
  · rw [dsR_masked _ _ _ _ _ _ _ _ (by omega)]; rfl

theorem ref_dq (n : Fin 32) (h : Fin 8) (d : Fin 64) (s : Fin 512) : val_main_v84 (F := Ideal) x0 x1 x2 x3 x4 (ix4 n h d s)
    = (((∑ r, k r h d * dsR q k v g f h ⟨n.val * 512 + s.val, by omega⟩ r) * (1 / 8) : ℝ) : EReal) := by
  rw [r84, r82, Finset.sum_mul, coe_sum]
  exact Finset.sum_congr rfl fun r _ => by rw [r66_real H, lit_eighth, H.k, ← EReal.coe_mul, ← EReal.coe_mul]; congr 1; ring

theorem ref_dk (n : Fin 32) (h : Fin 8) (d : Fin 64) (r : Fin 512) : val_main_v86 (F := Ideal) x0 x1 x2 x3 x4 (ix4 n h d r)
    = ((∑ s, q s h d * (1 / 8) * dsR q k v g f h s ⟨n.val * 512 + r.val, by omega⟩ : ℝ) : EReal) := by
  rw [r86, r80, coe_sum]
  exact Finset.sum_congr rfl fun s _ => by rw [r66_real H, lit_eighth, H.q, ← EReal.coe_mul, ← EReal.coe_mul]; congr 1; ring

theorem ref_dv (n : Fin 32) (h : Fin 8) (d : Fin 64) (r : Fin 512) : val_main_v88 (F := Ideal) x0 x1 x3 x4 (ix4 n h d r)
    = ((∑ s, g s h d * pR q k f h s ⟨n.val * 512 + r.val, by omega⟩ : ℝ) : EReal) := by
  rw [r88, r53, coe_sum]
  exact Finset.sum_congr rfl fun s _ => by rw [r44_real H, H.g, ← EReal.coe_mul]

theorem ref_df (n : Fin 32) (h : Fin 8) (s : Fin 512) : val_main_v90 (F := Ideal) x0 x1 x2 x3 x4 (ix3 n h s)
    = (((∑ r, dsR q k v g f h ⟨n.val * 512 + s.val, by omega⟩ r) - ∑ r, dsR q k v g f h r ⟨n.val * 512 + s.val, by omega⟩ : ℝ) : EReal) := by
  rw [r90, r76]
  simp only [r66_real H, ← EReal.coe_neg, ← coe_sum, ← EReal.coe_add]
  refine congrArg (fun x : ℝ => (x : EReal)) ?_
  rw [Finset.sum_neg_distrib]
  ring

end Reals

end Cert.AttnBwdRefIdeal.Own
-- ==== Proof.AttnAlg.lean ====
/- The attention's backward call and its reference leave the same results at finite arguments. -/
module

public import proofs.«01_k».proof.Proof.AttnOut
public import proofs.«01_k».proof.Proof.AttnRef
public import Idealize.ShloMosaic.Lib.ReduceAll

@[expose] public section

set_option maxRecDepth 16384

noncomputable section

namespace Cert.AttnBwdIdeal.Own

open Idealize.ShloMosaic TcCoe Idealize.SL.Sem Tactic
open Cert.AttnReal Cert.AttnBwdIdeal Cert.AttnBwdIdeal.Gen

/-! ## The precondition -/

theorem and_one : ∀ a b : BitVec 1, IntOp.andi a b = 1#1 → a = 1#1 ∧ b = 1#1 := by decide

/-- A value whose size is below +∞ is a real. -/
theorem real_of_abs_lt (x : EReal) (h : Ideal.cmp .olt (max x (-x)) (Ideal.ofBits .f32 0x7F800000#32) = 1#1) : ((x.toReal : ℝ) : EReal) = x := by
  have ht : Ideal.ofBits .f32 0x7F800000#32 = (⊤ : EReal) := by simp [Ideal.ofBits, Ideal.ieee]
  rw [ht] at h
  refine EReal.coe_toReal ?_ ?_
  · rintro rfl
    revert h; simp [Ideal.cmp]
  · rintro rfl
    revert h; simp [Ideal.cmp]

section Pre

variable [Cert.Pre_finite.Facts] (a0 a1 a2 a4 : Vec Ideal ⟨3, ![16384, 8, 64]⟩ .f32) (a3 : Vec Ideal ⟨2, ![16384, 8]⟩ .f32)

/-- The precondition says of every argument that its entries are reals. -/
theorem reals_of_pre (h : Cert.Pre_finite.fn (F := Ideal) a0 a1 a2 a3 a4 = fun _ => 1#1) :
    (∀ i, (((a0 i).toReal : ℝ) : EReal) = a0 i) ∧ (∀ i, (((a1 i).toReal : ℝ) : EReal) = a1 i) ∧ (∀ i, (((a2 i).toReal : ℝ) : EReal) = a2 i)
      ∧ (∀ i, (((a3 i).toReal : ℝ) : EReal) = a3 i) ∧ (∀ i, (((a4 i).toReal : ℝ) : EReal) = a4 i) := by
  have hj : ∀ j k : Cert.Pre_finite.S_.Idx, j = k := fun j k => funext fun a => a.elim0
  have h0 := congrFun h (fun a => a.elim0)
  simp only [Cert.Pre_finite.fn, Cert.Pre_finite.fn_part1] at h0
  obtain ⟨h0, e4⟩ := and_one _ _ h0
  obtain ⟨h0, e3⟩ := and_one _ _ h0
  obtain ⟨h0, e2⟩ := and_one _ _ h0
  obtain ⟨e0, e1⟩ := and_one _ _ h0
  exact ⟨fun i => real_of_abs_lt _ (Host.reduce_andi_eq_one _ _ _ _ _ e0 i (hj _ _)), fun i => real_of_abs_lt _ (Host.reduce_andi_eq_one _ _ _ _ _ e1 i (hj _ _)),
    fun i => real_of_abs_lt _ (Host.reduce_andi_eq_one _ _ _ _ _ e2 i (hj _ _)), fun i => real_of_abs_lt _ (Host.reduce_andi_eq_one _ _ _ _ _ e3 i (hj _ _)),
    fun i => real_of_abs_lt _ (Host.reduce_andi_eq_one _ _ _ _ _ e4 i (hj _ _))⟩

end Pre

/-! ## The claim -/

/-- The two programs leave the same results. -/
theorem algebraic [Cert.Pre_finite.Facts] : Cert.algebraic_AttnBwdIdeal_AttnBwdRefIdeal_pre_finite := by
  intro m ρ m' ρ' hpre hagree
  have HR := fun c => reals_of_pre _ _ _ _ _ (hpre c)
  have H : ∀ c, AtReals m c (fun s h d => (aQ m c (ix3 s h d)).toReal) (fun s h d => (aK m c (ix3 s h d)).toReal) (fun s h d => (aV m c (ix3 s h d)).toReal)
      (fun s h d => (aDo m c (ix3 s h d)).toReal) (fun s h => (aF m c (ix2 s h)).toReal) := fun c =>
    ⟨fun s h d => ((HR c).1 _).symm, fun s h d => ((HR c).2.1 _).symm, fun s h d => ((HR c).2.2.1 _).symm, fun s h d => ((HR c).2.2.2.2 _).symm, fun s h => ((HR c).2.2.2.1 _).symm⟩
  refine ⟨fun c => Pipeline.afterTail₀ cfgs (dats m) 0 (V0 m) [hostOps1] c main_v112, fun c => Pipeline.afterTail₀ cfgs (dats m) 0 (V0 m) [hostOps1] c main_v108,
    fun c => Pipeline.afterTail₀ cfgs (dats m) 0 (V0 m) [hostOps1] c main_v109, fun c => Pipeline.afterTail₀ cfgs (dats m) 0 (V0 m) [hostOps1] c main_v118, ?_, ?_⟩
  · refine (θ_run defs _ _).mono (fun r h c => ?_) (θ_run_and (run_main_all m ρ fun c t w => thr_ne_bot (H c) t w) (frame_run m ρ))
    have hr := (h.1.1 c).2
    exact ⟨hr main_v112 (Pipeline.mem_restRefs_of main_v112 (by decide) (by decide)), hr main_v108 (Pipeline.mem_restRefs_of main_v108 (by decide) (by decide)),
      hr main_v109 (Pipeline.mem_restRefs_of main_v109 (by decide) (by decide)), hr main_v118 (Pipeline.mem_restRefs_of main_v118 (by decide) (by decide)), h.2.1 c⟩
  · refine (θ_run _ _ _).mono (fun r h c => ?_) (Cert.AttnBwdRefIdeal.Value.run m' ρ')
    obtain ⟨h84, h86, h88, h90, hargs⟩ := h c
    obtain ⟨e0, e1, e2, e3, e4⟩ := hagree c
    have HB : Cert.AttnBwdRefIdeal.Own.AtReals (aQ m c) (aK m c) (aV m c) (aDo m c) (aF m c) _ _ _ _ _ := ⟨(H c).q, (H c).k, (H c).v, (H c).g, (H c).f⟩
    refine ⟨h84.trans ?_, h86.trans ?_, h88.trans ?_, h90.trans ?_, hargs⟩
    · refine (Cert.AttnBwdRefIdeal.Read.val_main_v84_eq ..).trans ?_
      rw [e0, e1, e2, e3, e4]
      funext i
      obtain ⟨n, h, d, s, rfl⟩ : ∃ (n : Fin 32) (h : Fin 8) (d : Fin 64) (s : Fin 512), i = ix4 n h d s := ⟨i 0, i 1, i 2, i 3, by idx_ext⟩
      exact (Cert.AttnBwdRefIdeal.Own.ref_dq HB n h d s).trans (out_dq (H c) n h d s).symm
    · refine (Cert.AttnBwdRefIdeal.Read.val_main_v86_eq ..).trans ?_
      rw [e0, e1, e2, e3, e4]
      funext i
      obtain ⟨n, h, d, s, rfl⟩ : ∃ (n : Fin 32) (h : Fin 8) (d : Fin 64) (s : Fin 512), i = ix4 n h d s := ⟨i 0, i 1, i 2, i 3, by idx_ext⟩
      exact (Cert.AttnBwdRefIdeal.Own.ref_dk HB n h d s).trans (out_dk (H c) n h d s).symm
    · refine (Cert.AttnBwdRefIdeal.Read.val_main_v88_eq ..).trans ?_
      rw [e0, e1, e3, e4]
      funext i
      obtain ⟨n, h, d, s, rfl⟩ : ∃ (n : Fin 32) (h : Fin 8) (d : Fin 64) (s : Fin 512), i = ix4 n h d s := ⟨i 0, i 1, i 2, i 3, by idx_ext⟩
      exact (Cert.AttnBwdRefIdeal.Own.ref_dv HB n h d s).trans (out_dv (H c) n h d s).symm
    · refine (Cert.AttnBwdRefIdeal.Read.val_main_v90_eq ..).trans ?_
      rw [e0, e1, e2, e3, e4]
      funext i
      obtain ⟨n, h, s, rfl⟩ : ∃ (n : Fin 32) (h : Fin 8) (s : Fin 512), i = ix3 n h s := ⟨i 0, i 1, i 2, by idx_ext⟩
      exact (Cert.AttnBwdRefIdeal.Own.ref_df HB n h s).trans (out_df (H c) n h s).symm

end Cert.AttnBwdIdeal.Own
-- ==== Proof.LossBlock.lean ====
/- What one grid point of the feed-forward layer with its loss leaves in its five output blocks, at extended reals. -/
module

public import proofs.«01_k».proof.Defs
public import proofs.«01_k».proof.Proof.Gen.MlpLossIdeal.Frame
public import Idealize.ShloMosaic.Lib.Pipeline.ValueKit
public import Idealize.ShloMosaic.Lib.Pipeline.ReadBack

@[expose] public section

set_option maxRecDepth 16384

noncomputable section

namespace Cert.MlpLossIdeal.Own

open Idealize.ShloMosaic TcCoe Idealize.SL.Sem Tactic
open Cert.MlpLossIdeal Cert.MlpLossIdeal.Gen

/-- The normalised, modulated row `r` at column `d`. -/
def hb (x0 : Vec Ideal S512x1024 .f32) (x2 x3 x4 : Vec Ideal S1x1024 .f32) (r : Fin 512) (d : Fin 1024) : EReal :=
  x0 (ix2 r d) * Ideal.rsqrt (Ideal.div (∑ k : Fin 1024, x0 (ix2 r k) * x0 (ix2 r k)) (Ideal.ofBits .f32 0x44800000#32) + Ideal.ofBits .f32 0x358637BD#32)
      * (x2 (ix2 0 d) * (Ideal.ofBits .f32 0x3F800000#32 + x3 (ix2 0 d))) + x4 (ix2 0 d)

/-- The rectified first product in chunk `q` of its columns. -/
def reb (h : Fin 512 → Fin 1024 → EReal) (w1 : Vec Ideal S8x1024x512 .bf16) (r : Fin 512) (q : Fin 8) (f : Fin 512) : EReal :=
  max (∑ k : Fin 1024, h r k * w1 (ix3 q k f)) 0

/-- The second product of the squares, summed over the chunks. -/
def yb (h : Fin 512 → Fin 1024 → EReal) (w1 : Vec Ideal S8x1024x512 .bf16) (w2 : Vec Ideal S4096x1024 .bf16) (r : Fin 512) (d : Fin 1024) : EReal :=
  ∑ q : Fin 8, ∑ f : Fin 512, (reb h w1 r q f * reb h w1 r q f) * w2 (ix2 ⟨q.val * 512 + f.val, by omega⟩ d)

/-- The difference to the target. -/
def eb (x0 x1 : Vec Ideal S512x1024 .f32) (x5 : Vec Ideal S1x1024 .f32) (y : Fin 512 → Fin 1024 → EReal) (r : Fin 512) (d : Fin 1024) : EReal :=
  x0 (ix2 r d) + x5 (ix2 0 d) * y r d - x1 (ix2 r d)

def slab (w : Vec Ideal S8x1024x512 .bf16) (q : Fin 8) : Vec Ideal S1x1024x512 .bf16 := fun j => w (ix3 q (j 1) (j 2))
def rows (w : Vec Ideal S4096x1024 .bf16) (q : Fin 8) : Vec Ideal S512x1024 .bf16 := fun j =>
  w (ix2 ⟨q.val * 512 + (j 0).val, by have h0 : (j 0).val < 512 := (j 0).isLt; omega⟩ (j 1))

theorem ld_slab (w : Vec Ideal S8x1024x512 .bf16) (q : ℕ) (hq : q < 8) (inb) :
    View.ld w (Rect.unit (s := S8x1024x512) ![q, 0, 0] ![1, 1024, 512] inb) = slab w ⟨q, hq⟩ := by
  funext j
  refine congrArg w (funext fun a => Fin.ext ?_)
  match a with
  | ⟨0, _⟩ =>
    have h0 : (j 0).val < 1 := (j 0).isLt
    show q + 1 * (j 0).val = q; omega
  | ⟨1, _⟩ => show 0 + 1 * (j 1).val = (j 1).val; omega
  | ⟨2, _⟩ => show 0 + 1 * (j 2).val = (j 2).val; omega

theorem ld_rows (w : Vec Ideal S4096x1024 .bf16) (o : ℕ) (q : ℕ) (hq : q < 8) (ho : o = q * 512) (inb) :
    View.ld w (Rect.unit (s := S4096x1024) ![o, 0] ![512, 1024] inb) = rows w ⟨q, hq⟩ := by
  subst ho
  funext j
  refine congrArg w (funext fun a => Fin.ext ?_)
  match a with
  | ⟨0, _⟩ => show q * 512 + 1 * (j 0).val = q * 512 + (j 0).val; omega
  | ⟨1, _⟩ => show 0 + 1 * (j 1).val = (j 1).val; omega

theorem pay7_at (x0 : Vec Ideal S512x1024 .f32) (x2 x3 x4 : Vec Ideal S1x1024 .f32) (r : Fin 512) (d : Fin 1024) :
    k0_pay7 x0 x2 x3 x4 (ix2 r d) = hb x0 x2 x3 x4 r d := by
  pointwise [k0_pay7, hb]

theorem pay8_at (x0 : Vec Ideal S512x1024 .f32) (x2 x3 x4 : Vec Ideal S1x1024 .f32) (r : Fin 512) (d : Fin 1024) :
    k0_pay8 x0 x2 x3 x4 (ix2 r d) = hb x0 x2 x3 x4 r d := by
  pointwise [k0_pay8, pay7_at]

theorem hz2 : (![0, 0] : Fin 2 → Nat) = fun _ => 0 := by funext a; fin_cases a <;> rfl

theorem canon_whole {S : Shape} {e : EltTy} (w : S.Idx → Elt Ideal e) :
    View.canon [(⟨Rect.whole S, w⟩ : View.Piece (Elt Ideal) S e)] = w := by
  funext y
  refine Eq.trans (congrArg _ (funext fun a => Fin.ext ?_)) (View.canon_cons_emb (Val := Elt Ideal) (Rect.whole S) w [] y)
  show _ = 0 + 1 * (y a).val
  omega

/-- A read of a buffer that one copy filled whole. -/
theorem readCov_whole {S : Shape} {e : EltTy} (v : View sig .tc .vmem S e) (w : S.Idx → Elt Ideal e) (r : Rect S) :
    v.readCov [(⟨Rect.whole S, w⟩ : View.Piece (Elt Ideal) S e)] r.toLoadRect = View.ld w r := by
  rw [View.readCov_eq_canon', canon_whole]

/-- The second product as the body computes it, chunk by chunk. -/
def yv (h : FVec Ideal S512x1024 .bf16) (w1 : Vec Ideal S8x1024x512 .bf16) (w2 : Vec Ideal S4096x1024 .bf16) : FVec Ideal S512x1024 .f32 :=
  k0_pay31 h
    (k0_pay24 h (k0_pay16 h k0_pay10 (k0_pay11 (slab w1 0)) (rows w2 0) (slab w1 1) (rows w2 1))
      (k0_pay19 h (slab w1 2)) (rows w2 2) (slab w1 3) (rows w2 3) (slab w1 4) (rows w2 4))
    (k0_pay25 h (slab w1 5)) (rows w2 5) (slab w1 6) (rows w2 6) (slab w1 7) (rows w2 7)

theorem yv_at (h : FVec Ideal S512x1024 .bf16) (w1 : Vec Ideal S8x1024x512 .bf16) (w2 : Vec Ideal S4096x1024 .bf16) (r : Fin 512) (d : Fin 1024) :
    yv h w1 w2 (ix2 r d) = yb (fun r k => h (ix2 r k)) w1 w2 r d := by
  unfold yv yb
  rw [Fin.sum_univ_eight]
  pointwise [k0_pay31, k0_pay24, k0_pay16, k0_pay10, k0_pay11, k0_pay19, k0_pay25, k0_pay12, k0_pay14, k0_pay17, k0_pay20, k0_pay22, k0_pay27, k0_pay29, slab, rows, reb]

theorem pay1_at (x0 x1 : Vec Ideal S512x1024 .f32) (x5 : Vec Ideal S1x1024 .f32) (y : FVec Ideal S512x1024 .f32) (r : Fin 512) (d : Fin 1024) :
    k0_pay1 x0 y x5 x1 (ix2 r d) = eb x0 x1 x5 (fun r d => y (ix2 r d)) r d := by
  pointwise [k0_pay1, eb]

theorem pay2_at (x0 x1 : Vec Ideal S512x1024 .f32) (x5 : Vec Ideal S1x1024 .f32) (y : FVec Ideal S512x1024 .f32) (r : Fin 512) (d : Fin 1024) :
    k0_pay2 x0 y x5 x1 (ix2 r d) = eb x0 x1 x5 (fun r d => y (ix2 r d)) r d * Ideal.ofBits .f32 0x3A800000#32 := by
  pointwise [k0_pay2, pay1_at]

theorem pay3_at (x0 x1 : Vec Ideal S512x1024 .f32) (x5 : Vec Ideal S1x1024 .f32) (y : FVec Ideal S512x1024 .f32) (l : Vec Ideal S1x1 .f32) :
    k0_pay3 x0 y x5 x1 l (ix2 0 0) = l (ix2 0 0) + Ideal.ofBits .f32 0x3F000000#32 * ∑ r : Fin 512,
      Ideal.div (∑ d : Fin 1024, eb x0 x1 x5 (fun r d => y (ix2 r d)) r d * eb x0 x1 x5 (fun r d => y (ix2 r d)) r d) (Ideal.ofBits .f32 0x44800000#32) := by
  pointwise [k0_pay3, pay1_at]

theorem pay4_at (x0 x1 : Vec Ideal S512x1024 .f32) (x5 : Vec Ideal S1x1024 .f32) (y : FVec Ideal S512x1024 .f32) (l : Vec Ideal S1x1024 .f32) (d : Fin 1024) :
    k0_pay4 x0 y x5 x1 l (ix2 0 d) = l (ix2 0 d) + ∑ r : Fin 512,
      eb x0 x1 x5 (fun r d => y (ix2 r d)) r d * Ideal.ofBits .f32 0x3A800000#32 * y (ix2 r d) := by
  pointwise [k0_pay4, pay2_at]

/-- The stored chunks of the rectified product, as one function of the column. -/
def rv (h : FVec Ideal S512x1024 .bf16) (w1 : Vec Ideal S8x1024x512 .bf16) : S512x4096.Idx → EReal := fun y =>
  reb (fun r k => h (ix2 r k)) w1 (y 0) ⟨(y 1).val / 512, by have h1 : (y 1).val < 4096 := (y 1).isLt; omega⟩ ⟨(y 1).val % 512, by omega⟩

/-- One stored chunk agrees with it. -/
theorem piece_at (h : FVec Ideal S512x1024 .bf16) (w1 : Vec Ideal S8x1024x512 .bf16) (q : Fin 8) (p : FVec Ideal S512x512 .bf16)
    (hp : ∀ r f, p (ix2 r f) = reb (fun r k => h (ix2 r k)) w1 r q f) (o : ℕ) (ho : o = q.val * 512) (inb) (x : S512x512.Idx) :
    p x = rv h w1 ((Rect.unit (s := S512x4096) ![0, o] ![512, 512] inb).emb x) := by
  subst ho
  obtain ⟨r, f, rfl⟩ : ∃ (r : Fin 512) (f : Fin 512), x = ix2 r f := ⟨x 0, x 1, by idx_ext⟩
  have e : (Rect.unit (s := S512x4096) ![0, q.val * 512] ![512, 512] inb).emb (ix2 r f) = ix2 r ⟨q.val * 512 + f.val, by omega⟩ :=
    funext fun a => Fin.ext (match a with
      | ⟨0, _⟩ => by show 0 + 1 * r.val = r.val; omega
      | ⟨1, _⟩ => by show q.val * 512 + 1 * f.val = q.val * 512 + f.val; omega)
  rw [hp, e]
  unfold rv
  congr 1 <;> apply Fin.ext
  · show q.val = (q.val * 512 + f.val) / 512; omega
  · show f.val = (q.val * 512 + f.val) % 512; omega

variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S1x1024 .f32) (h6 : a6.IsWhole) (a9 : Memref sig .tc .vmem S512x1024 .f32) (h9 : a9.IsWhole) (a10 : Memref sig .tc .vmem S1x1 .f32) (h10 : a10.IsWhole) (a11 : Memref sig .tc .vmem S1x1024 .f32) (h11 : a11.IsWhole) (a12 : Memref sig .tc .vmem S512x4096 .bf16) (h12 : a12.IsWhole) (a13 : Memref sig .tc .vmem S1024x512 .bf16) (h13 : a13.IsWhole) (a14 : Memref sig .tc .vmem S8x1024x512 .bf16) (h14 : a14.IsWhole) (a15 : Memref sig .tc .vmem S4096x1024 .bf16) (h15 : a15.IsWhole)
    (x0 x1 : Vec Ideal S512x1024 .f32) (x2 x3 x4 x5 : Vec Ideal S1x1024 .f32) (y7 : Vec Ideal S1x1 .f32) (y8 : Vec Ideal S1x1024 .f32) (w1 : Vec Ideal S8x1024x512 .bf16) (w2 : Vec Ideal S4096x1024 .bf16)
    (g1 : HbBuf0 (F := Ideal) c hbM0_0) (g2 : HbBuf0 (F := Ideal) c hbM0_1)

/-- The blocks the body reads the weights through. -/
theorem yv_eq (h : FVec Ideal S512x1024 .bf16) (i0 i1 i2 i3 i4 i5 i6 i7 j0 j1 j2 j3 j4 j5 j6 j7) :
    k0_pay31 h
      (k0_pay24 h (k0_pay16 h k0_pay10 (k0_pay11 (View.ld w1 (Rect.unit (s := S8x1024x512) ![0, 0, 0] ![1, 1024, 512] i0))) (View.ld w2 (Rect.unit (s := S4096x1024) ![0, 0] ![512, 1024] j0))
          (View.ld w1 (Rect.unit (s := S8x1024x512) ![1, 0, 0] ![1, 1024, 512] i1)) (View.ld w2 (Rect.unit (s := S4096x1024) ![512, 0] ![512, 1024] j1)))
        (k0_pay19 h (View.ld w1 (Rect.unit (s := S8x1024x512) ![2, 0, 0] ![1, 1024, 512] i2))) (View.ld w2 (Rect.unit (s := S4096x1024) ![1024, 0] ![512, 1024] j2))
        (View.ld w1 (Rect.unit (s := S8x1024x512) ![3, 0, 0] ![1, 1024, 512] i3)) (View.ld w2 (Rect.unit (s := S4096x1024) ![1536, 0] ![512, 1024] j3))
        (View.ld w1 (Rect.unit (s := S8x1024x512) ![4, 0, 0] ![1, 1024, 512] i4)) (View.ld w2 (Rect.unit (s := S4096x1024) ![2048, 0] ![512, 1024] j4)))
      (k0_pay25 h (View.ld w1 (Rect.unit (s := S8x1024x512) ![5, 0, 0] ![1, 1024, 512] i5))) (View.ld w2 (Rect.unit (s := S4096x1024) ![2560, 0] ![512, 1024] j5))
      (View.ld w1 (Rect.unit (s := S8x1024x512) ![6, 0, 0] ![1, 1024, 512] i6)) (View.ld w2 (Rect.unit (s := S4096x1024) ![3072, 0] ![512, 1024] j6))
      (View.ld w1 (Rect.unit (s := S8x1024x512) ![7, 0, 0] ![1, 1024, 512] i7)) (View.ld w2 (Rect.unit (s := S4096x1024) ![3584, 0] ![512, 1024] j7)) = yv h w1 w2 := by
  unfold yv
  rw [ld_slab w1 0 (by decide), ld_slab w1 1 (by decide), ld_slab w1 2 (by decide), ld_slab w1 3 (by decide), ld_slab w1 4 (by decide),
    ld_slab w1 5 (by decide), ld_slab w1 6 (by decide), ld_slab w1 7 (by decide), ld_rows w2 0 0 (by decide) rfl, ld_rows w2 512 1 (by decide) rfl,
    ld_rows w2 1024 2 (by decide) rfl, ld_rows w2 1536 3 (by decide) rfl, ld_rows w2 2048 4 (by decide) rfl, ld_rows w2 2560 5 (by decide) rfl,
    ld_rows w2 3072 6 (by decide) rfl, ld_rows w2 3584 7 (by decide) rfl]
  rfl

/-- The pieces of the rectified product, one per chunk, read inside them. -/
theorem ra_eq (h : FVec Ideal S512x1024 .bf16) (i0 i1 i2 i3 i4 i5 i6 i7 j0 j1 j2 j3 j4 j5 j6 j7) (y : S512x4096.Idx)
    (L : List (View.Piece (Elt Ideal) S512x4096 .bf16))
    (hL : L = [⟨Rect.unit (s := S512x4096) ![0, 3584] ![512, 512] j7, k0_pay30 h (View.ld w1 (Rect.unit (s := S8x1024x512) ![7, 0, 0] ![1, 1024, 512] i7))⟩,
      ⟨Rect.unit (s := S512x4096) ![0, 3072] ![512, 512] j6, k0_pay28 h (View.ld w1 (Rect.unit (s := S8x1024x512) ![6, 0, 0] ![1, 1024, 512] i6))⟩,
      ⟨Rect.unit (s := S512x4096) ![0, 2560] ![512, 512] j5, k0_pay26 (k0_pay25 h (View.ld w1 (Rect.unit (s := S8x1024x512) ![5, 0, 0] ![1, 1024, 512] i5)))⟩,
      ⟨Rect.unit (s := S512x4096) ![0, 2048] ![512, 512] j4, k0_pay23 h (View.ld w1 (Rect.unit (s := S8x1024x512) ![4, 0, 0] ![1, 1024, 512] i4))⟩,
      ⟨Rect.unit (s := S512x4096) ![0, 1536] ![512, 512] j3, k0_pay21 h (View.ld w1 (Rect.unit (s := S8x1024x512) ![3, 0, 0] ![1, 1024, 512] i3))⟩,
      ⟨Rect.unit (s := S512x4096) ![0, 1024] ![512, 512] j2, k0_pay18 h (View.ld w1 (Rect.unit (s := S8x1024x512) ![2, 0, 0] ![1, 1024, 512] i2))⟩,
      ⟨Rect.unit (s := S512x4096) ![0, 512] ![512, 512] j1, k0_pay15 h (View.ld w1 (Rect.unit (s := S8x1024x512) ![1, 0, 0] ![1, 1024, 512] i1))⟩,
      ⟨Rect.unit (s := S512x4096) ![0, 0] ![512, 512] j0, k0_pay13 h (k0_pay11 (View.ld w1 (Rect.unit (s := S8x1024x512) ![0, 0, 0] ![1, 1024, 512] i0)))⟩]) : View.canon L y = rv h w1 y := by
  have hc : ∃ p ∈ L, y ∈ p.1.set := by
    subst hL
    exact View.cover_of_tiledL (s := S512x4096) _ S512x512.size (by sl_kernel_rfl) y
  have key := View.canon_append_of_pieces (Val := Elt Ideal) (e := .bf16) (rv h w1) [] L ?_ y hc
  · rw [List.append_nil] at key; exact key
  subst hL
  simp only [List.forall_mem_cons, List.not_mem_nil, false_imp_iff, implies_true, and_true, ld_slab w1 0 (by decide), ld_slab w1 1 (by decide), ld_slab w1 2 (by decide),
    ld_slab w1 3 (by decide), ld_slab w1 4 (by decide), ld_slab w1 5 (by decide), ld_slab w1 6 (by decide), ld_slab w1 7 (by decide)]
  refine ⟨piece_at h w1 7 _ (fun r f => ?_) _ rfl _, piece_at h w1 6 _ (fun r f => ?_) _ rfl _, piece_at h w1 5 _ (fun r f => ?_) _ rfl _, piece_at h w1 4 _ (fun r f => ?_) _ rfl _,
    piece_at h w1 3 _ (fun r f => ?_) _ rfl _, piece_at h w1 2 _ (fun r f => ?_) _ rfl _, piece_at h w1 1 _ (fun r f => ?_) _ rfl _, piece_at h w1 0 _ (fun r f => ?_) _ rfl _⟩ <;>
  pointwise [k0_pay30, k0_pay28, k0_pay26, k0_pay25, k0_pay23, k0_pay21, k0_pay18, k0_pay15, k0_pay13, k0_pay12, k0_pay14, k0_pay17, k0_pay20, k0_pay22, k0_pay27, k0_pay29, k0_pay11, slab, reb]

/-- The second product at a point, from the blocks and the weights. -/
abbrev Y : FVec Ideal S512x1024 .f32 := yv (k0_pay8 x0 x2 x3 x4) w1 w2

theorem out_B_8 (hc : ¬cond0_0 i) (hc' : ¬cond0_1 i) :
    out0_B_8 c i a1 h1 a2 h2 a3 h3 a4 h4 a5 h5 a6 h6 a9 h9 a10 h10 a11 h11 a12 h12 a13 h13 a14 h14 a15 h15 hc hc' x0 x1 x2 x3 x4 x5 y7 y8 w1 w2 g1 g2 = k0_pay4 x0 (Y x0 x2 x3 x4 w1 w2) x5 x1 y8 := by
  unfold out0_B_8
  rw [View.read_writes_eq_canon _ _ _ (cover0_B_8 c i a1 h1 a2 h2 a3 h3 a4 h4 a5 h5 a6 h6 a9 h9 a10 h10 a11 h11 a12 h12 a13 h13 a14 h14 a15 h15 hc hc' x0 x1 x2 x3 x4 x5 y7 y8 w1 w2 g1 g2)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, h11.read_unread, h14.read_unread, h15.read_unread]
  repeat rw [View.ld_unit_zero hz2]
  rw [yv_eq]

theorem out_B_7 (hc : ¬cond0_0 i) (hc' : ¬cond0_1 i) :
    out0_B_7 c i a1 h1 a2 h2 a3 h3 a4 h4 a5 h5 a6 h6 a9 h9 a10 h10 a11 h11 a12 h12 a13 h13 a14 h14 a15 h15 hc hc' x0 x1 x2 x3 x4 x5 y7 y8 w1 w2 g1 g2 = k0_pay3 x0 (Y x0 x2 x3 x4 w1 w2) x5 x1 y7 := by
  unfold out0_B_7
  rw [View.read_writes_eq_canon _ _ _ (cover0_B_7 c i a1 h1 a2 h2 a3 h3 a4 h4 a5 h5 a6 h6 a9 h9 a10 h10 a11 h11 a12 h12 a13 h13 a14 h14 a15 h15 hc hc' x0 x1 x2 x3 x4 x5 y7 y8 w1 w2 g1 g2)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, h11.read_unread, h14.read_unread, h15.read_unread]
  repeat rw [View.ld_unit_zero hz2]
  rw [yv_eq]

theorem out_B_6 (hc : ¬cond0_0 i) (hc' : ¬cond0_1 i) :
    out0_B_6 c i a1 h1 a2 h2 a3 h3 a4 h4 a5 h5 a6 h6 a9 h9 a10 h10 a11 h11 a12 h12 a13 h13 a14 h14 a15 h15 hc hc' x0 x1 x2 x3 x4 x5 y7 y8 w1 w2 g1 g2 = k0_pay2 x0 (Y x0 x2 x3 x4 w1 w2) x5 x1 := by
  unfold out0_B_6
  rw [View.read_writes_eq_canon _ _ _ (cover0_B_6 c i a1 h1 a2 h2 a3 h3 a4 h4 a5 h5 a6 h6 a9 h9 a10 h10 a11 h11 a12 h12 a13 h13 a14 h14 a15 h15 hc hc' x0 x1 x2 x3 x4 x5 y7 y8 w1 w2 g1 g2)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, h11.read_unread, h14.read_unread, h15.read_unread]
  repeat rw [View.ld_unit_zero hz2]
  rw [yv_eq]

theorem out_B_10 (hc : ¬cond0_0 i) (hc' : ¬cond0_1 i) :
    out0_B_10 c i a1 h1 a2 h2 a3 h3 a4 h4 a5 h5 a6 h6 a9 h9 a10 h10 a11 h11 a12 h12 a13 h13 a14 h14 a15 h15 hc hc' x0 x1 x2 x3 x4 x5 y7 y8 w1 w2 g1 g2 = k0_pay9 x0 x2 x3 x4 := by
  unfold out0_B_10
  rw [View.read_writes_eq_canon _ _ _ (cover0_B_10 c i a1 h1 a2 h2 a3 h3 a4 h4 a5 h5 a6 h6 a9 h9 a10 h10 a11 h11 a12 h12 a13 h13 a14 h14 a15 h15 hc hc' x0 x1 x2 x3 x4 x5 y7 y8 w1 w2 g1 g2)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, h11.read_unread, h14.read_unread, h15.read_unread]
  repeat rw [View.ld_unit_zero hz2]

theorem out_B_9 (hc : ¬cond0_0 i) (hc' : ¬cond0_1 i) :
    out0_B_9 c i a1 h1 a2 h2 a3 h3 a4 h4 a5 h5 a6 h6 a9 h9 a10 h10 a11 h11 a12 h12 a13 h13 a14 h14 a15 h15 hc hc' x0 x1 x2 x3 x4 x5 y7 y8 w1 w2 g1 g2 = rv (k0_pay8 x0 x2 x3 x4) w1 := by
  unfold out0_B_9
  rw [View.read_writes_eq_canon _ _ _ (cover0_B_9 c i a1 h1 a2 h2 a3 h3 a4 h4 a5 h5 a6 h6 a9 h9 a10 h10 a11 h11 a12 h12 a13 h13 a14 h14 a15 h15 hc hc' x0 x1 x2 x3 x4 x5 y7 y8 w1 w2 g1 g2)]
  unfold kernelRun0_B
  dsimp only
  sl_unfold_words
  simp only [View.readAt_eq_ld, h1.read_unread, h2.read_unread, h3.read_unread, h4.read_unread, h5.read_unread, h6.read_unread, h10.read_unread, h11.read_unread, h14.read_unread, h15.read_unread]
  repeat rw [View.ld_unit_zero hz2]
  funext y
  exact ra_eq w1 _ _ _ _ _ _ _ _ _ _ _ _ _ _ _ _ _ y _ rfl

theorem out_A_8 (hc : cond0_0 i) (hc' : cond0_1 i) :
    out0_A_8 c i a1 h1 a2 h2 a3 h3 a4 h4 a5 h5 a6 h6 a9 h9 a10 h10 a11 h11 a12 h12 a13 h13 a14 h14 a15 h15 hc hc' x0 x1 x2 x3 x4 x5 g1 g2 = k0_pay4 x0 (Y x0 x2 x3 x4 (show Vec Ideal S8x1024x512 .bf16 from g1) (show Vec Ideal S4096x1024 .bf16 from g2)) x5 x1 (k0_pay6 (F := Ideal)) := by
  unfold out0_A_8
  rw [View.read_writes_eq_canon _ _ _ (cover0_A_8 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  rw [View.canon_cons_unit_zero hz2, View.readCov_unit_zero _ hz2]
  simp only [readCov_whole, View.readAt_eq_ld, h1.read_unread, h2.read_unread, h3.read_unread, h4.read_unread, h5.read_unread, h6.read_unread]
  repeat rw [View.ld_unit_zero hz2]
  rw [yv_eq]
  rfl

theorem out_A_7 (hc : cond0_0 i) (hc' : cond0_1 i) :
    out0_A_7 c i a1 h1 a2 h2 a3 h3 a4 h4 a5 h5 a6 h6 a9 h9 a10 h10 a11 h11 a12 h12 a13 h13 a14 h14 a15 h15 hc hc' x0 x1 x2 x3 x4 x5 g1 g2 = k0_pay3 x0 (Y x0 x2 x3 x4 (show Vec Ideal S8x1024x512 .bf16 from g1) (show Vec Ideal S4096x1024 .bf16 from g2)) x5 x1 (k0_pay5 (F := Ideal)) := by
  unfold out0_A_7
  rw [View.read_writes_eq_canon _ _ _ (cover0_A_7 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  rw [View.canon_cons_unit_zero hz2, View.readCov_unit_zero _ hz2]
  simp only [readCov_whole, View.readAt_eq_ld, h1.read_unread, h2.read_unread, h3.read_unread, h4.read_unread, h5.read_unread, h6.read_unread]
  repeat rw [View.ld_unit_zero hz2]
  rw [yv_eq]
  rfl

theorem out_A_6 (hc : cond0_0 i) (hc' : cond0_1 i) :
    out0_A_6 c i a1 h1 a2 h2 a3 h3 a4 h4 a5 h5 a6 h6 a9 h9 a10 h10 a11 h11 a12 h12 a13 h13 a14 h14 a15 h15 hc hc' x0 x1 x2 x3 x4 x5 g1 g2 = k0_pay2 x0 (Y x0 x2 x3 x4 (show Vec Ideal S8x1024x512 .bf16 from g1) (show Vec Ideal S4096x1024 .bf16 from g2)) x5 x1 := by
  unfold out0_A_6
  rw [View.read_writes_eq_canon _ _ _ (cover0_A_6 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  rw [View.canon_unit_zero hz2]
  simp only [readCov_whole, View.readAt_eq_ld, h1.read_unread, h2.read_unread, h3.read_unread, h4.read_unread, h5.read_unread, h6.read_unread]
  repeat rw [View.ld_unit_zero hz2]
  rw [yv_eq]
  rfl

theorem out_A_10 (hc : cond0_0 i) (hc' : cond0_1 i) :
    out0_A_10 c i a1 h1 a2 h2 a3 h3 a4 h4 a5 h5 a6 h6 a9 h9 a10 h10 a11 h11 a12 h12 a13 h13 a14 h14 a15 h15 hc hc' x0 x1 x2 x3 x4 x5 g1 g2 = k0_pay9 x0 x2 x3 x4 := by
  unfold out0_A_10
  rw [View.read_writes_eq_canon _ _ _ (cover0_A_10 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  rw [View.canon_unit_zero hz2]
  simp only [readCov_whole, View.readAt_eq_ld, h1.read_unread, h2.read_unread, h3.read_unread, h4.read_unread, h5.read_unread, h6.read_unread]
  repeat rw [View.ld_unit_zero hz2]

theorem out_A_9 (hc : cond0_0 i) (hc' : cond0_1 i) :
    out0_A_9 c i a1 h1 a2 h2 a3 h3 a4 h4 a5 h5 a6 h6 a9 h9 a10 h10 a11 h11 a12 h12 a13 h13 a14 h14 a15 h15 hc hc' x0 x1 x2 x3 x4 x5 g1 g2 = rv (k0_pay8 x0 x2 x3 x4) (show Vec Ideal S8x1024x512 .bf16 from g1) := by
  unfold out0_A_9
  rw [View.read_writes_eq_canon _ _ _ (cover0_A_9 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  simp only [readCov_whole, View.readAt_eq_ld, h1.read_unread, h2.read_unread, h3.read_unread, h4.read_unread, h5.read_unread, h6.read_unread]
  repeat rw [View.ld_unit_zero hz2]
  funext y
  exact (ra_eq _ _ _ _ _ _ _ _ _ _ _ _ _ _ _ _ _ _ y _ rfl).trans rfl

theorem out_A_s0 (hc : cond0_0 i) (hc' : cond0_1 i) :
    sout0_A_0 c i a1 h1 a2 h2 a3 h3 a4 h4 a5 h5 a6 h6 a9 h9 a10 h10 a11 h11 a12 h12 a13 h13 a14 h14 a15 h15 hc hc' x0 x1 x2 x3 x4 x5 g1 g2 = g1 := by
  unfold sout0_A_0
  rw [View.read_writes_eq_canon _ _ _ (scover0_A_0 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  exact (canon_whole _).trans rfl

theorem out_A_s1 (hc : cond0_0 i) (hc' : cond0_1 i) :
    sout0_A_1 c i a1 h1 a2 h2 a3 h3 a4 h4 a5 h5 a6 h6 a9 h9 a10 h10 a11 h11 a12 h12 a13 h13 a14 h14 a15 h15 hc hc' x0 x1 x2 x3 x4 x5 g1 g2 = g2 := by
  unfold sout0_A_1
  rw [View.read_writes_eq_canon _ _ _ (scover0_A_1 c i a1 h1 a2 h2 a3 h3 a4 h4 a5 h5 a6 h6 a9 h9 a10 h10 a11 h11 a12 h12 a13 h13 a14 h14 a15 h15 hc hc' x0 x1 x2 x3 x4 x5 g1 g2)]
  unfold kernelRun0_A
  dsimp only
  sl_unfold_words
  exact (canon_whole _).trans rfl

end Cert.MlpLossIdeal.Own

end
-- ==== Proof.LossRun.lean ====
/- The run of the feed-forward layer with its loss: its five result arrays as sums over the argument arrays, at extended reals. -/
module

public import proofs.«01_k».proof.Proof.LossBlock
public import proofs.«01_k».proof.Proof.Accum

@[expose] public section

set_option maxRecDepth 16384

noncomputable section

namespace Cert.MlpLossIdeal.Own

open Idealize.ShloMosaic TcCoe Idealize.SL.Sem Tactic
open Idealize.ShloMosaic.Pipeline (Dat)
open Cert.MlpLossIdeal Cert.MlpLossIdeal.Gen

variable (m : (ℓ : Loc nD τ sig) → Buf (Elt Ideal) ℓ) (ρ : Dev nD → PrngReg) (c : Dev nD)

def aX : Vec Ideal S16384x1024 .f32 := m ((c : Thread nD τ).loc main_arg0)
def aT : Vec Ideal S16384x1024 .f32 := m ((c : Thread nD τ).loc main_arg1)
def aN : Vec Ideal S1x1024 .f32 := m ((c : Thread nD τ).loc main_arg2)
def aSc : Vec Ideal S1x1024 .f32 := m ((c : Thread nD τ).loc main_arg3)
def aSh : Vec Ideal S1x1024 .f32 := m ((c : Thread nD τ).loc main_arg4)
def aG : Vec Ideal S1x1024 .f32 := m ((c : Thread nD τ).loc main_arg5)
def aW1 : Vec Ideal S1024x4096 .f32 := m ((c : Thread nD τ).loc main_arg6)
def aW2 : Vec Ideal S4096x1024 .f32 := m ((c : Thread nD τ).loc main_arg7)

/-- The normalised, modulated rows. -/
def hA (s : Fin 16384) (d : Fin 1024) : EReal :=
  aX m c (ix2 s d) * Ideal.rsqrt (Ideal.div (∑ k : Fin 1024, aX m c (ix2 s k) * aX m c (ix2 s k)) (Ideal.ofBits .f32 0x44800000#32) + Ideal.ofBits .f32 0x358637BD#32)
      * (aN m c (ix2 0 d) * (Ideal.ofBits .f32 0x3F800000#32 + aSc m c (ix2 0 d))) + aSh m c (ix2 0 d)

/-- The rectified first product. -/
def rA (s : Fin 16384) (f : Fin 4096) : EReal := max (∑ k : Fin 1024, hA m c s k * aW1 m c (ix2 k f)) 0

/-- The second product, of the squares. -/
def yA (s : Fin 16384) (d : Fin 1024) : EReal := ∑ f : Fin 4096, (rA m c s f * rA m c s f) * aW2 m c (ix2 f d)

/-- The difference of the layer's output to the target. -/
def eA (s : Fin 16384) (d : Fin 1024) : EReal := aX m c (ix2 s d) + aG m c (ix2 0 d) * yA m c s d - aT m c (ix2 s d)

/-- The two weights as the region finds them. -/
def wW1 : Vec Ideal S8x1024x512 .bf16 := V m c main_v2
def wW2 : Vec Ideal S4096x1024 .bf16 := V m c main_v3

theorem wW2_at (f : Fin 4096) (d : Fin 1024) : wW2 m c (ix2 f d) = aW2 m c (ix2 f d) := by
  have e : wW2 m c = (truncf (F := Ideal) .bf16 (aW2 m c) bitsLt_bf16_f32) := by
    show StableHlo.after _ _ (Proc.devRef .tc main_v3) = _
    simp only [hostOps0, List.flatten_cons, List.flatten_nil, List.append_nil, List.cons_append, List.nil_append]
    after_results
    rfl
  rw [e]
  pointwise

theorem wW1_at (q : Fin 8) (d : Fin 1024) (f : Fin 512) : wW1 m c (ix3 q d f) = aW1 m c (ix2 d ⟨q.val * 512 + f.val, by omega⟩) := by
  have e : wW1 m c = transpose S8x1024x512 [1, 0, 2] (shapeCast S1024x8x512 (truncf (F := Ideal) .bf16 (aW1 m c) bitsLt_bf16_f32) shapeCasts_S1024x4096_S1024x8x512) transposes_S1024x8x512_S8x1024x512_1_0_2 := by
    show StableHlo.after _ _ (Proc.devRef .tc main_v2) = _
    simp only [hostOps0, List.flatten_cons, List.flatten_nil, List.append_nil, List.cons_append, List.nil_append]
    after_results
    rfl
  rw [e]
  pointwise

/-! ## The windows' blocks -/

theorem N_eq : cfg0.N = 32 := N_0
theorem t_lt (t : Fin cfg0.N) : t.val < 32 := N_eq ▸ t.isLt

/-- A row of a point's block, among all rows. -/
def row (t : Fin cfg0.N) (r : Fin 512) : Fin 16384 := ⟨t.val * 512 + r.val, by have := t_lt t; omega⟩

theorem ixRow : ∀ t : Fin cfg0.N, (win0_0.index t 0 = t.val ∧ win0_0.index t 1 = 0) ∧ (win0_1.index t 0 = t.val ∧ win0_1.index t 1 = 0)
    ∧ (win0_6.index t 0 = t.val ∧ win0_6.index t 1 = 0) ∧ (win0_9.index t 0 = t.val ∧ win0_9.index t 1 = 0) ∧ (win0_10.index t 0 = 0 ∧ win0_10.index t 1 = t.val) :=
  (by decide +kernel : ∀ t : Fin grid0.N, (win0_0.index t 0 = t.val ∧ win0_0.index t 1 = 0) ∧ (win0_1.index t 0 = t.val ∧ win0_1.index t 1 = 0)
    ∧ (win0_6.index t 0 = t.val ∧ win0_6.index t 1 = 0) ∧ (win0_9.index t 0 = t.val ∧ win0_9.index t 1 = 0) ∧ (win0_10.index t 0 = 0 ∧ win0_10.index t 1 = t.val))
theorem ixOne : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_7.index t 0 = 0 ∧ win0_7.index t 1 = 0) ∧ (win0_8.index t 0 = 0 ∧ win0_8.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_7.index t 0 = 0 ∧ win0_7.index t 1 = 0) ∧ (win0_8.index t 0 = 0 ∧ win0_8.index t 1 = 0))

def b0 (t : Fin cfg0.N) : Vec Ideal S512x1024 .f32 := iblk m c 0 t
def b1 (t : Fin cfg0.N) : Vec Ideal S512x1024 .f32 := iblk m c 1 t
def b2 (t : Fin cfg0.N) : Vec Ideal S1x1024 .f32 := iblk m c 2 t
def b3 (t : Fin cfg0.N) : Vec Ideal S1x1024 .f32 := iblk m c 3 t
def b4 (t : Fin cfg0.N) : Vec Ideal S1x1024 .f32 := iblk m c 4 t
def b5 (t : Fin cfg0.N) : Vec Ideal S1x1024 .f32 := iblk m c 5 t

theorem b0_at (t : Fin cfg0.N) (r : Fin 512) (d : Fin 1024) : b0 m c t (ix2 r d) = aX m c (ix2 (row t r) d) := by
  refine Eq.trans ?_ (congrFun (V_main_arg0 m c) _)
  unfold b0 iblk
  rw [View.read_apply]
  refine congrArg (V m c main_arg0) (funext fun a => Fin.ext ?_)
  match a with
  | ⟨0, _⟩ => show win0_0.index t 0 * 512 + 1 * r.val = t.val * 512 + r.val; rw [(ixRow t).1.1]; omega
  | ⟨1, _⟩ => show win0_0.index t 1 * 1024 + 1 * d.val = d.val; rw [(ixRow t).1.2]; omega

theorem b1_at (t : Fin cfg0.N) (r : Fin 512) (d : Fin 1024) : b1 m c t (ix2 r d) = aT m c (ix2 (row t r) d) := by
  refine Eq.trans ?_ (congrFun (V_main_arg1 m c) _)
  unfold b1 iblk
  rw [View.read_apply]
  refine congrArg (V m c main_arg1) (funext fun a => Fin.ext ?_)
  match a with
  | ⟨0, _⟩ => show win0_1.index t 0 * 512 + 1 * r.val = t.val * 512 + r.val; rw [(ixRow t).2.1.1]; omega
  | ⟨1, _⟩ => show win0_1.index t 1 * 1024 + 1 * d.val = d.val; rw [(ixRow t).2.1.2]; omega

theorem b2_at (t : Fin cfg0.N) (d : Fin 1024) : b2 m c t (ix2 0 d) = aN m c (ix2 0 d) := by
  refine Eq.trans ?_ (congrFun (V_main_arg2 m c) _)
  unfold b2 iblk
  rw [View.read_apply]
  refine congrArg (V m c main_arg2) (funext fun a => Fin.ext ?_)
  match a with
  | ⟨0, _⟩ => show win0_2.index t 0 * 1 + 1 * 0 = 0; rw [(ixOne t).1.1]
  | ⟨1, _⟩ => show win0_2.index t 1 * 1024 + 1 * d.val = d.val; rw [(ixOne t).1.2]; omega

theorem b3_at (t : Fin cfg0.N) (d : Fin 1024) : b3 m c t (ix2 0 d) = aSc m c (ix2 0 d) := by
  refine Eq.trans ?_ (congrFun (V_main_arg3 m c) _)
  unfold b3 iblk
  rw [View.read_apply]
  refine congrArg (V m c main_arg3) (funext fun a => Fin.ext ?_)
  match a with
  | ⟨0, _⟩ => show win0_3.index t 0 * 1 + 1 * 0 = 0; rw [(ixOne t).2.1.1]
  | ⟨1, _⟩ => show win0_3.index t 1 * 1024 + 1 * d.val = d.val; rw [(ixOne t).2.1.2]; omega

theorem b4_at (t : Fin cfg0.N) (d : Fin 1024) : b4 m c t (ix2 0 d) = aSh m c (ix2 0 d) := by
  refine Eq.trans ?_ (congrFun (V_main_arg4 m c) _)
  unfold b4 iblk
  rw [View.read_apply]
  refine congrArg (V m c main_arg4) (funext fun a => Fin.ext ?_)
  match a with
  | ⟨0, _⟩ => show win0_4.index t 0 * 1 + 1 * 0 = 0; rw [(ixOne t).2.2.1.1]
  | ⟨1, _⟩ => show win0_4.index t 1 * 1024 + 1 * d.val = d.val; rw [(ixOne t).2.2.1.2]; omega

theorem b5_at (t : Fin cfg0.N) (d : Fin 1024) : b5 m c t (ix2 0 d) = aG m c (ix2 0 d) := by
  refine Eq.trans ?_ (congrFun (V_main_arg5 m c) _)
  unfold b5 iblk
  rw [View.read_apply]
  refine congrArg (V m c main_arg5) (funext fun a => Fin.ext ?_)
  match a with
  | ⟨0, _⟩ => show win0_5.index t 0 * 1 + 1 * 0 = 0; rw [(ixOne t).2.2.2.1.1]
  | ⟨1, _⟩ => show win0_5.index t 1 * 1024 + 1 * d.val = d.val; rw [(ixOne t).2.2.2.1.2]; omega

/-! ## A point's values over the whole arrays -/

/-- A point's normalised rows, and its second product. -/
def H (t : Fin cfg0.N) : FVec Ideal S512x1024 .bf16 := k0_pay8 (b0 m c t) (b2 m c t) (b3 m c t) (b4 m c t)
def Yt (t : Fin cfg0.N) : FVec Ideal S512x1024 .f32 := yv (H m c t) (wW1 m c) (wW2 m c)

theorem hb_at (t : Fin cfg0.N) (r : Fin 512) (d : Fin 1024) : hb (b0 m c t) (b2 m c t) (b3 m c t) (b4 m c t) r d = hA m c (row t r) d := by
  unfold hb hA
  simp only [b0_at, b2_at, b3_at, b4_at]

theorem reb_at (t : Fin cfg0.N) (r : Fin 512) (q : Fin 8) (f : Fin 512) :
    reb (fun r k => H m c t (ix2 r k)) (wW1 m c) r q f = rA m c (row t r) ⟨q.val * 512 + f.val, by omega⟩ := by
  unfold reb rA H
  simp only [pay8_at, hb_at, wW1_at]

theorem Yt_at (t : Fin cfg0.N) (r : Fin 512) (d : Fin 1024) : Yt m c t (ix2 r d) = yA m c (row t r) d := by
  unfold Yt yA
  rw [yv_at, Fin.sum_univ_tiles 8 512 rfl]
  unfold yb
  simp only [reb_at, wW2_at]

theorem eb_at (t : Fin cfg0.N) (r : Fin 512) (d : Fin 1024) :
    eb (b0 m c t) (b1 m c t) (b5 m c t) (fun r d => Yt m c t (ix2 r d)) r d = eA m c (row t r) d := by
  unfold eb eA
  simp only [b0_at, b1_at, b5_at, Yt_at]

/-- The scratch buffers hold the two weights from the first point on. -/
theorem kept : ∀ (n : ℕ) (h : n < cfg0.N), (outsAt0 m c n h).2.2.2.2.2.1 = wW1 m c ∧ (outsAt0 m c n h).2.2.2.2.2.2 = wW2 m c := by
  intro n
  induction n with
  | zero =>
    intro h
    rw [outsAt0_A m c ⟨0, h⟩ rfl rfl]; dsimp only; rw [out_A_s0, out_A_s1]; exact ⟨rfl, rfl⟩
  | succ n ih =>
    intro h
    have h0 : ¬(n + 1) % 32 = 0 := by have := t_lt ⟨n + 1, h⟩; dsimp only at this; omega
    rw [outsAt0_B m c ⟨n + 1, h⟩ h0 h0]
    exact ih (Nat.lt_of_succ_lt h)

theorem at6 (t : Fin cfg0.N) : (outsAt0 m c t.val t.isLt).1 = k0_pay2 (b0 m c t) (Yt m c t) (b5 m c t) (b1 m c t) := by
  by_cases h0 : t.val % 32 = 0
  · rw [outsAt0_A m c t h0 h0]; dsimp only; rw [out_A_6]; rfl
  · rw [outsAt0_B m c t h0 h0]; dsimp only; rw [out_B_6, (kept m c _ _).1, (kept m c _ _).2]; rfl

theorem at9 (t : Fin cfg0.N) : (outsAt0 m c t.val t.isLt).2.2.2.1 = rv (H m c t) (wW1 m c) := by
  by_cases h0 : t.val % 32 = 0
  · rw [outsAt0_A m c t h0 h0]; dsimp only; rw [out_A_9]; rfl
  · rw [outsAt0_B m c t h0 h0]; dsimp only; rw [out_B_9, (kept m c _ _).1]; rfl

theorem at10 (t : Fin cfg0.N) : (outsAt0 m c t.val t.isLt).2.2.2.2.1 = k0_pay9 (b0 m c t) (b2 m c t) (b3 m c t) (b4 m c t) := by
  by_cases h0 : t.val % 32 = 0
  · rw [outsAt0_A m c t h0 h0]; dsimp only; rw [out_A_10]; rfl
  · rw [outsAt0_B m c t h0 h0]; dsimp only; rw [out_B_10]; rfl

/-- A point's share of the loss and of the gate's gradient. -/
def inc7 (t : Fin cfg0.N) : EReal := Ideal.ofBits .f32 0x3F000000#32 * ∑ r : Fin 512,
  Ideal.div (∑ d : Fin 1024, eA m c (row t r) d * eA m c (row t r) d) (Ideal.ofBits .f32 0x44800000#32)
def inc8 (d : Fin 1024) (t : Fin cfg0.N) : EReal := ∑ r : Fin 512, eA m c (row t r) d * Ideal.ofBits .f32 0x3A800000#32 * yA m c (row t r) d

theorem first7 (t : Fin cfg0.N) (h0 : t.val % 32 = 0) : (outsAt0 m c t.val t.isLt).2.1 (ix2 0 0) = inc7 m c t := by
  rw [outsAt0_A m c t h0 h0]; dsimp only; rw [out_A_7]
  refine (pay3_at (b0 m c t) (b1 m c t) (b5 m c t) (Yt m c t) _).trans ?_
  simp only [eb_at]
  pointwise [k0_pay5, inc7]

theorem next7 (t : Fin cfg0.N) (h0 : ¬t.val % 32 = 0) : (outsAt0 m c t.val t.isLt).2.1 (ix2 0 0)
    = (outsAt0 m c (t.val - 1) (Nat.lt_of_le_of_lt (Nat.sub_le _ _) t.isLt)).2.1 (ix2 0 0) + inc7 m c t := by
  rw [outsAt0_B m c t h0 h0]; dsimp only; rw [out_B_7, (kept m c _ _).1, (kept m c _ _).2]
  refine (pay3_at (b0 m c t) (b1 m c t) (b5 m c t) (Yt m c t) _).trans ?_
  simp only [eb_at]
  rfl

theorem first8 (t : Fin cfg0.N) (h0 : t.val % 32 = 0) (d : Fin 1024) : (outsAt0 m c t.val t.isLt).2.2.1 (ix2 0 d) = inc8 m c d t := by
  rw [outsAt0_A m c t h0 h0]; dsimp only; rw [out_A_8]
  refine (pay4_at (b0 m c t) (b1 m c t) (b5 m c t) (Yt m c t) _ d).trans ?_
  simp only [eb_at]
  simp only [Yt_at]
  pointwise [k0_pay6, inc8]

theorem next8 (t : Fin cfg0.N) (h0 : ¬t.val % 32 = 0) (d : Fin 1024) : (outsAt0 m c t.val t.isLt).2.2.1 (ix2 0 d)
    = (outsAt0 m c (t.val - 1) (Nat.lt_of_le_of_lt (Nat.sub_le _ _) t.isLt)).2.2.1 (ix2 0 d) + inc8 m c d t := by
  rw [outsAt0_B m c t h0 h0]; dsimp only; rw [out_B_8, (kept m c _ _).1, (kept m c _ _).2]
  refine (pay4_at (b0 m c t) (b1 m c t) (b5 m c t) (Yt m c t) _ d).trans ?_
  simp only [eb_at]
  simp only [Yt_at]
  rfl

/-- What an accumulator over the points holds after the last one. -/
theorem last (out : (n : ℕ) → n < cfg0.N → EReal) (inc : Fin cfg0.N → EReal) (hA : ∀ t : Fin cfg0.N, t.val % 32 = 0 → out t.val t.isLt = inc t)
    (hB : ∀ t : Fin cfg0.N, ¬t.val % 32 = 0 → out t.val t.isLt = out (t.val - 1) (Nat.lt_of_le_of_lt (Nat.sub_le _ _) t.isLt) + inc t)
    (t : Fin cfg0.N) (ht : t.val % 32 = 31) : out t.val t.isLt = ∑ j : Fin 32, inc ⟨j.val, lt_of_lt_of_eq j.isLt N_eq.symm⟩ := by
  have key := Cert.Own.acc_last (N := cfg0.N) 32 (by decide) out (fun n => if h : n < cfg0.N then inc ⟨n, h⟩ else 0)
    (fun n h h0 => by rw [dif_pos h]; exact hA ⟨n, h⟩ h0) (fun n h h0 => by rw [dif_pos h]; exact hB ⟨n, h⟩ h0) t.val t.isLt ht
  refine key.trans (Finset.sum_congr rfl fun j _ => ?_)
  have e : t.val / 32 * 32 + j.val = j.val := by have := t_lt t; omega
  rw [e, dif_pos (lt_of_lt_of_eq j.isLt N_eq.symm)]

theorem thousand_eq : Ideal.ofBits .f32 0x44800000#32 = ((1024 : ℝ) : EReal) := by
  simp [Ideal.ofBits, Ideal.ieee]
  rw [← EReal.coe_mul]
  norm_num

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

theorem row_nonneg (s : Fin 16384) : 0 ≤ Ideal.div (∑ d : Fin 1024, eA m c s d * eA m c s d) (Ideal.ofBits .f32 0x44800000#32) := by
  rw [thousand_eq, Ideal.div_coe (by norm_num)]
  exact mul_nonneg (Finset.sum_nonneg fun d _ => square_nonneg _) (EReal.coe_nonneg.mpr (by norm_num))

theorem half_eq : Ideal.ofBits .f32 0x3F000000#32 = ((1 / 2 : ℝ) : EReal) := by
  simp [Ideal.ofBits, Ideal.ieee]
  rw [← EReal.coe_mul]
  norm_num

/-- A factor that is not negative passes through a sum of terms that are not negative. -/
theorem mul_sum_nonneg {n : ℕ} (a : EReal) (f : Fin n → EReal) (ha : 0 ≤ a) (hf : ∀ j, 0 ≤ f j) : ∑ j, a * f j = a * ∑ j, f j := by
  induction n with
  | zero => simp
  | succ n ih =>
    rw [Fin.sum_univ_succ, Fin.sum_univ_succ, ih _ fun j => hf _, EReal.left_distrib_of_nonneg (hf 0) (Finset.sum_nonneg fun j _ => hf _)]

/-! ## The result arrays -/

def res6 : Vec Ideal S16384x1024 .f32 := fun i => eA m c (i 0) (i 1) * Ideal.ofBits .f32 0x3A800000#32
def res7 : Vec Ideal S1x1 .f32 := fun _ => Ideal.ofBits .f32 0x3F000000#32
  * ∑ s : Fin 16384, Ideal.div (∑ d : Fin 1024, eA m c s d * eA m c s d) (Ideal.ofBits .f32 0x44800000#32)
def res8 : Vec Ideal S1x1024 .f32 := fun i => ∑ s : Fin 16384, eA m c s (i 1) * Ideal.ofBits .f32 0x3A800000#32 * yA m c s (i 1)
def res9 : Vec Ideal S16384x4096 .bf16 := fun i => rA m c (i 0) (i 1)
def res10 : Vec Ideal S1024x16384 .bf16 := fun i => hA m c (i 1) (i 0)

theorem arr6 : (dats m 0 c).arrAt 6 cfg0.N = res6 m c := by
  refine (dats m 0 c).arrAt_eq_of_covers 6 _ (by decide +kernel) fun t hf y => ?_
  blk_simp
  rw [after0_6, at6]
  obtain ⟨r, d, rfl⟩ : ∃ (r : Fin 512) (d : Fin 1024), y = ix2 r d := ⟨y 0, y 1, by idx_ext⟩
  have e : ((win0_6.blk t).view.emb (ix2 r d)) = ix2 (row t r) d := by
    blk_ext [(ixRow t).2.2.1.1, (ixRow t).2.2.1.2, row]
  rw [e, pay2_at, eb_at]
  rfl

theorem arr9 : (dats m 0 c).arrAt 9 cfg0.N = res9 m c := by
  refine (dats m 0 c).arrAt_eq_of_covers 9 _ (by decide +kernel) fun t hf y => ?_
  blk_simp
  rw [after0_9, at9]
  obtain ⟨r, f, rfl⟩ : ∃ (r : Fin 512) (f : Fin 4096), y = ix2 r f := ⟨y 0, y 1, by idx_ext⟩
  have e : ((win0_9.blk t).view.emb (ix2 r f)) = ix2 (row t r) f := by
    blk_ext [(ixRow t).2.2.2.1.1, (ixRow t).2.2.2.1.2, row]
  rw [e]
  refine (reb_at m c t r ⟨f.val / 512, by omega⟩ ⟨f.val % 512, by omega⟩).trans (congrArg (rA m c (row t r)) (Fin.ext ?_))
  show f.val / 512 * 512 + f.val % 512 = f.val
  omega

theorem arr10 : (dats m 0 c).arrAt 10 cfg0.N = res10 m c := by
  refine (dats m 0 c).arrAt_eq_of_covers 10 _ (by decide +kernel) fun t hf y => ?_
  blk_simp
  rw [after0_10, at10]
  obtain ⟨d, r, rfl⟩ : ∃ (d : Fin 1024) (r : Fin 512), y = ix2 d r := ⟨y 0, y 1, by idx_ext⟩
  have e : ((win0_10.blk t).view.emb (ix2 d r)) = ix2 d (row t r) := by
    blk_ext [(ixRow t).2.2.2.2.1, (ixRow t).2.2.2.2.2, row]
  rw [e]
  refine Eq.trans ?_ (hb_at m c t r d)
  pointwise [k0_pay9, pay7_at]

theorem arr8 : (dats m 0 c).arrAt 8 cfg0.N = res8 m c := by
  refine (dats m 0 c).arrAt_eq_of_covers 8 _ (by decide +kernel) fun t hf y => ?_
  blk_simp
  rw [after0_8]
  obtain ⟨z, d, rfl⟩ : ∃ (z : Fin 1) (d : Fin 1024), y = ix2 z d := ⟨y 0, y 1, by idx_ext⟩
  obtain rfl : z = 0 := Subsingleton.elim _ _
  have e : ((win0_8.blk t).view.emb (ix2 0 d)) = ix2 0 d := by
    blk_ext [(ixOne t).2.2.2.2.2.1, (ixOne t).2.2.2.2.2.2]
  rw [e]
  refine (last (fun n h => (outsAt0 m c n h).2.2.1 (ix2 0 d)) (inc8 m c d) (fun t h => first8 m c t h d) (fun t h => next8 m c t h d) t ((flush0_8 t).mp hf)).trans ?_
  unfold res8
  rw [Fin.sum_univ_tiles 32 512 rfl]
  rfl

theorem arr7 : (dats m 0 c).arrAt 7 cfg0.N = res7 m c := by
  refine (dats m 0 c).arrAt_eq_of_covers 7 _ (by decide +kernel) fun t hf y => ?_
  blk_simp
  rw [after0_7]
  obtain ⟨z, z', rfl⟩ : ∃ (z z' : Fin 1), y = ix2 z z' := ⟨y 0, y 1, by idx_ext⟩
  obtain rfl : z = 0 := Subsingleton.elim _ _
  obtain rfl : z' = 0 := Subsingleton.elim _ _
  refine (last (fun n h => (outsAt0 m c n h).2.1 (ix2 0 0)) (inc7 m c) (first7 m c) (next7 m c) t ((flush0_7 t).mp hf)).trans ?_
  unfold res7
  rw [Fin.sum_univ_tiles 32 512 rfl]
  refine mul_sum_nonneg _ _ ?_ fun j => Finset.sum_nonneg fun r _ => ?_
  · rw [half_eq]; exact EReal.coe_nonneg.mpr (by norm_num)
  · exact row_nonneg m c _

/-- The run: the five results, the arguments kept. -/
theorem run : θ_run defs (onTc (τ := τ) (main (F := Ideal))) ⟨m, fun _ => 0, ρ⟩ fun r => ∀ c : Dev nD,
      r.2.mem ((c.tc : Thread nD τ).loc main_v4_0) = res6 m c
      ∧ r.2.mem ((c.tc : Thread nD τ).loc main_v4_1) = res7 m c
      ∧ r.2.mem ((c.tc : Thread nD τ).loc main_v4_2) = res8 m c
      ∧ r.2.mem ((c.tc : Thread nD τ).loc main_v4_3) = res9 m c
      ∧ r.2.mem ((c.tc : Thread nD τ).loc main_v4_4) = res10 m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 6).trans (arr6 m c), ((h.1 c).1 7).trans (arr7 m c), ((h.1 c).1 8).trans (arr8 m c),
      ((h.1 c).1 9).trans (arr9 m c), ((h.1 c).1 10).trans (arr10 m c), h.2 c⟩)
    (θ_run_and (run_main m ρ) (unchanged m ρ))

end Cert.MlpLossIdeal.Own

end
-- ==== Proof.LossRef.lean ====
/- The reference of the feed-forward layer with its loss leaves the same five arrays, at extended reals. -/
module

public import proofs.«01_k».proof.Proof.LossRun
public import proofs.«01_k».proof.Proof.Gen.MlpLossRefIdeal.Read

@[expose] public section

set_option maxRecDepth 16384

noncomputable section

namespace Cert.MlpLossIdeal.Own

open Idealize.ShloMosaic TcCoe Idealize.SL.Sem Tactic
open Cert.MlpLossIdeal Cert.MlpLossIdeal.Gen Cert.MlpLossRefIdeal.Read

variable (m : (ℓ : Loc nD τ sig) → Buf (Elt Ideal) ℓ) (c : Dev nD)

theorem v17_at (s : Fin 16384) (d : Fin 1024) :
    val_main_v17 (F := Ideal) (aX m c) (aN m c) (aSc m c) (aSh m c) (ix2 s d) = hA m c s d := by
  pointwise [val_main_v17, val_main_v16, val_main_v15, val_main_v14, val_main_v13, val_main_v12, val_main_cst_2, val_main_v11, val_main_v10, val_main_v9, val_main_v8,
    val_main_v7, val_main_v6, val_main_v5, val_main_cst_1, val_main_v4, val_main_v3, val_main_cst_0, val_main_v2, val_main_v1, val_main_v0, val_main_cst]
  unfold hA
  rw [mul_assoc (aX m c _ * _), Ideal.ofBits_one_f32]

theorem v19_at (s : Fin 16384) (f : Fin 4096) :
    val_main_v19 (F := Ideal) (aX m c) (aN m c) (aSc m c) (aSh m c) (aW1 m c) (ix2 s f) = rA m c s f := by
  pointwise [val_main_v19, val_main_v18, val_main_call0_v0, val_main_call0_cst, v17_at, rA]

theorem v21_at (s : Fin 16384) (d : Fin 1024) :
    val_main_v21 (F := Ideal) (aX m c) (aN m c) (aSc m c) (aSh m c) (aW1 m c) (aW2 m c) (ix2 s d) = yA m c s d := by
  pointwise [val_main_v21, val_main_v20, v19_at, yA]

theorem v25_at (s : Fin 16384) (d : Fin 1024) :
    val_main_v25 (F := Ideal) (aX m c) (aT m c) (aN m c) (aSc m c) (aSh m c) (aG m c) (aW1 m c) (aW2 m c) (ix2 s d) = eA m c s d := by
  pointwise [val_main_v25, val_main_v24, val_main_v23, val_main_v22, v21_at, eA]

/-- The factors of the loss's gradient: a half, the mean's divisor and the square's two. -/
theorem factors : Ideal.div (Ideal.ofBits .f32 0x3F000000#32) (Ideal.ofBits .f32 0x44800000#32) * Ideal.ofBits .f32 0x40000000#32
    = Ideal.ofBits .f32 0x3A800000#32 := by
  rw [thousand_eq, half_eq, Ideal.div_coe (by norm_num)]
  simp [Ideal.ofBits, Ideal.ieee]
  rw [← EReal.coe_mul, ← EReal.coe_mul, ← EReal.coe_mul, ← EReal.coe_mul]
  norm_num

theorem v39_at (s : Fin 16384) (d : Fin 1024) :
    val_main_v39 (F := Ideal) (aX m c) (aT m c) (aN m c) (aSc m c) (aSh m c) (aG m c) (aW1 m c) (aW2 m c) (ix2 s d) = eA m c s d * Ideal.ofBits .f32 0x3A800000#32 := by
  pointwise [val_main_v39, val_main_v38, val_main_v37, val_main_v36, val_main_cst_10, val_main_v35, val_main_v34, val_main_cst_8, val_main_cst_9, val_main_v28, val_main_v27, val_main_cst_3, v25_at]
  rw [← mul_assoc, factors, mul_comm]

theorem ref39 : val_main_v39 (F := Ideal) (aX m c) (aT m c) (aN m c) (aSc m c) (aSh m c) (aG m c) (aW1 m c) (aW2 m c) = res6 m c := by
  funext i
  obtain ⟨s, d, rfl⟩ : ∃ (s : Fin 16384) (d : Fin 1024), i = ix2 s d := ⟨i 0, i 1, by idx_ext⟩
  exact v39_at m c s d

theorem ref43 : val_main_v43 (F := Ideal) (aX m c) (aT m c) (aN m c) (aSc m c) (aSh m c) (aG m c) (aW1 m c) (aW2 m c) = res7 m c := by
  funext i
  pointwise [val_main_v43, val_main_v33, val_main_cst_7, val_main_v32, val_main_cst_6, val_main_v31, val_main_v30, val_main_cst_5, val_main_v29, val_main_cst_4, val_main_v26, v25_at, res7]

theorem ref42 : val_main_v42 (F := Ideal) (aX m c) (aT m c) (aN m c) (aSc m c) (aSh m c) (aG m c) (aW1 m c) (aW2 m c) = res8 m c := by
  funext i
  obtain ⟨z, d, rfl⟩ : ∃ (z : Fin 1) (d : Fin 1024), i = ix2 z d := ⟨i 0, i 1, by idx_ext⟩
  obtain rfl : z = 0 := Subsingleton.elim _ _
  pointwise [val_main_v42, val_main_v41, val_main_cst_11, val_main_v40, v39_at, v21_at, res8]

theorem ref44 : val_main_v44 (F := Ideal) (aX m c) (aN m c) (aSc m c) (aSh m c) (aW1 m c) = res9 m c := by
  funext i
  obtain ⟨s, f, rfl⟩ : ∃ (s : Fin 16384) (f : Fin 4096), i = ix2 s f := ⟨i 0, i 1, by idx_ext⟩
  exact v19_at m c s f

theorem ref46 : val_main_v46 (F := Ideal) (aX m c) (aN m c) (aSc m c) (aSh m c) = res10 m c := by
  funext i
  obtain ⟨d, s, rfl⟩ : ∃ (d : Fin 1024) (s : Fin 16384), i = ix2 d s := ⟨i 0, i 1, by idx_ext⟩
  pointwise [val_main_v46, val_main_v45, v17_at, res10]

end Cert.MlpLossIdeal.Own

namespace Cert.MlpLossIdeal.Own

open Idealize.ShloMosaic TcCoe Idealize.SL.Sem Tactic

/-- The two programs leave the same results. -/
theorem algebraic : Cert.algebraic_MlpLossIdeal_MlpLossRefIdeal := by
  intro m g m' g' _ hagree
  refine ⟨fun c => res6 m c, fun c => res7 m c, fun c => res8 m c, fun c => res9 m c, fun c => res10 m c, run m g, ?_⟩
  refine (θ_run _ _ _).mono (fun r h c => ?_) (Cert.MlpLossRefIdeal.Value.run m' g')
  obtain ⟨h39, h43, h42, h44, h46, hargs⟩ := h c
  obtain ⟨e0, e1, e2, e3, e4, e5, e6, e7⟩ := hagree c
  refine ⟨h39.trans ?_, h43.trans ?_, h42.trans ?_, h44.trans ?_, h46.trans ?_, hargs⟩
  · refine (Cert.MlpLossRefIdeal.Read.val_main_v39_eq ..).trans ?_
    rw [e0, e1, e2, e3, e4, e5, e6, e7]; exact ref39 m c
  · refine (Cert.MlpLossRefIdeal.Read.val_main_v43_eq ..).trans ?_
    rw [e0, e1, e2, e3, e4, e5, e6, e7]; exact ref43 m c
  · refine (Cert.MlpLossRefIdeal.Read.val_main_v42_eq ..).trans ?_
    rw [e0, e1, e2, e3, e4, e5, e6, e7]; exact ref42 m c
  · refine (Cert.MlpLossRefIdeal.Read.val_main_v44_eq ..).trans ?_
    rw [e0, e2, e3, e4, e6]; exact ref44 m c
  · refine (Cert.MlpLossRefIdeal.Read.val_main_v46_eq ..).trans ?_
    rw [e0, e2, e3, e4]; exact ref46 m c

end Cert.MlpLossIdeal.Own

end
-- ==== Proof.InBlock.lean ====
/- What one grid point of the input projection's backward pass leaves in its two output blocks, at extended reals. -/
module

public import proofs.«01_k».proof.Proof.Gen.InBwdXIdeal.Frame
public import proofs.«01_k».proof.Proof.LossRun
public import Idealize.ShloMosaic.Lib.WritesUnit

@[expose] public section

set_option maxRecDepth 16384

noncomputable section

namespace Cert.InBwdXIdeal.Own

open Idealize.ShloMosaic TcCoe Idealize.SL.Sem Tactic
open Cert.InBwdXIdeal Cert.InBwdXIdeal.Gen
open Cert.MlpLossIdeal.Own (hz2 canon_whole)

/-- A read of a buffer that one copy filled whole. -/
theorem readCov_whole {S : Shape} {e : EltTy} (v : View sig .tc .vmem S e) (w : S.Idx → Elt Ideal e) (r : Rect S) :
    v.readCov [(⟨Rect.whole S, w⟩ : View.Piece (Elt Ideal) S e)] r.toLoadRect = View.ld w r := by
  rw [View.readCov_eq_canon', canon_whole]

/-- The root mean square's inverse of row `r`, the product with the two weights, and the rows' gradient. -/
def rb (x : Vec Ideal S512x1024 .f32) (r : Fin 512) : EReal :=
  Ideal.rsqrt (Ideal.div (∑ k : Fin 1024, x (ix2 r k) * x (ix2 r k)) (Ideal.ofBits .f32 0x44800000#32) + Ideal.ofBits .f32 0x358637BD#32)
def db (z : Vec Ideal S512x1024 .bf16) (wr : Vec Ideal S1024x1024 .bf16) (w : Vec Ideal S1024x1552 .bf16) (zt : Vec Ideal S1x1552x512 .bf16)
    (r : Fin 512) (d : Fin 1024) : EReal :=
  ∑ j : Fin 1024, z (ix2 r j) * wr (ix2 d j) + ∑ k : Fin 1552, w (ix2 d k) * zt (ix3 0 k r)

theorem pay5_at (x : Vec Ideal S512x1024 .f32) (r : Fin 512) : k0_pay5 x (ix2 r 0) = rb x r := by
  pointwise [k0_pay5, rb]
theorem pay6_at (x : Vec Ideal S512x1024 .f32) (r : Fin 512) (d : Fin 1024) : k0_pay6 x (ix2 r d) = x (ix2 r d) * rb x r := by
  pointwise [k0_pay6, pay5_at]

variable (z : Vec Ideal S512x1024 .bf16) (wr : Vec Ideal S1024x1024 .bf16) (w : Vec Ideal S1024x1552 .bf16) (zt : Vec Ideal S1x1552x512 .bf16)
  (x dx : Vec Ideal S512x1024 .f32) (g sc v : Vec Ideal S1x1024 .f32) (r : Fin 512) (d : Fin 1024)

theorem pay7_at : k0_pay7 z wr w zt (ix2 r d) = db z wr w zt r d := by
  pointwise [k0_pay7, db]
theorem pay8_at : k0_pay8 x z wr w zt (ix2 r d) = db z wr w zt r d * (x (ix2 r d) * rb x r) := by
  pointwise [k0_pay8, pay7_at, pay6_at]
theorem pay9_at : k0_pay9 z wr w zt v (ix2 0 d) = v (ix2 0 d) + ∑ r : Fin 512, db z wr w zt r d := by
  pointwise [k0_pay9, pay7_at]
theorem pay1_at (e : FVec Ideal S512x1024 .f32) : k0_pay1 g e v (ix2 0 d) = v (ix2 0 d) + (∑ r : Fin 512, e (ix2 r d)) * g (ix2 0 d) := by
  pointwise [k0_pay1]
theorem pay2_at (e : FVec Ideal S512x1024 .f32) : k0_pay2 sc e v (ix2 0 d)
    = v (ix2 0 d) + (∑ r : Fin 512, e (ix2 r d)) * (Ideal.ofBits .f32 0x3F800000#32 + sc (ix2 0 d)) := by
  pointwise [k0_pay2]
theorem pay3_at (i : FVec Ideal S512x1 .f32) (xh e : FVec Ideal S512x1024 .f32) : k0_pay3 g sc i xh e dx (ix2 r d)
    = dx (ix2 r d) + i (ix2 r 0) * (e (ix2 r d) * (g (ix2 0 d) * (Ideal.ofBits .f32 0x3F800000#32 + sc (ix2 0 d)))
      - xh (ix2 r d) * Ideal.div (∑ k : Fin 1024, e (ix2 r k) * (g (ix2 0 k) * (Ideal.ofBits .f32 0x3F800000#32 + sc (ix2 0 k))) * xh (ix2 r k)) (Ideal.ofBits .f32 0x44800000#32)) := by
  pointwise [k0_pay3]

/-- Row `k` of the accumulated block. -/
def rowOf (v : Vec Ideal S8x1024 .f32) (k : Fin 8) : Vec Ideal S1x1024 .f32 := fun j => v (ix2 k (j 1))

theorem ld_row (v : Vec Ideal S8x1024 .f32) (k : ℕ) (hk : k < 8) (inb) :
    View.ld v (Rect.unit (s := S8x1024) ![k, 0] ![1, 1024] inb) = rowOf v ⟨k, hk⟩ := by
  funext j
  refine congrArg v (funext fun a => Fin.ext ?_)
  match a with
  | ⟨0, _⟩ =>
    have h0 : (j 0).val < 1 := (j 0).isLt
    show k + 1 * (j 0).val = k; omega
  | ⟨1, _⟩ => show 0 + 1 * (j 1).val = (j 1).val; omega

/-- The block with row `k` replaced. -/
def put (k : ℕ) (w : Vec Ideal S1x1024 .f32) (v : Vec Ideal S8x1024 .f32) : Vec Ideal S8x1024 .f32 :=
  fun y => if (y 0).val = k then w (ix2 0 (y 1)) else v y

section
variable {sp : Space} (u : View sig .tc sp S8x1024 .f32) (k j : ℕ) (y : Vec Ideal S1x1024 .f32) (L : List (View.Piece (Elt Ideal) S8x1024 .f32))

theorem read_put (f) (inb) : u.read (Elt Ideal) (u.writes (Elt Ideal) f (⟨Rect.unit (s := S8x1024) ![k, 0] ![1, 1024] inb, y⟩ :: L))
    = put k y (u.read (Elt Ideal) (u.writes (Elt Ideal) f L)) := by
  funext p
  unfold put
  have p1 : (p 1).val < 1024 := (p 1).isLt
  split_ifs with h
  · refine View.read_writes_cons_unit_of_mem u f inb y L p (ix2 0 (p 1)) rfl fun a => ?_
    match a with
    | ⟨0, _⟩ => show (p 0).val = k + 0; omega
    | ⟨1, _⟩ => show (p 1).val = 0 + (p 1).val; omega
  · refine View.read_writes_cons_unit_of_not_mem u f inb y L p rfl 0 ?_
    show (p 0).val < k ∨ k + 1 ≤ (p 0).val
    omega

theorem readCov_skip (h : j ≠ k) (inb inb') : u.readCov (⟨Rect.unit (s := S8x1024) ![j, 0] ![1, 1024] inb, y⟩ :: L) (Rect.unit (s := S8x1024) ![k, 0] ![1, 1024] inb').toLoadRect
    = u.readCov L (Rect.unit (s := S8x1024) ![k, 0] ![1, 1024] inb').toLoadRect := by
  rw [View.readCov_eq_canon', View.readCov_eq_canon']
  funext x
  have hx : (x 0).val < 1 := (x 0).isLt
  rw [← View.read_writes_junk_apply_eq_canon u, ← View.read_writes_junk_apply_eq_canon u]
  refine View.read_writes_cons_unit_of_not_mem u _ inb y L _ rfl 0 ?_
  show k + 1 * (x 0).val < j ∨ j + 1 ≤ k + 1 * (x 0).val
  omega

theorem readCov_base (v : Vec Ideal S8x1024 .f32) (hk : k < 8) (inb inb') : u.readCov [(⟨Rect.unit (s := S8x1024) ![0, 0] ![8, 1024] inb, v⟩ : View.Piece (Elt Ideal) S8x1024 .f32)]
    (Rect.unit (s := S8x1024) ![k, 0] ![1, 1024] inb').toLoadRect = rowOf v ⟨k, hk⟩ := by
  rw [View.readCov_eq_canon', View.canon_unit_zero hz2]
  exact ld_row v k hk inb'
end

/-- A point's accumulated block. -/
def acc (o : Vec Ideal S8x1024 .f32) : Vec Ideal S8x1024 .f32 :=
  put 2 (k0_pay2 sc (k0_pay8 x z wr w zt) (rowOf o 2)) (put 1 (k0_pay1 g (k0_pay8 x z wr w zt) (rowOf o 1)) (put 0 (k0_pay9 z wr w zt (rowOf o 0)) o))

/-- What a point adds to row `k`. -/
def incb (k : Fin 8) : EReal :=
  if k.val = 2 then (∑ r : Fin 512, db z wr w zt r d * (x (ix2 r d) * rb x r)) * (Ideal.ofBits .f32 0x3F800000#32 + sc (ix2 0 d))
  else if k.val = 1 then (∑ r : Fin 512, db z wr w zt r d * (x (ix2 r d) * rb x r)) * g (ix2 0 d)
  else if k.val = 0 then ∑ r : Fin 512, db z wr w zt r d else 0

theorem acc_at (o : Vec Ideal S8x1024 .f32) (k : Fin 8) : acc z wr w zt x g sc o (ix2 k d) = o (ix2 k d) + incb z wr w zt x g sc d k := by
  have e : ∀ j : Fin 8, k.val = j.val → rowOf o j (ix2 0 d) = o (ix2 k d) := fun j h => by rw [Fin.ext h]; rfl
  show (if k.val = 2 then k0_pay2 sc (k0_pay8 x z wr w zt) (rowOf o 2) (ix2 0 d) else if k.val = 1 then k0_pay1 g (k0_pay8 x z wr w zt) (rowOf o 1) (ix2 0 d)
    else if k.val = 0 then k0_pay9 z wr w zt (rowOf o 0) (ix2 0 d) else o (ix2 k d)) = _
  unfold incb
  split_ifs with h2 h1 h0
  · rw [pay2_at, e 2 h2]; simp only [pay8_at]
  · rw [pay1_at, e 1 h1]; simp only [pay8_at]
  · rw [pay9_at, e 0 h0]
  · rw [add_zero]

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .bf16) (h3 : a3.IsWhole) (a4 : Memref sig .tc .vmem S1x1552x512 .bf16) (h4 : a4.IsWhole) (a5 : Memref sig .tc .vmem S1x1024 .f32) (h5 : a5.IsWhole)
  (a6 : Memref sig .tc .vmem S1x1024 .f32) (h6 : a6.IsWhole) (a7 : Memref sig .tc .vmem S1x1024 .f32) (h7 : a7.IsWhole) (a10 : Memref sig .tc .vmem S512x1024 .f32) (h10 : a10.IsWhole)
  (a11 : Memref sig .tc .vmem S8x1024 .f32) (h11 : a11.IsWhole) (a12 : Memref sig .tc .vmem S1024x1552 .bf16) (h12 : a12.IsWhole) (a13 : Memref sig .tc .vmem S1024x1024 .bf16) (h13 : a13.IsWhole)
  (sh : Vec Ideal S1x1024 .f32) (o : Vec Ideal S8x1024 .f32) (g1 : HbBuf0 (F := Ideal) c hbM0_0) (g2 : HbBuf0 (F := Ideal) c hbM0_1)

theorem out_A_s0 (hc : cond0_0 i) : sout0_A_0 c i a1 h1 a2 h2 a3 h3 a4 h4 a5 h5 a6 h6 a7 h7 a10 h10 a11 h11 a12 h12 a13 h13 hc x dx z zt g sc sh g1 g2 = g1 := by
  unfold sout0_A_0
  rw [View.read_writes_eq_canon _ _ _ (scover0_A_0 c i a1 h1 a2 h2 a3 h3 a4 h4 a5 h5 a6 h6 a7 h7 a10 h10 a11 h11 a12 h12 a13 h13 hc x dx z zt g sc sh g1 g2)]
  unfold kernelRun0_A
  dsimp only
  sl_unfold_words
  exact (canon_whole _).trans rfl

theorem out_A_s1 (hc : cond0_0 i) : sout0_A_1 c i a1 h1 a2 h2 a3 h3 a4 h4 a5 h5 a6 h6 a7 h7 a10 h10 a11 h11 a12 h12 a13 h13 hc x dx z zt g sc sh g1 g2 = g2 := by
  unfold sout0_A_1
  rw [View.read_writes_eq_canon _ _ _ (scover0_A_1 c i a1 h1 a2 h2 a3 h3 a4 h4 a5 h5 a6 h6 a7 h7 a10 h10 a11 h11 a12 h12 a13 h13 hc x dx z zt g sc sh g1 g2)]
  unfold kernelRun0_A
  dsimp only
  sl_unfold_words
  exact (canon_whole _).trans rfl

theorem hz3 : (![0, 0, 0] : Fin 3 → Nat) = fun _ => 0 := by funext a; fin_cases a <;> rfl

theorem out_B_7 (hc : ¬cond0_0 i) : out0_B_7 c i a1 h1 a2 h2 a3 h3 a4 h4 a5 h5 a6 h6 a7 h7 a10 h10 a11 h11 a12 h12 a13 h13 hc x dx z zt g sc sh o w wr g1 g2
    = k0_pay3 g sc (k0_pay5 x) (k0_pay6 x) (k0_pay7 z wr w zt) dx := by
  unfold out0_B_7
  rw [View.read_writes_eq_canon _ _ _ (cover0_B_7 c i a1 h1 a2 h2 a3 h3 a4 h4 a5 h5 a6 h6 a7 h7 a10 h10 a11 h11 a12 h12 a13 h13 hc x dx z zt g sc sh o w wr g1 g2)]
  unfold kernelRun0_B
  dsimp only
  sl_unfold_words
  rw [View.canon_unit_zero hz2]
  simp only [View.readAt_eq_ld, h1.read_unread, h2.read_unread, h3.read_unread, h4.read_unread, h5.read_unread, h6.read_unread, h12.read_unread, h13.read_unread]
  repeat rw [View.ld_unit_zero hz2]
  repeat rw [View.ld_unit_zero hz3]
  repeat rw [View.ld_unit_zero hz2]

theorem out_A_7 (hc : cond0_0 i) : out0_A_7 c i a1 h1 a2 h2 a3 h3 a4 h4 a5 h5 a6 h6 a7 h7 a10 h10 a11 h11 a12 h12 a13 h13 hc x dx z zt g sc sh g1 g2
    = k0_pay3 g sc (k0_pay5 x) (k0_pay6 x) (k0_pay7 z (show Vec Ideal S1024x1024 .bf16 from g2) (show Vec Ideal S1024x1552 .bf16 from g1) zt) dx := by
  unfold out0_A_7
  rw [View.read_writes_eq_canon _ _ _ (cover0_A_7 c i a1 h1 a2 h2 a3 h3 a4 h4 a5 h5 a6 h6 a7 h7 a10 h10 a11 h11 a12 h12 a13 h13 hc x dx z zt g sc sh g1 g2)]
  unfold kernelRun0_A
  dsimp only
  sl_unfold_words
  rw [View.canon_unit_zero hz2]
  simp only [readCov_whole, View.readAt_eq_ld, h1.read_unread, h2.read_unread, h3.read_unread, h4.read_unread, h5.read_unread, h6.read_unread]
  repeat rw [View.ld_unit_zero hz2]
  repeat rw [View.ld_unit_zero hz3]
  repeat rw [View.ld_unit_zero hz2]
  rfl

theorem out_B_8 (hc : ¬cond0_0 i) : out0_B_8 c i a1 h1 a2 h2 a3 h3 a4 h4 a5 h5 a6 h6 a7 h7 a10 h10 a11 h11 a12 h12 a13 h13 hc x dx z zt g sc sh o w wr g1 g2
    = acc z wr w zt x g sc o := by
  unfold out0_B_8
  unfold kernelRun0_B
  dsimp only
  sl_unfold_words
  simp only [View.readAt_eq_ld, h1.read_unread, h2.read_unread, h3.read_unread, h4.read_unread, h5.read_unread, h6.read_unread, h12.read_unread, h13.read_unread, h11.read_unread]
  repeat rw [View.ld_unit_zero hz2]
  repeat rw [View.ld_unit_zero hz3]
  repeat rw [View.ld_unit_zero hz2]
  rw [read_put, read_put, read_put, ld_row o 0 (by decide), ld_row o 1 (by decide), ld_row o 2 (by decide)]
  unfold acc
  congr 1
  congr 1
  congr 1
  exact h11.read_unread _

theorem out_A_8 (hc : cond0_0 i) : out0_A_8 c i a1 h1 a2 h2 a3 h3 a4 h4 a5 h5 a6 h6 a7 h7 a10 h10 a11 h11 a12 h12 a13 h13 hc x dx z zt g sc sh g1 g2
    = acc z (show Vec Ideal S1024x1024 .bf16 from g2) (show Vec Ideal S1024x1552 .bf16 from g1) zt x g sc (k0_pay4 (F := Ideal)) := by
  unfold out0_A_8
  unfold kernelRun0_A
  dsimp only
  sl_unfold_words
  rw [readCov_skip _ _ _ _ _ (by decide : 1 ≠ 2), readCov_skip _ _ _ _ _ (by decide : 0 ≠ 2), readCov_skip _ _ _ _ _ (by decide : 0 ≠ 1),
    readCov_base _ 2 _ (by decide), readCov_base _ 1 _ (by decide), readCov_base _ 0 _ (by decide), read_put, read_put, read_put, View.read_writes_eq_canon _ _ _ (View.cover_of_tiledL _ S8x1024.size (by sl_kernel_rfl)), View.canon_unit_zero hz2]
  simp only [readCov_whole, View.readAt_eq_ld, h1.read_unread, h2.read_unread, h3.read_unread, h4.read_unread, h5.read_unread, h6.read_unread]
  repeat rw [View.ld_unit_zero hz2]
  repeat rw [View.ld_unit_zero hz3]
  repeat rw [View.ld_unit_zero hz2]
  rfl

end Cert.InBwdXIdeal.Own

end
-- ==== Proof.InHost.lean ====
/- What the host code hands to the input projection's backward pass, at extended reals. -/
module

public import proofs.«01_k».proof.Proof.InBlock
public import Idealize.ShloMosaic.Lib.KernelVsHost

@[expose] public section

set_option maxRecDepth 16384

noncomputable section

namespace Cert.InBwdXIdeal.Own

open Idealize.ShloMosaic TcCoe Idealize.SL.Sem Tactic
open Idealize.ShloMosaic.Pipeline (Dat)
open Cert.InBwdXIdeal Cert.InBwdXIdeal.Gen

variable (m : (ℓ : Loc nD τ sig) → Buf (Elt Ideal) ℓ) (ρ : Dev nD → PrngReg) (c : Dev nD)

def aX : Vec Ideal S16384x1024 .f32 := m ((c : Thread nD τ).loc main_arg0)
def aG : Vec Ideal S1x1024 .f32 := m ((c : Thread nD τ).loc main_arg1)
def aSc : Vec Ideal S1x1024 .f32 := m ((c : Thread nD τ).loc main_arg2)
def aW : Vec Ideal S1024x2568 .f32 := m ((c : Thread nD τ).loc main_arg4)
def aDx : Vec Ideal S16384x1024 .f32 := m ((c : Thread nD τ).loc main_arg5)
def aDz : Vec Ideal S16384x2568 .f32 := m ((c : Thread nD τ).loc main_arg6)

/-- The inverse root mean square of a row, the gradient before the projection, and the scale. -/
def rA (s : Fin 16384) : EReal :=
  Ideal.rsqrt (Ideal.div (∑ k : Fin 1024, aX m c (ix2 s k) * aX m c (ix2 s k)) (Ideal.ofBits .f32 0x44800000#32) + Ideal.ofBits .f32 0x358637BD#32)
def dA (s : Fin 16384) (d : Fin 1024) : EReal := ∑ k : Fin 2568, aDz m c (ix2 s k) * aW m c (ix2 d k)
def gA (d : Fin 1024) : EReal := aG m c (ix2 0 d) * (Ideal.ofBits .f32 0x3F800000#32 + aSc m c (ix2 0 d))

/-- The projection's weight in its two parts, as the region finds them. -/
def wQ : Vec Ideal S1024x1552 .bf16 := V m c main_v10
def wR : Vec Ideal S1024x1024 .bf16 := V m c main_v12

/-- The padding's value is zero. -/
theorem zero_pad : (FloatOps.sitofp (F := Ideal) FTy.bf16 (0#32) : EReal) = 0 := by
  show ((((0#32 : BitVec 32).toInt : ℤ) : ℝ) : EReal) = 0
  simp

theorem wR_at (d j : Fin 1024) : wR m c (ix2 d j) = aW m c (ix2 d ⟨1544 + j.val, by omega⟩) := by
  have e : wR m c = transpose S1024x1024 [1, 0] (extractStridedSlice S1024x1024 ![1544, 0] (truncf (F := Ideal) .bf16
      (transpose S2568x1024 [1, 0] (aW m c) transposes_S1024x2568_S2568x1024_1_0) bitsLt_bf16_f32) slices_S2568x1024_S1024x1024_1544_0) transposes_S1024x1024_S1024x1024_1_0 := by
    show StableHlo.after _ _ (Proc.devRef .tc main_v12) = _
    simp only [hostOps0, hostOps0_1, hostOps0_2, hostOps0_3, hostOps0_4, List.flatten_cons, List.flatten_nil, List.append_nil, List.cons_append, List.nil_append]
    after_results
    rfl
  rw [e]
  pointwise

theorem wQ_at (d : Fin 1024) (k : Fin 1552) : wQ m c (ix2 d k) = if h : k.val < 1544 then aW m c (ix2 d ⟨k.val, by omega⟩) else 0 := by
  have e : wQ m c = transpose S1024x1552 [1, 0] (pad S1552x1024 ![0, 0] ![8, 0] ![0, 0] (extractStridedSlice S1544x1024 ![0, 0] (truncf (F := Ideal) .bf16
      (transpose S2568x1024 [1, 0] (aW m c) transposes_S1024x2568_S2568x1024_1_0) bitsLt_bf16_f32) slices_S2568x1024_S1544x1024_0_0)
      (sitofp (F := Ideal) .bf16 (constantI S_ 32 0#32)) pads_S1544x1024_S1552x1024_080_000 h_S_) transposes_S1552x1024_S1024x1552_1_0 := by
    show StableHlo.after _ _ (Proc.devRef .tc main_v10) = _
    simp only [hostOps0, hostOps0_1, hostOps0_2, hostOps0_3, hostOps0_4, List.flatten_cons, List.flatten_nil, List.append_nil, List.cons_append, List.nil_append]
    after_results
    rfl
  rw [e]
  pointwise
  rw [zero_pad]

/-- The two parts of the gradient, as the region finds them. -/
theorem v9_at (s : Fin 16384) (j : Fin 1024) : (V m c main_v9 : Vec Ideal S16384x1024 .bf16) (ix2 s j) = aDz m c (ix2 s ⟨1544 + j.val, by omega⟩) := by
  have e : (V m c main_v9 : Vec Ideal S16384x1024 .bf16) = extractStridedSlice S16384x1024 ![0, 1544] (truncf (F := Ideal) .bf16 (aDz m c) bitsLt_bf16_f32) slices_S16384x2568_S16384x1024_0_1544 := by
    show StableHlo.after _ _ (Proc.devRef .tc main_v9) = _
    simp only [hostOps0, hostOps0_1, hostOps0_2, hostOps0_3, hostOps0_4, List.flatten_cons, List.flatten_nil, List.append_nil, List.cons_append, List.nil_append]
    after_results
    rfl
  rw [e]
  pointwise

theorem v8_at (t : Fin 32) (k : Fin 1552) (r : Fin 512) : (V m c main_v8 : Vec Ideal S32x1552x512 .bf16) (ix3 t k r)
    = if h : k.val < 1544 then aDz m c (ix2 ⟨t.val * 512 + r.val, by omega⟩ ⟨k.val, by omega⟩) else 0 := by
  have e : (V m c main_v8 : Vec Ideal S32x1552x512 .bf16) = transpose S32x1552x512 [0, 2, 1] (shapeCast S32x512x1552 (pad S16384x1552 ![0, 0] ![0, 8] ![0, 0]
      (extractStridedSlice S16384x1544 ![0, 0] (truncf (F := Ideal) .bf16 (aDz m c) bitsLt_bf16_f32) slices_S16384x2568_S16384x1544_0_0)
      (sitofp (F := Ideal) .bf16 (constantI S_ 32 0#32)) pads_S16384x1544_S16384x1552_000_080 h_S_) shapeCasts_S16384x1552_S32x512x1552) transposes_S32x512x1552_S32x1552x512_0_2_1 := by
    show StableHlo.after _ _ (Proc.devRef .tc main_v8) = _
    simp only [hostOps0, hostOps0_1, hostOps0_2, hostOps0_3, hostOps0_4, List.flatten_cons, List.flatten_nil, List.append_nil, List.cons_append, List.nil_append]
    after_results
    rfl
  rw [e]
  pointwise
  rw [zero_pad]
  by_cases h : k.val < 1544
  · rw [dif_pos h, dif_pos ⟨by omega, h⟩]
  · rw [dif_neg h, dif_neg fun hh => h hh.2]

end Cert.InBwdXIdeal.Own

end
-- ==== Proof.InRun.lean ====
/- The run of the input projection's backward pass: its two result arrays as sums over the argument arrays, at extended reals. -/
module

public import proofs.«01_k».proof.Proof.InHost

@[expose] public section

set_option maxRecDepth 16384

noncomputable section

namespace Cert.InBwdXIdeal.Own

open Idealize.ShloMosaic TcCoe Idealize.SL.Sem Tactic
open Idealize.ShloMosaic.Pipeline (Dat)
open Cert.InBwdXIdeal Cert.InBwdXIdeal.Gen

variable (m : (ℓ : Loc nD τ sig) → Buf (Elt Ideal) ℓ) (ρ : Dev nD → PrngReg) (c : Dev nD)

/-- The product with the padded weight and the rest is the product with the whole weight. -/
theorem sum_parts (f : Fin 2568 → EReal) (a : Fin 1024 → EReal) (b : Fin 1552 → EReal) (ha : ∀ j : Fin 1024, a j = f ⟨1544 + j.val, by omega⟩)
    (hb : ∀ k : Fin 1552, b k = if h : k.val < 1544 then f ⟨k.val, by omega⟩ else 0) : ∑ j, a j + ∑ k, b k = ∑ i, f i := by
  have e1 : ∑ k, b k = ∑ k : Fin 1544, f ⟨k.val, by omega⟩ := by
    rw [Fin.sum_univ_add (a := 1544) (b := 8) b]
    have z : ∑ i : Fin 8, b (Fin.natAdd 1544 i) = 0 := Finset.sum_eq_zero fun i _ => by
      rw [hb, dif_neg (by rw [Fin.val_natAdd]; omega)]
    rw [z, add_zero]
    exact Finset.sum_congr rfl fun k _ => by rw [hb, dif_pos (by rw [Fin.val_castAdd]; omega)]; rfl
  rw [e1, Fin.sum_univ_add (a := 1544) (b := 1024) f, add_comm]
  exact congrArg₂ _ rfl (Finset.sum_congr rfl fun j _ => ha j)

/-! ## The windows' blocks -/

theorem N_eq : cfg0.N = 32 := N_0
theorem t_lt (t : Fin cfg0.N) : t.val < 32 := N_eq ▸ t.isLt

/-- A row of a point's block, among all rows. -/
def row (t : Fin cfg0.N) (r : Fin 512) : Fin 16384 := ⟨t.val * 512 + r.val, by have := t_lt t; omega⟩

theorem ixRow : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) ∧ (win0_3.index t 0 = t.val ∧ win0_3.index t 1 = 0 ∧ win0_3.index t 2 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_7.index t 0 = t.val ∧ win0_7.index t 1 = 0) ∧ (win0_3.index t 0 = t.val ∧ win0_3.index t 1 = 0 ∧ win0_3.index t 2 = 0))
theorem ixOne : ∀ t : Fin cfg0.N, (win0_4.index t 0 = 0 ∧ win0_4.index t 1 = 0) ∧ (win0_5.index t 0 = 0 ∧ win0_5.index t 1 = 0) ∧ (win0_8.index t 0 = 0 ∧ win0_8.index t 1 = 0) :=
  (by decide +kernel : ∀ t : Fin grid0.N, (win0_4.index t 0 = 0 ∧ win0_4.index t 1 = 0) ∧ (win0_5.index t 0 = 0 ∧ win0_5.index t 1 = 0) ∧ (win0_8.index t 0 = 0 ∧ win0_8.index t 1 = 0))

def b0 (t : Fin cfg0.N) : Vec Ideal S512x1024 .f32 := iblk m c 0 t
def b1 (t : Fin cfg0.N) : Vec Ideal S512x1024 .f32 := iblk m c 1 t
def b2 (t : Fin cfg0.N) : Vec Ideal S512x1024 .bf16 := iblk m c 2 t
def b3 (t : Fin cfg0.N) : Vec Ideal S1x1552x512 .bf16 := iblk m c 3 t
def b4 (t : Fin cfg0.N) : Vec Ideal S1x1024 .f32 := iblk m c 4 t
def b5 (t : Fin cfg0.N) : Vec Ideal S1x1024 .f32 := iblk m c 5 t

theorem b0_at (t : Fin cfg0.N) (r : Fin 512) (d : Fin 1024) : b0 m c t (ix2 r d) = aX m c (ix2 (row t r) d) := by
  refine Eq.trans ?_ (congrFun (V_main_arg0 m c) _)
  unfold b0 iblk
  rw [View.read_apply]
  refine congrArg (V m c main_arg0) (funext fun a => Fin.ext ?_)
  match a with
  | ⟨0, _⟩ => show win0_0.index t 0 * 512 + 1 * r.val = t.val * 512 + r.val; rw [(ixRow t).1.1]; omega
  | ⟨1, _⟩ => show win0_0.index t 1 * 1024 + 1 * d.val = d.val; rw [(ixRow t).1.2]; omega

theorem b1_at (t : Fin cfg0.N) (r : Fin 512) (d : Fin 1024) : b1 m c t (ix2 r d) = aDx m c (ix2 (row t r) d) := by
  refine Eq.trans ?_ (congrFun (V_main_arg5 m c) _)
  unfold b1 iblk
  rw [View.read_apply]
  refine congrArg (V m c main_arg5) (funext fun a => Fin.ext ?_)
  match a with
  | ⟨0, _⟩ => show win0_1.index t 0 * 512 + 1 * r.val = t.val * 512 + r.val; rw [(ixRow t).2.1.1]; omega
  | ⟨1, _⟩ => show win0_1.index t 1 * 1024 + 1 * d.val = d.val; rw [(ixRow t).2.1.2]; omega

theorem b2_at (t : Fin cfg0.N) (r : Fin 512) (j : Fin 1024) : b2 m c t (ix2 r j) = aDz m c (ix2 (row t r) ⟨1544 + j.val, by omega⟩) := by
  refine Eq.trans ?_ (v9_at m c (row t r) j)
  unfold b2 iblk
  rw [View.read_apply]
  refine congrArg (V m c main_v9) (funext fun a => Fin.ext ?_)
  match a with
  | ⟨0, _⟩ => show win0_2.index t 0 * 512 + 1 * r.val = t.val * 512 + r.val; rw [(ixRow t).2.2.1.1]; omega
  | ⟨1, _⟩ => show win0_2.index t 1 * 1024 + 1 * j.val = j.val; rw [(ixRow t).2.2.1.2]; omega

theorem b3_at (t : Fin cfg0.N) (k : Fin 1552) (r : Fin 512) : b3 m c t (ix3 0 k r) = if h : k.val < 1544 then aDz m c (ix2 (row t r) ⟨k.val, by omega⟩) else 0 := by
  refine Eq.trans ?_ (v8_at m c ⟨t.val, t_lt t⟩ k r)
  unfold b3 iblk
  rw [View.read_apply]
  refine congrArg (V m c main_v8) (funext fun a => Fin.ext ?_)
  match a with
  | ⟨0, _⟩ => show win0_3.index t 0 * 1 + 1 * 0 = t.val; rw [(ixRow t).2.2.2.2.1]; omega
  | ⟨1, _⟩ => show win0_3.index t 1 * 1552 + 1 * k.val = k.val; rw [(ixRow t).2.2.2.2.2.1]; omega
  | ⟨2, _⟩ => show win0_3.index t 2 * 512 + 1 * r.val = r.val; rw [(ixRow t).2.2.2.2.2.2]; omega

theorem b4_at (t : Fin cfg0.N) (d : Fin 1024) : b4 m c t (ix2 0 d) = aG m c (ix2 0 d) := by
  refine Eq.trans ?_ (congrFun (V_main_arg1 m c) _)
  unfold b4 iblk
  rw [View.read_apply]
  refine congrArg (V m c main_arg1) (funext fun a => Fin.ext ?_)
  match a with
  | ⟨0, _⟩ => show win0_4.index t 0 * 1 + 1 * 0 = 0; rw [(ixOne t).1.1]
  | ⟨1, _⟩ => show win0_4.index t 1 * 1024 + 1 * d.val = d.val; rw [(ixOne t).1.2]; omega

theorem b5_at (t : Fin cfg0.N) (d : Fin 1024) : b5 m c t (ix2 0 d) = aSc m c (ix2 0 d) := by
  refine Eq.trans ?_ (congrFun (V_main_arg2 m c) _)
  unfold b5 iblk
  rw [View.read_apply]
  refine congrArg (V m c main_arg2) (funext fun a => Fin.ext ?_)
  match a with
  | ⟨0, _⟩ => show win0_5.index t 0 * 1 + 1 * 0 = 0; rw [(ixOne t).2.1.1]
  | ⟨1, _⟩ => show win0_5.index t 1 * 1024 + 1 * d.val = d.val; rw [(ixOne t).2.1.2]; omega

/-! ## A point's values over the whole arrays -/

theorem rb_at (t : Fin cfg0.N) (r : Fin 512) : rb (b0 m c t) r = rA m c (row t r) := by
  unfold rb rA
  simp only [b0_at]

theorem db_at (t : Fin cfg0.N) (r : Fin 512) (d : Fin 1024) : db (b2 m c t) (wR m c) (wQ m c) (b3 m c t) r d = dA m c (row t r) d := by
  unfold db dA
  refine sum_parts _ _ _ (fun j => by rw [b2_at, wR_at]) fun k => ?_
  rw [wQ_at, b3_at]
  by_cases h : k.val < 1544
  · rw [dif_pos h, dif_pos h, dif_pos h, mul_comm]
  · rw [dif_neg h, dif_neg h, dif_neg h, mul_zero]

/-- The scratch buffers hold the two parts of the weight from the first point on. -/
theorem kept : ∀ (n : ℕ) (h : n < cfg0.N), (outsAt0 m c n h).2.2.1 = wQ m c ∧ (outsAt0 m c n h).2.2.2 = wR m c := by
  intro n
  induction n with
  | zero =>
    intro h
    rw [outsAt0_A m c ⟨0, h⟩ rfl]; dsimp only; rw [out_A_s0, out_A_s1]; exact ⟨rfl, rfl⟩
  | succ n ih =>
    intro h
    have h0 : ¬(n + 1) % 32 = 0 := by have := t_lt ⟨n + 1, h⟩; dsimp only at this; omega
    rw [outsAt0_B m c ⟨n + 1, h⟩ h0]
    exact ih (Nat.lt_of_succ_lt h)

theorem at7 (t : Fin cfg0.N) : (outsAt0 m c t.val t.isLt).1
    = k0_pay3 (b4 m c t) (b5 m c t) (k0_pay5 (b0 m c t)) (k0_pay6 (b0 m c t)) (k0_pay7 (b2 m c t) (wR m c) (wQ m c) (b3 m c t)) (b1 m c t) := by
  by_cases h0 : t.val % 32 = 0
  · rw [outsAt0_A m c t h0]; dsimp only; rw [out_A_7]; rfl
  · rw [outsAt0_B m c t h0]; dsimp only; rw [out_B_7, (kept m c _ _).1, (kept m c _ _).2]; rfl

/-- A point's share of row `k` of the second result. -/
def inc8 (k : Fin 8) (d : Fin 1024) (t : Fin cfg0.N) : EReal :=
  if k.val = 2 then (∑ r : Fin 512, dA m c (row t r) d * (aX m c (ix2 (row t r) d) * rA m c (row t r))) * (Ideal.ofBits .f32 0x3F800000#32 + aSc m c (ix2 0 d))
  else if k.val = 1 then (∑ r : Fin 512, dA m c (row t r) d * (aX m c (ix2 (row t r) d) * rA m c (row t r))) * aG m c (ix2 0 d)
  else if k.val = 0 then ∑ r : Fin 512, dA m c (row t r) d else 0

theorem incb_at (k : Fin 8) (d : Fin 1024) (t : Fin cfg0.N) :
    incb (b2 m c t) (wR m c) (wQ m c) (b3 m c t) (b0 m c t) (b4 m c t) (b5 m c t) d k = inc8 m c k d t := by
  unfold incb inc8
  simp only [db_at, rb_at, b0_at, b4_at, b5_at]

theorem first8 (k : Fin 8) (d : Fin 1024) (t : Fin cfg0.N) (h0 : t.val % 32 = 0) : (outsAt0 m c t.val t.isLt).2.1 (ix2 k d) = inc8 m c k d t := by
  rw [outsAt0_A m c t h0]; dsimp only; rw [out_A_8]
  refine (acc_at (b2 m c t) (wR m c) (wQ m c) (b3 m c t) (b0 m c t) (b4 m c t) (b5 m c t) d (k0_pay4 (F := Ideal)) k).trans ?_
  rw [incb_at]
  pointwise [k0_pay4]

theorem next8 (k : Fin 8) (d : Fin 1024) (t : Fin cfg0.N) (h0 : ¬t.val % 32 = 0) : (outsAt0 m c t.val t.isLt).2.1 (ix2 k d)
    = (outsAt0 m c (t.val - 1) (Nat.lt_of_le_of_lt (Nat.sub_le _ _) t.isLt)).2.1 (ix2 k d) + inc8 m c k d t := by
  rw [outsAt0_B m c t h0]; dsimp only; rw [out_B_8, (kept m c _ _).1, (kept m c _ _).2]
  refine (acc_at (b2 m c t) (wR m c) (wQ m c) (b3 m c t) (b0 m c t) (b4 m c t) (b5 m c t) d _ k).trans ?_
  rw [incb_at]

/-! ## The result arrays -/

def gx (s : Fin 16384) (d : Fin 1024) : EReal :=
  aDx m c (ix2 s d) + rA m c s * (dA m c s d * gA m c d
    - aX m c (ix2 s d) * rA m c s * Ideal.div (∑ k : Fin 1024, dA m c s k * gA m c k * (aX m c (ix2 s k) * rA m c s)) (Ideal.ofBits .f32 0x44800000#32))
def res7 : Vec Ideal S16384x1024 .f32 := fun i => gx m c (i 0) (i 1)
def res8 : Vec Ideal S8x1024 .f32 := fun i => ∑ j : Fin 32, inc8 m c (i 0) (i 1) ⟨j.val, lt_of_lt_of_eq j.isLt N_eq.symm⟩

theorem arr7 : (dats m 0 c).arrAt 7 cfg0.N = res7 m c := by
  refine (dats m 0 c).arrAt_eq_of_covers 7 _ (by decide +kernel) fun t hf y => ?_
  blk_simp
  rw [after0_7, at7]
  obtain ⟨r, d, rfl⟩ : ∃ (r : Fin 512) (d : Fin 1024), y = ix2 r d := ⟨y 0, y 1, by idx_ext⟩
  have e : ((win0_7.blk t).view.emb (ix2 r d)) = ix2 (row t r) d := by
    blk_ext [(ixRow t).2.2.2.1.1, (ixRow t).2.2.2.1.2, row]
  rw [e, pay3_at]
  simp only [pay5_at, pay6_at, pay7_at, rb_at, db_at, b0_at, b1_at, b4_at, b5_at]
  rfl

theorem arr8 : (dats m 0 c).arrAt 8 cfg0.N = res8 m c := by
  refine (dats m 0 c).arrAt_eq_of_covers 8 _ (by decide +kernel) fun t hf y => ?_
  blk_simp
  rw [after0_8]
  obtain ⟨k, d, rfl⟩ : ∃ (k : Fin 8) (d : Fin 1024), y = ix2 k d := ⟨y 0, y 1, by idx_ext⟩
  have e : ((win0_8.blk t).view.emb (ix2 k d)) = ix2 k d := by
    blk_ext [(ixOne t).2.2.1, (ixOne t).2.2.2]
  rw [e]
  have key := Cert.Own.acc_last (N := cfg0.N) 32 (by decide) (fun n h => (outsAt0 m c n h).2.1 (ix2 k d)) (fun n => if h : n < cfg0.N then inc8 m c k d ⟨n, h⟩ else 0)
    (fun n h h0 => by rw [dif_pos h]; exact first8 m c k d ⟨n, h⟩ h0) (fun n h h0 => by rw [dif_pos h]; exact next8 m c k d ⟨n, h⟩ h0) t.val t.isLt ((flush0_8 t).mp hf)
  refine key.trans (Finset.sum_congr rfl fun j _ => ?_)
  have e : t.val / 32 * 32 + j.val = j.val := by have := t_lt t; omega
  rw [e, dif_pos (lt_of_lt_of_eq j.isLt N_eq.symm)]
  rfl

/-- The run: the two results, the arguments kept. -/
theorem run : θ_run defs (onTc (τ := τ) (main (F := Ideal))) ⟨m, fun _ => 0, ρ⟩ fun r => ∀ c : Dev nD,
      r.2.mem ((c.tc : Thread nD τ).loc main_v13_0) = res7 m c
      ∧ r.2.mem ((c.tc : Thread nD τ).loc main_v13_1) = res8 m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (arr7 m c), ((h.1 c).1 8).trans (arr8 m c), h.2 c⟩)
    (θ_run_and (run_main m ρ) (unchanged m ρ))

end Cert.InBwdXIdeal.Own

end
-- ==== Proof.InRef.lean ====
/- The reference of the input projection's backward pass leaves the same two arrays where the arguments are finite, at extended reals. -/
module

public import proofs.«01_k».proof.Proof.InRun
public import proofs.«01_k».proof.Proof.AttnAlg
public import proofs.«01_k».proof.Proof.Gen.Pre_finite_in
public import proofs.«01_k».proof.Proof.Gen.InBwdXRefIdeal.Read

@[expose] public section

set_option maxRecDepth 16384

noncomputable section

namespace Cert.InBwdXIdeal.Own

open Idealize.ShloMosaic TcCoe Idealize.SL.Sem Tactic
open Cert Cert.InBwdXIdeal Cert.InBwdXIdeal.Gen Cert.InBwdXRefIdeal.Read
open Cert.MlpLossIdeal.Own (thousand_eq)
open Cert.AttnBwdIdeal.Own (and_one real_of_abs_lt)

variable (m : (ℓ : Loc nD τ sig) → Buf (Elt Ideal) ℓ) (c : Dev nD)

/-- The mean square of a row, with the small constant. -/
def qA (s : Fin 16384) : EReal :=
  Ideal.div (∑ k : Fin 1024, aX m c (ix2 s k) * aX m c (ix2 s k)) (Ideal.ofBits .f32 0x44800000#32) + Ideal.ofBits .f32 0x358637BD#32

theorem v6_at (s : Fin 16384) : val_main_v6 (F := Ideal) (aX m c) (ix2 s 0) = qA m c s := by
  pointwise [val_main_v6, val_main_v5, val_main_cst_1, val_main_v4, val_main_v3, val_main_cst_0, val_main_v2, val_main_v1, val_main_v0, val_main_cst, qA]
theorem v7_at (s : Fin 16384) : val_main_v7 (F := Ideal) (aX m c) (ix2 s 0) = rA m c s := by
  pointwise [val_main_v7, v6_at]
  rfl
theorem v24_at (s : Fin 16384) (d : Fin 1024) : val_main_v24 (F := Ideal) (aW m c) (aDz m c) (ix2 s d) = dA m c s d := by
  pointwise [val_main_v24, dA]

/-- The gradient through the scale and the gain. -/
def eA (s : Fin 16384) (d : Fin 1024) : EReal := dA m c s d * (Ideal.ofBits .f32 0x3F800000#32 + aSc m c (ix2 0 d)) * aG m c (ix2 0 d)
/-- The gradient through the mean square. -/
def nA (s : Fin 16384) : EReal := Ideal.div ((∑ k : Fin 1024, aX m c (ix2 s k) * eA m c s k) * (Ideal.ofBits .f32 0xBF000000#32 * Ideal.div (rA m c s) (qA m c s)))
  (Ideal.ofBits .f32 0x44800000#32)

theorem v36_at (s : Fin 16384) (d : Fin 1024) : val_main_v36 (F := Ideal) (aG m c) (aSc m c) (aW m c) (aDz m c) (ix2 s d) = eA m c s d := by
  pointwise [val_main_v36, val_main_v35, val_main_v31, val_main_v30, val_main_v16, val_main_v15, val_main_cst_3, v24_at, eA]

theorem v44_at (s : Fin 16384) : val_main_v44 (F := Ideal) (aX m c) (aG m c) (aSc m c) (aW m c) (aDz m c) (ix2 s 0) = nA m c s := by
  pointwise [val_main_v44, val_main_v43, val_main_cst_8, val_main_v42, val_main_v39, val_main_v38, val_main_cst_7, val_main_v37, v36_at, val_main_v10, val_main_v9, val_main_cst_2,
    val_main_v8, v7_at, v6_at, nA]

theorem v51_at (s : Fin 16384) (d : Fin 1024) : val_main_v51 (F := Ideal) (aX m c) (aG m c) (aSc m c) (aW m c) (aDx m c) (aDz m c) (ix2 s d)
    = aDx m c (ix2 s d) + (eA m c s d * rA m c s + aX m c (ix2 s d) * nA m c s + nA m c s * aX m c (ix2 s d)) := by
  pointwise [val_main_v51, val_main_v50, val_main_v49, val_main_v48, val_main_v47, val_main_v46, val_main_v45, val_main_cst_9, val_main_v41, val_main_v40, v36_at, v7_at]
  rw [(Fin.sum_univ_one _).trans (v44_at m c s)]

theorem v53_at (k : Fin 8) (d : Fin 1024) : val_main_v53 (F := Ideal) (aX m c) (aG m c) (aSc m c) (aW m c) (aDz m c) (ix2 k d)
    = if k.val = 2 then ∑ s : Fin 16384, aX m c (ix2 s d) * rA m c s * (dA m c s d * (Ideal.ofBits .f32 0x3F800000#32 + aSc m c (ix2 0 d)))
      else if k.val = 1 then ∑ s : Fin 16384, aX m c (ix2 s d) * rA m c s * aG m c (ix2 0 d) * dA m c s d
      else if k.val = 0 then ∑ s : Fin 16384, dA m c s d else 0 := by
  pointwise [val_main_v53, val_main_v52, val_main_cst_10, val_main_v34, val_main_v33, val_main_cst_6, val_main_v32, val_main_v31, val_main_v30, val_main_v29, val_main_v28, val_main_cst_5,
    val_main_v27, val_main_v26, val_main_v25, val_main_cst_4, val_main_v14, val_main_v13, val_main_v12, val_main_v11, val_main_v16, val_main_v15, val_main_cst_3, v24_at, v7_at]
  split_ifs <;> first | omega | rfl

/-! ## At reals -/

theorem eps_eq : Ideal.ofBits .f32 0x358637BD#32 = ((8796093 / 8796093022208 : ℝ) : EReal) := by
  simp [Ideal.ofBits, Ideal.ieee]
  rw [← EReal.coe_mul]
  norm_num

theorem neg_half_eq : Ideal.ofBits .f32 0xBF000000#32 = ((-1 / 2 : ℝ) : EReal) := by
  simp [Ideal.ofBits, Ideal.ieee]
  rw [← EReal.coe_mul]
  norm_num

/-- The arguments' entries as reals. -/
structure AtReals (X : Fin 16384 → Fin 1024 → ℝ) (G S : Fin 1024 → ℝ) (D : Fin 16384 → Fin 1024 → ℝ) : Prop where
  x : ∀ s d, aX m c (ix2 s d) = (X s d : EReal)
  g : ∀ d, aG m c (ix2 0 d) = (G d : EReal)
  s : ∀ d, aSc m c (ix2 0 d) = (S d : EReal)
  d : ∀ s d, dA m c s d = (D s d : EReal)

variable {m c}
variable {X : Fin 16384 → Fin 1024 → ℝ} {G S : Fin 1024 → ℝ} {D : Fin 16384 → Fin 1024 → ℝ} (H : AtReals m c X G S D)
include H

/-- The mean square and its inverse root, as reals. -/
theorem q_real (s : Fin 16384) : ∃ q : ℝ, 0 < q ∧ qA m c s = (q : EReal) ∧ rA m c s = (((Real.sqrt q)⁻¹ : ℝ) : EReal) := by
  have e : qA m c s = (((∑ k, X s k * X s k) / 1024 + 8796093 / 8796093022208 : ℝ) : EReal) := by
    unfold qA
    simp only [H.x, ← EReal.coe_mul, ← AttnReal.coe_sum, thousand_eq, eps_eq]
    rw [AttnReal.div_coe _ (by norm_num), ← EReal.coe_add]
  have hp : (0 : ℝ) < (∑ k, X s k * X s k) / 1024 + 8796093 / 8796093022208 :=
    add_pos_of_nonneg_of_pos (div_nonneg (Finset.sum_nonneg fun k _ => mul_self_nonneg _) (by norm_num)) (by norm_num)
  refine ⟨_, hp, e, ?_⟩
  show Ideal.rsqrt (qA m c s) = _
  rw [e, Ideal.rsqrt_coe, if_neg (not_lt.mpr hp.le), if_neg hp.ne']

theorem one_add (d : Fin 1024) : Ideal.ofBits .f32 0x3F800000#32 + aSc m c (ix2 0 d) = ((1 + S d : ℝ) : EReal) := by
  rw [Ideal.ofBits_one_f32, H.s, EReal.coe_add, EReal.coe_one]

theorem gx_eq (s : Fin 16384) (d : Fin 1024) :
    aDx m c (ix2 s d) + (eA m c s d * rA m c s + aX m c (ix2 s d) * nA m c s + nA m c s * aX m c (ix2 s d)) = gx m c s d := by
  obtain ⟨q, hq, e, er⟩ := q_real H s
  unfold gx
  congr 1
  unfold eA nA gA eA
  simp only [one_add H, H.x, H.g, H.d, e, er, neg_half_eq, thousand_eq]
  simp only [← EReal.coe_mul, ← AttnReal.coe_sum, AttnReal.div_coe _ hq.ne', AttnReal.div_coe _ (by norm_num : (1024 : ℝ) ≠ 0), ← EReal.coe_add, ← EReal.coe_sub]
  refine congrArg _ ?_
  have hr : (Real.sqrt q)⁻¹ / q = (Real.sqrt q)⁻¹ * (Real.sqrt q)⁻¹ * (Real.sqrt q)⁻¹ := by
    have h2 : q⁻¹ = (Real.sqrt q)⁻¹ * (Real.sqrt q)⁻¹ := by rw [← mul_inv, Real.mul_self_sqrt hq.le]
    rw [div_eq_mul_inv, h2]; ring
  have hs : ∑ k, D s k * (G k * (1 + S k)) * (X s k * (Real.sqrt q)⁻¹) = (∑ k, X s k * (D s k * (1 + S k) * G k)) * (Real.sqrt q)⁻¹ := by
    rw [Finset.sum_mul]
    exact Finset.sum_congr rfl fun k _ => by ring
  rw [hr, hs]
  ring

omit H in
/-- A factor taken out of the sum over each point's rows. -/
theorem spread (f : Fin 16384 → ℝ) (a : ℝ) : (∑ j : Fin 32, (∑ r : Fin 512, ((f (row ⟨j.val, lt_of_lt_of_eq j.isLt N_eq.symm⟩ r) : ℝ) : EReal)) * (a : EReal))
    = ∑ s : Fin 16384, ((f s * a : ℝ) : EReal) := by
  rw [Fin.sum_univ_tiles 32 512 rfl]
  simp only [← AttnReal.coe_sum, ← EReal.coe_mul, Finset.sum_mul]
  rfl

theorem v_eq (k : Fin 8) (d : Fin 1024) :
    (if k.val = 2 then ∑ s : Fin 16384, aX m c (ix2 s d) * rA m c s * (dA m c s d * (Ideal.ofBits .f32 0x3F800000#32 + aSc m c (ix2 0 d)))
      else if k.val = 1 then ∑ s : Fin 16384, aX m c (ix2 s d) * rA m c s * aG m c (ix2 0 d) * dA m c s d
      else if k.val = 0 then ∑ s : Fin 16384, dA m c s d else 0) = res8 m c (ix2 k d) := by
  choose q hq e er using q_real H
  show _ = ∑ j : Fin 32, inc8 m c k d _
  unfold inc8
  split_ifs with h2 h1 h0
  · simp only [one_add H, H.x, H.d, er, ← EReal.coe_mul]
    refine Eq.trans (Finset.sum_congr rfl fun s _ => congrArg _ ?_) (spread (fun s => D s d * (X s d * (Real.sqrt (q s))⁻¹)) (1 + S d)).symm
    ring
  · simp only [H.g, H.x, H.d, er, ← EReal.coe_mul]
    refine Eq.trans (Finset.sum_congr rfl fun s _ => congrArg _ ?_) (spread (fun s => D s d * (X s d * (Real.sqrt (q s))⁻¹)) (G d)).symm
    ring
  · rw [Fin.sum_univ_tiles 32 512 rfl]
    rfl
  · rw [Finset.sum_const_zero]

omit H

/-! ## The claim -/

/-- The precondition says of every argument but the shift and the incoming sum that its entries are reals. -/
theorem reals_of_pre [Cert.Pre_finite_in.Facts] (a0 a5 : Vec Ideal ⟨2, ![16384, 1024]⟩ .f32) (a1 a2 a3 : Vec Ideal ⟨2, ![1, 1024]⟩ .f32) (a4 : Vec Ideal ⟨2, ![1024, 2568]⟩ .f32)
    (a6 : Vec Ideal ⟨2, ![16384, 2568]⟩ .f32) (h : Cert.Pre_finite_in.fn (F := Ideal) a0 a1 a2 a3 a4 a5 a6 = fun _ => 1#1) :
    (∀ i, (((a0 i).toReal : ℝ) : EReal) = a0 i) ∧ (∀ i, (((a1 i).toReal : ℝ) : EReal) = a1 i) ∧ (∀ i, (((a2 i).toReal : ℝ) : EReal) = a2 i)
      ∧ (∀ i, (((a4 i).toReal : ℝ) : EReal) = a4 i) ∧ (∀ i, (((a6 i).toReal : ℝ) : EReal) = a6 i) := by
  have hj : ∀ j k : Cert.Pre_finite_in.S_.Idx, j = k := fun j k => funext fun a => a.elim0
  have h0 := congrFun h (fun a => a.elim0)
  simp only [Cert.Pre_finite_in.fn, Cert.Pre_finite_in.fn_part1] at h0
  obtain ⟨h0, e4⟩ := and_one _ _ h0
  obtain ⟨h0, e3⟩ := and_one _ _ h0
  obtain ⟨h0, e2⟩ := and_one _ _ h0
  obtain ⟨e0, e1⟩ := and_one _ _ h0
  exact ⟨fun i => real_of_abs_lt _ (Host.reduce_andi_eq_one _ _ _ _ _ e0 i (hj _ _)), fun i => real_of_abs_lt _ (Host.reduce_andi_eq_one _ _ _ _ _ e1 i (hj _ _)),
    fun i => real_of_abs_lt _ (Host.reduce_andi_eq_one _ _ _ _ _ e2 i (hj _ _)), fun i => real_of_abs_lt _ (Host.reduce_andi_eq_one _ _ _ _ _ e3 i (hj _ _)),
    fun i => real_of_abs_lt _ (Host.reduce_andi_eq_one _ _ _ _ _ e4 i (hj _ _))⟩

/-- The two programs leave the same results. -/
theorem algebraic [Cert.Pre_finite_in.Facts] : Cert.algebraic_InBwdXIdeal_InBwdXRefIdeal_pre_finite_in := by
  intro m g m' g' hpre hagree
  have HR := fun c => reals_of_pre _ _ _ _ _ _ _ (hpre c)
  have H : ∀ c, AtReals m c (fun s d => (aX m c (ix2 s d)).toReal) (fun d => (aG m c (ix2 0 d)).toReal) (fun d => (aSc m c (ix2 0 d)).toReal)
      (fun s d => ∑ k : Fin 2568, (aDz m c (ix2 s k)).toReal * (aW m c (ix2 d k)).toReal) := fun c =>
    ⟨fun s d => ((HR c).1 _).symm, fun d => ((HR c).2.1 _).symm, fun d => ((HR c).2.2.1 _).symm, fun s d => by
      rw [AttnReal.coe_sum]
      exact Finset.sum_congr rfl fun k _ => by rw [EReal.coe_mul]; exact congrArg₂ _ ((HR c).2.2.2.2 _).symm ((HR c).2.2.2.1 _).symm⟩
  refine ⟨fun c => res7 m c, fun c => res8 m c, run m g, ?_⟩
  refine (θ_run _ _ _).mono (fun r h c => ?_) (Cert.InBwdXRefIdeal.Value.run m' g')
  obtain ⟨h51, h53, hargs⟩ := h c
  obtain ⟨e0, e1, e2, e3, e4, e5, e6⟩ := hagree c
  refine ⟨h51.trans ?_, h53.trans ?_, hargs⟩
  · refine (val_main_v51_eq ..).trans ?_
    rw [e0, e1, e2, e4, e5, e6]
    funext i
    obtain ⟨s, d, rfl⟩ : ∃ (s : Fin 16384) (d : Fin 1024), i = ix2 s d := ⟨i 0, i 1, by idx_ext⟩
    exact (v51_at m c s d).trans (gx_eq (H c) s d)
  · refine (val_main_v53_eq ..).trans ?_
    rw [e0, e1, e2, e4, e6]
    funext i
    obtain ⟨k, d, rfl⟩ : ∃ (k : Fin 8) (d : Fin 1024), i = ix2 k d := ⟨i 0, i 1, by idx_ext⟩
    exact (v53_at m c k d).trans (v_eq (H c) k d)

end Cert.InBwdXIdeal.Own

end
-- ==== Proof.lean ====
/- The claims about the training step's backward calls, each alone on one device. -/
module

public import proofs.«01_k».proof.Defs
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpLoss
public import proofs.«01_k».proof.Proof.Gen.MlpLoss.Skeleton
public import proofs.«01_k».proof.Proof.Gen.MlpLoss.Launch
public import proofs.«01_k».proof.Proof.Gen.MlpLoss.Points
public import proofs.«01_k».proof.Proof.Gen.MlpLoss.Frame
public import proofs.«01_k».proof.Proof.Gen.MlpLossIdeal
public import proofs.«01_k».proof.Proof.Gen.MlpLossIdeal.Skeleton
public import proofs.«01_k».proof.Proof.Gen.MlpLossIdeal.Launch
public import proofs.«01_k».proof.Proof.Gen.MlpLossIdeal.Points
public import proofs.«01_k».proof.Proof.Gen.MlpLossIdeal.Frame
public import proofs.«01_k».proof.Proof.Gen.InBwdX
public import proofs.«01_k».proof.Proof.Gen.InBwdX.Skeleton
public import proofs.«01_k».proof.Proof.Gen.InBwdX.Launch
public import proofs.«01_k».proof.Proof.Gen.InBwdX.Points
public import proofs.«01_k».proof.Proof.Gen.InBwdX.Frame
public import proofs.«01_k».proof.Proof.Gen.InBwdXIdeal
public import proofs.«01_k».proof.Proof.Gen.InBwdXIdeal.Skeleton
public import proofs.«01_k».proof.Proof.Gen.InBwdXIdeal.Launch
public import proofs.«01_k».proof.Proof.Gen.InBwdXIdeal.Points
public import proofs.«01_k».proof.Proof.Gen.InBwdXIdeal.Frame
public import proofs.«01_k».proof.Proof.Gen.MlpBwdRefIdeal.Run
public import proofs.«01_k».proof.Proof.Gen.MlpBwdRefIdeal.Read
public import proofs.«01_k».proof.Proof.Gen.AttnBwdRefIdeal.Run
public import proofs.«01_k».proof.Proof.Gen.AttnBwdRefIdeal.Read
public import proofs.«01_k».proof.Proof.Gen.MlpLossRefIdeal.Run
public import proofs.«01_k».proof.Proof.Gen.MlpLossRefIdeal.Read
public import proofs.«01_k».proof.Proof.Gen.InBwdXRefIdeal.Run
public import proofs.«01_k».proof.Proof.Gen.InBwdXRefIdeal.Read
public import proofs.«01_k».proof.Proof.Gen.Pre_finite
public import proofs.«01_k».proof.Proof.Gen.Pre_finite_in
public import proofs.«01_k».proof.Proof.MlpRef
public import proofs.«01_k».proof.Proof.AttnFrame
public import proofs.«01_k».proof.Proof.PrintedFrame
public import proofs.«01_k».proof.Proof.AttnAlg
public import proofs.«01_k».proof.Proof.LossRef
public import proofs.«01_k».proof.Proof.InRef
public import Idealize.ShloMosaic.Adequacy
public import Idealize.ShloMosaic.Init
public import Idealize.ShloMosaic.PureOps.IdealRules

@[expose] public section

noncomputable section

namespace Cert.Proof

open Idealize.ShloMosaic Idealize.SL.Sem

theorem claim : Cert.Claim := ⟨Cert.MlpBwd.Gen.facts, Cert.MlpBwdIdeal.Gen.facts, Cert.MlpBwdRefIdeal.Gen.facts,
  Cert.AttnBwd.Gen.facts, Cert.AttnBwdIdeal.Gen.facts, Cert.AttnBwdRefIdeal.Gen.facts,
  Cert.MlpLoss.Gen.facts, Cert.MlpLossIdeal.Gen.facts, Cert.MlpLossRefIdeal.Gen.facts,
  Cert.InBwdX.Gen.facts, Cert.InBwdXIdeal.Gen.facts, Cert.InBwdXRefIdeal.Gen.facts, Cert.Pre_finite.Gen.facts, Cert.Pre_finite_in.Gen.facts,
  fun m ρ _ => Cert.MlpBwd.Gen.frame m ρ, fun m ρ _ => Cert.MlpBwdIdeal.Gen.frame m ρ,
  fun m g _ => (θ_run _ _ _).mono (fun r h => ⟨fun c => (h c).2.2.2, sem_eq_zero_of_no_sems (by decide) _⟩) (Cert.MlpBwdRefIdeal.Value.run m g),
  fun m ρ _ => Cert.AttnBwd.Own.frame_run m ρ, fun m ρ _ => Cert.AttnBwdIdeal.Own.frame_run m ρ, fun m ρ _ => Cert.AttnBwdIdeal.Own.frame_run m ρ,
  fun m g _ => (θ_run _ _ _).mono (fun r h => ⟨fun c => (h c).2.2.2.2, sem_eq_zero_of_no_sems (by decide) _⟩) (Cert.AttnBwdRefIdeal.Value.run m g),
  fun m g _ => (θ_run _ _ _).mono (fun r h => ⟨fun c => (h c).2.2.2.2, sem_eq_zero_of_no_sems (by decide) _⟩) (Cert.AttnBwdRefIdeal.Value.run m g),
  fun m ρ _ => Cert.MlpLoss.Gen.frame m ρ, fun m ρ _ => Cert.MlpLossIdeal.Gen.frame m ρ,
  fun m g _ => (θ_run _ _ _).mono (fun r h => ⟨fun c => (h c).2.2.2.2.2, sem_eq_zero_of_no_sems (by decide) _⟩) (Cert.MlpLossRefIdeal.Value.run m g),
  fun m ρ _ => Cert.InBwdX.Gen.frame m ρ, fun m ρ _ => Cert.InBwdXIdeal.Gen.frame m ρ, fun m ρ _ => Cert.InBwdXIdeal.Gen.frame m ρ,
  fun m g _ => (θ_run _ _ _).mono (fun r h => ⟨fun c => (h c).2.2, sem_eq_zero_of_no_sems (by decide) _⟩) (Cert.InBwdXRefIdeal.Value.run m g),
  fun m g _ => (θ_run _ _ _).mono (fun r h => ⟨fun c => (h c).2.2, sem_eq_zero_of_no_sems (by decide) _⟩) (Cert.InBwdXRefIdeal.Value.run m g),
  trivial, Cert.MlpBwdIdeal.Own.algebraic,
  ⟨IdealRules.named_const.statement Cert.AttnBwdIdeal.κ "prune" .f32 0x42D20000#32 ⊤ rfl,
    IdealRules.named_const.statement Cert.AttnBwdIdeal.κ "log2e" .f32 0x3FB8AA3B#32 (((Real.log 2)⁻¹ : ℝ) : EReal) rfl⟩,
  Cert.AttnBwdIdeal.Own.algebraic,
  trivial, Cert.MlpLossIdeal.Own.algebraic,
  trivial, Cert.InBwdXIdeal.Own.algebraic⟩

end Cert.Proof

end
